-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_real [hPre_all_real : Cert.Pre_all_real.Facts] (m : (ℓ : Loc Cert.KernelIdeal.nD Cert.KernelIdeal.τ Cert.KernelIdeal.sig) → Buf (Elt Ideal) ℓ) : Prop :=
  ∀ c : Dev Cert.KernelIdeal.nD,
    (Cert.Pre_all_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_real [hPre_all_real : Cert.Pre_all_real.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_real.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_gate_real [hPre_gate_real : Cert.Pre_gate_real.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_gate_real.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_gate_real [hPre_gate_real : Cert.Pre_gate_real.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_gate_real.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_all_real [hKernelIdeal : Cert.KernelIdeal.Facts] [hPre_all_real : Cert.Pre_all_real.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_real m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_all_real [hReferenceIdeal : Cert.ReferenceIdeal.Facts] [hPre_all_real : Cert.Pre_all_real.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_real m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_gate_real [hKernel4Ideal : Cert.Kernel4Ideal.Facts] [hPre_gate_real : Cert.Pre_gate_real.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_gate_real m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_gate_real [hReference4Ideal : Cert.Reference4Ideal.Facts] [hPre_gate_real : Cert.Pre_gate_real.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_gate_real m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_all_real [hKernelIdeal : Cert.KernelIdeal.Facts] [hReferenceIdeal : Cert.ReferenceIdeal.Facts] [hPre_all_real : Cert.Pre_all_real.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_real m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v63_0)) (v1 : (c : Dev Cert.KernelIdeal.nD) → Buf (Elt Ideal) ((c.tc : Thread Cert.KernelIdeal.nD Cert.KernelIdeal.τ).loc Cert.KernelIdeal.main_v63_1)) (v2 : (c : Dev Cert.KernelIdeal.nD) → Buf (Elt Ideal) ((c.tc : Thread Cert.KernelIdeal.nD Cert.KernelIdeal.τ).loc Cert.KernelIdeal.main_v63_2)) (v3 : (c : Dev Cert.KernelIdeal.nD) → Buf (Elt Ideal) ((c.tc : Thread Cert.KernelIdeal.nD Cert.KernelIdeal.τ).loc Cert.KernelIdeal.main_v63_3)) (v4 : (c : Dev Cert.KernelIdeal.nD) → Buf (Elt Ideal) ((c.tc : Thread Cert.KernelIdeal.nD Cert.KernelIdeal.τ).loc Cert.KernelIdeal.main_v63_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63_0) = v0 c
          ∧ r.2.mem ((c.tc : Thread Cert.KernelIdeal.nD Cert.KernelIdeal.τ).loc Cert.KernelIdeal.main_v63_1) = v1 c
          ∧ r.2.mem ((c.tc : Thread Cert.KernelIdeal.nD Cert.KernelIdeal.τ).loc Cert.KernelIdeal.main_v63_2) = v2 c
          ∧ r.2.mem ((c.tc : Thread Cert.KernelIdeal.nD Cert.KernelIdeal.τ).loc Cert.KernelIdeal.main_v63_3) = v3 c
          ∧ r.2.mem ((c.tc : Thread Cert.KernelIdeal.nD Cert.KernelIdeal.τ).loc Cert.KernelIdeal.main_v63_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_v100) = v3 c
          ∧ r.2.mem ((c.tc : Thread Cert.ReferenceIdeal.nD Cert.ReferenceIdeal.τ).loc Cert.ReferenceIdeal.main_v102) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_gate_real [hKernel4Ideal : Cert.Kernel4Ideal.Facts] [hReference4Ideal : Cert.Reference4Ideal.Facts] [hPre_gate_real : Cert.Pre_gate_real.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_gate_real m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_v9) = v1 c
          ∧ r.2.mem ((c.tc : Thread Cert.Reference4Ideal.nD Cert.Reference4Ideal.τ).loc Cert.Reference4Ideal.main_v11) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_all_real : Cert.Pre_all_real.Facts) (hPre_gate_real : Cert.Pre_gate_real.Facts),
    quiescent_Kernel (hKernel := hKernel)
    ∧ quiescent_KernelIdeal (hKernelIdeal := hKernelIdeal)
    ∧ quiescent_KernelIdeal_pre_all_real (hKernelIdeal := hKernelIdeal) (hPre_all_real := hPre_all_real)
    ∧ quiescent_ReferenceIdeal (hReferenceIdeal := hReferenceIdeal)
    ∧ quiescent_ReferenceIdeal_pre_all_real (hReferenceIdeal := hReferenceIdeal) (hPre_all_real := hPre_all_real)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_gate_real (hKernel4Ideal := hKernel4Ideal) (hPre_gate_real := hPre_gate_real)
    ∧ quiescent_Reference4Ideal (hReference4Ideal := hReference4Ideal)
    ∧ quiescent_Reference4Ideal_pre_gate_real (hReference4Ideal := hReference4Ideal) (hPre_gate_real := hPre_gate_real)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_all_real (hKernelIdeal := hKernelIdeal) (hReferenceIdeal := hReferenceIdeal) (hPre_all_real := hPre_all_real)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_gate_real (hKernel4Ideal := hKernel4Ideal) (hReference4Ideal := hReference4Ideal) (hPre_gate_real := hPre_gate_real)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_all_real.lean ====
abbrev S8192x3072 : Shape := ⟨2, ![8192, 3072]⟩
abbrev S8192x16 : Shape := ⟨2, ![8192, 16]⟩
abbrev S8192x1024 : Shape := ⟨2, ![8192, 1024]⟩
abbrev S_ : Shape := ⟨0, ![]⟩

class Facts : Prop where
  bitsLt_bf16_f32 : FTy.bits .bf16 < FTy.bits .f32
  bcast_S_S8192x3072 : S_.BroadcastsInDim S8192x3072 (![] : Fin 0 → Fin S8192x3072.rank)
  reducesTo_S8192x3072_S_d0_1 : S8192x3072.ReducesTo [0, 1] S_
  h_S_ : 0 < S_.numel
  bcast_S_S8192x16 : S_.BroadcastsInDim S8192x16 (![] : Fin 0 → Fin S8192x16.rank)
  reducesTo_S8192x16_S_d0_1 : S8192x16.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_v13 : IVec S_ 1) (main_v14 : FVec F S8192x1024 .f32) (main_v16 : IVec S8192x1024 1) : IVec S_ 1 :=
  let main_cst_5 : FVec F S_ .f32 := constant S_ .f32 0x7F800000#32
  let main_v17 : FVec F S8192x1024 .f32 := broadcastInDim S8192x1024 ![] bcast_S_S8192x1024 main_cst_5
  let main_v18 : IVec S8192x1024 1 := cmpf .olt main_v14 main_v17
  let main_v19 : IVec S8192x1024 1 := andi main_v16 main_v18
  let main_c_6 : IVec S_ 1 := constantI S_ 1 1#1
  let main_v20 : IVec S_ 1 := (fun x v => Host.reduce IntOp.andi x v reducesTo_S8192x1024_S_d0_1 h_S_) main_v19 main_c_6
  let main_v21 : IVec S_ 1 := andi main_v13 main_v20
  main_v21

def fn {F : FTy → Type} [FloatOps F] (main_arg0 : FVec F S8192x3072 .bf16) (main_arg1 : FVec F S8192x16 .f32) (main_arg2 : FVec F S8192x1024 .bf16) : IVec S_ 1 :=
  let main_v0 : FVec F S8192x3072 .f32 := (extf .f32 · bitsLt_bf16_f32) main_arg0
  let main_cst : FVec F S_ .f32 := constant S_ .f32 0xFF800000#32
  let main_v1 : FVec F S8192x3072 .f32 := broadcastInDim S8192x3072 ![] bcast_S_S8192x3072 main_cst
  let main_v2 : IVec S8192x3072 1 := cmpf .ogt main_v0 main_v1
  let main_cst_0 : FVec F S_ .f32 := constant S_ .f32 0x7F800000#32
  let main_v3 : FVec F S8192x3072 .f32 := broadcastInDim S8192x3072 ![] bcast_S_S8192x3072 main_cst_0
  let main_v4 : IVec S8192x3072 1 := cmpf .olt main_v0 main_v3
  let main_v5 : IVec S8192x3072 1 := andi main_v2 main_v4
  let main_c : IVec S_ 1 := constantI S_ 1 1#1
  let main_v6 : IVec S_ 1 := (fun x v => Host.reduce IntOp.andi x v reducesTo_S8192x3072_S_d0_1 h_S_) main_v5 main_c
  let main_cst_1 : FVec F S_ .f32 := constant S_ .f32 0xFF800000#32
  let main_v7 : FVec F S8192x16 .f32 := broadcastInDim S8192x16 ![] bcast_S_S8192x16 main_cst_1
  let main_v8 : IVec S8192x16 1 := cmpf .ogt main_arg1 main_v7
  let main_cst_2 : FVec F S_ .f32 := constant S_ .f32 0x7F800000#32
  let main_v9 : FVec F S8192x16 .f32 := broadcastInDim S8192x16 ![] bcast_S_S8192x16 main_cst_2
  let main_v10 : IVec S8192x16 1 := cmpf .olt main_arg1 main_v9
  let main_v11 : IVec S8192x16 1 := andi main_v8 main_v10
  let main_c_3 : IVec S_ 1 := constantI S_ 1 1#1
  let main_v12 : IVec S_ 1 := (fun x v => Host.reduce IntOp.andi x v reducesTo_S8192x16_S_d0_1 h_S_) main_v11 main_c_3
  let main_v13 : IVec S_ 1 := andi main_v6 main_v12
  let main_v14 : FVec F S8192x1024 .f32 := (extf .f32 · bitsLt_bf16_f32) main_arg2
  let main_cst_4 : FVec F S_ .f32 := constant S_ .f32 0xFF800000#32
  let main_v15 : FVec F S8192x1024 .f32 := broadcastInDim S8192x1024 ![] bcast_S_S8192x1024 main_cst_4
  let main_v16 : IVec S8192x1024 1 := cmpf .ogt main_v14 main_v15
  fn_part1 (F := F) main_v13 main_v14 main_v16
-- ==== Pre_gate_real.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn_part1 {F : FTy → Type} [FloatOps F] (main_arg2 : FVec F S8192x1024 .f32) (main_v12 : IVec S_ 1) (main_v14 : IVec S8192x1024 1) (main_v15 : FVec F S8192x1024 .f32) : IVec S_ 1 :=
  let main_v16 : IVec S8192x1024 1 := cmpf .olt main_arg2 main_v15
  let main_v17 : IVec S8192x1024 1 := andi main_v14 main_v16
  let main_c_6 : IVec S_ 1 := constantI S_ 1 1#1
  let main_v18 : IVec S_ 1 := (fun x v => Host.reduce IntOp.andi x v reducesTo_S8192x1024_S_d0_1 h_S_) main_v17 main_c_6
  let main_v19 : IVec S_ 1 := andi main_v12 main_v18
  main_v19

def fn {F : FTy → Type} [FloatOps F] (main_arg0 : FVec F S8192x1024 .f32) (main_arg1 : FVec F S8192x1024 .f32) (main_arg2 : FVec F S8192x1024 .f32) : IVec S_ 1 :=
  let main_cst : FVec F S_ .f32 := constant S_ .f32 0xFF800000#32
  let main_v0 : FVec F S8192x1024 .f32 := broadcastInDim S8192x1024 ![] bcast_S_S8192x1024 main_cst
  let main_v1 : IVec S8192x1024 1 := cmpf .ogt main_arg0 main_v0
  let main_cst_0 : FVec F S_ .f32 := constant S_ .f32 0x7F800000#32
  let main_v2 : FVec F S8192x1024 .f32 := broadcastInDim S8192x1024 ![] bcast_S_S8192x1024 main_cst_0
  let main_v3 : IVec S8192x1024 1 := cmpf .olt main_arg0 main_v2
  let main_v4 : IVec S8192x1024 1 := andi main_v1 main_v3
  let main_c : IVec S_ 1 := constantI S_ 1 1#1
  let main_v5 : IVec S_ 1 := (fun x v => Host.reduce IntOp.andi x v reducesTo_S8192x1024_S_d0_1 h_S_) main_v4 main_c
  let main_cst_1 : FVec F S_ .f32 := constant S_ .f32 0xFF800000#32
  let main_v6 : FVec F S8192x1024 .f32 := broadcastInDim S8192x1024 ![] bcast_S_S8192x1024 main_cst_1
  let main_v7 : IVec S8192x1024 1 := cmpf .ogt main_arg1 main_v6
  let main_cst_2 : FVec F S_ .f32 := constant S_ .f32 0x7F800000#32
  let main_v8 : FVec F S8192x1024 .f32 := broadcastInDim S8192x1024 ![] bcast_S_S8192x1024 main_cst_2
  let main_v9 : IVec S8192x1024 1 := cmpf .olt main_arg1 main_v8
  let main_v10 : IVec S8192x1024 1 := andi main_v7 main_v9
  let main_c_3 : IVec S_ 1 := constantI S_ 1 1#1
  let main_v11 : IVec S_ 1 := (fun x v => Host.reduce IntOp.andi x v reducesTo_S8192x1024_S_d0_1 h_S_) main_v10 main_c_3
  let main_v12 : IVec S_ 1 := andi main_v5 main_v11
  let main_cst_4 : FVec F S_ .f32 := constant S_ .f32 0xFF800000#32
  let main_v13 : FVec F S8192x1024 .f32 := broadcastInDim S8192x1024 ![] bcast_S_S8192x1024 main_cst_4
  let main_v14 : IVec S8192x1024 1 := cmpf .ogt main_arg2 main_v13
  let main_cst_5 : FVec F S_ .f32 := constant S_ .f32 0x7F800000#32
  let main_v15 : FVec F S8192x1024 .f32 := broadcastInDim S8192x1024 ![] bcast_S_S8192x1024 main_cst_5
  fn_part1 (F := F) main_arg2 main_v12 main_v14 main_v15
-- ==== Kernel.lean ====
abbrev S8192x3072 : Shape := ⟨2, ![8192, 3072]⟩
abbrev S8192x16 : Shape := ⟨2, ![8192, 16]⟩
abbrev S8192x1024 : Shape := ⟨2, ![8192, 1024]⟩
abbrev S8192x16x64 : Shape := ⟨3, ![8192, 16, 64]⟩
abbrev S16x8192x8192 : Shape := ⟨3, ![16, 8192, 8192]⟩
abbrev S_ : Shape := ⟨0, ![]⟩
abbrev S16x8192 : Shape := ⟨2, ![16, 8192]⟩
abbrev S16x8192x1 : Shape := ⟨3, ![16, 8192, 1]⟩
abbrev S16x1x8192 : Shape := ⟨3, ![16, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S16x64x8192 : Shape := ⟨3, ![16, 64, 8192]⟩
abbrev S8x2x8192 : Shape := ⟨3, ![8, 2, 8192]⟩
abbrev S8192x16x1 : Shape := ⟨3, ![8192, 16, 1]⟩
abbrev S16x16 : Shape := ⟨2, ![16, 16]⟩
abbrev S512x128 : Shape := ⟨2, ![512, 128]⟩
abbrev S8192x128 : Shape := ⟨2, ![8192, 128]⟩
abbrev S1x2x8192 : Shape := ⟨3, ![1, 2, 8192]⟩
abbrev S1x2x512 : Shape := ⟨3, ![1, 2, 512]⟩
abbrev S1x1 : Shape := ⟨2, ![1, 1]⟩
abbrev S2x8192 : Shape := ⟨2, ![2, 8192]⟩
abbrev S512x1 : Shape := ⟨2, ![512, 1]⟩
abbrev S512x512 : Shape := ⟨2, ![512, 512]⟩
abbrev S2x512 : Shape := ⟨2, ![2, 512]⟩
abbrev S1x512 : Shape := ⟨2, ![1, 512]⟩
abbrev S512 : Shape := ⟨1, ![512]⟩
abbrev S1x1x512 : Shape := ⟨3, ![1, 1, 512]⟩
abbrev S128x512 : Shape := ⟨2, ![128, 512]⟩

abbrev nBuf : Space → Nat
  | .hbm => 82
  | .vmem => 28
  | .smem => 1
  | _ => 0

abbrev bufTy : (tb : Table) → Fin (tcTables nBuf tb) → BufTy
  | .hbm, ⟨0, _⟩ => ⟨S8192x3072, .bf16⟩
  | .hbm, ⟨1, _⟩ => ⟨S8192x16, .f32⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S8192x16x64, .bf16⟩
  | .hbm, ⟨7, _⟩ => ⟨S8192x16x64, .f32⟩
  | .hbm, ⟨8, _⟩ => ⟨S8192x16x64, .bf16⟩
  | .hbm, ⟨9, _⟩ => ⟨S8192x16x64, .f32⟩
  | .hbm, ⟨10, _⟩ => ⟨S16x8192x8192, .f32⟩
  | .hbm, ⟨11, _⟩ => ⟨S_, .f32⟩
  | .hbm, ⟨12, _⟩ => ⟨S16x8192x8192, .f32⟩
  | .hbm, ⟨13, _⟩ => ⟨S16x8192x8192, .f32⟩
  | .hbm, ⟨14, _⟩ => ⟨S16x8192, .f32⟩
  | .hbm, ⟨15, _⟩ => ⟨S16x8192x1, .f32⟩
  | .hbm, ⟨16, _⟩ => ⟨S16x8192, .f32⟩
  | .hbm, ⟨17, _⟩ => ⟨S16x1x8192, .f32⟩
  | .hbm, ⟨18, _⟩ => ⟨S16x8192x8192, .f32⟩
  | .hbm, ⟨19, _⟩ => ⟨S16x8192x8192, .f32⟩
  | .hbm, ⟨20, _⟩ => ⟨S16x8192x8192, .f32⟩
  | .hbm, ⟨21, _⟩ => ⟨S16x8192x8192, .f32⟩
  | .hbm, ⟨22, _⟩ => ⟨S8192, .i32⟩
  | .hbm, ⟨23, _⟩ => ⟨S1x8192, .i32⟩
  | .hbm, ⟨24, _⟩ => ⟨S8192x1, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S1x8192x8192, .i1⟩
  | .hbm, ⟨29, _⟩ => ⟨S_, .f32⟩
  | .hbm, ⟨30, _⟩ => ⟨S_, .f32⟩
  | .hbm, ⟨31, _⟩ => ⟨S16x8192x8192, .i1⟩
  | .hbm, ⟨32, _⟩ => ⟨S16x8192x8192, .f32⟩
  | .hbm, ⟨33, _⟩ => ⟨S16x8192x8192, .f32⟩
  | .hbm, ⟨34, _⟩ => ⟨S_, .f32⟩
  | .hbm, ⟨35, _⟩ => ⟨S16x8192, .f32⟩
  | .hbm, ⟨36, _⟩ => ⟨S_, .f32⟩
  | .hbm, ⟨37, _⟩ => ⟨S16x8192, .f32⟩
  | .hbm, ⟨38, _⟩ => ⟨S16x8192, .f32⟩
  | .hbm, ⟨39, _⟩ => ⟨S16x8192x1, .f32⟩
  | .hbm, ⟨40, _⟩ => ⟨S16x8192x8192, .f32⟩
  | .hbm, ⟨41, _⟩ => ⟨S16x8192x8192, .f32⟩
  | .hbm, ⟨42, _⟩ => ⟨S16x8192x8192, .f32⟩
  | .hbm, ⟨43, _⟩ => ⟨S_, .f32⟩
  | .hbm, ⟨44, _⟩ => ⟨S16x8192, .f32⟩
  | .hbm, ⟨45, _⟩ => ⟨S16x8192x1, .f32⟩
  | .hbm, ⟨46, _⟩ => ⟨S16x8192x8192, .f32⟩
  | .hbm, ⟨47, _⟩ => ⟨S16x8192x8192, .f32⟩
  | .hbm, ⟨48, _⟩ => ⟨S8192x16x64, .bf16⟩
  | .hbm, ⟨49, _⟩ => ⟨S8192x16x64, .f32⟩
  | .hbm, ⟨50, _⟩ => ⟨S16x64x8192, .f32⟩
  | .hbm, ⟨51, _⟩ => ⟨S8192x16x64, .f32⟩
  | .hbm, ⟨52, _⟩ => ⟨S8192x1024, .f32⟩
  | .hbm, ⟨53, _⟩ => ⟨S_, .f32⟩
  | .hbm, ⟨54, _⟩ => ⟨S16x8192, .f32⟩
  | .hbm, ⟨55, _⟩ => ⟨S16x8192x1, .f32⟩
  | .hbm, ⟨56, _⟩ => ⟨S16x8192x8192, .f32⟩
  | .hbm, ⟨57, _⟩ => ⟨S16x8192x8192, .f32⟩
  | .hbm, ⟨58, _⟩ => ⟨S16x8192x8192, .f32⟩
  | .hbm, ⟨59, _⟩ => ⟨S_, .f32⟩
  | .hbm, ⟨60, _⟩ => ⟨S16x8192, .f32⟩
  | .hbm, ⟨61, _⟩ => ⟨S16x8192, .f32⟩
  | .hbm, ⟨62, _⟩ => ⟨S16x8192, .f32⟩
  | .hbm, ⟨63, _⟩ => ⟨S16x8192, .f32⟩
  | .hbm, ⟨64, _⟩ => ⟨S16x8192, .f32⟩
  | .hbm, ⟨65, _⟩ => ⟨S8x2x8192, .f32⟩
  | .hbm, ⟨66, _⟩ => ⟨S8192x1024, .f32⟩
  | .hbm, ⟨67, _⟩ => ⟨S8192x1024, .f32⟩
  | .hbm, ⟨68, _⟩ => ⟨S8192x16x64, .f32⟩
  | .hbm, ⟨69, _⟩ => ⟨S_, .f32⟩
  | .hbm, ⟨70, _⟩ => ⟨S8192x16, .f32⟩
  | .hbm, ⟨71, _⟩ => ⟨S16x8192, .f32⟩
  | .hbm, ⟨72, _⟩ => ⟨S8x2x8192, .f32⟩
  | .hbm, ⟨73, _⟩ => ⟨S8192x16x1, .f32⟩
  | .hbm, ⟨74, _⟩ => ⟨S8192x16x64, .f32⟩
  | .hbm, ⟨75, _⟩ => ⟨S8192x1024, .f32⟩
  | .hbm, ⟨76, _⟩ => ⟨S_, .i32⟩
  | .hbm, ⟨77, _⟩ => ⟨S8192x1024, .bf16⟩
  | .hbm, ⟨78, _⟩ => ⟨S8192x1024, .bf16⟩
  | .hbm, ⟨79, _⟩ => ⟨S8192x1024, .bf16⟩
  | .hbm, ⟨80, _⟩ => ⟨S8x2x8192, .f32⟩
  | .hbm, ⟨81, _⟩ => ⟨S8x2x8192, .f32⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S8192x128, .bf16⟩
  | .local _ .vmem, ⟨5, _⟩ => ⟨S8192x128, .bf16⟩
  | .local _ .vmem, ⟨6, _⟩ => ⟨S8192x128, .bf16⟩
  | .local _ .vmem, ⟨7, _⟩ => ⟨S8192x128, .bf16⟩
  | .local _ .vmem, ⟨8, _⟩ => ⟨S1x2x8192, .f32⟩
  | .local _ .vmem, ⟨9, _⟩ => ⟨S1x2x8192, .f32⟩
  | .local _ .vmem, ⟨10, _⟩ => ⟨S1x2x8192, .f32⟩
  | .local _ .vmem, ⟨11, _⟩ => ⟨S1x2x8192, .f32⟩
  | .local _ .vmem, ⟨12, _⟩ => ⟨S512x128, .f32⟩
  | .local _ .vmem, ⟨13, _⟩ => ⟨S512x128, .f32⟩
  | .local _ .vmem, ⟨14, _⟩ => ⟨S8192x128, .bf16⟩
  | .local _ .vmem, ⟨15, _⟩ => ⟨S8192x128, .bf16⟩
  | .local _ .vmem, ⟨16, _⟩ => ⟨S512x128, .bf16⟩
  | .local _ .vmem, ⟨17, _⟩ => ⟨S512x128, .bf16⟩
  | .local _ .vmem, ⟨18, _⟩ => ⟨S512x128, .bf16⟩
  | .local _ .vmem, ⟨19, _⟩ => ⟨S512x128, .bf16⟩
  | .local _ .vmem, ⟨20, _⟩ => ⟨S1x2x512, .f32⟩
  | .local _ .vmem, ⟨21, _⟩ => ⟨S1x2x512, .f32⟩
  | .local _ .vmem, ⟨22, _⟩ => ⟨S1x2x8192, .f32⟩
  | .local _ .vmem, ⟨23, _⟩ => ⟨S1x2x8192, .f32⟩
  | .local _ .vmem, ⟨24, _⟩ => ⟨S8192x128, .f32⟩
  | .local _ .vmem, ⟨25, _⟩ => ⟨S512x128, .f32⟩
  | .local _ .vmem, ⟨26, _⟩ => ⟨S512x128, .f32⟩
  | .local _ .vmem, ⟨27, _⟩ => ⟨S512x128, .f32⟩
  | .local _ .smem, ⟨0, _⟩ => ⟨S16x16, .i32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_4 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_5 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_6 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_c : Ref sig .tc := ⟨.hbm, 76, rfl⟩
abbrev main_v63_0 : Ref sig .tc := ⟨.hbm, 77, rfl⟩
abbrev main_v63_1 : Ref sig .tc := ⟨.hbm, 78, rfl⟩
abbrev main_v63_2 : Ref sig .tc := ⟨.hbm, 79, rfl⟩
abbrev main_v63_3 : Ref sig .tc := ⟨.hbm, 80, rfl⟩
abbrev main_v63_4 : Ref sig .tc := ⟨.hbm, 81, rfl⟩
abbrev main_v62 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 16], ![false, false]⟩

abbrev pre0 : Pipeline.Prefetch sig := ⟨1, ![main_v62.idx], fun | 0 => main_v62.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let c2_i32 : BitVec 32 := 2#32
  let arg0 : BitVec 32 := BitVec.ofNat 32 (i 0).val
  let v0 : BitVec 32 := Scalar.muli c2_i32 arg0
  let v1 : Index := Scalar.indexCast v0
  let arg1 : BitVec 32 := BitVec.ofNat 32 (i 1).val
  let v2 : Index := Scalar.indexCast arg1
  ![v1.toNat, v2.toNat]
def k0_off2 (i : grid0.Coords) : Fin 2 → Nat :=
  let c2_i32_0 : BitVec 32 := 2#32
  let arg0 : BitVec 32 := BitVec.ofNat 32 (i 0).val
  let v4 : BitVec 32 := Scalar.muli c2_i32_0 arg0
  let c1_i32 : BitVec 32 := 1#32
  let v5 : BitVec 32 := Scalar.addi v4 c1_i32
  let v6 : Index := Scalar.indexCast v5
  let arg1 : BitVec 32 := BitVec.ofNat 32 (i 1).val
  let v7 : Index := Scalar.indexCast arg1
  ![v6.toNat, v7.toNat]
def k0_mult1 (i : grid0.Coords) : BitVec 32 :=
  let arg1 : BitVec 32 := BitVec.ofNat 32 (i 1).val
  let c512_i32 : BitVec 32 := 512#32
  let v44 : BitVec 32 := Scalar.muli arg1 c512_i32
  v44
def k0_off3 (i : grid0.Coords) : Fin 2 → Nat :=
  let arg1 : BitVec 32 := BitVec.ofNat 32 (i 1).val
  let c512_i32 : BitVec 32 := 512#32
  let v44 : BitVec 32 := Scalar.muli arg1 c512_i32
  let v45 : BitVec 32 := v44
  let v46 : Index := Scalar.indexCast v45
  let c0_18 : Index := 0#32
  ![v46.toNat, 0]
def k0_off4 (i : grid0.Coords) : Fin 3 → Nat :=
  let c0_20 : Index := 0#32
  let c0_21 : Index := 0#32
  let arg1 : BitVec 32 := BitVec.ofNat 32 (i 1).val
  let c512_i32 : BitVec 32 := 512#32
  let v44 : BitVec 32 := Scalar.muli arg1 c512_i32
  let v45 : BitVec 32 := v44
  let v50 : Index := Scalar.indexCast v45
  ![0, 0, v50.toNat]
def k0_off5 (i : grid0.Coords) : Fin 3 → Nat :=
  let c0_47 : Index := 0#32
  let c0_48 : Index := 0#32
  let arg1 : BitVec 32 := BitVec.ofNat 32 (i 1).val
  let c512_i32 : BitVec 32 := 512#32
  let v44 : BitVec 32 := Scalar.muli arg1 c512_i32
  let v45 : BitVec 32 := v44
  let v102 : Index := Scalar.indexCast v45
  ![0, 0, v102.toNat]
def k0_off6 (i : grid0.Coords) : Fin 3 → Nat :=
  let c0_73 : Index := 0#32
  let c1_74 : Index := 1#32
  let arg1 : BitVec 32 := BitVec.ofNat 32 (i 1).val
  let c512_i32 : BitVec 32 := 512#32
  let v44 : BitVec 32 := Scalar.muli arg1 c512_i32
  let v45 : BitVec 32 := v44
  let v157 : Index := Scalar.indexCast v45
  ![0, 1, v157.toNat]
@[reducible] def k0_t1_loop (i : grid0.Coords) (v3 : BitVec 32) (v8 : BitVec 32) : Scf.Loop 32 :=
  let arg1 : BitVec 32 := BitVec.ofNat 32 (i 1).val
  let c1_i32_81 : BitVec 32 := 1#32
  let v176 : BitVec 32 := Scalar.addi arg1 c1_i32_81
  let v9 : BitVec 32 := Scalar.minsi v3 v8
  let v177 : BitVec 32 := Scalar.subi v9 v176
  let c1_i32_83 : BitVec 32 := 1#32
  let v179 : BitVec 32 := Scalar.divsi v177 c1_i32_83
  let v180 : BitVec 32 := Scalar.muli v179 c1_i32_83
  let v181 : BitVec 32 := Scalar.addi v176 v180
  let c1_i32_84 : BitVec 32 := 1#32
  ⟨v176, v181, c1_i32_84⟩

def k0_mult2 (i : grid0.Coords) (v3 : BitVec 32) (v8 : BitVec 32) (k0_t1 : Fin (k0_t1_loop i v3 v8).trips) : BitVec 32 :=
  let arg1 : BitVec 32 := BitVec.ofNat 32 (i 1).val
  let c1_i32_81 : BitVec 32 := 1#32
  let v176 : BitVec 32 := Scalar.addi arg1 c1_i32_81
  let c1_i32_84 : BitVec 32 := 1#32
  let arg19 : BitVec 32 := Scf.iv v176 c1_i32_84 k0_t1
  let c512_i32_114 : BitVec 32 := 512#32
  let v219 : BitVec 32 := Scalar.muli arg19 c512_i32_114
  v219
def k0_off7 (i : grid0.Coords) (v3 : BitVec 32) (v8 : BitVec 32) (k0_t1 : Fin (k0_t1_loop i v3 v8).trips) : Fin 2 → Nat :=
  let arg1 : BitVec 32 := BitVec.ofNat 32 (i 1).val
  let c1_i32_81 : BitVec 32 := 1#32
  let v176 : BitVec 32 := Scalar.addi arg1 c1_i32_81
  let c1_i32_84 : BitVec 32 := 1#32
  let arg19 : BitVec 32 := Scf.iv v176 c1_i32_84 k0_t1
  let c512_i32_114 : BitVec 32 := 512#32
  let v219 : BitVec 32 := Scalar.muli arg19 c512_i32_114
  let v220 : BitVec 32 := v219
  let v221 : Index := Scalar.indexCast v220
  let c0_115 : Index := 0#32
  ![v221.toNat, 0]
def k0_off8 (i : grid0.Coords) (v3 : BitVec 32) (v8 : BitVec 32) (k0_t1 : Fin (k0_t1_loop i v3 v8).trips) : Fin 3 → Nat :=
  let c0_117 : Index := 0#32
  let c0_118 : Index := 0#32
  let arg1 : BitVec 32 := BitVec.ofNat 32 (i 1).val
  let c1_i32_81 : BitVec 32 := 1#32
  let v176 : BitVec 32 := Scalar.addi arg1 c1_i32_81
  let c1_i32_84 : BitVec 32 := 1#32
  let arg19 : BitVec 32 := Scf.iv v176 c1_i32_84 k0_t1
  let c512_i32_114 : BitVec 32 := 512#32
  let v219 : BitVec 32 := Scalar.muli arg19 c512_i32_114
  let v220 : BitVec 32 := v219
  let v225 : Index := Scalar.indexCast v220
  ![0, 0, v225.toNat]
def k0_off9 (i : grid0.Coords) (v3 : BitVec 32) (v8 : BitVec 32) (k0_t1 : Fin (k0_t1_loop i v3 v8).trips) : Fin 3 → Nat :=
  let c0_143 : Index := 0#32
  let c0_144 : Index := 0#32
  let arg1 : BitVec 32 := BitVec.ofNat 32 (i 1).val
  let c1_i32_81 : BitVec 32 := 1#32
  let v176 : BitVec 32 := Scalar.addi arg1 c1_i32_81
  let c1_i32_84 : BitVec 32 := 1#32
  let arg19 : BitVec 32 := Scf.iv v176 c1_i32_84 k0_t1
  let c512_i32_114 : BitVec 32 := 512#32
  let v219 : BitVec 32 := Scalar.muli arg19 c512_i32_114
  let v220 : BitVec 32 := v219
  let v275 : Index := Scalar.indexCast v220
  ![0, 0, v275.toNat]
def k0_off10 (i : grid0.Coords) (v3 : BitVec 32) (v8 : BitVec 32) (k0_t1 : Fin (k0_t1_loop i v3 v8).trips) : Fin 3 → Nat :=
  let c0_169 : Index := 0#32
  let c1_170 : Index := 1#32
  let arg1 : BitVec 32 := BitVec.ofNat 32 (i 1).val
  let c1_i32_81 : BitVec 32 := 1#32
  let v176 : BitVec 32 := Scalar.addi arg1 c1_i32_81
  let c1_i32_84 : BitVec 32 := 1#32
  let arg19 : BitVec 32 := Scf.iv v176 c1_i32_84 k0_t1
  let c512_i32_114 : BitVec 32 := 512#32
  let v219 : BitVec 32 := Scalar.muli arg19 c512_i32_114
  let v220 : BitVec 32 := v219
  let v328 : Index := Scalar.indexCast v220
  ![0, 1, v328.toNat]
@[reducible] def k0_t2_loop (i : grid0.Coords) (v3 : BitVec 32) (v8 : BitVec 32) : Scf.Loop 32 :=
  let arg1 : BitVec 32 := BitVec.ofNat 32 (i 1).val
  let c1_i32_81 : BitVec 32 := 1#32
  let v176 : BitVec 32 := Scalar.addi arg1 c1_i32_81
  let v9 : BitVec 32 := Scalar.minsi v3 v8
  let v177 : BitVec 32 := Scalar.subi v9 v176
  let c1_i32_83 : BitVec 32 := 1#32
  let v179 : BitVec 32 := Scalar.divsi v177 c1_i32_83
  let v180 : BitVec 32 := Scalar.muli v179 c1_i32_83
  let v181 : BitVec 32 := Scalar.addi v176 v180
  let v178 : BitVec 32 := Scalar.addi v176 v177
  let c1_i32_85 : BitVec 32 := 1#32
  ⟨v181, v178, c1_i32_85⟩
def k0_mult3 (i : grid0.Coords) (v3 : BitVec 32) (v8 : BitVec 32) (k0_t2 : Fin (k0_t2_loop i v3 v8).trips) : BitVec 32 :=
  let arg1 : BitVec 32 := BitVec.ofNat 32 (i 1).val
  let c1_i32_81 : BitVec 32 := 1#32
  let v176 : BitVec 32 := Scalar.addi arg1 c1_i32_81
  let v9 : BitVec 32 := Scalar.minsi v3 v8
  let v177 : BitVec 32 := Scalar.subi v9 v176
  let c1_i32_83 : BitVec 32 := 1#32
  let v179 : BitVec 32 := Scalar.divsi v177 c1_i32_83
  let v180 : BitVec 32 := Scalar.muli v179 c1_i32_83
  let v181 : BitVec 32 := Scalar.addi v176 v180
  let c1_i32_85 : BitVec 32 := 1#32
  let arg19 : BitVec 32 := Scf.iv v181 c1_i32_85 k0_t2
  let c512_i32_114 : BitVec 32 := 512#32
  let v219 : BitVec 32 := Scalar.muli arg19 c512_i32_114
  v219
def k0_off11 (i : grid0.Coords) (v3 : BitVec 32) (v8 : BitVec 32) (k0_t2 : Fin (k0_t2_loop i v3 v8).trips) : Fin 2 → Nat :=
  let arg1 : BitVec 32 := BitVec.ofNat 32 (i 1).val
  let c1_i32_81 : BitVec 32 := 1#32
  let v176 : BitVec 32 := Scalar.addi arg1 c1_i32_81
  let v9 : BitVec 32 := Scalar.minsi v3 v8
  let v177 : BitVec 32 := Scalar.subi v9 v176
  let c1_i32_83 : BitVec 32 := 1#32
  let v179 : BitVec 32 := Scalar.divsi v177 c1_i32_83
  let v180 : BitVec 32 := Scalar.muli v179 c1_i32_83
  let v181 : BitVec 32 := Scalar.addi v176 v180
  let c1_i32_85 : BitVec 32 := 1#32
  let arg19 : BitVec 32 := Scf.iv v181 c1_i32_85 k0_t2
  let c512_i32_114 : BitVec 32 := 512#32
  let v219 : BitVec 32 := Scalar.muli arg19 c512_i32_114
  let v220 : BitVec 32 := v219
  let v221 : Index := Scalar.indexCast v220
  let c0_115 : Index := 0#32
  ![v221.toNat, 0]
def k0_off12 (i : grid0.Coords) (v3 : BitVec 32) (v8 : BitVec 32) (k0_t2 : Fin (k0_t2_loop i v3 v8).trips) : Fin 3 → Nat :=
  let c0_117 : Index := 0#32
  let c0_118 : Index := 0#32
  let arg1 : BitVec 32 := BitVec.ofNat 32 (i 1).val
  let c1_i32_81 : BitVec 32 := 1#32
  let v176 : BitVec 32 := Scalar.addi arg1 c1_i32_81
  let v9 : BitVec 32 := Scalar.minsi v3 v8
  let v177 : BitVec 32 := Scalar.subi v9 v176
  let c1_i32_83 : BitVec 32 := 1#32
  let v179 : BitVec 32 := Scalar.divsi v177 c1_i32_83
  let v180 : BitVec 32 := Scalar.muli v179 c1_i32_83
  let v181 : BitVec 32 := Scalar.addi v176 v180
  let c1_i32_85 : BitVec 32 := 1#32
  let arg19 : BitVec 32 := Scf.iv v181 c1_i32_85 k0_t2
  let c512_i32_114 : BitVec 32 := 512#32
  let v219 : BitVec 32 := Scalar.muli arg19 c512_i32_114
  let v220 : BitVec 32 := v219
  let v225 : Index := Scalar.indexCast v220
  ![0, 0, v225.toNat]
def k0_off13 (i : grid0.Coords) (v3 : BitVec 32) (v8 : BitVec 32) (k0_t2 : Fin (k0_t2_loop i v3 v8).trips) : Fin 3 → Nat :=
  let c0_143 : Index := 0#32
  let c0_144 : Index := 0#32
  let arg1 : BitVec 32 := BitVec.ofNat 32 (i 1).val
  let c1_i32_81 : BitVec 32 := 1#32
  let v176 : BitVec 32 := Scalar.addi arg1 c1_i32_81
  let v9 : BitVec 32 := Scalar.minsi v3 v8
  let v177 : BitVec 32 := Scalar.subi v9 v176
  let c1_i32_83 : BitVec 32 := 1#32
  let v179 : BitVec 32 := Scalar.divsi v177 c1_i32_83
  let v180 : BitVec 32 := Scalar.muli v179 c1_i32_83
  let v181 : BitVec 32 := Scalar.addi v176 v180
  let c1_i32_85 : BitVec 32 := 1#32
  let arg19 : BitVec 32 := Scf.iv v181 c1_i32_85 k0_t2
  let c512_i32_114 : BitVec 32 := 512#32
  let v219 : BitVec 32 := Scalar.muli arg19 c512_i32_114
  let v220 : BitVec 32 := v219
  let v275 : Index := Scalar.indexCast v220
  ![0, 0, v275.toNat]
def k0_off14 (i : grid0.Coords) (v3 : BitVec 32) (v8 : BitVec 32) (k0_t2 : Fin (k0_t2_loop i v3 v8).trips) : Fin 3 → Nat :=
  let c0_169 : Index := 0#32
  let c1_170 : Index := 1#32
  let arg1 : BitVec 32 := BitVec.ofNat 32 (i 1).val
  let c1_i32_81 : BitVec 32 := 1#32
  let v176 : BitVec 32 := Scalar.addi arg1 c1_i32_81
  let v9 : BitVec 32 := Scalar.minsi v3 v8
  let v177 : BitVec 32 := Scalar.subi v9 v176
  let c1_i32_83 : BitVec 32 := 1#32
  let v179 : BitVec 32 := Scalar.divsi v177 c1_i32_83
  let v180 : BitVec 32 := Scalar.muli v179 c1_i32_83
  let v181 : BitVec 32 := Scalar.addi v176 v180
  let c1_i32_85 : BitVec 32 := 1#32
  let arg19 : BitVec 32 := Scf.iv v181 c1_i32_85 k0_t2
  let c512_i32_114 : BitVec 32 := 512#32
  let v219 : BitVec 32 := Scalar.muli arg19 c512_i32_114
  let v220 : BitVec 32 := v219
  let v328 : Index := Scalar.indexCast v220
  ![0, 1, v328.toNat]
@[reducible] def k0_t3_loop (v3 : BitVec 32) (v8 : BitVec 32) : Scf.Loop 32 :=
  let v9 : BitVec 32 := Scalar.minsi v3 v8
  let v182 : BitVec 32 := Scalar.subi v3 v9
  let c1_i32_87 : BitVec 32 := 1#32
  let v184 : BitVec 32 := Scalar.divsi v182 c1_i32_87
  let v185 : BitVec 32 := Scalar.muli v184 c1_i32_87
  let v186 : BitVec 32 := Scalar.addi v9 v185
  let c1_i32_88 : BitVec 32 := 1#32
  ⟨v9, v186, c1_i32_88⟩
def k0_mult4 (v3 : BitVec 32) (v8 : BitVec 32) (k0_t3 : Fin (k0_t3_loop v3 v8).trips) : BitVec 32 :=
  let v9 : BitVec 32 := Scalar.minsi v3 v8
  let c1_i32_88 : BitVec 32 := 1#32
  let arg19 : BitVec 32 := Scf.iv v9 c1_i32_88 k0_t3
  let c512_i32_114 : BitVec 32 := 512#32
  let v219 : BitVec 32 := Scalar.muli arg19 c512_i32_114
  v219
def k0_off15 (v3 : BitVec 32) (v8 : BitVec 32) (k0_t3 : Fin (k0_t3_loop v3 v8).trips) : Fin 2 → Nat :=
  let v9 : BitVec 32 := Scalar.minsi v3 v8
  let c1_i32_88 : BitVec 32 := 1#32
  let arg19 : BitVec 32 := Scf.iv v9 c1_i32_88 k0_t3
  let c512_i32_114 : BitVec 32 := 512#32
  let v219 : BitVec 32 := Scalar.muli arg19 c512_i32_114
  let v220 : BitVec 32 := v219
  let v221 : Index := Scalar.indexCast v220
  let c0_115 : Index := 0#32
  ![v221.toNat, 0]
def k0_off16 (v3 : BitVec 32) (v8 : BitVec 32) (k0_t3 : Fin (k0_t3_loop v3 v8).trips) : Fin 3 → Nat :=
  let c0_117 : Index := 0#32
  let c0_118 : Index := 0#32
  let v9 : BitVec 32 := Scalar.minsi v3 v8
  let c1_i32_88 : BitVec 32 := 1#32
  let arg19 : BitVec 32 := Scf.iv v9 c1_i32_88 k0_t3
  let c512_i32_114 : BitVec 32 := 512#32
  let v219 : BitVec 32 := Scalar.muli arg19 c512_i32_114
  let v220 : BitVec 32 := v219
  let v225 : Index := Scalar.indexCast v220
  ![0, 0, v225.toNat]
def k0_off17 (v3 : BitVec 32) (v8 : BitVec 32) (k0_t3 : Fin (k0_t3_loop v3 v8).trips) : Fin 3 → Nat :=
  let c0_143 : Index := 0#32
  let c0_144 : Index := 0#32
  let v9 : BitVec 32 := Scalar.minsi v3 v8
  let c1_i32_88 : BitVec 32 := 1#32
  let arg19 : BitVec 32 := Scf.iv v9 c1_i32_88 k0_t3
  let c512_i32_114 : BitVec 32 := 512#32
  let v219 : BitVec 32 := Scalar.muli arg19 c512_i32_114
  let v220 : BitVec 32 := v219
  let v275 : Index := Scalar.indexCast v220
  ![0, 0, v275.toNat]
@[reducible] def k0_t4_loop (v3 : BitVec 32) (v8 : BitVec 32) : Scf.Loop 32 :=
  let v9 : BitVec 32 := Scalar.minsi v3 v8
  let v182 : BitVec 32 := Scalar.subi v3 v9
  let c1_i32_87 : BitVec 32 := 1#32
  let v184 : BitVec 32 := Scalar.divsi v182 c1_i32_87
  let v185 : BitVec 32 := Scalar.muli v184 c1_i32_87
  let v186 : BitVec 32 := Scalar.addi v9 v185
  let v183 : BitVec 32 := Scalar.addi v9 v182
  let c1_i32_89 : BitVec 32 := 1#32
  ⟨v186, v183, c1_i32_89⟩
def k0_mult5 (v3 : BitVec 32) (v8 : BitVec 32) (k0_t4 : Fin (k0_t4_loop v3 v8).trips) : BitVec 32 :=
  let v9 : BitVec 32 := Scalar.minsi v3 v8
  let v182 : BitVec 32 := Scalar.subi v3 v9
  let c1_i32_87 : BitVec 32 := 1#32
  let v184 : BitVec 32 := Scalar.divsi v182 c1_i32_87
  let v185 : BitVec 32 := Scalar.muli v184 c1_i32_87
  let v186 : BitVec 32 := Scalar.addi v9 v185
  let c1_i32_89 : BitVec 32 := 1#32
  let arg19 : BitVec 32 := Scf.iv v186 c1_i32_89 k0_t4
  let c512_i32_114 : BitVec 32 := 512#32
  let v219 : BitVec 32 := Scalar.muli arg19 c512_i32_114
  v219
def k0_off18 (v3 : BitVec 32) (v8 : BitVec 32) (k0_t4 : Fin (k0_t4_loop v3 v8).trips) : Fin 2 → Nat :=
  let v9 : BitVec 32 := Scalar.minsi v3 v8
  let v182 : BitVec 32 := Scalar.subi v3 v9
  let c1_i32_87 : BitVec 32 := 1#32
  let v184 : BitVec 32 := Scalar.divsi v182 c1_i32_87
  let v185 : BitVec 32 := Scalar.muli v184 c1_i32_87
  let v186 : BitVec 32 := Scalar.addi v9 v185
  let c1_i32_89 : BitVec 32 := 1#32
  let arg19 : BitVec 32 := Scf.iv v186 c1_i32_89 k0_t4
  let c512_i32_114 : BitVec 32 := 512#32
  let v219 : BitVec 32 := Scalar.muli arg19 c512_i32_114
  let v220 : BitVec 32 := v219
  let v221 : Index := Scalar.indexCast v220
  let c0_115 : Index := 0#32
  ![v221.toNat, 0]
def k0_off19 (v3 : BitVec 32) (v8 : BitVec 32) (k0_t4 : Fin (k0_t4_loop v3 v8).trips) : Fin 3 → Nat :=
  let c0_117 : Index := 0#32
  let c0_118 : Index := 0#32
  let v9 : BitVec 32 := Scalar.minsi v3 v8
  let v182 : BitVec 32 := Scalar.subi v3 v9
  let c1_i32_87 : BitVec 32 := 1#32
  let v184 : BitVec 32 := Scalar.divsi v182 c1_i32_87
  let v185 : BitVec 32 := Scalar.muli v184 c1_i32_87
  let v186 : BitVec 32 := Scalar.addi v9 v185
  let c1_i32_89 : BitVec 32 := 1#32
  let arg19 : BitVec 32 := Scf.iv v186 c1_i32_89 k0_t4
  let c512_i32_114 : BitVec 32 := 512#32
  let v219 : BitVec 32 := Scalar.muli arg19 c512_i32_114
  let v220 : BitVec 32 := v219
  let v225 : Index := Scalar.indexCast v220
  ![0, 0, v225.toNat]
def k0_off20 (v3 : BitVec 32) (v8 : BitVec 32) (k0_t4 : Fin (k0_t4_loop v3 v8).trips) : Fin 3 → Nat :=
  let c0_143 : Index := 0#32
  let c0_144 : Index := 0#32
  let v9 : BitVec 32 := Scalar.minsi v3 v8
  let v182 : BitVec 32 := Scalar.subi v3 v9
  let c1_i32_87 : BitVec 32 := 1#32
  let v184 : BitVec 32 := Scalar.divsi v182 c1_i32_87
  let v185 : BitVec 32 := Scalar.muli v184 c1_i32_87
  let v186 : BitVec 32 := Scalar.addi v9 v185
  let c1_i32_89 : BitVec 32 := 1#32
  let arg19 : BitVec 32 := Scf.iv v186 c1_i32_89 k0_t4
  let c512_i32_114 : BitVec 32 := 512#32
  let v219 : BitVec 32 := Scalar.muli arg19 c512_i32_114
  let v220 : BitVec 32 := v219
  let v275 : Index := Scalar.indexCast v220
  ![0, 0, v275.toNat]
@[reducible] def k0_t5_loop (v3 : BitVec 32) (v8 : BitVec 32) : Scf.Loop 32 :=
  let v9 : BitVec 32 := Scalar.minsi v3 v8
  let v187 : BitVec 32 := Scalar.subi v8 v9
  let c1_i32_91 : BitVec 32 := 1#32
  let v189 : BitVec 32 := Scalar.divsi v187 c1_i32_91
  let v190 : BitVec 32 := Scalar.muli v189 c1_i32_91
  let v191 : BitVec 32 := Scalar.addi v9 v190
  let c1_i32_92 : BitVec 32 := 1#32
  ⟨v9, v191, c1_i32_92⟩
def k0_mult6 (v3 : BitVec 32) (v8 : BitVec 32) (k0_t5 : Fin (k0_t5_loop v3 v8).trips) : BitVec 32 :=
  let v9 : BitVec 32 := Scalar.minsi v3 v8
  let c1_i32_92 : BitVec 32 := 1#32
  let arg19 : BitVec 32 := Scf.iv v9 c1_i32_92 k0_t5
  let c512_i32_114 : BitVec 32 := 512#32
  let v219 : BitVec 32 := Scalar.muli arg19 c512_i32_114
  v219
def k0_off21 (v3 : BitVec 32) (v8 : BitVec 32) (k0_t5 : Fin (k0_t5_loop v3 v8).trips) : Fin 2 → Nat :=
  let v9 : BitVec 32 := Scalar.minsi v3 v8
  let c1_i32_92 : BitVec 32 := 1#32
  let arg19 : BitVec 32 := Scf.iv v9 c1_i32_92 k0_t5
  let c512_i32_114 : BitVec 32 := 512#32
  let v219 : BitVec 32 := Scalar.muli arg19 c512_i32_114
  let v220 : BitVec 32 := v219
  let v221 : Index := Scalar.indexCast v220
  let c0_115 : Index := 0#32
  ![v221.toNat, 0]
def k0_off22 (v3 : BitVec 32) (v8 : BitVec 32) (k0_t5 : Fin (k0_t5_loop v3 v8).trips) : Fin 3 → Nat :=
  let c0_117 : Index := 0#32
  let c0_118 : Index := 0#32
  let v9 : BitVec 32 := Scalar.minsi v3 v8
  let c1_i32_92 : BitVec 32 := 1#32
  let arg19 : BitVec 32 := Scf.iv v9 c1_i32_92 k0_t5
  let c512_i32_114 : BitVec 32 := 512#32
  let v219 : BitVec 32 := Scalar.muli arg19 c512_i32_114
  let v220 : BitVec 32 := v219
  let v225 : Index := Scalar.indexCast v220
  ![0, 0, v225.toNat]
def k0_off23 (v3 : BitVec 32) (v8 : BitVec 32) (k0_t5 : Fin (k0_t5_loop v3 v8).trips) : Fin 3 → Nat :=
  let c0_143 : Index := 0#32
  let c1_144 : Index := 1#32
  let v9 : BitVec 32 := Scalar.minsi v3 v8
  let c1_i32_92 : BitVec 32 := 1#32
  let arg19 : BitVec 32 := Scf.iv v9 c1_i32_92 k0_t5
  let c512_i32_114 : BitVec 32 := 512#32
  let v219 : BitVec 32 := Scalar.muli arg19 c512_i32_114
  let v220 : BitVec 32 := v219
  let v275 : Index := Scalar.indexCast v220
  ![0, 1, v275.toNat]
@[reducible] def k0_t6_loop (v3 : BitVec 32) (v8 : BitVec 32) : Scf.Loop 32 :=
  let v9 : BitVec 32 := Scalar.minsi v3 v8
  let v187 : BitVec 32 := Scalar.subi v8 v9
  let c1_i32_91 : BitVec 32 := 1#32
  let v189 : BitVec 32 := Scalar.divsi v187 c1_i32_91
  let v190 : BitVec 32 := Scalar.muli v189 c1_i32_91
  let v191 : BitVec 32 := Scalar.addi v9 v190
  let v188 : BitVec 32 := Scalar.addi v9 v187
  let c1_i32_93 : BitVec 32 := 1#32
  ⟨v191, v188, c1_i32_93⟩
def k0_mult7 (v3 : BitVec 32) (v8 : BitVec 32) (k0_t6 : Fin (k0_t6_loop v3 v8).trips) : BitVec 32 :=
  let v9 : BitVec 32 := Scalar.minsi v3 v8
  let v187 : BitVec 32 := Scalar.subi v8 v9
  let c1_i32_91 : BitVec 32 := 1#32
  let v189 : BitVec 32 := Scalar.divsi v187 c1_i32_91
  let v190 : BitVec 32 := Scalar.muli v189 c1_i32_91
  let v191 : BitVec 32 := Scalar.addi v9 v190
  let c1_i32_93 : BitVec 32 := 1#32
  let arg19 : BitVec 32 := Scf.iv v191 c1_i32_93 k0_t6
  let c512_i32_114 : BitVec 32 := 512#32
  let v219 : BitVec 32 := Scalar.muli arg19 c512_i32_114
  v219
def k0_off24 (v3 : BitVec 32) (v8 : BitVec 32) (k0_t6 : Fin (k0_t6_loop v3 v8).trips) : Fin 2 → Nat :=
  let v9 : BitVec 32 := Scalar.minsi v3 v8
  let v187 : BitVec 32 := Scalar.subi v8 v9
  let c1_i32_91 : BitVec 32 := 1#32
  let v189 : BitVec 32 := Scalar.divsi v187 c1_i32_91
  let v190 : BitVec 32 := Scalar.muli v189 c1_i32_91
  let v191 : BitVec 32 := Scalar.addi v9 v190
  let c1_i32_93 : BitVec 32 := 1#32
  let arg19 : BitVec 32 := Scf.iv v191 c1_i32_93 k0_t6
  let c512_i32_114 : BitVec 32 := 512#32
  let v219 : BitVec 32 := Scalar.muli arg19 c512_i32_114
  let v220 : BitVec 32 := v219
  let v221 : Index := Scalar.indexCast v220
  let c0_115 : Index := 0#32
  ![v221.toNat, 0]
def k0_off25 (v3 : BitVec 32) (v8 : BitVec 32) (k0_t6 : Fin (k0_t6_loop v3 v8).trips) : Fin 3 → Nat :=
  let c0_117 : Index := 0#32
  let c0_118 : Index := 0#32
  let v9 : BitVec 32 := Scalar.minsi v3 v8
  let v187 : BitVec 32 := Scalar.subi v8 v9
  let c1_i32_91 : BitVec 32 := 1#32
  let v189 : BitVec 32 := Scalar.divsi v187 c1_i32_91
  let v190 : BitVec 32 := Scalar.muli v189 c1_i32_91
  let v191 : BitVec 32 := Scalar.addi v9 v190
  let c1_i32_93 : BitVec 32 := 1#32
  let arg19 : BitVec 32 := Scf.iv v191 c1_i32_93 k0_t6
  let c512_i32_114 : BitVec 32 := 512#32
  let v219 : BitVec 32 := Scalar.muli arg19 c512_i32_114
  let v220 : BitVec 32 := v219
  let v225 : Index := Scalar.indexCast v220
  ![0, 0, v225.toNat]
def k0_off26 (v3 : BitVec 32) (v8 : BitVec 32) (k0_t6 : Fin (k0_t6_loop v3 v8).trips) : Fin 3 → Nat :=
  let c0_143 : Index := 0#32
  let c1_144 : Index := 1#32
  let v9 : BitVec 32 := Scalar.minsi v3 v8
  let v187 : BitVec 32 := Scalar.subi v8 v9
  let c1_i32_91 : BitVec 32 := 1#32
  let v189 : BitVec 32 := Scalar.divsi v187 c1_i32_91
  let v190 : BitVec 32 := Scalar.muli v189 c1_i32_91
  let v191 : BitVec 32 := Scalar.addi v9 v190
  let c1_i32_93 : BitVec 32 := 1#32
  let arg19 : BitVec 32 := Scf.iv v191 c1_i32_93 k0_t6
  let c512_i32_114 : BitVec 32 := 512#32
  let v219 : BitVec 32 := Scalar.muli arg19 c512_i32_114
  let v220 : BitVec 32 := v219
  let v275 : Index := Scalar.indexCast v220
  ![0, 1, v275.toNat]

def k0_chk1 (i : grid0.Coords) (v3 : BitVec 32) (v8 : BitVec 32) : Prop :=
  ((k0_t1_loop i v3 v8).OK) ∧
  (∀ k0_t1 : Fin (k0_t1_loop i v3 v8).trips, 512 ∣ (k0_mult2 i v3 v8 k0_t1).toNat) ∧
  (∀ k0_t1 : Fin (k0_t1_loop i v3 v8).trips, ∀ a, (k0_off7 i v3 v8 k0_t1) a + S512x128.size a ≤ S8192x128.size a) ∧
  (∀ k0_t1 : Fin (k0_t1_loop i v3 v8).trips, ∀ a, (k0_off8 i v3 v8 k0_t1) a + S1x2x512.size a ≤ S1x2x8192.size a) ∧
  (∀ k0_t1 : Fin (k0_t1_loop i v3 v8).trips, ∀ a, (k0_off9 i v3 v8 k0_t1) a + S1x1x512.size a ≤ S1x2x8192.size a) ∧
  (∀ k0_t1 : Fin (k0_t1_loop i v3 v8).trips, ∀ a, (k0_off10 i v3 v8 k0_t1) a + S1x1x512.size a ≤ S1x2x8192.size a) ∧
  ((k0_t2_loop i v3 v8).OK) ∧
  (∀ k0_t2 : Fin (k0_t2_loop i v3 v8).trips, 512 ∣ (k0_mult3 i v3 v8 k0_t2).toNat) ∧
  (∀ k0_t2 : Fin (k0_t2_loop i v3 v8).trips, ∀ a, (k0_off11 i v3 v8 k0_t2) a + S512x128.size a ≤ S8192x128.size a) ∧
  (∀ k0_t2 : Fin (k0_t2_loop i v3 v8).trips, ∀ a, (k0_off12 i v3 v8 k0_t2) a + S1x2x512.size a ≤ S1x2x8192.size a) ∧
  (∀ k0_t2 : Fin (k0_t2_loop i v3 v8).trips, ∀ a, (k0_off13 i v3 v8 k0_t2) a + S1x1x512.size a ≤ S1x2x8192.size a) ∧
  (∀ k0_t2 : Fin (k0_t2_loop i v3 v8).trips, ∀ a, (k0_off14 i v3 v8 k0_t2) a + S1x1x512.size a ≤ S1x2x8192.size a) ∧
  ((k0_t3_loop v3 v8).OK) ∧
  (∀ k0_t3 : Fin (k0_t3_loop v3 v8).trips, 512 ∣ (k0_mult4 v3 v8 k0_t3).toNat) ∧
  (∀ k0_t3 : Fin (k0_t3_loop v3 v8).trips, ∀ a, (k0_off15 v3 v8 k0_t3) a + S512x128.size a ≤ S8192x128.size a) ∧
  (∀ k0_t3 : Fin (k0_t3_loop v3 v8).trips, ∀ a, (k0_off16 v3 v8 k0_t3) a + S1x2x512.size a ≤ S1x2x8192.size a) ∧
  (∀ k0_t3 : Fin (k0_t3_loop v3 v8).trips, ∀ a, (k0_off17 v3 v8 k0_t3) a + S1x1x512.size a ≤ S1x2x8192.size a) ∧
  ((k0_t4_loop v3 v8).OK) ∧
  (∀ k0_t4 : Fin (k0_t4_loop v3 v8).trips, 512 ∣ (k0_mult5 v3 v8 k0_t4).toNat) ∧
  (∀ k0_t4 : Fin (k0_t4_loop v3 v8).trips, ∀ a, (k0_off18 v3 v8 k0_t4) a + S512x128.size a ≤ S8192x128.size a) ∧
  (∀ k0_t4 : Fin (k0_t4_loop v3 v8).trips, ∀ a, (k0_off19 v3 v8 k0_t4) a + S1x2x512.size a ≤ S1x2x8192.size a) ∧
  (∀ k0_t4 : Fin (k0_t4_loop v3 v8).trips, ∀ a, (k0_off20 v3 v8 k0_t4) a + S1x1x512.size a ≤ S1x2x8192.size a) ∧
  ((k0_t5_loop v3 v8).OK) ∧
  (∀ k0_t5 : Fin (k0_t5_loop v3 v8).trips, 512 ∣ (k0_mult6 v3 v8 k0_t5).toNat) ∧
  (∀ k0_t5 : Fin (k0_t5_loop v3 v8).trips, ∀ a, (k0_off21 v3 v8 k0_t5) a + S512x128.size a ≤ S8192x128.size a) ∧
  (∀ k0_t5 : Fin (k0_t5_loop v3 v8).trips, ∀ a, (k0_off22 v3 v8 k0_t5) a + S1x2x512.size a ≤ S1x2x8192.size a) ∧
  (∀ k0_t5 : Fin (k0_t5_loop v3 v8).trips, ∀ a, (k0_off23 v3 v8 k0_t5) a + S1x1x512.size a ≤ S1x2x8192.size a) ∧
  ((k0_t6_loop v3 v8).OK) ∧
  (∀ k0_t6 : Fin (k0_t6_loop v3 v8).trips, 512 ∣ (k0_mult7 v3 v8 k0_t6).toNat) ∧
  (∀ k0_t6 : Fin (k0_t6_loop v3 v8).trips, ∀ a, (k0_off24 v3 v8 k0_t6) a + S512x128.size a ≤ S8192x128.size a) ∧
  (∀ k0_t6 : Fin (k0_t6_loop v3 v8).trips, ∀ a, (k0_off25 v3 v8 k0_t6) a + S1x2x512.size a ≤ S1x2x8192.size a) ∧
  (∀ k0_t6 : Fin (k0_t6_loop v3 v8).trips, ∀ a, (k0_off26 v3 v8 k0_t6) a + S1x1x512.size a ≤ S1x2x8192.size a)
theorem k0_t1_ok : ∀ (i : grid0.Coords) (v3 : BitVec 32) (v8 : BitVec 32) (k0_hw1 : k0_chk1 i v3 v8), (k0_t1_loop i v3 v8).OK := fun i v3 v8 k0_hw1 => k0_hw1.1
theorem k0_mult2_dvd : ∀ (i : grid0.Coords) (v3 : BitVec 32) (v8 : BitVec 32) (k0_hw1 : k0_chk1 i v3 v8) (k0_t1 : Fin (k0_t1_loop i v3 v8).trips), 512 ∣ (k0_mult2 i v3 v8 k0_t1).toNat := fun i v3 v8 k0_hw1 k0_t1 => k0_hw1.2.1 k0_t1
theorem k0_off7_inb : ∀ (i : grid0.Coords) (v3 : BitVec 32) (v8 : BitVec 32) (k0_hw1 : k0_chk1 i v3 v8) (k0_t1 : Fin (k0_t1_loop i v3 v8).trips), ∀ a, (k0_off7 i v3 v8 k0_t1) a + S512x128.size a ≤ S8192x128.size a := fun i v3 v8 k0_hw1 k0_t1 => k0_hw1.2.2.1 k0_t1
theorem k0_off8_inb : ∀ (i : grid0.Coords) (v3 : BitVec 32) (v8 : BitVec 32) (k0_hw1 : k0_chk1 i v3 v8) (k0_t1 : Fin (k0_t1_loop i v3 v8).trips), ∀ a, (k0_off8 i v3 v8 k0_t1) a + S1x2x512.size a ≤ S1x2x8192.size a := fun i v3 v8 k0_hw1 k0_t1 => k0_hw1.2.2.2.1 k0_t1
theorem k0_off9_inb : ∀ (i : grid0.Coords) (v3 : BitVec 32) (v8 : BitVec 32) (k0_hw1 : k0_chk1 i v3 v8) (k0_t1 : Fin (k0_t1_loop i v3 v8).trips), ∀ a, (k0_off9 i v3 v8 k0_t1) a + S1x1x512.size a ≤ S1x2x8192.size a := fun i v3 v8 k0_hw1 k0_t1 => k0_hw1.2.2.2.2.1 k0_t1
theorem k0_off10_inb : ∀ (i : grid0.Coords) (v3 : BitVec 32) (v8 : BitVec 32) (k0_hw1 : k0_chk1 i v3 v8) (k0_t1 : Fin (k0_t1_loop i v3 v8).trips), ∀ a, (k0_off10 i v3 v8 k0_t1) a + S1x1x512.size a ≤ S1x2x8192.size a := fun i v3 v8 k0_hw1 k0_t1 => k0_hw1.2.2.2.2.2.1 k0_t1
theorem k0_t2_ok : ∀ (i : grid0.Coords) (v3 : BitVec 32) (v8 : BitVec 32) (k0_hw1 : k0_chk1 i v3 v8), (k0_t2_loop i v3 v8).OK := fun i v3 v8 k0_hw1 => k0_hw1.2.2.2.2.2.2.1
theorem k0_mult3_dvd : ∀ (i : grid0.Coords) (v3 : BitVec 32) (v8 : BitVec 32) (k0_hw1 : k0_chk1 i v3 v8) (k0_t2 : Fin (k0_t2_loop i v3 v8).trips), 512 ∣ (k0_mult3 i v3 v8 k0_t2).toNat := fun i v3 v8 k0_hw1 k0_t2 => k0_hw1.2.2.2.2.2.2.2.1 k0_t2
theorem k0_off11_inb : ∀ (i : grid0.Coords) (v3 : BitVec 32) (v8 : BitVec 32) (k0_hw1 : k0_chk1 i v3 v8) (k0_t2 : Fin (k0_t2_loop i v3 v8).trips), ∀ a, (k0_off11 i v3 v8 k0_t2) a + S512x128.size a ≤ S8192x128.size a := fun i v3 v8 k0_hw1 k0_t2 => k0_hw1.2.2.2.2.2.2.2.2.1 k0_t2
theorem k0_off12_inb : ∀ (i : grid0.Coords) (v3 : BitVec 32) (v8 : BitVec 32) (k0_hw1 : k0_chk1 i v3 v8) (k0_t2 : Fin (k0_t2_loop i v3 v8).trips), ∀ a, (k0_off12 i v3 v8 k0_t2) a + S1x2x512.size a ≤ S1x2x8192.size a := fun i v3 v8 k0_hw1 k0_t2 => k0_hw1.2.2.2.2.2.2.2.2.2.1 k0_t2
theorem k0_off13_inb : ∀ (i : grid0.Coords) (v3 : BitVec 32) (v8 : BitVec 32) (k0_hw1 : k0_chk1 i v3 v8) (k0_t2 : Fin (k0_t2_loop i v3 v8).trips), ∀ a, (k0_off13 i v3 v8 k0_t2) a + S1x1x512.size a ≤ S1x2x8192.size a := fun i v3 v8 k0_hw1 k0_t2 => k0_hw1.2.2.2.2.2.2.2.2.2.2.1 k0_t2
theorem k0_off14_inb : ∀ (i : grid0.Coords) (v3 : BitVec 32) (v8 : BitVec 32) (k0_hw1 : k0_chk1 i v3 v8) (k0_t2 : Fin (k0_t2_loop i v3 v8).trips), ∀ a, (k0_off14 i v3 v8 k0_t2) a + S1x1x512.size a ≤ S1x2x8192.size a := fun i v3 v8 k0_hw1 k0_t2 => k0_hw1.2.2.2.2.2.2.2.2.2.2.2.1 k0_t2
theorem k0_t3_ok : ∀ (i : grid0.Coords) (v3 : BitVec 32) (v8 : BitVec 32) (k0_hw1 : k0_chk1 i v3 v8), (k0_t3_loop v3 v8).OK := fun i v3 v8 k0_hw1 => k0_hw1.2.2.2.2.2.2.2.2.2.2.2.2.1
theorem k0_mult4_dvd : ∀ (i : grid0.Coords) (v3 : BitVec 32) (v8 : BitVec 32) (k0_hw1 : k0_chk1 i v3 v8) (k0_t3 : Fin (k0_t3_loop v3 v8).trips), 512 ∣ (k0_mult4 v3 v8 k0_t3).toNat := fun i v3 v8 k0_hw1 k0_t3 => k0_hw1.2.2.2.2.2.2.2.2.2.2.2.2.2.1 k0_t3
theorem k0_off15_inb : ∀ (i : grid0.Coords) (v3 : BitVec 32) (v8 : BitVec 32) (k0_hw1 : k0_chk1 i v3 v8) (k0_t3 : Fin (k0_t3_loop v3 v8).trips), ∀ a, (k0_off15 v3 v8 k0_t3) a + S512x128.size a ≤ S8192x128.size a := fun i v3 v8 k0_hw1 k0_t3 => k0_hw1.2.2.2.2.2.2.2.2.2.2.2.2.2.2.1 k0_t3
theorem k0_off16_inb : ∀ (i : grid0.Coords) (v3 : BitVec 32) (v8 : BitVec 32) (k0_hw1 : k0_chk1 i v3 v8) (k0_t3 : Fin (k0_t3_loop v3 v8).trips), ∀ a, (k0_off16 v3 v8 k0_t3) a + S1x2x512.size a ≤ S1x2x8192.size a := fun i v3 v8 k0_hw1 k0_t3 => k0_hw1.2.2.2.2.2.2.2.2.2.2.2.2.2.2.2.1 k0_t3
theorem k0_off17_inb : ∀ (i : grid0.Coords) (v3 : BitVec 32) (v8 : BitVec 32) (k0_hw1 : k0_chk1 i v3 v8) (k0_t3 : Fin (k0_t3_loop v3 v8).trips), ∀ a, (k0_off17 v3 v8 k0_t3) a + S1x1x512.size a ≤ S1x2x8192.size a := fun i v3 v8 k0_hw1 k0_t3 => k0_hw1.2.2.2.2.2.2.2.2.2.2.2.2.2.2.2.2.1 k0_t3
theorem k0_t4_ok : ∀ (i : grid0.Coords) (v3 : BitVec 32) (v8 : BitVec 32) (k0_hw1 : k0_chk1 i v3 v8), (k0_t4_loop v3 v8).OK := fun i v3 v8 k0_hw1 => k0_hw1.2.2.2.2.2.2.2.2.2.2.2.2.2.2.2.2.2.1
theorem k0_mult5_dvd : ∀ (i : grid0.Coords) (v3 : BitVec 32) (v8 : BitVec 32) (k0_hw1 : k0_chk1 i v3 v8) (k0_t4 : Fin (k0_t4_loop v3 v8).trips), 512 ∣ (k0_mult5 v3 v8 k0_t4).toNat := fun i v3 v8 k0_hw1 k0_t4 => k0_hw1.2.2.2.2.2.2.2.2.2.2.2.2.2.2.2.2.2.2.1 k0_t4
theorem k0_off18_inb : ∀ (i : grid0.Coords) (v3 : BitVec 32) (v8 : BitVec 32) (k0_hw1 : k0_chk1 i v3 v8) (k0_t4 : Fin (k0_t4_loop v3 v8).trips), ∀ a, (k0_off18 v3 v8 k0_t4) a + S512x128.size a ≤ S8192x128.size a := fun i v3 v8 k0_hw1 k0_t4 => k0_hw1.2.2.2.2.2.2.2.2.2.2.2.2.2.2.2.2.2.2.2.1 k0_t4
theorem k0_off19_inb : ∀ (i : grid0.Coords) (v3 : BitVec 32) (v8 : BitVec 32) (k0_hw1 : k0_chk1 i v3 v8) (k0_t4 : Fin (k0_t4_loop v3 v8).trips), ∀ a, (k0_off19 v3 v8 k0_t4) a + S1x2x512.size a ≤ S1x2x8192.size a := fun i v3 v8 k0_hw1 k0_t4 => k0_hw1.2.2.2.2.2.2.2.2.2.2.2.2.2.2.2.2.2.2.2.2.1 k0_t4
theorem k0_off20_inb : ∀ (i : grid0.Coords) (v3 : BitVec 32) (v8 : BitVec 32) (k0_hw1 : k0_chk1 i v3 v8) (k0_t4 : Fin (k0_t4_loop v3 v8).trips), ∀ a, (k0_off20 v3 v8 k0_t4) a + S1x1x512.size a ≤ S1x2x8192.size a := fun i v3 v8 k0_hw1 k0_t4 => k0_hw1.2.2.2.2.2.2.2.2.2.2.2.2.2.2.2.2.2.2.2.2.2.1 k0_t4
theorem k0_t5_ok : ∀ (i : grid0.Coords) (v3 : BitVec 32) (v8 : BitVec 32) (k0_hw1 : k0_chk1 i v3 v8), (k0_t5_loop v3 v8).OK := fun i v3 v8 k0_hw1 => k0_hw1.2.2.2.2.2.2.2.2.2.2.2.2.2.2.2.2.2.2.2.2.2.2.1
theorem k0_mult6_dvd : ∀ (i : grid0.Coords) (v3 : BitVec 32) (v8 : BitVec 32) (k0_hw1 : k0_chk1 i v3 v8) (k0_t5 : Fin (k0_t5_loop v3 v8).trips), 512 ∣ (k0_mult6 v3 v8 k0_t5).toNat := fun i v3 v8 k0_hw1 k0_t5 => k0_hw1.2.2.2.2.2.2.2.2.2.2.2.2.2.2.2.2.2.2.2.2.2.2.2.1 k0_t5
theorem k0_off21_inb : ∀ (i : grid0.Coords) (v3 : BitVec 32) (v8 : BitVec 32) (k0_hw1 : k0_chk1 i v3 v8) (k0_t5 : Fin (k0_t5_loop v3 v8).trips), ∀ a, (k0_off21 v3 v8 k0_t5) a + S512x128.size a ≤ S8192x128.size a := fun i v3 v8 k0_hw1 k0_t5 => k0_hw1.2.2.2.2.2.2.2.2.2.2.2.2.2.2.2.2.2.2.2.2.2.2.2.2.1 k0_t5
theorem k0_off22_inb : ∀ (i : grid0.Coords) (v3 : BitVec 32) (v8 : BitVec 32) (k0_hw1 : k0_chk1 i v3 v8) (k0_t5 : Fin (k0_t5_loop v3 v8).trips), ∀ a, (k0_off22 v3 v8 k0_t5) a + S1x2x512.size a ≤ S1x2x8192.size a := fun i v3 v8 k0_hw1 k0_t5 => k0_hw1.2.2.2.2.2.2.2.2.2.2.2.2.2.2.2.2.2.2.2.2.2.2.2.2.2.1 k0_t5
theorem k0_off23_inb : ∀ (i : grid0.Coords) (v3 : BitVec 32) (v8 : BitVec 32) (k0_hw1 : k0_chk1 i v3 v8) (k0_t5 : Fin (k0_t5_loop v3 v8).trips), ∀ a, (k0_off23 v3 v8 k0_t5) a + S1x1x512.size a ≤ S1x2x8192.size a := fun i v3 v8 k0_hw1 k0_t5 => k0_hw1.2.2.2.2.2.2.2.2.2.2.2.2.2.2.2.2.2.2.2.2.2.2.2.2.2.2.1 k0_t5
theorem k0_t6_ok : ∀ (i : grid0.Coords) (v3 : BitVec 32) (v8 : BitVec 32) (k0_hw1 : k0_chk1 i v3 v8), (k0_t6_loop v3 v8).OK := fun i v3 v8 k0_hw1 => k0_hw1.2.2.2.2.2.2.2.2.2.2.2.2.2.2.2.2.2.2.2.2.2.2.2.2.2.2.2.1
theorem k0_mult7_dvd : ∀ (i : grid0.Coords) (v3 : BitVec 32) (v8 : BitVec 32) (k0_hw1 : k0_chk1 i v3 v8) (k0_t6 : Fin (k0_t6_loop v3 v8).trips), 512 ∣ (k0_mult7 v3 v8 k0_t6).toNat := fun i v3 v8 k0_hw1 k0_t6 => k0_hw1.2.2.2.2.2.2.2.2.2.2.2.2.2.2.2.2.2.2.2.2.2.2.2.2.2.2.2.2.1 k0_t6
theorem k0_off24_inb : ∀ (i : grid0.Coords) (v3 : BitVec 32) (v8 : BitVec 32) (k0_hw1 : k0_chk1 i v3 v8) (k0_t6 : Fin (k0_t6_loop v3 v8).trips), ∀ a, (k0_off24 v3 v8 k0_t6) a + S512x128.size a ≤ S8192x128.size a := fun i v3 v8 k0_hw1 k0_t6 => k0_hw1.2.2.2.2.2.2.2.2.2.2.2.2.2.2.2.2.2.2.2.2.2.2.2.2.2.2.2.2.2.1 k0_t6
theorem k0_off25_inb : ∀ (i : grid0.Coords) (v3 : BitVec 32) (v8 : BitVec 32) (k0_hw1 : k0_chk1 i v3 v8) (k0_t6 : Fin (k0_t6_loop v3 v8).trips), ∀ a, (k0_off25 v3 v8 k0_t6) a + S1x2x512.size a ≤ S1x2x8192.size a := fun i v3 v8 k0_hw1 k0_t6 => k0_hw1.2.2.2.2.2.2.2.2.2.2.2.2.2.2.2.2.2.2.2.2.2.2.2.2.2.2.2.2.2.2.1 k0_t6
theorem k0_off26_inb : ∀ (i : grid0.Coords) (v3 : BitVec 32) (v8 : BitVec 32) (k0_hw1 : k0_chk1 i v3 v8) (k0_t6 : Fin (k0_t6_loop v3 v8).trips), ∀ a, (k0_off26 v3 v8 k0_t6) a + S1x1x512.size a ≤ S1x2x8192.size a := fun i v3 v8 k0_hw1 k0_t6 => k0_hw1.2.2.2.2.2.2.2.2.2.2.2.2.2.2.2.2.2.2.2.2.2.2.2.2.2.2.2.2.2.2.2 k0_t6

def k0_cond2 (i : grid0.Coords) : BitVec 1 :=
  let arg1 : BitVec 32 := BitVec.ofNat 32 (i 1).val
  let c15_i32 : BitVec 32 := 15#32
  let v216 : BitVec 1 := Scalar.cmpi .eq arg1 c15_i32
  let v217 : BitVec 32 := Scalar.extui v216
  let c0_i32_113 : BitVec 32 := 0#32
  let v218 : BitVec 1 := Scalar.cmpi .ne v217 c0_i32_113
  v218

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8192x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x8192 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S8192x3072 : Shape := ⟨2, ![8192, 3072]⟩
abbrev S8192x16 : Shape := ⟨2, ![8192, 16]⟩
abbrev S8192x1024 : Shape := ⟨2, ![8192, 1024]⟩
abbrev S8192x16x64 : Shape := ⟨3, ![8192, 16, 64]⟩
abbrev S16x8192x8192 : Shape := ⟨3, ![16, 8192, 8192]⟩
abbrev S_ : Shape := ⟨0, ![]⟩
abbrev S16x8192 : Shape := ⟨2, ![16, 8192]⟩
abbrev S16x8192x1 : Shape := ⟨3, ![16, 8192, 1]⟩
abbrev S16x1x8192 : Shape := ⟨3, ![16, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S16x64x8192 : Shape := ⟨3, ![16, 64, 8192]⟩
abbrev S16x8192x64 : Shape := ⟨3, ![16, 8192, 64]⟩
abbrev S8x2x8192 : Shape := ⟨3, ![8, 2, 8192]⟩

abbrev nBuf : Space → Nat
  | .hbm => 132
  | .vmem => 0
  | .smem => 0
  | _ => 0

abbrev hbmTy0_0 (i : Nat) : BufTy := match i % 128 with
  | 0 => ⟨S8192x3072, .bf16⟩
  | 1 => ⟨S8192x16, .f32⟩
  | 2 => ⟨S8192x1024, .bf16⟩
  | 3 => ⟨S8192x1024, .bf16⟩
  | 4 => ⟨S8192x1024, .bf16⟩
  | 5 => ⟨S8192x1024, .bf16⟩
  | 6 => ⟨S8192x16x64, .bf16⟩
  | 7 => ⟨S8192x16x64, .f32⟩
  | 8 => ⟨S8192x16x64, .bf16⟩
  | 9 => ⟨S8192x16x64, .f32⟩
  | 10 => ⟨S16x8192x8192, .f32⟩
  | 11 => ⟨S_, .f32⟩
  | 12 => ⟨S16x8192x8192, .f32⟩
  | 13 => ⟨S16x8192x8192, .f32⟩
  | 14 => ⟨S16x8192, .f32⟩
  | 15 => ⟨S16x8192x1, .f32⟩
  | 16 => ⟨S16x8192, .f32⟩
  | 17 => ⟨S16x1x8192, .f32⟩
  | 18 => ⟨S16x8192x8192, .f32⟩
  | 19 => ⟨S16x8192x8192, .f32⟩
  | 20 => ⟨S16x8192x8192, .f32⟩
  | 21 => ⟨S16x8192x8192, .f32⟩
  | 22 => ⟨S8192, .i32⟩
  | 23 => ⟨S1x8192, .i32⟩
  | 24 => ⟨S8192x1, .i32⟩
  | 25 => ⟨S8192x8192, .i32⟩
  | 26 => ⟨S8192x8192, .i32⟩
  | 27 => ⟨S8192x8192, .i1⟩
  | 28 => ⟨S1x8192x8192, .i1⟩
  | 29 => ⟨S_, .f32⟩
  | 30 => ⟨S_, .f32⟩
  | 31 => ⟨S16x8192x8192, .i1⟩
  | 32 => ⟨S16x8192x8192, .f32⟩
  | 33 => ⟨S16x8192x8192, .f32⟩
  | 34 => ⟨S_, .f32⟩
  | 35 => ⟨S16x8192x8192, .f32⟩
  | 36 => ⟨S_, .f32⟩
  | 37 => ⟨S16x8192, .f32⟩
  | 38 => ⟨S16x8192x1, .f32⟩
  | 39 => ⟨S16x8192x8192, .f32⟩
  | 40 => ⟨S16x8192x8192, .i1⟩
  | 41 => ⟨S16x8192x8192, .f32⟩
  | 42 => ⟨S_, .f32⟩
  | 43 => ⟨S16x8192, .f32⟩
  | 44 => ⟨S_, .f32⟩
  | 45 => ⟨S16x8192, .f32⟩
  | 46 => ⟨S16x8192, .f32⟩
  | 47 => ⟨S_, .f32⟩
  | 48 => ⟨S16x8192, .f32⟩
  | 49 => ⟨S16x8192, .i1⟩
  | 50 => ⟨S_, .f32⟩
  | 51 => ⟨S16x8192, .f32⟩
  | 52 => ⟨S16x8192, .i1⟩
  | 53 => ⟨S_, .f32⟩
  | 54 => ⟨S16x8192, .f32⟩
  | 55 => ⟨S_, .f32⟩
  | 56 => ⟨S16x8192, .f32⟩
  | 57 => ⟨S_, .f32⟩
  | 58 => ⟨S16x8192, .f32⟩
  | 59 => ⟨S16x8192, .f32⟩
  | 60 => ⟨S16x8192, .f32⟩
  | 61 => ⟨S16x8192x1, .f32⟩
  | 62 => ⟨S16x8192x8192, .f32⟩
  | 63 => ⟨S16x8192x8192, .f32⟩
  | 64 => ⟨S16x8192x8192, .f32⟩
  | 65 => ⟨S_, .f32⟩
  | 66 => ⟨S16x8192, .f32⟩
  | 67 => ⟨S16x8192x1, .f32⟩
  | 68 => ⟨S16x8192x8192, .f32⟩
  | 69 => ⟨S16x8192x8192, .f32⟩
  | 70 => ⟨S16x8192x1, .f32⟩
  | 71 => ⟨S_, .f32⟩
  | 72 => ⟨S16x8192x1, .f32⟩
  | 73 => ⟨S16x8192x1, .f32⟩
  | 74 => ⟨S8192x16x64, .bf16⟩
  | 75 => ⟨S8192x16x64, .f32⟩
  | 76 => ⟨S16x64x8192, .f32⟩
  | 77 => ⟨S8192x16x64, .f32⟩
  | 78 => ⟨S8192x1024, .f32⟩
  | 79 => ⟨S8192x1024, .f32⟩
  | 80 => ⟨S8192x16x64, .f32⟩
  | 81 => ⟨S16x64x8192, .f32⟩
  | 82 => ⟨S16x8192x8192, .f32⟩
  | 83 => ⟨S16x64x8192, .f32⟩
  | 84 => ⟨S8192x16x64, .f32⟩
  | 85 => ⟨S8192x16x64, .bf16⟩
  | 86 => ⟨S8192x1024, .bf16⟩
  | 87 => ⟨S16x8192x8192, .f32⟩
  | 88 => ⟨S16x8192x8192, .f32⟩
  | 89 => ⟨S16x8192x8192, .f32⟩
  | 90 => ⟨S_, .f32⟩
  | 91 => ⟨S16x8192, .f32⟩
  | 92 => ⟨S16x8192x1, .f32⟩
  | 93 => ⟨S16x8192x1, .f32⟩
  | 94 => ⟨S16x8192x8192, .f32⟩
  | 95 => ⟨S16x8192x8192, .f32⟩
  | 96 => ⟨S_, .f32⟩
  | 97 => ⟨S16x8192, .f32⟩
  | 98 => ⟨S16x8192x8192, .f32⟩
  | 99 => ⟨S16x8192x8192, .f32⟩
  | 100 => ⟨S16x8192x8192, .f32⟩
  | 101 => ⟨S_, .f32⟩
  | 102 => ⟨S16x8192x8192, .f32⟩
  | 103 => ⟨S16x8192x8192, .f32⟩
  | 104 => ⟨S_, .f32⟩
  | 105 => ⟨S16x8192, .f32⟩
  | 106 => ⟨S16x8192x1, .f32⟩
  | 107 => ⟨S16x8192x8192, .f32⟩
  | 108 => ⟨S_, .f32⟩
  | 109 => ⟨S16x8192, .f32⟩
  | 110 => ⟨S16x1x8192, .f32⟩
  | 111 => ⟨S_, .f32⟩
  | 112 => ⟨S16x8192, .f32⟩
  | 113 => ⟨S8192x16, .f32⟩
  | 114 => ⟨S_, .f32⟩
  | 115 => ⟨S16x8192, .f32⟩
  | 116 => ⟨S8192x16, .f32⟩
  | 117 => ⟨S_, .f32⟩
  | 118 => ⟨S16x8192x8192, .f32⟩
  | 119 => ⟨S16x8192x8192, .f32⟩
  | 120 => ⟨S16x8192x64, .f32⟩
  | 121 => ⟨S8192x16x64, .f32⟩
  | 122 => ⟨S16x8192x64, .f32⟩
  | 123 => ⟨S8192x16x64, .f32⟩
  | 124 => ⟨S8192x16x64, .bf16⟩
  | 125 => ⟨S8192x1024, .bf16⟩
  | 126 => ⟨S8192x16x64, .bf16⟩
  | 127 => ⟨S8192x1024, .bf16⟩
  | _ => ⟨S8192x3072, .bf16⟩

abbrev hbmTy0_1 (i : Nat) : BufTy := match i % 128 with
  | 0 => ⟨S16x8192, .f32⟩
  | 1 => ⟨S8x2x8192, .f32⟩
  | 2 => ⟨S16x8192, .f32⟩
  | 3 => ⟨S8x2x8192, .f32⟩
  | _ => ⟨S8192x3072, .bf16⟩

abbrev hbmTy (i : Nat) : BufTy := match i / 128 with
  | 0 => hbmTy0_0 i
  | 1 => hbmTy0_1 i
  | _ => ⟨S8192x3072, .bf16⟩

abbrev bufTy : (tb : Table) → Fin (tcTables nBuf tb) → BufTy
  | .hbm, ⟨i, _⟩ => hbmTy i
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_0 : Ref sig .tc := ⟨.hbm, 29, rfl⟩
abbrev main_call0_v0 : Ref sig .tc := ⟨.hbm, 30, rfl⟩
abbrev main_v25_1 : Ref sig .tc := ⟨.hbm, 31, rfl⟩
abbrev main_call0_v2 : Ref sig .tc := ⟨.hbm, 32, rfl⟩
abbrev main_v25_0 : Ref sig .tc := ⟨.hbm, 33, rfl⟩
abbrev main_call0_cst : Ref sig .tc := ⟨.hbm, 34, rfl⟩
abbrev main_v25_2 : Ref sig .tc := ⟨.hbm, 35, rfl⟩
abbrev main_cst_1 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_10 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_11 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_12 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_call1_cst : Ref sig .tc := ⟨.hbm, 101, rfl⟩
abbrev main_call1_v0 : Ref sig .tc := ⟨.hbm, 102, rfl⟩
abbrev main_v79 : Ref sig .tc := ⟨.hbm, 103, rfl⟩
abbrev main_cst_13 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_14 : Ref sig .tc := ⟨.hbm, 108, rfl⟩
abbrev main_v83 : Ref sig .tc := ⟨.hbm, 109, rfl⟩
abbrev main_v84 : Ref sig .tc := ⟨.hbm, 110, rfl⟩
abbrev main_cst_15 : Ref sig .tc := ⟨.hbm, 111, rfl⟩
abbrev main_v85 : Ref sig .tc := ⟨.hbm, 112, rfl⟩
abbrev main_v86 : Ref sig .tc := ⟨.hbm, 113, rfl⟩
abbrev main_cst_16 : Ref sig .tc := ⟨.hbm, 114, rfl⟩
abbrev main_v87 : Ref sig .tc := ⟨.hbm, 115, rfl⟩
abbrev main_v88 : Ref sig .tc := ⟨.hbm, 116, rfl⟩
abbrev main_cst_17 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩

abbrev nD : Nat := 1
abbrev τ : Topo := Topo.v7x

variable {F : FTy → Type} [FloatOps F]
-- ==== Kernel2.lean ====
abbrev S8192x1024 : Shape := ⟨2, ![8192, 1024]⟩
abbrev S1024x4096 : Shape := ⟨2, ![1024, 4096]⟩
abbrev S1024x1024 : Shape := ⟨2, ![1024, 1024]⟩

abbrev nBuf : Space → Nat
  | .hbm => 6
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S1024x4096, .bf16⟩
  | .hbm, ⟨5, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 1, 4], ![false, false, false]⟩

def k0_cond6 (i : grid0.Coords) : BitVec 1 :=
  let arg2 : BitVec 32 := BitVec.ofNat 32 (i 2).val
  let c3_i32_9 : BitVec 32 := 3#32
  let v19 : BitVec 1 := Scalar.cmpi .eq arg2 c3_i32_9
  let v20 : BitVec 32 := Scalar.extui v19
  let c0_i32_10 : BitVec 32 := 0#32
  let v21 : BitVec 1 := Scalar.cmpi .ne v20 c0_i32_10
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg0.toNat, v16.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg0.toNat, v16.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg0.toNat, v16.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg0.toNat, v16.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference2Ideal.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S1024x4096, .bf16⟩
  | .hbm, ⟨5, _⟩ => ⟨S8192x4096, .bf16⟩
  | .hbm, ⟨6, _⟩ => ⟨S8192x4096, .f32⟩
  | .hbm, ⟨7, _⟩ => ⟨S_, .f32⟩
  | .hbm, ⟨8, _⟩ => ⟨S8192x1024, .f32⟩
  | .hbm, ⟨9, _⟩ => ⟨S1024x4096, .f32⟩
  | .hbm, ⟨10, _⟩ => ⟨S8192x4096, .f32⟩
  | .hbm, ⟨11, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Kernel3.lean ====
abbrev S8192x1024 : Shape := ⟨2, ![8192, 1024]⟩
abbrev S1024x4096 : Shape := ⟨2, ![1024, 4096]⟩
abbrev S1024x1024 : Shape := ⟨2, ![1024, 1024]⟩

abbrev nBuf : Space → Nat
  | .hbm => 6
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S1024x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![1, 4, 8], ![false, false, false]⟩

def k0_cond6 (i : grid0.Coords) : BitVec 1 :=
  let arg2 : BitVec 32 := BitVec.ofNat 32 (i 2).val
  let c7_i32 : BitVec 32 := 7#32
  let v19 : BitVec 1 := Scalar.cmpi .eq arg2 c7_i32
  let v20 : BitVec 32 := Scalar.extui v19
  let c0_i32_9 : BitVec 32 := 0#32
  let v21 : BitVec 1 := Scalar.cmpi .ne v20 c0_i32_9
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.remsi arg1 c4_i32
  let c0_i32 : BitVec 32 := 0#32
  let v1 : BitVec 1 := Scalar.cmpi .eq v0 c0_i32
  let c0_i32_0 : BitVec 32 := 0#32
  let v2 : BitVec 32 := Scalar.select v1 arg2 c0_i32_0
  let c4_i32_1 : BitVec 32 := 4#32
  let v3 : BitVec 32 := Scalar.divsi arg1 c4_i32_1
  let c0_i32_2 : BitVec 32 := 0#32
  let v4 : BitVec 1 := Scalar.cmpi .sgt arg1 c0_i32_2
  let v5 : BitVec 32 := Scalar.extui v4
  let c0_i32_3 : BitVec 32 := 0#32
  let v6 : BitVec 1 := Scalar.cmpi .slt arg1 c0_i32_3
  let v7 : BitVec 32 := Scalar.extui v6
  let v8 : BitVec 32 := Scalar.subi v5 v7
  let c0_i32_4 : BitVec 32 := 0#32
  let v9 : BitVec 1 := Scalar.cmpi .sgt c4_i32_1 c0_i32_4
  let v10 : BitVec 32 := Scalar.extui v9
  let c0_i32_5 : BitVec 32 := 0#32
  let v11 : BitVec 1 := Scalar.cmpi .slt c4_i32_1 c0_i32_5
  let v12 : BitVec 32 := Scalar.extui v11
  let v13 : BitVec 32 := Scalar.subi v10 v12
  let v14 : BitVec 1 := Scalar.cmpi .ne v8 v13
  let v15 : BitVec 32 := Scalar.remsi arg1 c4_i32_1
  let c0_i32_6 : BitVec 32 := 0#32
  let v16 : BitVec 1 := Scalar.cmpi .ne v15 c0_i32_6
  let v17 : BitVec 1 := Scalar.andi v14 v16
  let c1_i32 : BitVec 32 := 1#32
  let v18 : BitVec 32 := Scalar.subi v3 c1_i32
  let v19 : BitVec 32 := Scalar.select v17 v18 v3
  let c0_i32_7 : BitVec 32 := 0#32
  ![v2.toNat, v19.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.remsi arg1 c4_i32
  let c1_i32 : BitVec 32 := 1#32
  let v1 : BitVec 1 := Scalar.cmpi .eq v0 c1_i32
  let c0_i32 : BitVec 32 := 0#32
  let v2 : BitVec 32 := Scalar.select v1 arg2 c0_i32
  let c4_i32_0 : BitVec 32 := 4#32
  let v3 : BitVec 32 := Scalar.divsi arg1 c4_i32_0
  let c0_i32_1 : BitVec 32 := 0#32
  let v4 : BitVec 1 := Scalar.cmpi .sgt arg1 c0_i32_1
  let v5 : BitVec 32 := Scalar.extui v4
  let c0_i32_2 : BitVec 32 := 0#32
  let v6 : BitVec 1 := Scalar.cmpi .slt arg1 c0_i32_2
  let v7 : BitVec 32 := Scalar.extui v6
  let v8 : BitVec 32 := Scalar.subi v5 v7
  let c0_i32_3 : BitVec 32 := 0#32
  let v9 : BitVec 1 := Scalar.cmpi .sgt c4_i32_0 c0_i32_3
  let v10 : BitVec 32 := Scalar.extui v9
  let c0_i32_4 : BitVec 32 := 0#32
  let v11 : BitVec 1 := Scalar.cmpi .slt c4_i32_0 c0_i32_4
  let v12 : BitVec 32 := Scalar.extui v11
  let v13 : BitVec 32 := Scalar.subi v10 v12
  let v14 : BitVec 1 := Scalar.cmpi .ne v8 v13
  let v15 : BitVec 32 := Scalar.remsi arg1 c4_i32_0
  let c0_i32_5 : BitVec 32 := 0#32
  let v16 : BitVec 1 := Scalar.cmpi .ne v15 c0_i32_5
  let v17 : BitVec 1 := Scalar.andi v14 v16
  let c1_i32_6 : BitVec 32 := 1#32
  let v18 : BitVec 32 := Scalar.subi v3 c1_i32_6
  let v19 : BitVec 32 := Scalar.select v17 v18 v3
  let c0_i32_7 : BitVec 32 := 0#32
  ![v2.toNat, v19.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.remsi arg1 c4_i32
  let c2_i32 : BitVec 32 := 2#32
  let v1 : BitVec 1 := Scalar.cmpi .eq v0 c2_i32
  let c0_i32 : BitVec 32 := 0#32
  let v2 : BitVec 32 := Scalar.select v1 arg2 c0_i32
  let c4_i32_0 : BitVec 32 := 4#32
  let v3 : BitVec 32 := Scalar.divsi arg1 c4_i32_0
  let c0_i32_1 : BitVec 32 := 0#32
  let v4 : BitVec 1 := Scalar.cmpi .sgt arg1 c0_i32_1
  let v5 : BitVec 32 := Scalar.extui v4
  let c0_i32_2 : BitVec 32 := 0#32
  let v6 : BitVec 1 := Scalar.cmpi .slt arg1 c0_i32_2
  let v7 : BitVec 32 := Scalar.extui v6
  let v8 : BitVec 32 := Scalar.subi v5 v7
  let c0_i32_3 : BitVec 32 := 0#32
  let v9 : BitVec 1 := Scalar.cmpi .sgt c4_i32_0 c0_i32_3
  let v10 : BitVec 32 := Scalar.extui v9
  let c0_i32_4 : BitVec 32 := 0#32
  let v11 : BitVec 1 := Scalar.cmpi .slt c4_i32_0 c0_i32_4
  let v12 : BitVec 32 := Scalar.extui v11
  let v13 : BitVec 32 := Scalar.subi v10 v12
  let v14 : BitVec 1 := Scalar.cmpi .ne v8 v13
  let v15 : BitVec 32 := Scalar.remsi arg1 c4_i32_0
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c0_i32_6 : BitVec 32 := 0#32
  ![v2.toNat, v19.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.remsi arg1 c4_i32
  let c3_i32 : BitVec 32 := 3#32
  let v1 : BitVec 1 := Scalar.cmpi .eq v0 c3_i32
  let c0_i32 : BitVec 32 := 0#32
  let v2 : BitVec 32 := Scalar.select v1 arg2 c0_i32
  let c4_i32_0 : BitVec 32 := 4#32
  let v3 : BitVec 32 := Scalar.divsi arg1 c4_i32_0
  let c0_i32_1 : BitVec 32 := 0#32
  let v4 : BitVec 1 := Scalar.cmpi .sgt arg1 c0_i32_1
  let v5 : BitVec 32 := Scalar.extui v4
  let c0_i32_2 : BitVec 32 := 0#32
  let v6 : BitVec 1 := Scalar.cmpi .slt arg1 c0_i32_2
  let v7 : BitVec 32 := Scalar.extui v6
  let v8 : BitVec 32 := Scalar.subi v5 v7
  let c0_i32_3 : BitVec 32 := 0#32
  let v9 : BitVec 1 := Scalar.cmpi .sgt c4_i32_0 c0_i32_3
  let v10 : BitVec 32 := Scalar.extui v9
  let c0_i32_4 : BitVec 32 := 0#32
  let v11 : BitVec 1 := Scalar.cmpi .slt c4_i32_0 c0_i32_4
  let v12 : BitVec 32 := Scalar.extui v11
  let v13 : BitVec 32 := Scalar.subi v10 v12
  let v14 : BitVec 1 := Scalar.cmpi .ne v8 v13
  let v15 : BitVec 32 := Scalar.remsi arg1 c4_i32_0
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c0_i32_6 : BitVec 32 := 0#32
  ![v2.toNat, v19.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference3Ideal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x4096, .bf16⟩
  | .hbm, ⟨6, _⟩ => ⟨S8192x4096, .f32⟩
  | .hbm, ⟨7, _⟩ => ⟨S_, .f32⟩
  | .hbm, ⟨8, _⟩ => ⟨S1024x4096, .f32⟩
  | .hbm, ⟨9, _⟩ => ⟨S8192x1024, .f32⟩
  | .hbm, ⟨10, _⟩ => ⟨S8192x4096, .f32⟩
  | .hbm, ⟨11, _⟩ => ⟨S4096x1024, .f32⟩
  | .hbm, ⟨12, _⟩ => ⟨S1024x4096, .f32⟩
  | .hbm, ⟨13, _⟩ => ⟨S1024x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Kernel4.lean ====
abbrev S8192x1024 : Shape := ⟨2, ![8192, 1024]⟩
abbrev S8192x128 : Shape := ⟨2, ![8192, 128]⟩
abbrev S512x1024 : Shape := ⟨2, ![512, 1024]⟩
abbrev S512x128 : Shape := ⟨2, ![512, 128]⟩
abbrev S1024x128 : Shape := ⟨2, ![1024, 128]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .bf16⟩
  | .hbm, ⟨4, _⟩ => ⟨S8192x1024, .bf16⟩
  | .hbm, ⟨5, _⟩ => ⟨S8192x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x128, .f32⟩
  | .local _ .vmem, ⟨11, _⟩ => ⟨S512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S8192x1024 : Shape := ⟨2, ![8192, 1024]⟩
abbrev S_ : Shape := ⟨0, ![]⟩
abbrev S8192x16x64 : Shape := ⟨3, ![8192, 16, 64]⟩
abbrev S8192x16 : Shape := ⟨2, ![8192, 16]⟩
abbrev S8192x112 : Shape := ⟨2, ![8192, 112]⟩
abbrev S8192x128 : Shape := ⟨2, ![8192, 128]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x16x64, .f32⟩
  | .hbm, ⟨25, _⟩ => ⟨S_, .f32⟩
  | .hbm, ⟨26, _⟩ => ⟨S8192x16, .f32⟩
  | .hbm, ⟨27, _⟩ => ⟨S8192x1024, .bf16⟩
  | .hbm, ⟨28, _⟩ => ⟨S8192x1024, .bf16⟩
  | .hbm, ⟨29, _⟩ => ⟨S_, .f32⟩
  | .hbm, ⟨30, _⟩ => ⟨S8192x112, .f32⟩
  | .hbm, ⟨31, _⟩ => ⟨S8192x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_v0_2 : Ref sig .tc := ⟨.hbm, 10, rfl⟩
abbrev main_call0_cst_1 : Ref sig .tc := ⟨.hbm, 11, rfl⟩
abbrev main_call0_v6 : Ref sig .tc := ⟨.hbm, 12, rfl⟩
abbrev main_call0_v7 : Ref sig .tc := ⟨.hbm, 13, rfl⟩
abbrev main_v0_1 : Ref sig .tc := ⟨.hbm, 14, rfl⟩
abbrev main_v0_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_0 : Ref sig .tc := ⟨.hbm, 29, rfl⟩
abbrev main_v10 : Ref sig .tc := ⟨.hbm, 30, rfl⟩
abbrev main_v11 : Ref sig .tc := ⟨.hbm, 31, rfl⟩

abbrev nD : Nat := 1
abbrev τ : Topo := Topo.v7x

variable {F : FTy → Type} [FloatOps F]
-- ==== Kernel5.lean ====
abbrev S8192x1024 : Shape := ⟨2, ![8192, 1024]⟩
abbrev S1024x3072 : Shape := ⟨2, ![1024, 3072]⟩
abbrev S8192x3072 : Shape := ⟨2, ![8192, 3072]⟩
abbrev S1024x1024 : Shape := ⟨2, ![1024, 1024]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .bf16⟩
  | .local _ .vmem, ⟨5, _⟩ => ⟨S1024x1536, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x1024, .f32⟩
  | .hbm, ⟨3, _⟩ => ⟨S1024x3072, .f32⟩
  | .hbm, ⟨4, _⟩ => ⟨S8192x3072, .f32⟩
  | .hbm, ⟨5, _⟩ => ⟨S8192x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel6.lean ====
abbrev S8192x1024 : Shape := ⟨2, ![8192, 1024]⟩
abbrev S1024x3072 : Shape := ⟨2, ![1024, 3072]⟩
abbrev S8192x3072 : Shape := ⟨2, ![8192, 3072]⟩
abbrev S1024x1024 : Shape := ⟨2, ![1024, 1024]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .f32⟩
  | .local _ .vmem, ⟨5, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x1024, .f32⟩
  | .hbm, ⟨3, _⟩ => ⟨S1024x3072, .f32⟩
  | .hbm, ⟨4, _⟩ => ⟨S8192x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel7.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel8.lean ====
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S8192x1536 : Shape := ⟨2, ![8192, 1536]⟩
abbrev S1536x1024 : Shape := ⟨2, ![1536, 1024]⟩
abbrev S8192x1024 : Shape := ⟨2, ![8192, 1024]⟩
abbrev S1024x1536 : Shape := ⟨2, ![1024, 1536]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1536, .bf16⟩
  | .hbm, ⟨1, _⟩ => ⟨S1536x1024, .bf16⟩
  | .hbm, ⟨2, _⟩ => ⟨S8192x1024, .f32⟩
  | .hbm, ⟨3, _⟩ => ⟨S8192x1024, .f32⟩
  | .local _ .vmem, ⟨0, _⟩ => ⟨S1024x1536, .bf16⟩
  | .local _ .vmem, ⟨1, _⟩ => ⟨S1024x1536, .bf16⟩
  | .local _ .vmem, ⟨2, _⟩ => ⟨S1536x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S8192x1536 : Shape := ⟨2, ![8192, 1536]⟩
abbrev S1536x1024 : Shape := ⟨2, ![1536, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S1536x1024, .bf16⟩
  | .hbm, ⟨2, _⟩ => ⟨S8192x1024, .f32⟩
  | .hbm, ⟨3, _⟩ => ⟨S8192x1536, .f32⟩
  | .hbm, ⟨4, _⟩ => ⟨S1536x1024, .f32⟩
  | .hbm, ⟨5, _⟩ => ⟨S8192x1024, .f32⟩
  | .hbm, ⟨6, _⟩ => ⟨S8192x1024, .f32⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S8192x1024 : Shape := ⟨2, ![8192, 1024]⟩
abbrev S1536x1024 : Shape := ⟨2, ![1536, 1024]⟩
abbrev S8192x1536 : Shape := ⟨2, ![8192, 1536]⟩
abbrev S1024x1024 : Shape := ⟨2, ![1024, 1024]⟩
abbrev S1024x1536 : Shape := ⟨2, ![1024, 1536]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1536x1024, .bf16⟩
  | .hbm, ⟨2, _⟩ => ⟨S8192x1536, .f32⟩
  | .local _ .vmem, ⟨0, _⟩ => ⟨S1024x1024, .bf16⟩
  | .local _ .vmem, ⟨1, _⟩ => ⟨S1024x1024, .bf16⟩
  | .local _ .vmem, ⟨2, _⟩ => ⟨S1536x1024, .bf16⟩
  | .local _ .vmem, ⟨3, _⟩ => ⟨S1024x1536, .f32⟩
  | .local _ .vmem, ⟨4, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S1536x1024 : Shape := ⟨2, ![1536, 1024]⟩
abbrev S_ : Shape := ⟨0, ![]⟩
abbrev S8192x1536 : Shape := ⟨2, ![8192, 1536]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1536x1024, .bf16⟩
  | .hbm, ⟨2, _⟩ => ⟨S_, .f32⟩
  | .hbm, ⟨3, _⟩ => ⟨S8192x1536, .f32⟩
  | .hbm, ⟨4, _⟩ => ⟨S1536x1024, .f32⟩
  | .hbm, ⟨5, _⟩ => ⟨S8192x1024, .f32⟩
  | .hbm, ⟨6, _⟩ => ⟨S8192x1024, .f32⟩
  | .hbm, ⟨7, _⟩ => ⟨S8192x1536, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Ideal.Step.lean ====
/- What one pass over a block of queries adds to the running sums of the forgetting-attention gradient, in terms of the
   kernel's own named values. `diagPass` is the masked pass over the diagonal block, `pass` the unmasked one. -/
module

public import proofs.«01_k».proof.Proof.Gen.KernelIdeal.Skeleton
public import Idealize.ShloMosaic.Lib.VecWindow

@[expose] public section

noncomputable section

namespace Cert.KernelIdeal.Attn

open Idealize.ShloMosaic Idealize.ShloMosaic.TcCoe Idealize.ShloMosaic.VecWindow
open Cert.KernelIdeal.Gen

variable {F : FTy → Type} [FloatOps F] [Named F]

/-- The five running sums: the bias gradient of the queries, the queries' gradient, and for the current block of keys the
    gradients of the keys, the values and the keys' bias (two columns of the last, one for each head). -/
structure Acc (F : FTy → Type) where
  dcq : Vec F S1x2x8192 .f32
  dq : Vec F S8192x128 .f32
  dk : Vec F S512x128 .f32
  dv : Vec F S512x128 .f32
  dck : Vec F S512x128 .f32

/-- One unmasked pass over a block of queries (`qb`, `dob`, `lb`, `db`) for both heads, the sums of the queries at the
    offsets `o7` (rows), `o9` and `o10` (the two heads' bias rows). -/
def pass (v15 v16 : IVec S512x128 1) (v17 v18 v21 v24 : Vec F S512x128 .bf16) (v27 v28 : FVec F S512x1 .f32)
    (qb dob : Vec F S512x128 .bf16) (lb db : Vec F S1x2x512 .f32)
    (o7 : Fin 2 → ℕ) (h7 : ∀ a, o7 a + S512x128.size a ≤ S8192x128.size a)
    (o9 : Fin 3 → ℕ) (h9 : ∀ a, o9 a + S1x1x512.size a ≤ S1x2x8192.size a)
    (o10 : Fin 3 → ℕ) (h10 : ∀ a, o10 a + S1x1x512.size a ≤ S1x2x8192.size a) (s : Acc F) : Acc F where
  dv := k0_pay22 (k0_pay3 lb) (k0_pay17 v16 dob) (k0_pay18 v16 v17 v28 qb) (k0_pay11 v15 v17 v27 qb dob lb s.dv)
  dk := k0_pay23 v18 (k0_pay3 lb) (k0_pay4 db) (k0_pay16 v16 qb) (k0_pay17 v16 dob) (k0_pay18 v16 v17 v28 qb)
    (k0_pay12 (k0_pay6 v15 qb) (k0_pay10 v15 v17 v18 v27 qb dob lb db) s.dk)
  dck :=
    put (put s.dck ![0, 0] S512x1.size
        (k0_pay14 (k0_pay9 v15 v17 v18 v27 qb dob lb db) (window s.dck ![0, 0] S512x1.size inb_S512x128_S512x1_0_0)))
      ![0, 1] S512x1.size
      (k0_pay25 v18 (k0_pay3 lb) (k0_pay4 db) (k0_pay17 v16 dob) (k0_pay18 v16 v17 v28 qb)
        (window s.dck ![0, 1] S512x1.size inb_S512x128_S512x1_0_1))
  dcq :=
    put (put s.dcq o9 S1x1x512.size (k0_pay15 (k0_pay9 v15 v17 v18 v27 qb dob lb db) (window s.dcq o9 S1x1x512.size h9)))
      o10 S1x1x512.size
      (k0_pay120
        (k0_pay26 (window (put s.dcq o9 S1x1x512.size
          (k0_pay15 (k0_pay9 v15 v17 v18 v27 qb dob lb db) (window s.dcq o9 S1x1x512.size h9))) o10 S1x1x512.size h10))
        (k0_pay27 v18 (k0_pay3 lb) (k0_pay4 db) (k0_pay17 v16 dob) (k0_pay18 v16 v17 v28 qb)))
  dq :=
    put s.dq o7 S512x128.size
      (k0_pay121
        (k0_pay24 v18 v24 (k0_pay3 lb) (k0_pay4 db)
          (k0_pay13 v21 (k0_pay5 (F := F)) (k0_pay10 v15 v17 v18 v27 qb dob lb db)) (k0_pay17 v16 dob)
          (k0_pay18 v16 v17 v28 qb))
        (window s.dq o7 S512x128.size h7))

/-- The masked pass over the block of queries of the diagonal, at the offsets `o3` (rows), `o5` and `o6` (bias rows). -/
def diagPass (v15 v16 : IVec S512x128 1) (v17 v18 v21 v24 : Vec F S512x128 .bf16) (v27 v28 : FVec F S512x1 .f32) (v31 : IVec S512x512 1)
    (qb dob : Vec F S512x128 .bf16) (lb db : Vec F S1x2x512 .f32)
    (o3 : Fin 2 → ℕ) (h3 : ∀ a, o3 a + S512x128.size a ≤ S8192x128.size a)
    (o5 : Fin 3 → ℕ) (h5 : ∀ a, o5 a + S1x1x512.size a ≤ S1x2x8192.size a)
    (o6 : Fin 3 → ℕ) (h6 : ∀ a, o6 a + S1x1x512.size a ≤ S1x2x8192.size a) (s : Acc F) : Acc F where
  dv := k0_pay114 v16 v17 v28 v31 qb dob (k0_pay94 lb) (k0_pay103 (k0_pay98 v15 dob) (k0_pay99 v15 v17 v27 v31 qb lb) s.dv)
  dk := k0_pay115 v16 v17 v18 v28 v31 qb dob (k0_pay94 lb) (k0_pay95 db)
    (k0_pay104 (k0_pay95 db) (k0_pay97 v15 qb) (k0_pay99 v15 v17 v27 v31 qb lb) (k0_pay100 v15 v18 dob) s.dk)
  dck :=
    put (put s.dck ![0, 0] S512x1.size
        (k0_pay106 (k0_pay95 db) (k0_pay99 v15 v17 v27 v31 qb lb) (k0_pay100 v15 v18 dob)
          (window s.dck ![0, 0] S512x1.size inb_S512x128_S512x1_0_0)))
      ![0, 1] S512x1.size
      (k0_pay117 (k0_pay112 v16 v17 v18 v28 v31 qb dob (k0_pay94 lb) (k0_pay95 db))
        (window (put s.dck ![0, 0] S512x1.size
          (k0_pay106 (k0_pay95 db) (k0_pay99 v15 v17 v27 v31 qb lb) (k0_pay100 v15 v18 dob)
            (window s.dck ![0, 0] S512x1.size inb_S512x128_S512x1_0_0))) ![0, 1] S512x1.size inb_S512x128_S512x1_0_1))
  dcq :=
    put (put s.dcq o5 S1x1x512.size
        (k0_pay108 (k0_pay107 (k0_pay95 db) (k0_pay99 v15 v17 v27 v31 qb lb) (k0_pay100 v15 v18 dob)
          (window s.dcq o5 S1x1x512.size h5))))
      o6 S1x1x512.size
      (k0_pay118 (k0_pay112 v16 v17 v18 v28 v31 qb dob (k0_pay94 lb) (k0_pay95 db))
        (window s.dcq o6 S1x1x512.size h6))
  dq :=
    put s.dq o3 S512x128.size
      (k0_pay119
        (k0_pay116 v16 v17 v18 v24 v28 v31 qb dob (k0_pay94 lb) (k0_pay95 db)
          (k0_pay105 v21 (k0_pay95 db) (k0_pay96 (F := F)) (k0_pay99 v15 v17 v27 v31 qb lb) (k0_pay100 v15 v18 dob)))
        (window s.dq o3 S512x128.size h3))

/-- The sums the body starts from: the two carried ones cleared at the first block of keys, the other three cleared. -/
def start (first : Bool) (dcq : Vec F S1x2x8192 .f32) (dq : Vec F S8192x128 .f32) : Acc F where
  dcq := if first then k0_pay82 (F := F) else dcq
  dq := if first then k0_pay81 (F := F) else dq
  dk := k0_pay91 (F := F)
  dv := k0_pay92 (Scalar.ofBits .f32 0x00000000#32)
  dck := k0_pay93 (F := F)

/-- The bias gradient of a block of keys as the body writes it, over `d`: each head's row from its column of `dck`. -/
def dckRows (dck : Vec F S512x128 .f32) (d : Vec F S1x2x512 .f32) : Vec F S1x2x512 .f32 :=
  put (put d ![0, 0, 0] S1x1x512.size
      (k0_pay143 (k0_pay83) (window dck ![0, 0] S512x1.size inb_S512x128_S512x1_0_0)
        (window dck ![0, 1] S512x1.size inb_S512x128_S512x1_0_1)))
    ![0, 1, 0] S1x1x512.size
    (k0_pay1 (k0_pay144 (k0_pay83) (window dck ![0, 0] S512x1.size inb_S512x128_S512x1_0_0)
      (window dck ![0, 1] S512x1.size inb_S512x128_S512x1_0_1)))

end Cert.KernelIdeal.Attn
-- ==== Proof.Ideal.Trip.lean ====
/- One trip of the kernel's loop over the blocks of queries past the diagonal: it runs, and adds `pass` to the sums. -/
module

public import proofs.«01_k».proof.Proof.Ideal.Step
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow
open Cert.KernelIdeal.Gen

variable {F : FTy → Type} [FloatOps F] [Named F]

local notation "𝕄G" => MT nD τ sig Unit (Elt F) ℕ (UR sig nD τ) ℕ

/-- The sums after trip `k`. -/
abbrev tripAcc (i : grid0.Coords) (v3 v8 : Elt F .i32) (k0_hw1 : k0_chk1 i v3 v8) (v15 v16 : IVec S512x128 1)
    (v17 v18 v21 v24 : Vec F S512x128 .bf16) (v27 v28 : FVec F S512x1 .f32)
    (x5 x6 : Vec F S8192x128 .bf16) (x7 x8 : Vec F S1x2x8192 .f32) (k : Fin (k0_t1_loop i v3 v8).trips) (s : Acc F) : Acc F :=
  pass v15 v16 v17 v18 v21 v24 v27 v28
    (window x5 (k0_off7 i v3 v8 k) S512x128.size (k0_off7_inb i v3 v8 k0_hw1 k))
    (window x6 (k0_off7 i v3 v8 k) S512x128.size (k0_off7_inb i v3 v8 k0_hw1 k))
    (window x7 (k0_off8 i v3 v8 k) S1x2x512.size (k0_off8_inb i v3 v8 k0_hw1 k))
    (window x8 (k0_off8 i v3 v8 k) S1x2x512.size (k0_off8_inb i v3 v8 k0_hw1 k))
    (k0_off7 i v3 v8 k) (k0_off7_inb i v3 v8 k0_hw1 k) (k0_off9 i v3 v8 k) (k0_off9_inb i v3 v8 k0_hw1 k)
    (k0_off10 i v3 v8 k) (k0_off10_inb i v3 v8 k0_hw1 k) s

theorem trip (𝒱 : Variants) (c : Dev nD) (bd : Option 𝒱.V) (E : Set ℕ) (i : grid0.Coords) (arg2 : Memref sig .tc .smem S16x16 .i32) (harg2 : arg2.IsWhole) (arg3 : Memref sig .tc .vmem S512x128 .bf16) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S1x2x8192 .f32) (harg7 : arg7.IsWhole) (arg8 : Memref sig .tc .vmem S1x2x8192 .f32) (harg8 : arg8.IsWhole) (arg9 : Memref sig .tc .vmem S512x128 .f32) (harg9 : arg9.IsWhole) (arg10 : Memref sig .tc .vmem S8192x128 .bf16) (harg10 : arg10.IsWhole) (arg11 : Memref sig .tc .vmem S512x128 .bf16) (harg11 : arg11.IsWhole) (arg12 : Memref sig .tc .vmem S512x128 .bf16) (harg12 : arg12.IsWhole) (arg13 : Memref sig .tc .vmem S1x2x512 .f32) (harg13 : arg13.IsWhole) (arg14 : Memref sig .tc .vmem S1x2x8192 .f32) (harg14 : arg14.IsWhole) (arg15 : Memref sig .tc .vmem S8192x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg1 : BitVec 32) (v3 : Elt F .i32) (v8 : Elt F .i32) (k0_hw1 : k0_chk1 i v3 v8) (v9 : BitVec 32) (v15 : IVec S512x128 1) (v16 : IVec S512x128 1) (v17 : Vec F S512x128 .bf16) (v18 : Vec F S512x128 .bf16) (v21 : Vec F S512x128 .bf16) (v24 : Vec F S512x128 .bf16) (v27 : FVec F S512x1 .f32) (v28 : FVec F S512x1 .f32) (v45 : BitVec 32) (v133 : FVec F S512x512 .f32) (v149 : FVec F S512x128 .f32) (v176 : BitVec 32)
    (k : Fin (k0_t1_loop i v3 v8).trips) (X5 : arg5.view.ty.Contents (Elt F)) (X6 : arg6.view.ty.Contents (Elt F)) (X7 : arg7.view.ty.Contents (Elt F)) (X8 : arg8.view.ty.Contents (Elt F)) (s : Acc F) :
    (iprop((arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ owns (c : Thread nD τ) arg14 fullShare s.dcq ∗ owns (c : Thread nD τ) arg15 fullShare s.dq ∗ owns (c : Thread nD τ) arg16 fullShare s.dk ∗ owns (c : Thread nD τ) arg17 fullShare s.dv ∗ owns (c : Thread nD τ) arg18 fullShare s.dck) : sProp 𝕄G)
      ⊢ wp frame (wpE (defs₀ (F := F)) 𝒱 (c : Thread nD τ) bd) E
          (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v3 v8 k0_hw1 v9 v15 v16 v17 v18 v21 v24 v27 v28 v45 v133 v149 v176 k PUnit.unit)
          (fun _ => iprop((arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ owns (c : Thread nD τ) arg14 fullShare (tripAcc i v3 v8 k0_hw1 v15 v16 v17 v18 v21 v24 v27 v28 (arg5.view.read (Elt F) X5) (arg6.view.read (Elt F) X6) (arg7.view.read (Elt F) X7) (arg8.view.read (Elt F) X8) k s).dcq ∗ owns (c : Thread nD τ) arg15 fullShare (tripAcc i v3 v8 k0_hw1 v15 v16 v17 v18 v21 v24 v27 v28 (arg5.view.read (Elt F) X5) (arg6.view.read (Elt F) X6) (arg7.view.read (Elt F) X7) (arg8.view.read (Elt F) X8) k s).dq ∗ owns (c : Thread nD τ) arg16 fullShare (tripAcc i v3 v8 k0_hw1 v15 v16 v17 v18 v21 v24 v27 v28 (arg5.view.read (Elt F) X5) (arg6.view.read (Elt F) X6) (arg7.view.read (Elt F) X7) (arg8.view.read (Elt F) X8) k s).dk ∗ owns (c : Thread nD τ) arg17 fullShare (tripAcc i v3 v8 k0_hw1 v15 v16 v17 v18 v21 v24 v27 v28 (arg5.view.read (Elt F) X5) (arg6.view.read (Elt F) X6) (arg7.view.read (Elt F) X7) (arg8.view.read (Elt F) X8) k s).dv ∗ owns (c : Thread nD τ) arg18 fullShare (tripAcc i v3 v8 k0_hw1 v15 v16 v17 v18 v21 v24 v27 v28 (arg5.view.read (Elt F) X5) (arg6.view.read (Elt F) X6) (arg7.view.read (Elt F) X7) (arg8.view.read (Elt F) X8) k s).dck)) := by
  unfold k0_t1_body
  simp only [k0_part1_eq_skeleton, k0_part2_eq_skeleton, k0_part3_eq_skeleton]
  unfold owns
  iintro ⟨H5, H6, H7, H8, ⟨%f14, %h14, H14⟩, ⟨%f15, %h15, H15⟩, ⟨%f16, %h16, H16⟩, ⟨%f17, %h17, H17⟩, ⟨%f18, %h18, H18⟩⟩
  obtain ⟨dcq, dq, dk, dv, dck⟩ := s
  dsimp only at h14 h15 h16 h17 h18
  subst h14 h15 h16 h17 h18
  sl_exec
  sl_step
  isplitl [H5]; · iexact H5
  isplitl [H6]; · iexact H6
  isplitl [H7]; · iexact H7
  isplitl [H8]; · iexact H8
  isplitl [H14]
  · iexists _; isplitr
    swap
    · iexact H14
    · ipureintro
      rw [View.read_writes_cons_put _ _ _ _ _ rfl]
      delta trip.sl.r_13 trip.sl.H14_1
      rw [View.readAt_unit arg14.view _ _ rfl (k0_off10_inb i v3 v8 k0_hw1 k), View.read_writes_cons_put _ _ _ _ _ rfl]
      rfl
  isplitl [H15]
  · iexists _; isplitr
    swap
    · iexact H15
    · ipureintro
      rw [View.read_writes_cons_put _ _ _ _ _ rfl]
      rfl
  isplitl [H16]
  · iexists _; isplitr
    swap
    · iexact H16
    · ipureintro
      rw [View.read_writes_full]
      delta trip.sl.v313 trip.sl.H16_1
      rw [View.readCov_full, View.readAt_full arg16.view]
      rfl
  isplitl [H17]
  · iexists _; isplitr
    swap
    · iexact H17
    · ipureintro
      rw [View.read_writes_full]
      delta trip.sl.v307 trip.sl.H17_1 trip.sl.r_7
      rw [View.readCov_full, View.readAt_full arg17.view]
      rfl
  · iexists _; isplitr
    swap
    · iexact H18
    · ipureintro
      rw [View.read_writes_cons_put _ _ _ _ _ rfl, View.read_writes_cons_put _ _ _ _ _ rfl]
      rfl

end Cert.KernelIdeal.Attn
-- ==== Proof.Ideal.Loop.lean ====
/- The loop over the blocks of queries past the diagonal, by its invariant: before trip `k` the sums are the iterate. -/
module

public import proofs.«01_k».proof.Proof.Ideal.Trip

@[expose] public section

set_option maxRecDepth 8192
set_option maxHeartbeats 4000000

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow
open Cert.KernelIdeal.Gen

variable {F : FTy → Type} [FloatOps F] [Named F]

local notation "𝕄G" => MT nD τ sig Unit (Elt F) ℕ (UR sig nD τ) ℕ

/-- The sums before trip `n` of the loop entered with the sums `s`. -/
def iter (i : grid0.Coords) (v3 v8 : Elt F .i32) (k0_hw1 : k0_chk1 i v3 v8) (v15 v16 : IVec S512x128 1)
    (v17 v18 v21 v24 : Vec F S512x128 .bf16) (v27 v28 : FVec F S512x1 .f32)
    (x5 x6 : Vec F S8192x128 .bf16) (x7 x8 : Vec F S1x2x8192 .f32) (s : Acc F) : ℕ → Acc F
  | 0 => s
  | n + 1 =>
    if h : n < (k0_t1_loop i v3 v8).trips then
      tripAcc i v3 v8 k0_hw1 v15 v16 v17 v18 v21 v24 v27 v28 x5 x6 x7 x8 ⟨n, h⟩
        (iter i v3 v8 k0_hw1 v15 v16 v17 v18 v21 v24 v27 v28 x5 x6 x7 x8 s n)
    else iter i v3 v8 k0_hw1 v15 v16 v17 v18 v21 v24 v27 v28 x5 x6 x7 x8 s n

theorem iter_succ (i : grid0.Coords) (v3 v8 : Elt F .i32) (k0_hw1 : k0_chk1 i v3 v8) (v15 v16 : IVec S512x128 1)
    (v17 v18 v21 v24 : Vec F S512x128 .bf16) (v27 v28 : FVec F S512x1 .f32)
    (x5 x6 : Vec F S8192x128 .bf16) (x7 x8 : Vec F S1x2x8192 .f32) (s : Acc F) (k : Fin (k0_t1_loop i v3 v8).trips) :
    iter i v3 v8 k0_hw1 v15 v16 v17 v18 v21 v24 v27 v28 x5 x6 x7 x8 s (k.val + 1)
      = tripAcc i v3 v8 k0_hw1 v15 v16 v17 v18 v21 v24 v27 v28 x5 x6 x7 x8 k
          (iter i v3 v8 k0_hw1 v15 v16 v17 v18 v21 v24 v27 v28 x5 x6 x7 x8 s k.val) := by
  rw [iter, dif_pos k.isLt]

/-- The invariant: the operands as they are, the five sums at the iterate. -/
abbrev inv (𝒱 : Variants) (c : Dev nD) (bd : Option 𝒱.V) (i : grid0.Coords) (arg2 : Memref sig .tc .smem S16x16 .i32) (harg2 : arg2.IsWhole) (arg3 : Memref sig .tc .vmem S512x128 .bf16) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S1x2x8192 .f32) (harg7 : arg7.IsWhole) (arg8 : Memref sig .tc .vmem S1x2x8192 .f32) (harg8 : arg8.IsWhole) (arg9 : Memref sig .tc .vmem S512x128 .f32) (harg9 : arg9.IsWhole) (arg10 : Memref sig .tc .vmem S8192x128 .bf16) (harg10 : arg10.IsWhole) (arg11 : Memref sig .tc .vmem S512x128 .bf16) (harg11 : arg11.IsWhole) (arg12 : Memref sig .tc .vmem S512x128 .bf16) (harg12 : arg12.IsWhole) (arg13 : Memref sig .tc .vmem S1x2x512 .f32) (harg13 : arg13.IsWhole) (arg14 : Memref sig .tc .vmem S1x2x8192 .f32) (harg14 : arg14.IsWhole) (arg15 : Memref sig .tc .vmem S8192x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg1 : BitVec 32) (v3 : Elt F .i32) (v8 : Elt F .i32) (k0_hw1 : k0_chk1 i v3 v8) (v9 : BitVec 32) (v15 : IVec S512x128 1) (v16 : IVec S512x128 1) (v17 : Vec F S512x128 .bf16) (v18 : Vec F S512x128 .bf16) (v21 : Vec F S512x128 .bf16) (v24 : Vec F S512x128 .bf16) (v27 : FVec F S512x1 .f32) (v28 : FVec F S512x1 .f32) (v45 : BitVec 32) (v133 : FVec F S512x512 .f32) (v149 : FVec F S512x128 .f32) (v176 : BitVec 32)
    (X5 : arg5.view.ty.Contents (Elt F)) (X6 : arg6.view.ty.Contents (Elt F)) (X7 : arg7.view.ty.Contents (Elt F)) (X8 : arg8.view.ty.Contents (Elt F)) (s : Acc F) (k : ℕ) : sProp 𝕄G :=
  iprop((arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ owns (c : Thread nD τ) arg14 fullShare (iter i v3 v8 k0_hw1 v15 v16 v17 v18 v21 v24 v27 v28 (arg5.view.read (Elt F) X5) (arg6.view.read (Elt F) X6) (arg7.view.read (Elt F) X7) (arg8.view.read (Elt F) X8) s k).dcq ∗ owns (c : Thread nD τ) arg15 fullShare (iter i v3 v8 k0_hw1 v15 v16 v17 v18 v21 v24 v27 v28 (arg5.view.read (Elt F) X5) (arg6.view.read (Elt F) X6) (arg7.view.read (Elt F) X7) (arg8.view.read (Elt F) X8) s k).dq ∗ owns (c : Thread nD τ) arg16 fullShare (iter i v3 v8 k0_hw1 v15 v16 v17 v18 v21 v24 v27 v28 (arg5.view.read (Elt F) X5) (arg6.view.read (Elt F) X6) (arg7.view.read (Elt F) X7) (arg8.view.read (Elt F) X8) s k).dk ∗ owns (c : Thread nD τ) arg17 fullShare (iter i v3 v8 k0_hw1 v15 v16 v17 v18 v21 v24 v27 v28 (arg5.view.read (Elt F) X5) (arg6.view.read (Elt F) X6) (arg7.view.read (Elt F) X7) (arg8.view.read (Elt F) X8) s k).dv ∗ owns (c : Thread nD τ) arg18 fullShare (iter i v3 v8 k0_hw1 v15 v16 v17 v18 v21 v24 v27 v28 (arg5.view.read (Elt F) X5) (arg6.view.read (Elt F) X6) (arg7.view.read (Elt F) X7) (arg8.view.read (Elt F) X8) s k).dck)

/-- The loop runs, from the invariant before the first trip to the invariant after the last. -/
theorem loopRun (𝒱 : Variants) (c : Dev nD) (bd : Option 𝒱.V) (E : Set ℕ) (i : grid0.Coords) (arg2 : Memref sig .tc .smem S16x16 .i32) (harg2 : arg2.IsWhole) (arg3 : Memref sig .tc .vmem S512x128 .bf16) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S1x2x8192 .f32) (harg7 : arg7.IsWhole) (arg8 : Memref sig .tc .vmem S1x2x8192 .f32) (harg8 : arg8.IsWhole) (arg9 : Memref sig .tc .vmem S512x128 .f32) (harg9 : arg9.IsWhole) (arg10 : Memref sig .tc .vmem S8192x128 .bf16) (harg10 : arg10.IsWhole) (arg11 : Memref sig .tc .vmem S512x128 .bf16) (harg11 : arg11.IsWhole) (arg12 : Memref sig .tc .vmem S512x128 .bf16) (harg12 : arg12.IsWhole) (arg13 : Memref sig .tc .vmem S1x2x512 .f32) (harg13 : arg13.IsWhole) (arg14 : Memref sig .tc .vmem S1x2x8192 .f32) (harg14 : arg14.IsWhole) (arg15 : Memref sig .tc .vmem S8192x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg1 : BitVec 32) (v3 : Elt F .i32) (v8 : Elt F .i32) (k0_hw1 : k0_chk1 i v3 v8) (v9 : BitVec 32) (v15 : IVec S512x128 1) (v16 : IVec S512x128 1) (v17 : Vec F S512x128 .bf16) (v18 : Vec F S512x128 .bf16) (v21 : Vec F S512x128 .bf16) (v24 : Vec F S512x128 .bf16) (v27 : FVec F S512x1 .f32) (v28 : FVec F S512x1 .f32) (v45 : BitVec 32) (v133 : FVec F S512x512 .f32) (v149 : FVec F S512x128 .f32) (v176 : BitVec 32)
    (X5 : arg5.view.ty.Contents (Elt F)) (X6 : arg6.view.ty.Contents (Elt F)) (X7 : arg7.view.ty.Contents (Elt F)) (X8 : arg8.view.ty.Contents (Elt F)) (s : Acc F) :
    inv (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v3 v8 k0_hw1 v9 v15 v16 v17 v18 v21 v24 v27 v28 v45 v133 v149 v176 X5 X6 X7 X8 s 0 ⊢ wp Idealize.ShloMosaic.frame (wpE (defs₀ (F := F)) 𝒱 (c : Thread nD τ) bd) E
      (Scf.Loop.for (k0_t1_loop i v3 v8) (k0_t1_ok i v3 v8 k0_hw1) PUnit.unit
      (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v3 v8 k0_hw1 v9 v15 v16 v17 v18 v21 v24 v27 v28 v45 v133 v149 v176))
      (fun _ => inv (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v3 v8 k0_hw1 v9 v15 v16 v17 v18 v21 v24 v27 v28 v45 v133 v149 v176 X5 X6 X7 X8 s (k0_t1_loop i v3 v8).trips) := by
  unfold Scf.Loop.for
  iintro H
  iapply (Scf.wp_for Idealize.ShloMosaic.frame (wpE (defs₀ (F := F)) 𝒱 (c : Thread nD τ) bd) E _ _ _ _ _ _
    (fun k _ => inv (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v3 v8 k0_hw1 v9 v15 v16 v17 v18 v21 v24 v27 v28 v45 v133 v149 v176 X5 X6 X7 X8 s k) (fun k _ => by
      dsimp only [inv]
      rw [iter_succ]
      exact trip (F := F) 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v3 v8 k0_hw1 v9 v15 v16 v17 v18 v21 v24 v27 v28 v45 v133 v149 v176 k X5 X6 X7 X8 _))
  isplitl [H]
  · iexact H
  iintro %_ H
  iexact H

end Cert.KernelIdeal.Attn
-- ==== Proof.Ideal.BodyDefs.lean ====
/- The sums at the end of the body, and what the body runs over. -/
module

public import proofs.«01_k».proof.Proof.Ideal.Loop
public import Idealize.ShloMosaic.Lib.LoopRemainder
public import Idealize.ShloMosaic.Lib.Pipeline.FrameBody

@[expose] public section

set_option maxRecDepth 16384
set_option maxHeartbeats 8000000

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow
open Cert.KernelIdeal.Gen

variable {F : FTy → Type} [FloatOps F] [Named F]

local notation "𝕄G" => MT nD τ sig Unit (Elt F) ℕ (UR sig nD τ) ℕ

/-- The table of block ends, and its contents: every entry is the number of blocks. -/
abbrev tbl2 : Memref sig .tc .smem S16x16 .i32 := Memref.whole main_v62
abbrev htbl2 : tbl2.IsWhole := Memref.isWhole_whole _

/-- The test for the first block of keys. -/
abbrev cond1 (i : grid0.Coords) : Prop :=
  Scalar.cmpi .ne (Scalar.extui (Scalar.cmpi .eq (BitVec.ofNat 32 (i 1).val) 0#32)) 0#32 = 1#1

/-- The five sums at the end of the body at the grid point `i`. -/
def bodyAcc (i : grid0.Coords) (hw : k0_chk1 i 16#32 16#32) (first : Bool) (x3 : Vec F S512x128 .bf16) (x4 : Vec F S512x128 .bf16) (x5 : Vec F S8192x128 .bf16) (x6 : Vec F S8192x128 .bf16) (x7 : Vec F S1x2x8192 .f32) (x8 : Vec F S1x2x8192 .f32) (x9 : Vec F S512x128 .f32)
    (dcq : Vec F S1x2x8192 .f32) (dq : Vec F S8192x128 .f32) : Acc F :=
  iter i 16#32 16#32 hw k0_pay83 k0_pay84 x3 x4 (k0_pay85 x3) (k0_pay86 x3) (k0_pay88 x9) (k0_pay89 x9) x5 x6 x7 x8
    (diagPass k0_pay83 k0_pay84 x3 x4 (k0_pay85 x3) (k0_pay86 x3) (k0_pay88 x9) (k0_pay89 x9) k0_pay90
      (window x5 (k0_off3 i) S512x128.size (k0_off3_inb i)) (window x6 (k0_off3 i) S512x128.size (k0_off3_inb i))
      (window x7 (k0_off4 i) S1x2x512.size (k0_off4_inb i)) (window x8 (k0_off4 i) S1x2x512.size (k0_off4_inb i))
      (k0_off3 i) (k0_off3_inb i) (k0_off5 i) (k0_off5_inb i) (k0_off6 i) (k0_off6_inb i) (start first dcq dq))
    (k0_t1_loop i 16#32 16#32).trips

end Cert.KernelIdeal.Attn
-- ==== Proof.Ideal.Entry.lean ====
/- The memory the attention call starts from: the host operations before it, the table of block ends they leave, the
   blocks of its input windows, and where along the grid its tests hold. -/
module

public import proofs.«01_k».proof.Proof.Ideal.BodyDefs
public import proofs.«01_k».proof.Proof.Gen.KernelIdeal.Launch
public import Idealize.ShloMosaic.Lib.Pipeline.FrameBody
public import Idealize.ShloMosaic.Lib.StableHlo.RunRead
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The host operations before the call -/

/-- The three stretches of host operations, in order. -/
abbrev hostLists : List (List (HloOp τ sig (Elt F))) := [hostOps0, hostOps0_1, hostOps0_2]

/-- What the buffers of device `c` hold when the call starts. -/
abbrev V (c : Dev nD) (b : Ref sig .tc) : Buf (Elt F) ((c : Thread nD τ).loc b) :=
  StableHlo.after (List.flatten hostLists) (fun b => m (c, b)) b

theorem host_fresh : (hostLists : List (List (HloOp τ sig (Elt F)))).Forall fun ops => ops.Forall fun op => op.fresh = ∅ := by
  refine ⟨?_, ?_, ?_⟩
  · simp only [List.Forall]; repeat' constructor
  · simp only [List.Forall]; repeat' constructor
  · simp only [List.Forall]; repeat' constructor

set_option maxHeartbeats 1600000 in
/-- The program runs its host operations and then the call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main hostLists ⟨hostOps0_sub, hostOps0_1_sub, hostOps0_2_sub⟩ host_fresh main_chain

set_option maxHeartbeats 1600000 in
/-- The host operations leave the three arguments as launched. -/
theorem V_arg0 (c : Dev nD) : V m c main_arg0 = m ((c : Thread nD τ).loc main_arg0) := by
  show StableHlo.after _ _ _ = _
  after_reads_simp

set_option maxHeartbeats 1600000 in
theorem V_arg1 (c : Dev nD) : V m c main_arg1 = m ((c : Thread nD τ).loc main_arg1) := by
  show StableHlo.after _ _ _ = _
  after_reads_simp

set_option maxHeartbeats 1600000 in
theorem V_arg2 (c : Dev nD) : V m c main_arg2 = m ((c : Thread nD τ).loc main_arg2) := by
  show StableHlo.after _ _ _ = _
  after_reads_simp

set_option maxHeartbeats 1600000 in
/-- Every entry of the table of block ends is the number of blocks. -/
theorem V_table (c : Dev nD) : V m c main_v62 = (fun _ => 16#32 : (⟨S16x16, .i32⟩ : BufTy).Contents (Elt F)) := by
  show StableHlo.after _ _ _ = _
  after_reads_simp
  rfl

/-- The prefetched table's contents. -/
def tbl : pre0.Contents (Elt F) := fun j => V m (0 : Dev nD) (pre0.ref j)

theorem V_pre (c : Dev nD) (j : Fin 1) : V m c (pre0.ref j) = tbl m j := by
  obtain rfl : c = 0 := Subsingleton.elim _ _; rfl

theorem tbl_eq : (tbl m 0 : (⟨S16x16, .i32⟩ : BufTy).Contents (Elt F)) = fun _ => 16#32 := V_table m 0

/-- No index map reads the table, so any contents will do. -/
theorem hOk : ok0 (F := F) (tbl m) := trivial

abbrev adm : (pcfg0 (F := F)).Adm := ⟨tbl m, hOk m⟩
abbrev cfgM : Pipeline.Cfg sig Λ₀ := cfg0 (adm m)

/-- The half of the table the call keeps for its body. -/
abbrev tblPt (c : Dev nD) (f : Buf (Elt F) (tbl2.view.loc (c : Thread nD τ))) : sProp 𝕄 := tbl2.view.loc (c : Thread nD τ) ↦{fullShare.right} f

theorem PhiT_eq (c : Dev nD) : (Pipeline.ΦT pre0 (tbl m) c : sProp 𝕄) = tblPt c (tbl m 0) := by
  unfold Pipeline.ΦT Pipeline.prefHeld
  rw [show (Finset.univ : Finset (Fin 1)) = {(0 : Fin 1)} from by decide, bigSep_singleton]
  rfl

/-! ## The windows -/

/-- The block of window `w` at point `t`, in the array as the call finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

section
variable {c : Dev nD} (dat : Dat τ (Elt F) Unit ℕ (UR sig nD τ) ℕ (cfgM m) c)

theorem before_in0 (hA : dat.A 0 = V m c (Pipeline.arrRef spec0 0)) (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in1 (hA : dat.A 1 = V m c (Pipeline.arrRef spec0 1)) (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_in2 (hA : dat.A 2 = V m c (Pipeline.arrRef spec0 2)) (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_in3 (hA : dat.A 3 = V m c (Pipeline.arrRef spec0 3)) (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_in4 (hA : dat.A 4 = V m c (Pipeline.arrRef spec0 4)) (hafter : ∀ t, dat.after 4 t = iblk m c 4 t) (t : Fin (cfgM m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_in5 (hA : dat.A 5 = V m c (Pipeline.arrRef spec0 5)) (hafter : ∀ t, dat.after 5 t = iblk m c 5 t) (t : Fin (cfgM m).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before_in6 (hA : dat.A 6 = V m c (Pipeline.arrRef spec0 6)) (hafter : ∀ t, dat.after 6 t = iblk m c 6 t) (t : Fin (cfgM m).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

end

/-! ## The points of the grid -/

theorem coords1 (t : Fin grid0.N) : (grid0.coords t 1).val = t.val % 16 := by
  revert t; decide +kernel

theorem coords0 (t : Fin grid0.N) : (grid0.coords t 0).val = t.val / 16 := by
  revert t; decide +kernel

set_option maxHeartbeats 4000000 in
/-- The words the body computes stay in range, with the table at the number of blocks. -/
theorem chk : ∀ t : Fin grid0.N, k0_chk1 (grid0.coords t) 16#32 16#32 := by decide +kernel

theorem hcond1 (t : Fin grid0.N) : cond1 (grid0.coords t) ↔ t.val % 16 = 0 := by
  revert t; decide +kernel

theorem hcond2 (t : Fin grid0.N) : k0_cond2 (grid0.coords t) = 1#1 ↔ t.val % 16 = 15 := by
  revert t; decide +kernel

/-- Window 7's and window 11's blocks are written back at the last block of keys of a pair of heads. -/
theorem flush_7 : ∀ t : Fin (cfgM m).N, ((cfgM m).win 7).flush t = true ↔ t.val % 16 = 15 :=
  (fun t => Pipeline.Window.flushOf_reads cc0_transform_7 reads0_7 hreads0_7 0 (by decide) (by decide) (Pipeline.Window.sep_of_coord cc0_transform_7 0 1 (fun i => congrArg BitVec.toNat (BitVec.zero_add (BitVec.ofNat 32 (i 0).val))) (by decide)) (P := 16) (m := 15) (by decide) rfl t : ∀ t : Fin grid0.N, Pipeline.Window.flushOf grid0 true cc0_transform_7 t = true ↔ t.val % 16 = 15)
theorem flush_11 : ∀ t : Fin (cfgM m).N, ((cfgM m).win 11).flush t = true ↔ t.val % 16 = 15 :=
  (fun t => Pipeline.Window.flushOf_reads cc0_transform_11 reads0_11 hreads0_11 0 (by decide) (by decide) (Pipeline.Window.sep_of_coord cc0_transform_11 0 0 (fun _ => rfl) (by decide)) (P := 16) (m := 15) (by decide) rfl t : ∀ t : Fin grid0.N, Pipeline.Window.flushOf grid0 true cc0_transform_11 t = true ↔ t.val % 16 = 15)

/-- Where the row of queries' gradient is written: at the last block of keys only. -/
theorem idle_7 (t : Fin (cfgM m).N) : (cfgM m).idle 7 ((cfgM m).grid.coords t) = !(k0_cond2 (grid0.coords t) == 1#1) := rfl

abbrev ms0 (t : Fin (cfgM m).N) := spec0_0.stage ((cfgM m).slots t 0)
theorem hs0 (t : Fin (cfgM m).N) : (ms0 m t).IsWhole := hstage0_0 (((cfgM m).slots t 0).cast nbuf0_0)
abbrev ms1 (t : Fin (cfgM m).N) := spec0_1.stage ((cfgM m).slots t 1)
theorem hs1 (t : Fin (cfgM m).N) : (ms1 m t).IsWhole := hstage0_1 (((cfgM m).slots t 1).cast nbuf0_1)
abbrev ms2 (t : Fin (cfgM m).N) := spec0_2.stage ((cfgM m).slots t 2)
theorem hs2 (t : Fin (cfgM m).N) : (ms2 m t).IsWhole := hstage0_2 (((cfgM m).slots t 2).cast nbuf0_2)
abbrev ms3 (t : Fin (cfgM m).N) := spec0_3.stage ((cfgM m).slots t 3)
theorem hs3 (t : Fin (cfgM m).N) : (ms3 m t).IsWhole := hstage0_3 (((cfgM m).slots t 3).cast nbuf0_3)
abbrev ms4 (t : Fin (cfgM m).N) := spec0_4.stage ((cfgM m).slots t 4)
theorem hs4 (t : Fin (cfgM m).N) : (ms4 m t).IsWhole := hstage0_4 (((cfgM m).slots t 4).cast nbuf0_4)
abbrev ms5 (t : Fin (cfgM m).N) := spec0_5.stage ((cfgM m).slots t 5)
theorem hs5 (t : Fin (cfgM m).N) : (ms5 m t).IsWhole := hstage0_5 (((cfgM m).slots t 5).cast nbuf0_5)
abbrev ms6 (t : Fin (cfgM m).N) := spec0_6.stage ((cfgM m).slots t 6)
theorem hs6 (t : Fin (cfgM m).N) : (ms6 m t).IsWhole := hstage0_6 (((cfgM m).slots t 6).cast nbuf0_6)
abbrev ms7 (t : Fin (cfgM m).N) := spec0_7.stage ((cfgM m).slots t 7)
theorem hs7 (t : Fin (cfgM m).N) : (ms7 m t).IsWhole := hstage0_7 (((cfgM m).slots t 7).cast nbuf0_7)
abbrev ms8 (t : Fin (cfgM m).N) := spec0_8.stage ((cfgM m).slots t 8)
theorem hs8 (t : Fin (cfgM m).N) : (ms8 m t).IsWhole := hstage0_8 (((cfgM m).slots t 8).cast nbuf0_8)
abbrev ms9 (t : Fin (cfgM m).N) := spec0_9.stage ((cfgM m).slots t 9)
theorem hs9 (t : Fin (cfgM m).N) : (ms9 m t).IsWhole := hstage0_9 (((cfgM m).slots t 9).cast nbuf0_9)
abbrev ms10 (t : Fin (cfgM m).N) := spec0_10.stage ((cfgM m).slots t 10)
theorem hs10 (t : Fin (cfgM m).N) : (ms10 m t).IsWhole := hstage0_10 (((cfgM m).slots t 10).cast nbuf0_10)
abbrev ms11 (t : Fin (cfgM m).N) := spec0_11.stage ((cfgM m).slots t 11)
theorem hs11 (t : Fin (cfgM m).N) : (ms11 m t).IsWhole := hstage0_11 (((cfgM m).slots t 11).cast nbuf0_11)

abbrev scM0 : Memref sig .tc .vmem S8192x128 .f32 := Memref.whole cc0_scratch0
abbrev scM1 : Memref sig .tc .vmem S512x128 .f32 := Memref.whole cc0_scratch1
abbrev scM2 : Memref sig .tc .vmem S512x128 .f32 := Memref.whole cc0_scratch2
abbrev scM3 : Memref sig .tc .vmem S512x128 .f32 := Memref.whole cc0_scratch3

theorem PhiA_eq (c : Dev nD) : (Pipeline.ΦA spec0 c : sProp 𝕄)
    = iprop(((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d)) ∗ (∃ r, prngReg c r)) := by
  unfold Pipeline.ΦA; rw [scopedRest0_eq]; simp only [scM0, scM1, scM2, scM3, owns_whole]; try rfl

/-- The body at point `t`, on the staging buffers the call hands it. -/
abbrev bodyAt (t : Fin (cfgM m).N) : Prog (TpuEff nD τ sig (Elt F) Λ₀ .tc) PUnit :=
  cc0_attn_bwd (grid0.coords t) tbl2 htbl2 (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (ms8 m t) (hs8 m t) (ms9 m t) (hs9 m t) (ms10 m t) (hs10 m t) (ms11 m t) (hs11 m t) scM0 (Memref.isWhole_whole _) scM1 (Memref.isWhole_whole _) scM2 (Memref.isWhole_whole _) scM3 (Memref.isWhole_whole _)

theorem defs_row (t : Fin (cfgM m).N) :
    defs₀ (F := F) .tc (cfgM m).body ((cfgM m).bodyArgs t ((cfgM m).slots t)) = bodyAt m t := by
  unfold defs₀; rw [Defs.onTc_tc]

end Cert.KernelIdeal.Attn
-- ==== Proof.Ideal.HeadFirst.lean ====
/- The head of the body runs, at the first block of keys. -/
module

public import proofs.«01_k».proof.Proof.Ideal.BodyDefs
public import Idealize.ShloMosaic.Lib.LoopRemainder
public import Idealize.ShloMosaic.Lib.Pipeline.FrameBody

@[expose] public section

set_option maxRecDepth 16384
set_option maxHeartbeats 8000000

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow
open Cert.KernelIdeal.Gen

variable {F : FTy → Type} [FloatOps F] [Named F]

local notation "𝕄G" => MT nD τ sig Unit (Elt F) ℕ (UR sig nD τ) ℕ

/-- The head of the body: the two words of the table, the block of keys, and the cleared sums. -/
theorem headFirst (c : Dev nD) (i : grid0.Coords) (hw : k0_chk1 i 16#32 16#32) (hc1 : cond1 i) (arg3 : Memref sig .tc .vmem S512x128 .bf16) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S1x2x8192 .f32) (harg7 : arg7.IsWhole) (arg8 : Memref sig .tc .vmem S1x2x8192 .f32) (harg8 : arg8.IsWhole) (arg9 : Memref sig .tc .vmem S512x128 .f32) (harg9 : arg9.IsWhole) (arg10 : Memref sig .tc .vmem S8192x128 .bf16) (harg10 : arg10.IsWhole) (arg11 : Memref sig .tc .vmem S512x128 .bf16) (harg11 : arg11.IsWhole) (arg12 : Memref sig .tc .vmem S512x128 .bf16) (harg12 : arg12.IsWhole) (arg13 : Memref sig .tc .vmem S1x2x512 .f32) (harg13 : arg13.IsWhole) (arg14 : Memref sig .tc .vmem S1x2x8192 .f32) (harg14 : arg14.IsWhole) (arg15 : Memref sig .tc .vmem S8192x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole)
    (X3 : arg3.view.ty.Contents (Elt F)) (X4 : arg4.view.ty.Contents (Elt F)) (X9 : arg9.view.ty.Contents (Elt F))
    (d14 : Vec F S1x2x8192 .f32) (d15 : Vec F S8192x128 .f32) (d16 : Vec F S512x128 .f32) (E : Set ℕ) :
    (iprop((arg3.view.loc (c : Thread nD τ) ↦[arg3.view.set]{fullShare} X3) ∗ (arg4.view.loc (c : Thread nD τ) ↦[arg4.view.set]{fullShare} X4) ∗ (arg9.view.loc (c : Thread nD τ) ↦[arg9.view.set]{fullShare} X9) ∗ owns (c : Thread nD τ) arg14 fullShare d14 ∗ owns (c : Thread nD τ) arg15 fullShare d15 ∗ owns (c : Thread nD τ) arg16 fullShare d16 ∗ (tbl2.view.loc (c : Thread nD τ) ↦{fullShare.right} fun _ => 16#32)) : sProp 𝕄G)
      ⊢ wp frame (wpE (defs₀ (F := F)) Variants.none (c : Thread nD τ) none) E (k0_part11 (F := F) i tbl2 htbl2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
        (fun r => iprop(⌜r = (⟨BitVec.ofNat 32 (i 1).val, 16#32, 16#32, hw, Scalar.minsi 16#32 16#32, k0_pay83, k0_pay84, (arg3.view.read (Elt F) X3), (arg4.view.read (Elt F) X4), k0_pay85 (arg3.view.read (Elt F) X3), k0_pay86 (arg3.view.read (Elt F) X3), k0_pay88 (arg9.view.read (Elt F) X9), k0_pay89 (arg9.view.read (Elt F) X9), k0_pay90, Scalar.ofBits .f32 0x00000000#32⟩ : Σ' (arg1 : BitVec 32) (v3 : Elt F .i32) (v8 : Elt F .i32) (k0_hw1 : k0_chk1 i v3 v8) (v9 : BitVec 32) (v15 : IVec S512x128 1) (v16 : IVec S512x128 1) (v17 : Vec F S512x128 .bf16) (v18 : Vec F S512x128 .bf16) (v21 : Vec F S512x128 .bf16) (v24 : Vec F S512x128 .bf16) (v27 : FVec F S512x1 .f32) (v28 : FVec F S512x1 .f32) (v31 : IVec S512x512 1), F .f32)⌝ ∗ (arg3.view.loc (c : Thread nD τ) ↦[arg3.view.set]{fullShare} X3) ∗ (arg4.view.loc (c : Thread nD τ) ↦[arg4.view.set]{fullShare} X4) ∗ (arg9.view.loc (c : Thread nD τ) ↦[arg9.view.set]{fullShare} X9) ∗ owns (c : Thread nD τ) arg14 fullShare (k0_pay82 (F := F)) ∗ owns (c : Thread nD τ) arg15 fullShare (k0_pay81 (F := F)) ∗ owns (c : Thread nD τ) arg16 fullShare (k0_pay91 (F := F)) ∗ (tbl2.view.loc (c : Thread nD τ) ↦{fullShare.right} fun _ => 16#32))) := by
  simp only [k0_part11_eq_skeleton]
  unfold owns
  iintro ⟨H3, H4, H9, ⟨%f14, %h14, H14⟩, ⟨%f15, %h15, H15⟩, ⟨%f16, %h16, H16⟩, HT⟩
  subst h14 h15 h16
  sl_exec (disch := first | exact hw | sl_exact hc1)
  sl_step
  sl_exec (disch := first | exact hw | sl_exact hc1)
  sl_step
  isplitr
  · ipureintro
    delta headFirst.sl.r
    rw [View.readAt_full arg3.view, View.readAt_full arg4.view, View.readAt_full arg9.view]
    rfl
  isplitl [H3]; · iexact H3
  isplitl [H4]; · iexact H4
  isplitl [H9]; · iexact H9
  isplitl [H14]
  · iexists _; isplitr; swap; iexact H14; ipureintro; exact View.read_writes_full _ _ _ _ _
  isplitl [H15]
  · iexists _; isplitr; swap; iexact H15; ipureintro; exact View.read_writes_full _ _ _ _ _
  isplitl [H16]
  · iexists _; isplitr; swap; iexact H16; ipureintro; exact View.read_writes_full _ _ _ _ _
  iexact HT

end Cert.KernelIdeal.Attn
-- ==== Proof.Ideal.BodyFirst.lean ====
/- The body runs, at the first block of keys. -/
module

public import proofs.«01_k».proof.Proof.Ideal.HeadFirst
public import Idealize.ShloMosaic.Lib.LoopRemainder
public import Idealize.ShloMosaic.Lib.Pipeline.FrameBody

@[expose] public section

set_option maxRecDepth 16384
set_option maxHeartbeats 8000000

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow
open Cert.KernelIdeal.Gen

variable {F : FTy → Type} [FloatOps F] [Named F]

local notation "𝕄G" => MT nD τ sig Unit (Elt F) ℕ (UR sig nD τ) ℕ

theorem bodyFirst (c : Dev nD) (i : grid0.Coords) (hw : k0_chk1 i 16#32 16#32) (hc1 : cond1 i) (hc2 : ¬k0_cond2 i = 1#1) (arg3 : Memref sig .tc .vmem S512x128 .bf16) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S1x2x8192 .f32) (harg7 : arg7.IsWhole) (arg8 : Memref sig .tc .vmem S1x2x8192 .f32) (harg8 : arg8.IsWhole) (arg9 : Memref sig .tc .vmem S512x128 .f32) (harg9 : arg9.IsWhole) (arg10 : Memref sig .tc .vmem S8192x128 .bf16) (harg10 : arg10.IsWhole) (arg11 : Memref sig .tc .vmem S512x128 .bf16) (harg11 : arg11.IsWhole) (arg12 : Memref sig .tc .vmem S512x128 .bf16) (harg12 : arg12.IsWhole) (arg13 : Memref sig .tc .vmem S1x2x512 .f32) (harg13 : arg13.IsWhole) (arg14 : Memref sig .tc .vmem S1x2x8192 .f32) (harg14 : arg14.IsWhole) (arg15 : Memref sig .tc .vmem S8192x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole)
    (x3 : Vec F S512x128 .bf16) (x4 : Vec F S512x128 .bf16) (x5 : Vec F S8192x128 .bf16) (x6 : Vec F S8192x128 .bf16) (x7 : Vec F S1x2x8192 .f32) (x8 : Vec F S1x2x8192 .f32) (x9 : Vec F S512x128 .f32)
    (d10 : Vec F S8192x128 .bf16) (d11 : Vec F S512x128 .bf16) (d12 : Vec F S512x128 .bf16) (d13 : Vec F S1x2x512 .f32) (d14 : Vec F S1x2x8192 .f32) (d15 : Vec F S8192x128 .f32) (d16 : Vec F S512x128 .f32) (d17 : Vec F S512x128 .f32) (d18 : Vec F S512x128 .f32)
    (E : Set ℕ) (K : PUnit → sProp 𝕄G) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17 ∗ owns (c : Thread nD τ) arg18 fullShare d18 ∗ (tbl2.view.loc (c : Thread nD τ) ↦{fullShare.right} fun _ => 16#32)
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (d10) ∗ owns (c : Thread nD τ) arg11 fullShare (k0_pay140 (bodyAcc i hw true x3 x4 x5 x6 x7 x8 x9 d14 d15).dk) ∗ owns (c : Thread nD τ) arg12 fullShare (k0_pay141 (bodyAcc i hw true x3 x4 x5 x6 x7 x8 x9 d14 d15).dv) ∗ owns (c : Thread nD τ) arg13 fullShare (dckRows (bodyAcc i hw true x3 x4 x5 x6 x7 x8 x9 d14 d15).dck d13) ∗ owns (c : Thread nD τ) arg14 fullShare ((bodyAcc i hw true x3 x4 x5 x6 x7 x8 x9 d14 d15).dcq) ∗ owns (c : Thread nD τ) arg15 fullShare ((bodyAcc i hw true x3 x4 x5 x6 x7 x8 x9 d14 d15).dq) ∗ owns (c : Thread nD τ) arg16 fullShare ((bodyAcc i hw true x3 x4 x5 x6 x7 x8 x9 d14 d15).dk) ∗ owns (c : Thread nD τ) arg17 fullShare ((bodyAcc i hw true x3 x4 x5 x6 x7 x8 x9 d14 d15).dv) ∗ owns (c : Thread nD τ) arg18 fullShare ((bodyAcc i hw true x3 x4 x5 x6 x7 x8 x9 d14 d15).dck) ∗ (tbl2.view.loc (c : Thread nD τ) ↦{fullShare.right} fun _ => 16#32)) -∗ K ⟨⟩))
      ⊢ wp frame (wpE (defs₀ (F := F)) Variants.none c none) E (cc0_attn_bwd i tbl2 htbl2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_attn_bwd_eq_skeleton]; unfold cc0_attn_bwd_skel
  unfold owns
  iintro ⟨⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩, HT, Hk⟩
  subst h3 h4 h5 h6 h7 h8 h9 h10 h11 h12 h13 h14 h15 h16 h17 h18
  have h3 : (k0_t3_loop 16#32 16#32).trips = 0 := by decide +kernel
  have h5 : (k0_t5_loop 16#32 16#32).trips = 0 := by decide +kernel
  iapply (exec_cut frame (wpE (defs₀ (F := F)) Variants.none (c : Thread nD τ) none) E (headFirst (F := F) c i hw hc1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f3 f4 f9 (arg14.view.read (Elt F) f14) (arg15.view.read (Elt F) f15) (arg16.view.read (Elt F) f16) E)) $$ [H3 H4 H9 H14 H15 H16 HT]
  · unfold owns
    isplitl [H3]; · iexact H3
    isplitl [H4]; · iexact H4
    isplitl [H9]; · iexact H9
    isplitl [H14]; · (iexists f14; isplitr; swap; iexact H14; ipureintro; rfl)
    isplitl [H15]; · (iexists f15; isplitr; swap; iexact H15; ipureintro; rfl)
    isplitl [H16]; · (iexists f16; isplitr; swap; iexact H16; ipureintro; rfl)
    iexact HT
  unfold owns
  iintro %r ⟨%hr, H3, H4, H9, ⟨%g14, %h14, H14⟩, ⟨%g15, %h15, H15⟩, ⟨%g16, %h16, H16⟩, HT⟩
  subst hr
  simp only [k0_part12_eq_skeleton, k0_part13_eq_skeleton, k0_part14_eq_skeleton, k0_part15_eq_skeleton, k0_part16_eq_skeleton]
  sl_exec (disch := first | exact hw | sl_exact hc1 | sl_exact hc2)
  iapply (exec_cut frame (wpE (defs₀ (F := F)) Variants.none (c : Thread nD τ) none) E (loopRun (F := F) Variants.none c none E i tbl2 htbl2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 1).val) 16#32 16#32 hw (Scalar.minsi 16#32 16#32) k0_pay83 k0_pay84 (arg3.view.read (Elt F) f3) (arg4.view.read (Elt F) f4) (k0_pay85 (arg3.view.read (Elt F) f3)) (k0_pay86 (arg3.view.read (Elt F) f3)) (k0_pay88 (arg9.view.read (Elt F) f9)) (k0_pay89 (arg9.view.read (Elt F) f9)) _ _ _ _ f5 f6 f7 f8 (diagPass k0_pay83 k0_pay84 (arg3.view.read (Elt F) f3) (arg4.view.read (Elt F) f4) (k0_pay85 (arg3.view.read (Elt F) f3)) (k0_pay86 (arg3.view.read (Elt F) f3)) (k0_pay88 (arg9.view.read (Elt F) f9)) (k0_pay89 (arg9.view.read (Elt F) f9)) k0_pay90 (window (arg5.view.read (Elt F) f5) (k0_off3 i) S512x128.size (k0_off3_inb i)) (window (arg6.view.read (Elt F) f6) (k0_off3 i) S512x128.size (k0_off3_inb i)) (window (arg7.view.read (Elt F) f7) (k0_off4 i) S1x2x512.size (k0_off4_inb i)) (window (arg8.view.read (Elt F) f8) (k0_off4 i) S1x2x512.size (k0_off4_inb i)) (k0_off3 i) (k0_off3_inb i) (k0_off5 i) (k0_off5_inb i) (k0_off6 i) (k0_off6_inb i) ⟨arg14.view.read (Elt F) g14, arg15.view.read (Elt F) g15, arg16.view.read (Elt F) g16, k0_pay92 (Scalar.ofBits .f32 0x00000000#32), k0_pay93 (F := F)⟩))) $$ [H5 H6 H7 H8 H14 H15 H16 H17 H18]
  · dsimp only [inv]
    unfold owns
    isplitl [H5]; · iexact H5
    isplitl [H6]; · iexact H6
    isplitl [H7]; · iexact H7
    isplitl [H8]; · iexact H8
    isplitl [H14]
    · iexists _; isplitr; swap; iexact H14; ipureintro
      rw [View.read_writes_cons_put _ _ _ _ _ rfl, View.read_writes_cons_put _ _ _ _ _ rfl]
      rfl
    isplitl [H15]
    · iexists _; isplitr; swap; iexact H15; ipureintro
      rw [View.read_writes_cons_put _ _ _ _ _ rfl]
      rfl
    isplitl [H16]
    · iexists _; isplitr; swap; iexact H16; ipureintro
      delta bodyFirst.sl.H16_2
      rw [View.read_writes_full]
      delta bodyFirst.sl.v142 bodyFirst.sl.H16_1
      rw [View.readCov_full, View.readAt_full arg16.view]
      rfl
    isplitl [H17]
    · iexists _; isplitr; swap; iexact H17; ipureintro
      delta bodyFirst.sl.H17_3
      rw [View.read_writes_full]
      delta bodyFirst.sl.v136 bodyFirst.sl.H17_2
      rw [View.readCov_full]
      delta bodyFirst.sl.v81
      delta bodyFirst.sl.H17_1
      rw [View.readCov_full]
      rfl
    · iexists _; isplitr; swap; iexact H18; ipureintro
      delta bodyFirst.sl.H18_3 bodyFirst.sl.v150 bodyFirst.sl.H18_2 bodyFirst.sl.v95 bodyFirst.sl.H18_1
      unfold View.readCov
      rw [View.readAt_unit arg18.view _ _ rfl inb_S512x128_S512x1_0_1, View.readAt_unit arg18.view _ _ rfl inb_S512x128_S512x1_0_0]
      rw [View.read_writes_cons_put _ _ _ _ _ rfl, View.read_writes_cons_put _ _ _ _ _ rfl, View.read_writes_full]
      rfl
  dsimp only [inv]
  unfold owns
  iintro %_ ⟨H5, H6, H7, H8, ⟨%e14, %q14, H14⟩, ⟨%e15, %q15, H15⟩, ⟨%e16, %q16, H16⟩, ⟨%e17, %q17, H17⟩, ⟨%e18, %q18, H18⟩⟩
  sl_exec (disch := first | exact hw | sl_exact hc1 | sl_exact hc2)
  sl_step
  rw [h14, h15, h16] at q14 q15 q16 q17 q18
  iapply Hk
  isplitl [H3]; · (iexists _; isplitr; swap; iexact H3; ipureintro; rfl)
  isplitl [H4]; · (iexists _; isplitr; swap; iexact H4; ipureintro; rfl)
  isplitl [H5]; · (iexists _; isplitr; swap; iexact H5; ipureintro; rfl)
  isplitl [H6]; · (iexists _; isplitr; swap; iexact H6; ipureintro; rfl)
  isplitl [H7]; · (iexists _; isplitr; swap; iexact H7; ipureintro; rfl)
  isplitl [H8]; · (iexists _; isplitr; swap; iexact H8; ipureintro; rfl)
  isplitl [H9]; · (iexists _; isplitr; swap; iexact H9; ipureintro; rfl)
  isplitl [H10]
  · iexists _; isplitr; swap; iexact H10; ipureintro
    rfl
  isplitl [H11]
  · iexists _; isplitr; swap; iexact H11; ipureintro
    rw [View.read_writes_full, View.readAt_full arg16.view]
    exact congrArg k0_pay140 q16
  isplitl [H12]
  · iexists _; isplitr; swap; iexact H12; ipureintro
    rw [View.read_writes_full, View.readAt_full arg17.view]
    exact congrArg k0_pay141 q17
  isplitl [H13]
  · iexists _; isplitr; swap; iexact H13; ipureintro
    rw [View.read_writes_cons_put _ _ _ _ _ rfl, View.read_writes_cons_put _ _ _ _ _ rfl]
    exact congrArg (fun z => dckRows z (arg13.view.read (Elt F) f13)) q18
  isplitl [H14]
  · iexists _; isplitr; swap; iexact H14; ipureintro
    exact q14
  isplitl [H15]
  · iexists _; isplitr; swap; iexact H15; ipureintro
    exact q15
  isplitl [H16]
  · iexists _; isplitr; swap; iexact H16; ipureintro
    exact q16
  isplitl [H17]
  · iexists _; isplitr; swap; iexact H17; ipureintro
    exact q17
  isplitl [H18]
  · iexists _; isplitr; swap; iexact H18; ipureintro
    exact q18
  iexact HT

end Cert.KernelIdeal.Attn
-- ==== Proof.Ideal.HeadMid.lean ====
/- The head of the body runs. -/
module

public import proofs.«01_k».proof.Proof.Ideal.BodyDefs
public import Idealize.ShloMosaic.Lib.LoopRemainder
public import Idealize.ShloMosaic.Lib.Pipeline.FrameBody

@[expose] public section

set_option maxRecDepth 16384
set_option maxHeartbeats 8000000

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow
open Cert.KernelIdeal.Gen

variable {F : FTy → Type} [FloatOps F] [Named F]

local notation "𝕄G" => MT nD τ sig Unit (Elt F) ℕ (UR sig nD τ) ℕ

/-- The head of the body: the two words of the table, the block of keys, and the cleared sums. -/
theorem headMid (c : Dev nD) (i : grid0.Coords) (hw : k0_chk1 i 16#32 16#32) (hc1 : ¬cond1 i) (arg3 : Memref sig .tc .vmem S512x128 .bf16) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S1x2x8192 .f32) (harg7 : arg7.IsWhole) (arg8 : Memref sig .tc .vmem S1x2x8192 .f32) (harg8 : arg8.IsWhole) (arg9 : Memref sig .tc .vmem S512x128 .f32) (harg9 : arg9.IsWhole) (arg10 : Memref sig .tc .vmem S8192x128 .bf16) (harg10 : arg10.IsWhole) (arg11 : Memref sig .tc .vmem S512x128 .bf16) (harg11 : arg11.IsWhole) (arg12 : Memref sig .tc .vmem S512x128 .bf16) (harg12 : arg12.IsWhole) (arg13 : Memref sig .tc .vmem S1x2x512 .f32) (harg13 : arg13.IsWhole) (arg14 : Memref sig .tc .vmem S1x2x8192 .f32) (harg14 : arg14.IsWhole) (arg15 : Memref sig .tc .vmem S8192x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole)
    (X3 : arg3.view.ty.Contents (Elt F)) (X4 : arg4.view.ty.Contents (Elt F)) (X9 : arg9.view.ty.Contents (Elt F))
    (d14 : Vec F S1x2x8192 .f32) (d15 : Vec F S8192x128 .f32) (d16 : Vec F S512x128 .f32) (E : Set ℕ) :
    (iprop((arg3.view.loc (c : Thread nD τ) ↦[arg3.view.set]{fullShare} X3) ∗ (arg4.view.loc (c : Thread nD τ) ↦[arg4.view.set]{fullShare} X4) ∗ (arg9.view.loc (c : Thread nD τ) ↦[arg9.view.set]{fullShare} X9) ∗ owns (c : Thread nD τ) arg14 fullShare d14 ∗ owns (c : Thread nD τ) arg15 fullShare d15 ∗ owns (c : Thread nD τ) arg16 fullShare d16 ∗ (tbl2.view.loc (c : Thread nD τ) ↦{fullShare.right} fun _ => 16#32)) : sProp 𝕄G)
      ⊢ wp frame (wpE (defs₀ (F := F)) Variants.none (c : Thread nD τ) none) E (k0_part11 (F := F) i tbl2 htbl2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
        (fun r => iprop(⌜r = (⟨BitVec.ofNat 32 (i 1).val, 16#32, 16#32, hw, Scalar.minsi 16#32 16#32, k0_pay83, k0_pay84, (arg3.view.read (Elt F) X3), (arg4.view.read (Elt F) X4), k0_pay85 (arg3.view.read (Elt F) X3), k0_pay86 (arg3.view.read (Elt F) X3), k0_pay88 (arg9.view.read (Elt F) X9), k0_pay89 (arg9.view.read (Elt F) X9), k0_pay90, Scalar.ofBits .f32 0x00000000#32⟩ : Σ' (arg1 : BitVec 32) (v3 : Elt F .i32) (v8 : Elt F .i32) (k0_hw1 : k0_chk1 i v3 v8) (v9 : BitVec 32) (v15 : IVec S512x128 1) (v16 : IVec S512x128 1) (v17 : Vec F S512x128 .bf16) (v18 : Vec F S512x128 .bf16) (v21 : Vec F S512x128 .bf16) (v24 : Vec F S512x128 .bf16) (v27 : FVec F S512x1 .f32) (v28 : FVec F S512x1 .f32) (v31 : IVec S512x512 1), F .f32)⌝ ∗ (arg3.view.loc (c : Thread nD τ) ↦[arg3.view.set]{fullShare} X3) ∗ (arg4.view.loc (c : Thread nD τ) ↦[arg4.view.set]{fullShare} X4) ∗ (arg9.view.loc (c : Thread nD τ) ↦[arg9.view.set]{fullShare} X9) ∗ owns (c : Thread nD τ) arg14 fullShare d14 ∗ owns (c : Thread nD τ) arg15 fullShare d15 ∗ owns (c : Thread nD τ) arg16 fullShare (k0_pay91 (F := F)) ∗ (tbl2.view.loc (c : Thread nD τ) ↦{fullShare.right} fun _ => 16#32))) := by
  simp only [k0_part11_eq_skeleton]
  unfold owns
  iintro ⟨H3, H4, H9, ⟨%f14, %h14, H14⟩, ⟨%f15, %h15, H15⟩, ⟨%f16, %h16, H16⟩, HT⟩
  subst h14 h15 h16
  sl_exec (disch := first | exact hw | sl_exact hc1)
  sl_step
  sl_exec (disch := first | exact hw | sl_exact hc1)
  sl_step
  isplitr
  · ipureintro
    delta headMid.sl.r
    rw [View.readAt_full arg3.view, View.readAt_full arg4.view, View.readAt_full arg9.view]
    rfl
  isplitl [H3]; · iexact H3
  isplitl [H4]; · iexact H4
  isplitl [H9]; · iexact H9
  isplitl [H14]
  · iexists _; isplitr; swap; iexact H14; ipureintro; rfl
  isplitl [H15]
  · iexists _; isplitr; swap; iexact H15; ipureintro; rfl
  isplitl [H16]
  · iexists _; isplitr; swap; iexact H16; ipureintro; exact View.read_writes_full _ _ _ _ _
  iexact HT

end Cert.KernelIdeal.Attn
-- ==== Proof.Ideal.BodyMid.lean ====
/- The body runs, at the any middle block of keys. -/
module

public import proofs.«01_k».proof.Proof.Ideal.HeadMid
public import Idealize.ShloMosaic.Lib.LoopRemainder
public import Idealize.ShloMosaic.Lib.Pipeline.FrameBody

@[expose] public section

set_option maxRecDepth 16384
set_option maxHeartbeats 8000000

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow
open Cert.KernelIdeal.Gen

variable {F : FTy → Type} [FloatOps F] [Named F]

local notation "𝕄G" => MT nD τ sig Unit (Elt F) ℕ (UR sig nD τ) ℕ

theorem bodyMid (c : Dev nD) (i : grid0.Coords) (hw : k0_chk1 i 16#32 16#32) (hc1 : ¬cond1 i) (hc2 : ¬k0_cond2 i = 1#1) (arg3 : Memref sig .tc .vmem S512x128 .bf16) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S1x2x8192 .f32) (harg7 : arg7.IsWhole) (arg8 : Memref sig .tc .vmem S1x2x8192 .f32) (harg8 : arg8.IsWhole) (arg9 : Memref sig .tc .vmem S512x128 .f32) (harg9 : arg9.IsWhole) (arg10 : Memref sig .tc .vmem S8192x128 .bf16) (harg10 : arg10.IsWhole) (arg11 : Memref sig .tc .vmem S512x128 .bf16) (harg11 : arg11.IsWhole) (arg12 : Memref sig .tc .vmem S512x128 .bf16) (harg12 : arg12.IsWhole) (arg13 : Memref sig .tc .vmem S1x2x512 .f32) (harg13 : arg13.IsWhole) (arg14 : Memref sig .tc .vmem S1x2x8192 .f32) (harg14 : arg14.IsWhole) (arg15 : Memref sig .tc .vmem S8192x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole)
    (x3 : Vec F S512x128 .bf16) (x4 : Vec F S512x128 .bf16) (x5 : Vec F S8192x128 .bf16) (x6 : Vec F S8192x128 .bf16) (x7 : Vec F S1x2x8192 .f32) (x8 : Vec F S1x2x8192 .f32) (x9 : Vec F S512x128 .f32)
    (d10 : Vec F S8192x128 .bf16) (d11 : Vec F S512x128 .bf16) (d12 : Vec F S512x128 .bf16) (d13 : Vec F S1x2x512 .f32) (d14 : Vec F S1x2x8192 .f32) (d15 : Vec F S8192x128 .f32) (d16 : Vec F S512x128 .f32) (d17 : Vec F S512x128 .f32) (d18 : Vec F S512x128 .f32)
    (E : Set ℕ) (K : PUnit → sProp 𝕄G) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17 ∗ owns (c : Thread nD τ) arg18 fullShare d18 ∗ (tbl2.view.loc (c : Thread nD τ) ↦{fullShare.right} fun _ => 16#32)
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (d10) ∗ owns (c : Thread nD τ) arg11 fullShare (k0_pay140 (bodyAcc i hw false x3 x4 x5 x6 x7 x8 x9 d14 d15).dk) ∗ owns (c : Thread nD τ) arg12 fullShare (k0_pay141 (bodyAcc i hw false x3 x4 x5 x6 x7 x8 x9 d14 d15).dv) ∗ owns (c : Thread nD τ) arg13 fullShare (dckRows (bodyAcc i hw false x3 x4 x5 x6 x7 x8 x9 d14 d15).dck d13) ∗ owns (c : Thread nD τ) arg14 fullShare ((bodyAcc i hw false x3 x4 x5 x6 x7 x8 x9 d14 d15).dcq) ∗ owns (c : Thread nD τ) arg15 fullShare ((bodyAcc i hw false x3 x4 x5 x6 x7 x8 x9 d14 d15).dq) ∗ owns (c : Thread nD τ) arg16 fullShare ((bodyAcc i hw false x3 x4 x5 x6 x7 x8 x9 d14 d15).dk) ∗ owns (c : Thread nD τ) arg17 fullShare ((bodyAcc i hw false x3 x4 x5 x6 x7 x8 x9 d14 d15).dv) ∗ owns (c : Thread nD τ) arg18 fullShare ((bodyAcc i hw false x3 x4 x5 x6 x7 x8 x9 d14 d15).dck) ∗ (tbl2.view.loc (c : Thread nD τ) ↦{fullShare.right} fun _ => 16#32)) -∗ K ⟨⟩))
      ⊢ wp frame (wpE (defs₀ (F := F)) Variants.none c none) E (cc0_attn_bwd i tbl2 htbl2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_attn_bwd_eq_skeleton]; unfold cc0_attn_bwd_skel
  unfold owns
  iintro ⟨⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩, HT, Hk⟩
  subst h3 h4 h5 h6 h7 h8 h9 h10 h11 h12 h13 h14 h15 h16 h17 h18
  have h3 : (k0_t3_loop 16#32 16#32).trips = 0 := by decide +kernel
  have h5 : (k0_t5_loop 16#32 16#32).trips = 0 := by decide +kernel
  iapply (exec_cut frame (wpE (defs₀ (F := F)) Variants.none (c : Thread nD τ) none) E (headMid (F := F) c i hw hc1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f3 f4 f9 (arg14.view.read (Elt F) f14) (arg15.view.read (Elt F) f15) (arg16.view.read (Elt F) f16) E)) $$ [H3 H4 H9 H14 H15 H16 HT]
  · unfold owns
    isplitl [H3]; · iexact H3
    isplitl [H4]; · iexact H4
    isplitl [H9]; · iexact H9
    isplitl [H14]; · (iexists f14; isplitr; swap; iexact H14; ipureintro; rfl)
    isplitl [H15]; · (iexists f15; isplitr; swap; iexact H15; ipureintro; rfl)
    isplitl [H16]; · (iexists f16; isplitr; swap; iexact H16; ipureintro; rfl)
    iexact HT
  unfold owns
  iintro %r ⟨%hr, H3, H4, H9, ⟨%g14, %h14, H14⟩, ⟨%g15, %h15, H15⟩, ⟨%g16, %h16, H16⟩, HT⟩
  subst hr
  simp only [k0_part12_eq_skeleton, k0_part13_eq_skeleton, k0_part14_eq_skeleton, k0_part15_eq_skeleton, k0_part16_eq_skeleton]
  sl_exec (disch := first | exact hw | sl_exact hc1 | sl_exact hc2)
  iapply (exec_cut frame (wpE (defs₀ (F := F)) Variants.none (c : Thread nD τ) none) E (loopRun (F := F) Variants.none c none E i tbl2 htbl2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 1).val) 16#32 16#32 hw (Scalar.minsi 16#32 16#32) k0_pay83 k0_pay84 (arg3.view.read (Elt F) f3) (arg4.view.read (Elt F) f4) (k0_pay85 (arg3.view.read (Elt F) f3)) (k0_pay86 (arg3.view.read (Elt F) f3)) (k0_pay88 (arg9.view.read (Elt F) f9)) (k0_pay89 (arg9.view.read (Elt F) f9)) _ _ _ _ f5 f6 f7 f8 (diagPass k0_pay83 k0_pay84 (arg3.view.read (Elt F) f3) (arg4.view.read (Elt F) f4) (k0_pay85 (arg3.view.read (Elt F) f3)) (k0_pay86 (arg3.view.read (Elt F) f3)) (k0_pay88 (arg9.view.read (Elt F) f9)) (k0_pay89 (arg9.view.read (Elt F) f9)) k0_pay90 (window (arg5.view.read (Elt F) f5) (k0_off3 i) S512x128.size (k0_off3_inb i)) (window (arg6.view.read (Elt F) f6) (k0_off3 i) S512x128.size (k0_off3_inb i)) (window (arg7.view.read (Elt F) f7) (k0_off4 i) S1x2x512.size (k0_off4_inb i)) (window (arg8.view.read (Elt F) f8) (k0_off4 i) S1x2x512.size (k0_off4_inb i)) (k0_off3 i) (k0_off3_inb i) (k0_off5 i) (k0_off5_inb i) (k0_off6 i) (k0_off6_inb i) ⟨arg14.view.read (Elt F) g14, arg15.view.read (Elt F) g15, arg16.view.read (Elt F) g16, k0_pay92 (Scalar.ofBits .f32 0x00000000#32), k0_pay93 (F := F)⟩))) $$ [H5 H6 H7 H8 H14 H15 H16 H17 H18]
  · dsimp only [inv]
    unfold owns
    isplitl [H5]; · iexact H5
    isplitl [H6]; · iexact H6
    isplitl [H7]; · iexact H7
    isplitl [H8]; · iexact H8
    isplitl [H14]
    · iexists _; isplitr; swap; iexact H14; ipureintro
      rw [View.read_writes_cons_put _ _ _ _ _ rfl, View.read_writes_cons_put _ _ _ _ _ rfl]
      rfl
    isplitl [H15]
    · iexists _; isplitr; swap; iexact H15; ipureintro
      rw [View.read_writes_cons_put _ _ _ _ _ rfl]
      rfl
    isplitl [H16]
    · iexists _; isplitr; swap; iexact H16; ipureintro
      delta bodyMid.sl.H16_2
      rw [View.read_writes_full]
      delta bodyMid.sl.v142 bodyMid.sl.H16_1
      rw [View.readCov_full, View.readAt_full arg16.view]
      rfl
    isplitl [H17]
    · iexists _; isplitr; swap; iexact H17; ipureintro
      delta bodyMid.sl.H17_3
      rw [View.read_writes_full]
      delta bodyMid.sl.v136 bodyMid.sl.H17_2
      rw [View.readCov_full]
      delta bodyMid.sl.v81
      delta bodyMid.sl.H17_1
      rw [View.readCov_full]
      rfl
    · iexists _; isplitr; swap; iexact H18; ipureintro
      delta bodyMid.sl.H18_3 bodyMid.sl.v150 bodyMid.sl.H18_2 bodyMid.sl.v95 bodyMid.sl.H18_1
      unfold View.readCov
      rw [View.readAt_unit arg18.view _ _ rfl inb_S512x128_S512x1_0_1, View.readAt_unit arg18.view _ _ rfl inb_S512x128_S512x1_0_0]
      rw [View.read_writes_cons_put _ _ _ _ _ rfl, View.read_writes_cons_put _ _ _ _ _ rfl, View.read_writes_full]
      rfl
  dsimp only [inv]
  unfold owns
  iintro %_ ⟨H5, H6, H7, H8, ⟨%e14, %q14, H14⟩, ⟨%e15, %q15, H15⟩, ⟨%e16, %q16, H16⟩, ⟨%e17, %q17, H17⟩, ⟨%e18, %q18, H18⟩⟩
  sl_exec (disch := first | exact hw | sl_exact hc1 | sl_exact hc2)
  sl_step
  rw [h14, h15, h16] at q14 q15 q16 q17 q18
  iapply Hk
  isplitl [H3]; · (iexists _; isplitr; swap; iexact H3; ipureintro; rfl)
  isplitl [H4]; · (iexists _; isplitr; swap; iexact H4; ipureintro; rfl)
  isplitl [H5]; · (iexists _; isplitr; swap; iexact H5; ipureintro; rfl)
  isplitl [H6]; · (iexists _; isplitr; swap; iexact H6; ipureintro; rfl)
  isplitl [H7]; · (iexists _; isplitr; swap; iexact H7; ipureintro; rfl)
  isplitl [H8]; · (iexists _; isplitr; swap; iexact H8; ipureintro; rfl)
  isplitl [H9]; · (iexists _; isplitr; swap; iexact H9; ipureintro; rfl)
  isplitl [H10]
  · iexists _; isplitr; swap; iexact H10; ipureintro
    rfl
  isplitl [H11]
  · iexists _; isplitr; swap; iexact H11; ipureintro
    rw [View.read_writes_full, View.readAt_full arg16.view]
    exact congrArg k0_pay140 q16
  isplitl [H12]
  · iexists _; isplitr; swap; iexact H12; ipureintro
    rw [View.read_writes_full, View.readAt_full arg17.view]
    exact congrArg k0_pay141 q17
  isplitl [H13]
  · iexists _; isplitr; swap; iexact H13; ipureintro
    rw [View.read_writes_cons_put _ _ _ _ _ rfl, View.read_writes_cons_put _ _ _ _ _ rfl]
    exact congrArg (fun z => dckRows z (arg13.view.read (Elt F) f13)) q18
  isplitl [H14]
  · iexists _; isplitr; swap; iexact H14; ipureintro
    exact q14
  isplitl [H15]
  · iexists _; isplitr; swap; iexact H15; ipureintro
    exact q15
  isplitl [H16]
  · iexists _; isplitr; swap; iexact H16; ipureintro
    exact q16
  isplitl [H17]
  · iexists _; isplitr; swap; iexact H17; ipureintro
    exact q17
  isplitl [H18]
  · iexists _; isplitr; swap; iexact H18; ipureintro
    exact q18
  iexact HT

end Cert.KernelIdeal.Attn
-- ==== Proof.Ideal.BodyLast.lean ====
/- The body runs, at the last block of keys. -/
module

public import proofs.«01_k».proof.Proof.Ideal.HeadMid
public import Idealize.ShloMosaic.Lib.LoopRemainder
public import Idealize.ShloMosaic.Lib.Pipeline.FrameBody

@[expose] public section

set_option maxRecDepth 16384
set_option maxHeartbeats 8000000

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow
open Cert.KernelIdeal.Gen

variable {F : FTy → Type} [FloatOps F] [Named F]

local notation "𝕄G" => MT nD τ sig Unit (Elt F) ℕ (UR sig nD τ) ℕ

theorem bodyLast (c : Dev nD) (i : grid0.Coords) (hw : k0_chk1 i 16#32 16#32) (hc1 : ¬cond1 i) (hc2 : k0_cond2 i = 1#1) (arg3 : Memref sig .tc .vmem S512x128 .bf16) (harg3 : arg3.IsWhole) (arg4 : Memref sig .tc .vmem S512x128 .bf16) (harg4 : arg4.IsWhole) (arg5 : Memref sig .tc .vmem S8192x128 .bf16) (harg5 : arg5.IsWhole) (arg6 : Memref sig .tc .vmem S8192x128 .bf16) (harg6 : arg6.IsWhole) (arg7 : Memref sig .tc .vmem S1x2x8192 .f32) (harg7 : arg7.IsWhole) (arg8 : Memref sig .tc .vmem S1x2x8192 .f32) (harg8 : arg8.IsWhole) (arg9 : Memref sig .tc .vmem S512x128 .f32) (harg9 : arg9.IsWhole) (arg10 : Memref sig .tc .vmem S8192x128 .bf16) (harg10 : arg10.IsWhole) (arg11 : Memref sig .tc .vmem S512x128 .bf16) (harg11 : arg11.IsWhole) (arg12 : Memref sig .tc .vmem S512x128 .bf16) (harg12 : arg12.IsWhole) (arg13 : Memref sig .tc .vmem S1x2x512 .f32) (harg13 : arg13.IsWhole) (arg14 : Memref sig .tc .vmem S1x2x8192 .f32) (harg14 : arg14.IsWhole) (arg15 : Memref sig .tc .vmem S8192x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole)
    (x3 : Vec F S512x128 .bf16) (x4 : Vec F S512x128 .bf16) (x5 : Vec F S8192x128 .bf16) (x6 : Vec F S8192x128 .bf16) (x7 : Vec F S1x2x8192 .f32) (x8 : Vec F S1x2x8192 .f32) (x9 : Vec F S512x128 .f32)
    (d10 : Vec F S8192x128 .bf16) (d11 : Vec F S512x128 .bf16) (d12 : Vec F S512x128 .bf16) (d13 : Vec F S1x2x512 .f32) (d14 : Vec F S1x2x8192 .f32) (d15 : Vec F S8192x128 .f32) (d16 : Vec F S512x128 .f32) (d17 : Vec F S512x128 .f32) (d18 : Vec F S512x128 .f32)
    (E : Set ℕ) (K : PUnit → sProp 𝕄G) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17 ∗ owns (c : Thread nD τ) arg18 fullShare d18 ∗ (tbl2.view.loc (c : Thread nD τ) ↦{fullShare.right} fun _ => 16#32)
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (k0_pay2 (bodyAcc i hw false x3 x4 x5 x6 x7 x8 x9 d14 d15).dq) ∗ owns (c : Thread nD τ) arg11 fullShare (k0_pay140 (bodyAcc i hw false x3 x4 x5 x6 x7 x8 x9 d14 d15).dk) ∗ owns (c : Thread nD τ) arg12 fullShare (k0_pay141 (bodyAcc i hw false x3 x4 x5 x6 x7 x8 x9 d14 d15).dv) ∗ owns (c : Thread nD τ) arg13 fullShare (dckRows (bodyAcc i hw false x3 x4 x5 x6 x7 x8 x9 d14 d15).dck d13) ∗ owns (c : Thread nD τ) arg14 fullShare ((bodyAcc i hw false x3 x4 x5 x6 x7 x8 x9 d14 d15).dcq) ∗ owns (c : Thread nD τ) arg15 fullShare ((bodyAcc i hw false x3 x4 x5 x6 x7 x8 x9 d14 d15).dq) ∗ owns (c : Thread nD τ) arg16 fullShare ((bodyAcc i hw false x3 x4 x5 x6 x7 x8 x9 d14 d15).dk) ∗ owns (c : Thread nD τ) arg17 fullShare ((bodyAcc i hw false x3 x4 x5 x6 x7 x8 x9 d14 d15).dv) ∗ owns (c : Thread nD τ) arg18 fullShare ((bodyAcc i hw false x3 x4 x5 x6 x7 x8 x9 d14 d15).dck) ∗ (tbl2.view.loc (c : Thread nD τ) ↦{fullShare.right} fun _ => 16#32)) -∗ K ⟨⟩))
      ⊢ wp frame (wpE (defs₀ (F := F)) Variants.none c none) E (cc0_attn_bwd i tbl2 htbl2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_attn_bwd_eq_skeleton]; unfold cc0_attn_bwd_skel
  unfold owns
  iintro ⟨⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩, HT, Hk⟩
  subst h3 h4 h5 h6 h7 h8 h9 h10 h11 h12 h13 h14 h15 h16 h17 h18
  have h3 : (k0_t3_loop 16#32 16#32).trips = 0 := by decide +kernel
  have h5 : (k0_t5_loop 16#32 16#32).trips = 0 := by decide +kernel
  iapply (exec_cut frame (wpE (defs₀ (F := F)) Variants.none (c : Thread nD τ) none) E (headMid (F := F) c i hw hc1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 f3 f4 f9 (arg14.view.read (Elt F) f14) (arg15.view.read (Elt F) f15) (arg16.view.read (Elt F) f16) E)) $$ [H3 H4 H9 H14 H15 H16 HT]
  · unfold owns
    isplitl [H3]; · iexact H3
    isplitl [H4]; · iexact H4
    isplitl [H9]; · iexact H9
    isplitl [H14]; · (iexists f14; isplitr; swap; iexact H14; ipureintro; rfl)
    isplitl [H15]; · (iexists f15; isplitr; swap; iexact H15; ipureintro; rfl)
    isplitl [H16]; · (iexists f16; isplitr; swap; iexact H16; ipureintro; rfl)
    iexact HT
  unfold owns
  iintro %r ⟨%hr, H3, H4, H9, ⟨%g14, %h14, H14⟩, ⟨%g15, %h15, H15⟩, ⟨%g16, %h16, H16⟩, HT⟩
  subst hr
  simp only [k0_part12_eq_skeleton, k0_part13_eq_skeleton, k0_part14_eq_skeleton, k0_part15_eq_skeleton, k0_part16_eq_skeleton]
  sl_exec (disch := first | exact hw | sl_exact hc1 | sl_exact hc2)
  iapply (exec_cut frame (wpE (defs₀ (F := F)) Variants.none (c : Thread nD τ) none) E (loopRun (F := F) Variants.none c none E i tbl2 htbl2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 1).val) 16#32 16#32 hw (Scalar.minsi 16#32 16#32) k0_pay83 k0_pay84 (arg3.view.read (Elt F) f3) (arg4.view.read (Elt F) f4) (k0_pay85 (arg3.view.read (Elt F) f3)) (k0_pay86 (arg3.view.read (Elt F) f3)) (k0_pay88 (arg9.view.read (Elt F) f9)) (k0_pay89 (arg9.view.read (Elt F) f9)) _ _ _ _ f5 f6 f7 f8 (diagPass k0_pay83 k0_pay84 (arg3.view.read (Elt F) f3) (arg4.view.read (Elt F) f4) (k0_pay85 (arg3.view.read (Elt F) f3)) (k0_pay86 (arg3.view.read (Elt F) f3)) (k0_pay88 (arg9.view.read (Elt F) f9)) (k0_pay89 (arg9.view.read (Elt F) f9)) k0_pay90 (window (arg5.view.read (Elt F) f5) (k0_off3 i) S512x128.size (k0_off3_inb i)) (window (arg6.view.read (Elt F) f6) (k0_off3 i) S512x128.size (k0_off3_inb i)) (window (arg7.view.read (Elt F) f7) (k0_off4 i) S1x2x512.size (k0_off4_inb i)) (window (arg8.view.read (Elt F) f8) (k0_off4 i) S1x2x512.size (k0_off4_inb i)) (k0_off3 i) (k0_off3_inb i) (k0_off5 i) (k0_off5_inb i) (k0_off6 i) (k0_off6_inb i) ⟨arg14.view.read (Elt F) g14, arg15.view.read (Elt F) g15, arg16.view.read (Elt F) g16, k0_pay92 (Scalar.ofBits .f32 0x00000000#32), k0_pay93 (F := F)⟩))) $$ [H5 H6 H7 H8 H14 H15 H16 H17 H18]
  · dsimp only [inv]
    unfold owns
    isplitl [H5]; · iexact H5
    isplitl [H6]; · iexact H6
    isplitl [H7]; · iexact H7
    isplitl [H8]; · iexact H8
    isplitl [H14]
    · iexists _; isplitr; swap; iexact H14; ipureintro
      rw [View.read_writes_cons_put _ _ _ _ _ rfl, View.read_writes_cons_put _ _ _ _ _ rfl]
      rfl
    isplitl [H15]
    · iexists _; isplitr; swap; iexact H15; ipureintro
      rw [View.read_writes_cons_put _ _ _ _ _ rfl]
      rfl
    isplitl [H16]
    · iexists _; isplitr; swap; iexact H16; ipureintro
      delta bodyLast.sl.H16_2
      rw [View.read_writes_full]
      delta bodyLast.sl.v142 bodyLast.sl.H16_1
      rw [View.readCov_full, View.readAt_full arg16.view]
      rfl
    isplitl [H17]
    · iexists _; isplitr; swap; iexact H17; ipureintro
      delta bodyLast.sl.H17_3
      rw [View.read_writes_full]
      delta bodyLast.sl.v136 bodyLast.sl.H17_2
      rw [View.readCov_full]
      delta bodyLast.sl.v81
      delta bodyLast.sl.H17_1
      rw [View.readCov_full]
      rfl
    · iexists _; isplitr; swap; iexact H18; ipureintro
      delta bodyLast.sl.H18_3 bodyLast.sl.v150 bodyLast.sl.H18_2 bodyLast.sl.v95 bodyLast.sl.H18_1
      unfold View.readCov
      rw [View.readAt_unit arg18.view _ _ rfl inb_S512x128_S512x1_0_1, View.readAt_unit arg18.view _ _ rfl inb_S512x128_S512x1_0_0]
      rw [View.read_writes_cons_put _ _ _ _ _ rfl, View.read_writes_cons_put _ _ _ _ _ rfl, View.read_writes_full]
      rfl
  dsimp only [inv]
  unfold owns
  iintro %_ ⟨H5, H6, H7, H8, ⟨%e14, %q14, H14⟩, ⟨%e15, %q15, H15⟩, ⟨%e16, %q16, H16⟩, ⟨%e17, %q17, H17⟩, ⟨%e18, %q18, H18⟩⟩
  sl_exec (disch := first | exact hw | sl_exact hc1 | sl_exact hc2)
  sl_step
  rw [h14, h15, h16] at q14 q15 q16 q17 q18
  iapply Hk
  isplitl [H3]; · (iexists _; isplitr; swap; iexact H3; ipureintro; rfl)
  isplitl [H4]; · (iexists _; isplitr; swap; iexact H4; ipureintro; rfl)
  isplitl [H5]; · (iexists _; isplitr; swap; iexact H5; ipureintro; rfl)
  isplitl [H6]; · (iexists _; isplitr; swap; iexact H6; ipureintro; rfl)
  isplitl [H7]; · (iexists _; isplitr; swap; iexact H7; ipureintro; rfl)
  isplitl [H8]; · (iexists _; isplitr; swap; iexact H8; ipureintro; rfl)
  isplitl [H9]; · (iexists _; isplitr; swap; iexact H9; ipureintro; rfl)
  isplitl [H10]
  · iexists _; isplitr; swap; iexact H10; ipureintro
    rw [View.read_writes_full, View.readAt_full arg15.view]
    exact congrArg k0_pay2 q15
  isplitl [H11]
  · iexists _; isplitr; swap; iexact H11; ipureintro
    rw [View.read_writes_full, View.readAt_full arg16.view]
    exact congrArg k0_pay140 q16
  isplitl [H12]
  · iexists _; isplitr; swap; iexact H12; ipureintro
    rw [View.read_writes_full, View.readAt_full arg17.view]
    exact congrArg k0_pay141 q17
  isplitl [H13]
  · iexists _; isplitr; swap; iexact H13; ipureintro
    rw [View.read_writes_cons_put _ _ _ _ _ rfl, View.read_writes_cons_put _ _ _ _ _ rfl]
    exact congrArg (fun z => dckRows z (arg13.view.read (Elt F) f13)) q18
  isplitl [H14]
  · iexists _; isplitr; swap; iexact H14; ipureintro
    exact q14
  isplitl [H15]
  · iexists _; isplitr; swap; iexact H15; ipureintro
    exact q15
  isplitl [H16]
  · iexists _; isplitr; swap; iexact H16; ipureintro
    exact q16
  isplitl [H17]
  · iexists _; isplitr; swap; iexact H17; ipureintro
    exact q17
  isplitl [H18]
  · iexists _; isplitr; swap; iexact H18; ipureintro
    exact q18
  iexact HT

end Cert.KernelIdeal.Attn
-- ==== Proof.Ideal.Frame.lean ====
/- The attention call point by point: the sums carried from one block of keys to the next, what the call leaves in each
   output block, and the run of the whole program. -/
module

public import proofs.«01_k».proof.Proof.Ideal.Entry
public import proofs.«01_k».proof.Proof.Ideal.BodyFirst
public import proofs.«01_k».proof.Proof.Ideal.BodyMid
public import proofs.«01_k».proof.Proof.Ideal.BodyLast

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

open Idealize.ShloMosaic.VecWindow

/-! ## The sums along the grid -/

/-- The five sums after point `t`, from what the query side held before it. -/
def stepAt (c : Dev nD) (t : Fin (cfgM m).N) (dcq : Vec F S1x2x8192 .f32) (dq : Vec F S8192x128 .f32) : Acc F :=
  bodyAcc (grid0.coords t) (chk t) (decide (t.val % 16 = 0)) (iblk m c 0 t) (iblk m c 1 t) (iblk m c 2 t) (iblk m c 3 t) (iblk m c 4 t) (iblk m c 5 t) (iblk m c 6 t) dcq dq

/-- The five sums after point `n`: each point goes on from the one before. -/
def accAt (c : Dev nD) : (n : ℕ) → n < (cfgM m).N → Acc F
  | 0, h => stepAt m c ⟨0, h⟩ (fun _ => Scalar.ofBits .f32 0x00000000#32) (fun _ => Scalar.ofBits .f32 0x00000000#32)
  | n + 1, h => stepAt m c ⟨n + 1, h⟩ (accAt c n (Nat.lt_of_succ_lt h)).dcq (accAt c n (Nat.lt_of_succ_lt h)).dq

theorem prev_lt (t : Fin (cfgM m).N) : t.val - 1 < (cfgM m).N := Nat.lt_of_le_of_lt (Nat.sub_le _ _) t.isLt

/-- At the first block of keys the sums start afresh. -/
theorem stepAt_first (c : Dev nD) (t : Fin (cfgM m).N) (h : t.val % 16 = 0) (dcq dcq' : Vec F S1x2x8192 .f32) (dq dq' : Vec F S8192x128 .f32) :
    stepAt m c t dcq dq = stepAt m c t dcq' dq' := by
  unfold stepAt bodyAcc
  rw [decide_eq_true h]
  have e : start (F := F) true dcq dq = start true dcq' dq' := rfl
  rw [e]

/-- The sums after `t` are the step from anything that agrees, past the first block of keys, with the point before. -/
theorem accAt_step (c : Dev nD) (t : Fin (cfgM m).N) (dcq : Vec F S1x2x8192 .f32) (dq : Vec F S8192x128 .f32)
    (h1 : t.val % 16 ≠ 0 → dcq = (accAt m c (t.val - 1) (prev_lt m t)).dcq) (h2 : t.val % 16 ≠ 0 → dq = (accAt m c (t.val - 1) (prev_lt m t)).dq) :
    accAt m c t.val t.isLt = stepAt m c t dcq dq := by
  obtain ⟨n, hn⟩ := t
  cases n with
  | zero => exact stepAt_first m c _ rfl _ _ _ _
  | succ n =>
    by_cases h : (n + 1) % 16 = 0
    · exact stepAt_first m c _ h _ _ _ _
    · rw [h1 h, h2 h]; rfl

/-- The bias gradient's two rows cover the block: nothing of what it held before is left. -/
theorem dckRows_eq (dck : Vec F S512x128 .f32) (d d' : Vec F S1x2x512 .f32) : dckRows dck d = dckRows dck d' := by
  funext y
  have h0 : (y 0).val < 1 := (y 0).isLt
  have h1 : (y 1).val < 2 := (y 1).isLt
  have h2 : (y 2).val < 512 := (y 2).isLt
  unfold dckRows put
  by_cases hy : (y 1).val = 1
  · have h : ∀ a : Fin S1x2x512.rank, (![0, 1, 0] : Fin 3 → ℕ) a ≤ (y a).val ∧ (y a).val < (![0, 1, 0] : Fin 3 → ℕ) a + S1x1x512.size a := fun
      | ⟨0, _⟩ => ⟨Nat.zero_le _, h0⟩
      | ⟨1, _⟩ => ⟨hy.ge, by show (y 1).val < 1 + 1; omega⟩
      | ⟨2, _⟩ => ⟨Nat.zero_le _, by show (y 2).val < 0 + 512; omega⟩
    rw [dif_pos h, dif_pos h]
  · have hn : ¬ ∀ a : Fin S1x2x512.rank, (![0, 1, 0] : Fin 3 → ℕ) a ≤ (y a).val ∧ (y a).val < (![0, 1, 0] : Fin 3 → ℕ) a + S1x1x512.size a := fun h => by
      have := (h 1).1; have : 1 ≤ (y 1).val := this; omega
    have h : ∀ a : Fin S1x2x512.rank, (![0, 0, 0] : Fin 3 → ℕ) a ≤ (y a).val ∧ (y a).val < (![0, 0, 0] : Fin 3 → ℕ) a + S1x1x512.size a := fun
      | ⟨0, _⟩ => ⟨Nat.zero_le _, h0⟩
      | ⟨1, _⟩ => ⟨Nat.zero_le _, by show (y 1).val < 0 + 1; omega⟩
      | ⟨2, _⟩ => ⟨Nat.zero_le _, by show (y 2).val < 0 + 512; omega⟩
    rw [dif_neg hn, dif_neg hn, dif_pos h, dif_pos h]

/-- The bias gradient's block, from its sums. -/
def dckOut (dck : Vec F S512x128 .f32) : Vec F S1x2x512 .f32 := dckRows dck (fun _ => Scalar.ofBits .f32 0x00000000#32)

/-! ## What holds between points -/

/-- Between points: the queries' gradient as the point before left it, the other scratch at anything, the table's half. -/
def PhiS (c : Dev nD) : (n : ℕ) → n ≤ (cfgM m).N → sProp 𝕄
  | 0, _ => iprop(Pipeline.ΦA spec0 c ∗ Pipeline.ΦT pre0 (tbl m) c)
  | n + 1, hn => iprop(((owns (c : Thread nD τ) scM0 fullShare (accAt m c n hn).dq ∗ (∃ d, owns (c : Thread nD τ) scM1 fullShare d) ∗ (∃ d, owns (c : Thread nD τ) scM2 fullShare d) ∗ (∃ d, owns (c : Thread nD τ) scM3 fullShare d)) ∗ (∃ r, prngReg c r)) ∗ Pipeline.ΦT pre0 (tbl m) c)

theorem PhiS_succ (c : Dev nD) (n : ℕ) (hn : n < (cfgM m).N) : PhiS m c (n + 1) hn
    = iprop(((owns (c : Thread nD τ) scM0 fullShare (accAt m c n hn).dq ∗ (∃ d, owns (c : Thread nD τ) scM1 fullShare d) ∗ (∃ d, owns (c : Thread nD τ) scM2 fullShare d) ∗ (∃ d, owns (c : Thread nD τ) scM3 fullShare d)) ∗ (∃ r, prngReg c r)) ∗ Pipeline.ΦT pre0 (tbl m) c) := rfl

/-- The same with the carried contents named: any at the first point. -/
theorem PhiS_open (c : Dev nD) (n : ℕ) (hn : n < (cfgM m).N) :
    PhiS m c n (Nat.le_of_lt hn) ⊢ iprop(∃ dq : Vec F S8192x128 .f32, ⌜n ≠ 0 → dq = (accAt m c (n - 1) (Nat.lt_of_le_of_lt (Nat.sub_le _ _) hn)).dq⌝
      ∗ owns (c : Thread nD τ) scM0 fullShare dq ∗ (∃ d, owns (c : Thread nD τ) scM1 fullShare d) ∗ (∃ d, owns (c : Thread nD τ) scM2 fullShare d) ∗ (∃ d, owns (c : Thread nD τ) scM3 fullShare d)
      ∗ (∃ r, prngReg c r) ∗ tblPt c (tbl m 0)) := by
  cases n with
  | zero =>
    unfold PhiS; rw [PhiA_eq, PhiT_eq]
    iintro ⟨⟨⟨⟨%dq, H0⟩, H1, H2, H3⟩, Hg⟩, HT⟩
    iexists dq; isplitr
    · ipureintro; intro h; exact absurd rfl h
    isplitl [H0]; · iexact H0
    isplitl [H1]; · iexact H1
    isplitl [H2]; · iexact H2
    isplitl [H3]; · iexact H3
    isplitl [Hg]; · iexact Hg
    iexact HT
  | succ n =>
    unfold PhiS; rw [PhiT_eq]
    iintro ⟨⟨⟨H0, H1, H2, H3⟩, Hg⟩, HT⟩
    iexists _; isplitr
    swap
    · isplitl [H0]; · iexact H0
      isplitl [H1]; · iexact H1
      isplitl [H2]; · iexact H2
      isplitl [H3]; · iexact H3
      isplitl [Hg]; · iexact Hg
      iexact HT
    ipureintro; intro _; rfl

/-! ## The call's data -/

/-- What the arrays hold at the start, what each staging buffer holds after each point, and what holds between points. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => k0_pay2 (accAt m c t.val t.isLt).dq
    | ⟨8, _⟩ => k0_pay140 (accAt m c t.val t.isLt).dk
    | ⟨9, _⟩ => k0_pay141 (accAt m c t.val t.isLt).dv
    | ⟨10, _⟩ => dckOut (accAt m c t.val t.isLt).dck
    | ⟨11, _⟩ => (accAt m c t.val t.isLt).dcq
    | ⟨_ + 12, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin (cfgM m).W) : (dats m 0 c).A w = V m c (Pipeline.arrRef spec0 w) := by
  dsimp only [dats]

theorem Phi_castSucc (c : Dev nD) (t : Fin (cfgM m).N) : (dats m 0 c).Φ t.castSucc = PhiS m c t.val (Nat.le_of_lt t.isLt) := by
  dsimp only [dats]; exact Pipeline.Dat.Φ_castSucc (PhiS m c) t

theorem after_0 (c : Dev nD) (t : Fin (cfgM m).N) : (dats m 0 c).after 0 t = iblk m c 0 t := by dsimp only [dats]; try rfl
theorem after_1 (c : Dev nD) (t : Fin (cfgM m).N) : (dats m 0 c).after 1 t = iblk m c 1 t := by dsimp only [dats]; try rfl
theorem after_2 (c : Dev nD) (t : Fin (cfgM m).N) : (dats m 0 c).after 2 t = iblk m c 2 t := by dsimp only [dats]; try rfl
theorem after_3 (c : Dev nD) (t : Fin (cfgM m).N) : (dats m 0 c).after 3 t = iblk m c 3 t := by dsimp only [dats]; try rfl
theorem after_4 (c : Dev nD) (t : Fin (cfgM m).N) : (dats m 0 c).after 4 t = iblk m c 4 t := by dsimp only [dats]; try rfl
theorem after_5 (c : Dev nD) (t : Fin (cfgM m).N) : (dats m 0 c).after 5 t = iblk m c 5 t := by dsimp only [dats]; try rfl
theorem after_6 (c : Dev nD) (t : Fin (cfgM m).N) : (dats m 0 c).after 6 t = iblk m c 6 t := by dsimp only [dats]; try rfl
theorem after_7 (c : Dev nD) (t : Fin (cfgM m).N) : (dats m 0 c).after 7 t = k0_pay2 (accAt m c t.val t.isLt).dq := by dsimp only [dats]; try rfl
theorem after_8 (c : Dev nD) (t : Fin (cfgM m).N) : (dats m 0 c).after 8 t = k0_pay140 (accAt m c t.val t.isLt).dk := by dsimp only [dats]; try rfl
theorem after_9 (c : Dev nD) (t : Fin (cfgM m).N) : (dats m 0 c).after 9 t = k0_pay141 (accAt m c t.val t.isLt).dv := by dsimp only [dats]; try rfl
theorem after_10 (c : Dev nD) (t : Fin (cfgM m).N) : (dats m 0 c).after 10 t = dckOut (accAt m c t.val t.isLt).dck := by dsimp only [dats]; try rfl
theorem after_11 (c : Dev nD) (t : Fin (cfgM m).N) : (dats m 0 c).after 11 t = (accAt m c t.val t.isLt).dcq := by dsimp only [dats]; try rfl
theorem before_0 (c : Dev nD) (t : Fin (cfgM m).N) (d) : (dats m 0 c).before 0 t d = iblk m c 0 t :=
  before_in0 m (dats m 0 c) (A_eq m c 0) (after_0 m c) t d
theorem before_1 (c : Dev nD) (t : Fin (cfgM m).N) (d) : (dats m 0 c).before 1 t d = iblk m c 1 t :=
  before_in1 m (dats m 0 c) (A_eq m c 1) (after_1 m c) t d
theorem before_2 (c : Dev nD) (t : Fin (cfgM m).N) (d) : (dats m 0 c).before 2 t d = iblk m c 2 t :=
  before_in2 m (dats m 0 c) (A_eq m c 2) (after_2 m c) t d
theorem before_3 (c : Dev nD) (t : Fin (cfgM m).N) (d) : (dats m 0 c).before 3 t d = iblk m c 3 t :=
  before_in3 m (dats m 0 c) (A_eq m c 3) (after_3 m c) t d
theorem before_4 (c : Dev nD) (t : Fin (cfgM m).N) (d) : (dats m 0 c).before 4 t d = iblk m c 4 t :=
  before_in4 m (dats m 0 c) (A_eq m c 4) (after_4 m c) t d
theorem before_5 (c : Dev nD) (t : Fin (cfgM m).N) (d) : (dats m 0 c).before 5 t d = iblk m c 5 t :=
  before_in5 m (dats m 0 c) (A_eq m c 5) (after_5 m c) t d
theorem before_6 (c : Dev nD) (t : Fin (cfgM m).N) (d) : (dats m 0 c).before 6 t d = iblk m c 6 t :=
  before_in6 m (dats m 0 c) (A_eq m c 6) (after_6 m c) t d

/-- Past the first block of keys, the row gradient's buffer holds what the point before left. -/
theorem before_11 (c : Dev nD) (t : Fin (cfgM m).N) (h : t.val % 16 ≠ 0) (d) :
    (dats m 0 c).before 11 t d = (accAt m c (t.val - 1) (prev_lt m t)).dcq := by
  have ht : t.val ≠ 0 := by intro e; rw [e] at h; exact h rfl
  rw [(dats m 0 c).before_out_kept 11 rfl t ht (by
    cases hf : ((cfgM m).win 11).flush ⟨t.val - 1, prev_lt m t⟩ with
    | false => rfl
    | true => have := (flush_11 m _).mp hf; simp only at this; omega) (fun _ => rfl) (fun _ _ => rfl), after_11]

/-! ## The body at each point -/

/-- What the body is handed, -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d))
    ∗ (∃ d, owns (c : Thread nD τ) (ms4 m t) fullShare ((dats m 0 c).before 4 t d))
    ∗ (∃ d, owns (c : Thread nD τ) (ms5 m t) fullShare ((dats m 0 c).before 5 t d))
    ∗ (∃ d, owns (c : Thread nD τ) (ms6 m t) fullShare ((dats m 0 c).before 6 t d))
    ∗ (∃ d, owns (c : Thread nD τ) (ms7 m t) fullShare ((dats m 0 c).before 7 t d))
    ∗ (∃ d, owns (c : Thread nD τ) (ms8 m t) fullShare ((dats m 0 c).before 8 t d))
    ∗ (∃ d, owns (c : Thread nD τ) (ms9 m t) fullShare ((dats m 0 c).before 9 t d))
    ∗ (∃ d, owns (c : Thread nD τ) (ms10 m t) fullShare ((dats m 0 c).before 10 t d))
    ∗ (∃ d, owns (c : Thread nD τ) (ms11 m t) fullShare ((dats m 0 c).before 11 t d)))

/-- and what it hands back. -/
def bodyPost (c : Dev nD) (t : Fin (cfgM m).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

theorem leaves_7_idle (c : Dev nD) (t : Fin (cfgM m).N) (h : ¬t.val % 16 = 15) :
    (dats m 0 c).leavesExact 7 t = iprop(∃ d, owns (c : Thread nD τ) (ms7 m t) fullShare ((dats m 0 c).before 7 t d)) :=
  (dats m 0 c).leavesExact_idle 7 t
    (by rw [idle_7, Bool.not_eq_true', beq_eq_false_iff_ne]; exact fun e => h ((hcond2 t).mp e))
    (by cases hf : ((cfgM m).win 7).flush t with
        | false => rfl
        | true => exact absurd ((flush_7 m t).mp hf) h)

theorem leaves_7_last (c : Dev nD) (t : Fin (cfgM m).N) (h : t.val % 16 = 15) :
    (dats m 0 c).leavesExact 7 t = owns (c : Thread nD τ) (ms7 m t) fullShare ((dats m 0 c).after 7 t) := by
  have e : (cfgM m).idle 7 ((cfgM m).grid.coords t) = false := by
    rw [idle_7, (hcond2 t).mpr h]; rfl
  unfold Dat.leavesExact; rw [e]; try rfl

set_option maxHeartbeats 4800000 in
/-- The body at any point. -/
theorem sound_body (c : Dev nD) (t : Fin (cfgM m).N) :
    bodyPre m c t ⊢ wp frame (wpE (defs₀ (F := F)) Variants.none c none) Set.univ (bodyAt m t) (fun _ => bodyPost m c t) := by
  unfold bodyPre bodyPost
  simp only [before_0, before_1, before_2, before_3, before_4, before_5, before_6]
  rw [show (dats m 0 c).owesAt () t.succ = (dats m 0 c).owesAt () t.castSucc from rfl]
  rw [show (dats m 0 c).Φ t.succ = PhiS m c (t.val + 1) t.isLt from rfl, Phi_castSucc]
  rw [show (dats m 0 c).leavesExact 0 t = owns (c : Thread nD τ) (ms0 m t) fullShare ((dats m 0 c).after 0 t) from by
    unfold Dat.leavesExact; rw [show (cfgM m).idle 0 ((cfgM m).grid.coords t) = false from rfl]; try rfl, after_0]
  rw [show (dats m 0 c).leavesExact 1 t = owns (c : Thread nD τ) (ms1 m t) fullShare ((dats m 0 c).after 1 t) from by
    unfold Dat.leavesExact; rw [show (cfgM m).idle 1 ((cfgM m).grid.coords t) = false from rfl]; try rfl, after_1]
  rw [show (dats m 0 c).leavesExact 2 t = owns (c : Thread nD τ) (ms2 m t) fullShare ((dats m 0 c).after 2 t) from by
    unfold Dat.leavesExact; rw [show (cfgM m).idle 2 ((cfgM m).grid.coords t) = false from rfl]; try rfl, after_2]
  rw [show (dats m 0 c).leavesExact 3 t = owns (c : Thread nD τ) (ms3 m t) fullShare ((dats m 0 c).after 3 t) from by
    unfold Dat.leavesExact; rw [show (cfgM m).idle 3 ((cfgM m).grid.coords t) = false from rfl]; try rfl, after_3]
  rw [show (dats m 0 c).leavesExact 4 t = owns (c : Thread nD τ) (ms4 m t) fullShare ((dats m 0 c).after 4 t) from by
    unfold Dat.leavesExact; rw [show (cfgM m).idle 4 ((cfgM m).grid.coords t) = false from rfl]; try rfl, after_4]
  rw [show (dats m 0 c).leavesExact 5 t = owns (c : Thread nD τ) (ms5 m t) fullShare ((dats m 0 c).after 5 t) from by
    unfold Dat.leavesExact; rw [show (cfgM m).idle 5 ((cfgM m).grid.coords t) = false from rfl]; try rfl, after_5]
  rw [show (dats m 0 c).leavesExact 6 t = owns (c : Thread nD τ) (ms6 m t) fullShare ((dats m 0 c).after 6 t) from by
    unfold Dat.leavesExact; rw [show (cfgM m).idle 6 ((cfgM m).grid.coords t) = false from rfl]; try rfl, after_6]
  rw [show (dats m 0 c).leavesExact 8 t = owns (c : Thread nD τ) (ms8 m t) fullShare ((dats m 0 c).after 8 t) from by
    unfold Dat.leavesExact; rw [show (cfgM m).idle 8 ((cfgM m).grid.coords t) = false from rfl]; try rfl, after_8]
  rw [show (dats m 0 c).leavesExact 9 t = owns (c : Thread nD τ) (ms9 m t) fullShare ((dats m 0 c).after 9 t) from by
    unfold Dat.leavesExact; rw [show (cfgM m).idle 9 ((cfgM m).grid.coords t) = false from rfl]; try rfl, after_9]
  rw [show (dats m 0 c).leavesExact 10 t = owns (c : Thread nD τ) (ms10 m t) fullShare ((dats m 0 c).after 10 t) from by
    unfold Dat.leavesExact; rw [show (cfgM m).idle 10 ((cfgM m).grid.coords t) = false from rfl]; try rfl, after_10]
  rw [show (dats m 0 c).leavesExact 11 t = owns (c : Thread nD τ) (ms11 m t) fullShare ((dats m 0 c).after 11 t) from by
    unfold Dat.leavesExact; rw [show (cfgM m).idle 11 ((cfgM m).grid.coords t) = false from rfl]; try rfl, after_11]
  have hN : t.val < 128 := lt_of_lt_of_eq t.isLt (show (cfgM m).N = 128 from N_0)
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  ihave HP := (PhiS_open m c t.val t.isLt) $$ HP
  icases HP with ⟨%dq, %hdq, HS0, ⟨%e1, HS1⟩, ⟨%e2, HS2⟩, ⟨%e3, HS3⟩, Hg, HT⟩
  have hdq' : t.val % 16 ≠ 0 → dq = (accAt m c (t.val - 1) (prev_lt m t)).dq := fun h => hdq (fun e => h (by rw [e]))
  have hacc := accAt_step m c t ((dats m 0 c).before 11 t d11) dq (fun h => before_11 m c t h d11) hdq'
  rw [PhiS_succ m c t.val t.isLt, PhiT_eq, tbl_eq, hacc]
  by_cases h0 : t.val % 16 = 0
  · have h15 : ¬t.val % 16 = 15 := by omega
    rw [leaves_7_idle m c t h15]
    unfold stepAt
    rw [decide_eq_true h0]
    iapply (bodyFirst c (grid0.coords t) (chk t) ((hcond1 t).mpr h0) (fun h => h15 ((hcond2 t).mp h)) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (ms8 m t) (hs8 m t) (ms9 m t) (hs9 m t) (ms10 m t) (hs10 m t) (ms11 m t) (hs11 m t) scM0 (Memref.isWhole_whole _) scM1 (Memref.isWhole_whole _) scM2 (Memref.isWhole_whole _) scM3 (Memref.isWhole_whole _) (iblk m c 0 t) (iblk m c 1 t) (iblk m c 2 t) (iblk m c 3 t) (iblk m c 4 t) (iblk m c 5 t) (iblk m c 6 t) ((dats m 0 c).before 7 t d7) ((dats m 0 c).before 8 t d8) ((dats m 0 c).before 9 t d9) ((dats m 0 c).before 10 t d10) ((dats m 0 c).before 11 t d11) dq e1 e2 e3 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    isplitl [HS1]; · iexact HS1
    isplitl [HS2]; · iexact HS2
    isplitl [HS3]; · iexact HS3
    isplitl [HT]; · iexact HT
    iintro ⟨H0, H1, H2, H3, H4, H5, H6, H7, H8, H9, H10, H11, HS0, HS1, HS2, HS3, HT⟩
    rw [dckRows_eq _ ((dats m 0 c).before 10 t d10) (fun _ => Scalar.ofBits .f32 0x00000000#32)]
    isplitl [HS0 HS1 HS2 HS3 Hg HT]
    · isplitl [HS0 HS1 HS2 HS3 Hg]
      · isplitl [HS0 HS1 HS2 HS3]
        · isplitl [HS0]; · iexact HS0
          isplitl [HS1]; · (iexists _; iexact HS1)
          isplitl [HS2]; · (iexists _; iexact HS2)
          iexists _; iexact HS3
        iexact Hg
      iexact HT
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · (iexists d7; iexact H7)
    isplitl [H8]; · iexact H8
    isplitl [H9]; · iexact H9
    isplitl [H10]; · iexact H10
    iexact H11
  · by_cases h15 : t.val % 16 = 15
    · rw [leaves_7_last m c t h15, after_7, hacc]
      unfold stepAt
      rw [decide_eq_false h0]
      iapply (bodyLast c (grid0.coords t) (chk t) (fun h => h0 ((hcond1 t).mp h)) ((hcond2 t).mpr h15) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (ms8 m t) (hs8 m t) (ms9 m t) (hs9 m t) (ms10 m t) (hs10 m t) (ms11 m t) (hs11 m t) scM0 (Memref.isWhole_whole _) scM1 (Memref.isWhole_whole _) scM2 (Memref.isWhole_whole _) scM3 (Memref.isWhole_whole _) (iblk m c 0 t) (iblk m c 1 t) (iblk m c 2 t) (iblk m c 3 t) (iblk m c 4 t) (iblk m c 5 t) (iblk m c 6 t) ((dats m 0 c).before 7 t d7) ((dats m 0 c).before 8 t d8) ((dats m 0 c).before 9 t d9) ((dats m 0 c).before 10 t d10) ((dats m 0 c).before 11 t d11) dq e1 e2 e3 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      isplitl [HS1]; · iexact HS1
      isplitl [HS2]; · iexact HS2
      isplitl [HS3]; · iexact HS3
      isplitl [HT]; · iexact HT
      iintro ⟨H0, H1, H2, H3, H4, H5, H6, H7, H8, H9, H10, H11, HS0, HS1, HS2, HS3, HT⟩
      rw [dckRows_eq _ ((dats m 0 c).before 10 t d10) (fun _ => Scalar.ofBits .f32 0x00000000#32)]
      isplitl [HS0 HS1 HS2 HS3 Hg HT]
      · isplitl [HS0 HS1 HS2 HS3 Hg]
        · isplitl [HS0 HS1 HS2 HS3]
          · isplitl [HS0]; · iexact HS0
            isplitl [HS1]; · (iexists _; iexact HS1)
            isplitl [HS2]; · (iexists _; iexact HS2)
            iexists _; iexact HS3
          iexact Hg
        iexact HT
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · rw [leaves_7_idle m c t h15]
      unfold stepAt
      rw [decide_eq_false h0]
      iapply (bodyMid c (grid0.coords t) (chk t) (fun h => h0 ((hcond1 t).mp h)) (fun h => h15 ((hcond2 t).mp h)) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (ms8 m t) (hs8 m t) (ms9 m t) (hs9 m t) (ms10 m t) (hs10 m t) (ms11 m t) (hs11 m t) scM0 (Memref.isWhole_whole _) scM1 (Memref.isWhole_whole _) scM2 (Memref.isWhole_whole _) scM3 (Memref.isWhole_whole _) (iblk m c 0 t) (iblk m c 1 t) (iblk m c 2 t) (iblk m c 3 t) (iblk m c 4 t) (iblk m c 5 t) (iblk m c 6 t) ((dats m 0 c).before 7 t d7) ((dats m 0 c).before 8 t d8) ((dats m 0 c).before 9 t d9) ((dats m 0 c).before 10 t d10) ((dats m 0 c).before 11 t d11) dq e1 e2 e3 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [HS0]; · iexact HS0
      isplitl [HS1]; · iexact HS1
      isplitl [HS2]; · iexact HS2
      isplitl [HS3]; · iexact HS3
      isplitl [HT]; · iexact HT
      iintro ⟨H0, H1, H2, H3, H4, H5, H6, H7, H8, H9, H10, H11, HS0, HS1, HS2, HS3, HT⟩
      rw [dckRows_eq _ ((dats m 0 c).before 10 t d10) (fun _ => Scalar.ofBits .f32 0x00000000#32)]
      isplitl [HS0 HS1 HS2 HS3 Hg HT]
      · isplitl [HS0 HS1 HS2 HS3 Hg]
        · isplitl [HS0 HS1 HS2 HS3]
          · isplitl [HS0]; · iexact HS0
            isplitl [HS1]; · (iexists _; iexact HS1)
            isplitl [HS2]; · (iexists _; iexact HS2)
            iexists _; iexact HS3
          iexact Hg
        iexact HT
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · (iexists d7; iexact H7)
      isplitl [H8]; · iexact H8
      isplitl [H9]; · iexact H9
      isplitl [H10]; · iexact H10
      iexact H11

theorem body_obligation (c : Dev nD) : BodyObligation (dats (F := F) m 0 c) (defs₀ (F := F)) Variants.none () Set.univ := fun t => by
  rw [bigSep_W0, bigSep_W0, defs_row m]
  exact triple_restated (sound_body m c t) rfl .rfl fun _ => .rfl

theorem hin (c : Dev nD) : iprop(Pipeline.ΦA spec0 c ∗ Pipeline.ΦT pre0 (tbl m) c) ⊢ (dats m 0 c).Φ 0 := by
  rw [show (dats m 0 c).Φ 0 = PhiS m c 0 (Nat.zero_le _) from rfl]
  unfold PhiS
  exact Idealize.SL.BI.Entails.refl _

theorem PhiS_close (c : Dev nD) (n : ℕ) (hn : n ≤ (cfgM m).N) (hz : n ≠ 0) : PhiS m c n hn ⊢ Pipeline.ΦA spec0 c := by
  cases n with
  | zero => exact absurd rfl hz
  | succ n =>
    unfold PhiS; rw [PhiA_eq]
    iintro ⟨⟨⟨HS0, HS⟩, Hg⟩, -⟩
    isplitl [HS0 HS]
    · isplitl [HS0]
      · iexists _; iexact HS0
      iexact HS
    iexact Hg

theorem hout (c : Dev nD) : (dats m 0 c).Φ (Fin.last (cfgM m).N) ⊢ Pipeline.ΦA spec0 c := by
  rw [show (dats m 0 c).Φ (Fin.last (cfgM m).N) = PhiS m c (cfgM m).N le_rfl from rfl]
  exact PhiS_close m c _ _ (by have : (cfgM m).N = 128 := N_0; omega)

/-! ## The run -/

set_option backward.isDefEq.respectTransparency.types false in
/-- Every weakly fair execution ends with each output array at the blocks the points left and everything else as the call
    found it, every counter at zero. -/
theorem run_main : θ_run defs (onTc (τ := τ) (main (F := F))) (s₀ m ρ) (fun r => Pipeline.FramePost (Pipeline.pin pcfgs fun _ => adm m) (dats m) 0 (V m) r ∧ r.2.sem = fun _ => 0) :=
  Pipeline.θ_run_frameP_track_shared (Q' := _) pcfgs (fun _ => adm m) (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hpf := V_pre m) (hin := hin m) (hout := hout m)

/-- The arguments end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨((h.1 c).1 0).trans (((dats m 0 c).arrAt_in 0 rfl _).trans ((A_eq m c 0).trans (V_arg0 m c))),
     ((h.1 c).2 main_arg1 (by decide : main_arg1 ∈ Pipeline.restRefs sig spec0)).trans (V_arg1 m c),
     ((h.1 c).1 3).trans (((dats m 0 c).arrAt_in 3 rfl _).trans ((A_eq m c 3).trans (V_arg2 m c)))⟩, h.2⟩) (run_main m ρ)

end Cert.KernelIdeal.Attn
-- ==== Proof.Ideal.Spec.lean ====
/- The gradient of one pair of heads in real numbers, block by block: the weights `E`, the logits' gradients `DS` of a
   block of keys against a block of queries, and what one pass adds to the five sums. No program is mentioned here but
   the shapes of its arrays. -/
module

public import proofs.«01_k».proof.Proof.Ideal.Step
public import Idealize.ShloMosaic.Lib.Pointwise

@[expose] public section

noncomputable section

namespace Cert.KernelIdeal.Attn

open Idealize.ShloMosaic

/-- The head, of the pair's two, that a lane belongs to. -/
def hd (c : Fin 128) : Fin 2 := if c.val < 64 then 0 else 1

/-- The first lane of a head. -/
def hl (h : Fin 2) : Fin 128 := if h = 0 then 0 else 64

/-- A block of 512 keys against a block of 512 queries of a pair of heads: keys, values, queries, the output's gradient,
    the keys' bias over the lanes, the queries' log-sum and the queries' weighted gradient. -/
structure Blk where
  k : Fin 512 → Fin 128 → ℝ
  v : Fin 512 → Fin 128 → ℝ
  q : Fin 512 → Fin 128 → ℝ
  o : Fin 512 → Fin 128 → ℝ
  ck : Fin 512 → Fin 128 → ℝ
  l : Fin 2 → Fin 512 → ℝ
  d : Fin 2 → Fin 512 → ℝ

/-- The product of two rows over the lanes of one head. -/
def hdot (h : Fin 2) (a b : Fin 128 → ℝ) : ℝ := ∑ c : Fin 128, if hd c = h then a c * b c else 0

namespace Blk

variable (B : Blk) (m : Fin 512 → Fin 512 → Bool)

/-- The weight of key `r` for query `x`, zero where the mask says so. -/
def E (h : Fin 2) (r x : Fin 512) : ℝ :=
  if m r x then Real.exp (hdot h (B.k r) (B.q x) * (1 / 8) - B.ck r (hl h) - B.l h x) else 0

/-- The gradient of the logit of key `r` and query `x`. -/
def DS (h : Fin 2) (r x : Fin 512) : ℝ := B.E m h r x * (hdot h (B.v r) (B.o x) - B.d h x)

def dv (r : Fin 512) (c : Fin 128) : ℝ := ∑ x, B.E m (hd c) r x * B.o x c
def dk (r : Fin 512) (c : Fin 128) : ℝ := ∑ x, B.DS m (hd c) r x * B.q x c
def dq (x : Fin 512) (c : Fin 128) : ℝ := (∑ r, B.DS m (hd c) r x * B.k r c) * (1 / 8)
def dck (h : Fin 2) (r : Fin 512) : ℝ := ∑ x, B.DS m h r x
def dcq (h : Fin 2) (x : Fin 512) : ℝ := ∑ r, B.DS m h r x

end Blk

/-- The mask of the passes below the diagonal. -/
def full : Fin 512 → Fin 512 → Bool := fun _ _ => true
/-- The mask of the diagonal pass. -/
def tri : Fin 512 → Fin 512 → Bool := fun r x => decide (r.val ≤ x.val)

/-- A real matrix as an array of a program. -/
def up2 {a b : ℕ} (f : Fin a → Fin b → ℝ) : (⟨2, ![a, b]⟩ : Shape).Idx → EReal := fun i => ((f (i 0) (i 1) : ℝ) : EReal)
/-- A real matrix as a program's array with a leading axis of one. -/
def up3 {a b : ℕ} (f : Fin a → Fin b → ℝ) : (⟨3, ![1, a, b]⟩ : Shape).Idx → EReal := fun i => ((f (i 1) (i 2) : ℝ) : EReal)

theorem up2_apply {a b : ℕ} (f : Fin a → Fin b → ℝ) (i : Fin a) (j : Fin b) : (up2 f : (⟨2, ![a, b]⟩ : Shape).Idx → EReal) (ix2 i j) = ((f i j : ℝ) : EReal) := rfl
theorem up3_apply {a b : ℕ} (f : Fin a → Fin b → ℝ) (z : Fin 1) (i : Fin a) (j : Fin b) : (up3 f : (⟨3, ![1, a, b]⟩ : Shape).Idx → EReal) (ix3 z i j) = ((f i j : ℝ) : EReal) := rfl

/-- The extended reals' sum of reals is the sum. -/
theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

theorem eighth : Ideal.ofBits .f32 0x3E000000#32 = ((1 / 8 : ℝ) : EReal) := by
  simp [Ideal.ofBits, Ideal.ieee, -EReal.coe_mul]; norm_num

end Cert.KernelIdeal.Attn

end
-- ==== Proof.Ideal.PassVal.lean ====
/- One pass of the kernel over a block of queries, read entry by entry over the reals: each of the five sums grows by the
   block's term of `Blk` (Spec.lean). The masked pass over the diagonal is read in the same way with the mask `tri`. -/
module

public import proofs.«01_k».proof.Proof.Ideal.Spec

@[expose] public section

set_option maxRecDepth 16384

noncomputable section

namespace Cert.KernelIdeal.Attn

open Idealize.ShloMosaic Idealize.ShloMosaic.TcCoe Idealize.ShloMosaic.VecWindow
open Cert.KernelIdeal.Gen

/-! ## The masks -/

theorem bit83 (x : Fin 512) (c : Fin 128) : k0_pay83 (ix2 x c) = if c.val < 64 then 1#1 else 0#1 := by
  pointwise [k0_pay83]
  revert c; decide +kernel

theorem bit84 (x : Fin 512) (c : Fin 128) : k0_pay84 (ix2 x c) = if c.val < 64 then 0#1 else 1#1 := by
  pointwise [k0_pay84]
  rw [bit83]
  split <;> rfl

theorem sel83 {α : Type} (x : Fin 512) (c : Fin 128) (a b : α) :
    Scalar.select (k0_pay83 (ix2 x c)) a b = if c.val < 64 then a else b := by
  rw [bit83]; split <;> rfl

theorem sel84 {α : Type} (x : Fin 512) (c : Fin 128) (a b : α) :
    Scalar.select (k0_pay84 (ix2 x c)) a b = if c.val < 64 then b else a := by
  rw [bit84]; split <;> rfl

theorem sel90 {α : Type} (r x : Fin 512) (a b : α) :
    Scalar.select (k0_pay90 (ix2 r x)) a b = if tri r x then a else b := by
  have h : k0_pay90 (ix2 r x) = BitVec.ofBool (decide (r.val ≤ x.val)) := by
    pointwise [k0_pay90]
    have h1 : (BitVec.ofNat 32 r.val).toInt = r.val := by
      have := r.isLt
      rw [BitVec.toInt_eq_toNat_of_lt (by rw [BitVec.toNat_ofNat]; omega), BitVec.toNat_ofNat]; congr 1; omega
    have h2 : (BitVec.ofNat 32 x.val).toInt = x.val := by
      have := x.isLt
      rw [BitVec.toInt_eq_toNat_of_lt (by rw [BitVec.toNat_ofNat]; omega), BitVec.toNat_ofNat]; congr 1; omega
    simp only [IntOp.cmpi, BitVec.sle, h1, h2, Nat.cast_le]
  rw [h]; unfold tri
  by_cases hh : r.val ≤ x.val <;> simp [hh, Scalar.select]

/-! ## Sums over the lanes of a head -/

theorem lanes0 (a b : Fin 128 → ℝ) :
    ∑ c : Fin 128, ((a c : ℝ) : EReal) * (if c.val < 64 then ((b c : ℝ) : EReal) else 0) = ((hdot 0 a b : ℝ) : EReal) := by
  unfold hdot
  rw [coe_sum]
  refine Finset.sum_congr rfl fun c _ => ?_
  unfold hd
  by_cases h : c.val < 64 <;> simp [h]

theorem lanes1 (a b : Fin 128 → ℝ) :
    ∑ c : Fin 128, ((a c : ℝ) : EReal) * (if c.val < 64 then 0 else ((b c : ℝ) : EReal)) = ((hdot 1 a b : ℝ) : EReal) := by
  unfold hdot
  rw [coe_sum]
  refine Finset.sum_congr rfl fun c _ => ?_
  unfold hd
  by_cases h : c.val < 64 <;> simp [h]

/-- A sum of products of which a lane keeps those of its own head. -/
theorem ownHead {n : ℕ} (w0 w1 b : Fin n → ℝ) (w : Fin 2 → Fin n → ℝ) (h0 : w0 = w 0) (h1 : w1 = w 1) (c : Fin 128) :
    (∑ x, ((w0 x : ℝ) : EReal) * (if c.val < 64 then ((b x : ℝ) : EReal) else 0))
        + (∑ x, ((w1 x : ℝ) : EReal) * (if c.val < 64 then 0 else ((b x : ℝ) : EReal)))
      = ((∑ x, w (hd c) x * b x : ℝ) : EReal) := by
  subst h0 h1
  unfold hd
  by_cases h : c.val < 64
  · simp only [h, if_true, mul_zero, Finset.sum_const_zero, add_zero, coe_sum, EReal.coe_mul]
  · simp only [h, if_false, mul_zero, Finset.sum_const_zero, zero_add, coe_sum, EReal.coe_mul]

theorem zero_word : ((((0#32 : BitVec 32).toInt : ℤ) : ℝ) : EReal) = 0 := by simp

/-! ## The unmasked pass -/

variable (B : Blk)

theorem E0 (r x : Fin 512) : k0_pay8 (F := Ideal) k0_pay83 (up2 B.k) (k0_pay88 (up2 B.ck)) (up2 B.q) (up3 B.l) (ix2 r x)
    = ((B.E full 0 r x : ℝ) : EReal) := by
  pointwise [k0_pay8, k0_pay6, k0_pay3, k0_pay88, k0_pay87]
  simp only [sel83, up2_apply, up3_apply, zero_word, lanes0, eighth, ← EReal.coe_mul, ← EReal.coe_sub, Ideal.exp_coe]
  rfl

theorem E1 (r x : Fin 512) : k0_pay19 (F := Ideal) (k0_pay3 (up3 B.l)) (k0_pay18 k0_pay84 (up2 B.k) (k0_pay89 (up2 B.ck)) (up2 B.q)) (ix2 r x)
    = ((B.E full 1 r x : ℝ) : EReal) := by
  pointwise [k0_pay19, k0_pay18, k0_pay16, k0_pay3, k0_pay89, k0_pay87]
  simp only [sel84, up2_apply, up3_apply, zero_word, lanes1, eighth, ← EReal.coe_mul, ← EReal.coe_sub, Ideal.exp_coe]
  rfl

theorem DS0 (r x : Fin 512) :
    k0_pay9 (F := Ideal) k0_pay83 (up2 B.k) (up2 B.v) (k0_pay88 (up2 B.ck)) (up2 B.q) (up2 B.o) (up3 B.l) (up3 B.d) (ix2 r x)
    = ((B.DS full 0 r x : ℝ) : EReal) := by
  pointwise [k0_pay9, k0_pay7, k0_pay4]
  rw [E0]
  simp only [sel83, up2_apply, up3_apply, zero_word, lanes0, ← EReal.coe_mul, ← EReal.coe_sub]
  rfl

theorem DS1 (r x : Fin 512) :
    k0_pay20 (F := Ideal) (up2 B.v) (k0_pay3 (up3 B.l)) (k0_pay4 (up3 B.d)) (k0_pay17 k0_pay84 (up2 B.o))
      (k0_pay18 k0_pay84 (up2 B.k) (k0_pay89 (up2 B.ck)) (up2 B.q)) (ix2 r x)
    = ((B.DS full 1 r x : ℝ) : EReal) := by
  pointwise [k0_pay20, k0_pay17, k0_pay4]
  rw [E1]
  simp only [sel84, up2_apply, up3_apply, zero_word, lanes1, ← EReal.coe_mul, ← EReal.coe_sub]
  rfl

/-! ## The masked pass -/

theorem mask_bot : (Named.named κ "mask" 0xF149F2CA#32 : Ideal .f32) = ⊥ := rfl

theorem exp_select (b : Bool) (z : ℝ) : Ideal.exp (if b then ((z : ℝ) : EReal) else ⊥) = (((if b then Real.exp z else 0) : ℝ) : EReal) := by
  cases b <;> simp

theorem E0t (r x : Fin 512) :
    k0_pay99 (F := Ideal) k0_pay83 (up2 B.k) (k0_pay88 (up2 B.ck)) k0_pay90 (up2 B.q) (up3 B.l) (ix2 r x) = ((B.E tri 0 r x : ℝ) : EReal) := by
  pointwise [k0_pay99, k0_pay97, k0_pay94, k0_pay88, k0_pay87]
  simp only [sel83, sel90, up2_apply, up3_apply, zero_word, lanes0, eighth, ← EReal.coe_mul, ← EReal.coe_sub, mask_bot, exp_select]
  rfl

theorem E1t (r x : Fin 512) :
    k0_pay111 (F := Ideal) k0_pay84 (up2 B.k) (k0_pay89 (up2 B.ck)) k0_pay90 (up2 B.q) (k0_pay94 (up3 B.l)) (ix2 r x) = ((B.E tri 1 r x : ℝ) : EReal) := by
  pointwise [k0_pay111, k0_pay109, k0_pay94, k0_pay89, k0_pay87]
  simp only [sel84, sel90, up2_apply, up3_apply, zero_word, lanes1, eighth, ← EReal.coe_mul, ← EReal.coe_sub, mask_bot, exp_select]
  rfl

theorem DS0t (r x : Fin 512) :
    k0_pay101 (F := Ideal) (k0_pay95 (up3 B.d)) (k0_pay99 k0_pay83 (up2 B.k) (k0_pay88 (up2 B.ck)) k0_pay90 (up2 B.q) (up3 B.l))
      (k0_pay100 k0_pay83 (up2 B.v) (up2 B.o)) (ix2 r x) = ((B.DS tri 0 r x : ℝ) : EReal) := by
  pointwise [k0_pay101, k0_pay100, k0_pay98, k0_pay95]
  rw [E0t]
  simp only [sel83, up2_apply, up3_apply, zero_word, lanes0, ← EReal.coe_mul, ← EReal.coe_sub]
  rfl

theorem DS1t (r x : Fin 512) :
    k0_pay112 (F := Ideal) k0_pay84 (up2 B.k) (up2 B.v) (k0_pay89 (up2 B.ck)) k0_pay90 (up2 B.q) (up2 B.o) (k0_pay94 (up3 B.l)) (k0_pay95 (up3 B.d)) (ix2 r x)
      = ((B.DS tri 1 r x : ℝ) : EReal) := by
  pointwise [k0_pay112, k0_pay110, k0_pay95]
  rw [E1t]
  simp only [sel84, up2_apply, up3_apply, zero_word, lanes1, ← EReal.coe_mul, ← EReal.coe_sub]
  rfl

end Cert.KernelIdeal.Attn

end
-- ==== Proof.Ideal.PassSum.lean ====
/- The five sums of one pass, entry by entry: what the pass's last operations add to the sum they are given. -/
module

public import proofs.«01_k».proof.Proof.Ideal.PassVal

@[expose] public section

set_option maxRecDepth 16384

noncomputable section

namespace Cert.KernelIdeal.Attn

open Idealize.ShloMosaic Idealize.ShloMosaic.TcCoe Idealize.ShloMosaic.VecWindow
open Cert.KernelIdeal.Gen

variable (B : Blk)

/-! ## The pass below the diagonal -/

theorem dv_pay (s : S512x128.Idx → EReal) (r : Fin 512) (c : Fin 128) :
    k0_pay22 (F := Ideal) (k0_pay3 (up3 B.l)) (k0_pay17 k0_pay84 (up2 B.o)) (k0_pay18 k0_pay84 (up2 B.k) (k0_pay89 (up2 B.ck)) (up2 B.q))
        (k0_pay11 (F := Ideal) k0_pay83 (up2 B.k) (k0_pay88 (up2 B.ck)) (up2 B.q) (up2 B.o) (up3 B.l) s) (ix2 r c)
      = s (ix2 r c) + ((B.dv full r c : ℝ) : EReal) := by
  pointwise [k0_pay22, k0_pay17, k0_pay11, k0_pay7]
  simp only [E0, E1, sel83, sel84, up2_apply, up3_apply, zero_word]
  rw [add_assoc, ownHead _ _ _ (fun h x => B.E full h r x) rfl rfl]
  rfl

theorem dk_pay (s : S512x128.Idx → EReal) (r : Fin 512) (c : Fin 128) :
    k0_pay23 (F := Ideal) (up2 B.v) (k0_pay3 (up3 B.l)) (k0_pay4 (up3 B.d)) (k0_pay16 k0_pay84 (up2 B.q)) (k0_pay17 k0_pay84 (up2 B.o))
        (k0_pay18 k0_pay84 (up2 B.k) (k0_pay89 (up2 B.ck)) (up2 B.q))
        (k0_pay12 (F := Ideal) (k0_pay6 k0_pay83 (up2 B.q)) (k0_pay10 k0_pay83 (up2 B.k) (up2 B.v) (k0_pay88 (up2 B.ck)) (up2 B.q) (up2 B.o) (up3 B.l) (up3 B.d)) s) (ix2 r c)
      = s (ix2 r c) + ((B.dk full r c : ℝ) : EReal) := by
  pointwise [k0_pay23, k0_pay16, k0_pay12, k0_pay6, k0_pay10, k0_pay21]
  simp only [DS0, DS1, sel83, sel84, up2_apply, up3_apply, zero_word]
  rw [add_assoc, ownHead _ _ _ (fun h x => B.DS full h r x) rfl rfl]
  rfl

theorem dq_pay (s : S512x128.Idx → EReal) (x : Fin 512) (c : Fin 128) :
    k0_pay121 (F := Ideal)
        (k0_pay24 (up2 B.v) (k0_pay86 (up2 B.k)) (k0_pay3 (up3 B.l)) (k0_pay4 (up3 B.d))
          (k0_pay13 (k0_pay85 (up2 B.k)) (k0_pay5 (F := Ideal)) (k0_pay10 k0_pay83 (up2 B.k) (up2 B.v) (k0_pay88 (up2 B.ck)) (up2 B.q) (up2 B.o) (up3 B.l) (up3 B.d)))
          (k0_pay17 k0_pay84 (up2 B.o)) (k0_pay18 k0_pay84 (up2 B.k) (k0_pay89 (up2 B.ck)) (up2 B.q))) s (ix2 x c)
      = s (ix2 x c) + ((B.dq full x c : ℝ) : EReal) := by
  pointwise [k0_pay121, k0_pay24, k0_pay13, k0_pay10, k0_pay5, k0_pay85, k0_pay86, k0_pay21]
  simp only [DS0, DS1, sel83, sel84, up2_apply, up3_apply, zero_word, eighth, zero_add]
  rw [ownHead _ _ _ (fun h r => B.DS full h r x) rfl rfl, ← EReal.coe_mul]
  rfl

theorem dck0_pay (s : S512x1.Idx → EReal) (r : Fin 512) (z : Fin 1) :
    k0_pay14 (F := Ideal) (k0_pay9 k0_pay83 (up2 B.k) (up2 B.v) (k0_pay88 (up2 B.ck)) (up2 B.q) (up2 B.o) (up3 B.l) (up3 B.d)) s (ix2 r z)
      = s (ix2 r z) - ((B.dck full 0 r : ℝ) : EReal) := by
  pointwise [k0_pay14]
  simp only [DS0, ← coe_sum]
  rfl

theorem dck1_pay (s : S512x1.Idx → EReal) (r : Fin 512) (z : Fin 1) :
    k0_pay25 (F := Ideal) (up2 B.v) (k0_pay3 (up3 B.l)) (k0_pay4 (up3 B.d)) (k0_pay17 k0_pay84 (up2 B.o)) (k0_pay18 k0_pay84 (up2 B.k) (k0_pay89 (up2 B.ck)) (up2 B.q)) s (ix2 r z)
      = s (ix2 r z) - ((B.dck full 1 r : ℝ) : EReal) := by
  pointwise [k0_pay25]
  simp only [DS1, ← coe_sum]
  rfl

theorem dcq0_pay (s : S1x1x512.Idx → EReal) (y z : Fin 1) (x : Fin 512) :
    k0_pay15 (F := Ideal) (k0_pay9 k0_pay83 (up2 B.k) (up2 B.v) (k0_pay88 (up2 B.ck)) (up2 B.q) (up2 B.o) (up3 B.l) (up3 B.d)) s (ix3 y z x)
      = s (ix3 y z x) + ((B.dcq full 0 x : ℝ) : EReal) := by
  obtain rfl : y = 0 := Subsingleton.elim _ _
  obtain rfl : z = 0 := Subsingleton.elim _ _
  pointwise [k0_pay15]
  simp only [DS0, ← coe_sum]
  rfl

theorem dcq1_pay (s : S1x1x512.Idx → EReal) (y z : Fin 1) (x : Fin 512) :
    k0_pay120 (F := Ideal) (k0_pay26 s)
        (k0_pay27 (up2 B.v) (k0_pay3 (up3 B.l)) (k0_pay4 (up3 B.d)) (k0_pay17 k0_pay84 (up2 B.o)) (k0_pay18 k0_pay84 (up2 B.k) (k0_pay89 (up2 B.ck)) (up2 B.q))) (ix3 y z x)
      = s (ix3 y z x) + ((B.dcq full 1 x : ℝ) : EReal) := by
  obtain rfl : y = 0 := Subsingleton.elim _ _
  obtain rfl : z = 0 := Subsingleton.elim _ _
  pointwise [k0_pay120, k0_pay26, k0_pay27]
  simp only [DS1, ← coe_sum]
  rfl

/-! ## The pass on the diagonal -/

theorem dv_payt (s : S512x128.Idx → EReal) (r : Fin 512) (c : Fin 128) :
    k0_pay114 (F := Ideal) k0_pay84 (up2 B.k) (k0_pay89 (up2 B.ck)) k0_pay90 (up2 B.q) (up2 B.o) (k0_pay94 (up3 B.l))
        (k0_pay103 (F := Ideal) (k0_pay98 k0_pay83 (up2 B.o)) (k0_pay99 k0_pay83 (up2 B.k) (k0_pay88 (up2 B.ck)) k0_pay90 (up2 B.q) (up3 B.l)) s) (ix2 r c)
      = s (ix2 r c) + ((B.dv tri r c : ℝ) : EReal) := by
  pointwise [k0_pay114, k0_pay110, k0_pay103, k0_pay98]
  simp only [E0t, E1t, sel83, sel84, up2_apply, up3_apply, zero_word]
  rw [add_assoc, ownHead _ _ _ (fun h x => B.E tri h r x) rfl rfl]
  rfl

theorem dk_payt (s : S512x128.Idx → EReal) (r : Fin 512) (c : Fin 128) :
    k0_pay115 (F := Ideal) k0_pay84 (up2 B.k) (up2 B.v) (k0_pay89 (up2 B.ck)) k0_pay90 (up2 B.q) (up2 B.o) (k0_pay94 (up3 B.l)) (k0_pay95 (up3 B.d))
        (k0_pay104 (F := Ideal) (k0_pay95 (up3 B.d)) (k0_pay97 k0_pay83 (up2 B.q)) (k0_pay99 k0_pay83 (up2 B.k) (k0_pay88 (up2 B.ck)) k0_pay90 (up2 B.q) (up3 B.l))
          (k0_pay100 k0_pay83 (up2 B.v) (up2 B.o)) s) (ix2 r c)
      = s (ix2 r c) + ((B.dk tri r c : ℝ) : EReal) := by
  pointwise [k0_pay115, k0_pay113, k0_pay109, k0_pay104, k0_pay97, k0_pay102]
  simp only [DS0t, DS1t, sel83, sel84, up2_apply, up3_apply, zero_word]
  rw [add_assoc, ownHead _ _ _ (fun h x => B.DS tri h r x) rfl rfl]
  rfl

theorem dq_payt (s : S512x128.Idx → EReal) (x : Fin 512) (c : Fin 128) :
    k0_pay119 (F := Ideal)
        (k0_pay116 k0_pay84 (up2 B.k) (up2 B.v) (k0_pay86 (up2 B.k)) (k0_pay89 (up2 B.ck)) k0_pay90 (up2 B.q) (up2 B.o) (k0_pay94 (up3 B.l)) (k0_pay95 (up3 B.d))
          (k0_pay105 (k0_pay85 (up2 B.k)) (k0_pay95 (up3 B.d)) (k0_pay96 (F := Ideal)) (k0_pay99 k0_pay83 (up2 B.k) (k0_pay88 (up2 B.ck)) k0_pay90 (up2 B.q) (up3 B.l))
            (k0_pay100 k0_pay83 (up2 B.v) (up2 B.o)))) s (ix2 x c)
      = s (ix2 x c) + ((B.dq tri x c : ℝ) : EReal) := by
  pointwise [k0_pay119, k0_pay116, k0_pay105, k0_pay96, k0_pay85, k0_pay86, k0_pay113, k0_pay102]
  simp only [DS0t, DS1t, sel83, sel84, up2_apply, up3_apply, zero_word, eighth, zero_add]
  rw [ownHead _ _ _ (fun h r => B.DS tri h r x) rfl rfl, ← EReal.coe_mul]
  rfl

theorem dck0_payt (s : S512x1.Idx → EReal) (r : Fin 512) (z : Fin 1) :
    k0_pay106 (F := Ideal) (k0_pay95 (up3 B.d)) (k0_pay99 k0_pay83 (up2 B.k) (k0_pay88 (up2 B.ck)) k0_pay90 (up2 B.q) (up3 B.l)) (k0_pay100 k0_pay83 (up2 B.v) (up2 B.o)) s (ix2 r z)
      = s (ix2 r z) - ((B.dck tri 0 r : ℝ) : EReal) := by
  pointwise [k0_pay106]
  simp only [DS0t, ← coe_sum]
  rfl

theorem dck1_payt (s : S512x1.Idx → EReal) (r : Fin 512) (z : Fin 1) :
    k0_pay117 (F := Ideal) (k0_pay112 k0_pay84 (up2 B.k) (up2 B.v) (k0_pay89 (up2 B.ck)) k0_pay90 (up2 B.q) (up2 B.o) (k0_pay94 (up3 B.l)) (k0_pay95 (up3 B.d))) s (ix2 r z)
      = s (ix2 r z) - ((B.dck tri 1 r : ℝ) : EReal) := by
  pointwise [k0_pay117]
  simp only [DS1t, ← coe_sum]
  rfl

theorem dcq0_payt (s : S1x1x512.Idx → EReal) (y z : Fin 1) (x : Fin 512) :
    k0_pay108 (F := Ideal) (k0_pay107 (k0_pay95 (up3 B.d)) (k0_pay99 k0_pay83 (up2 B.k) (k0_pay88 (up2 B.ck)) k0_pay90 (up2 B.q) (up3 B.l)) (k0_pay100 k0_pay83 (up2 B.v) (up2 B.o)) s) (ix3 y z x)
      = s (ix3 y z x) + ((B.dcq tri 0 x : ℝ) : EReal) := by
  obtain rfl : y = 0 := Subsingleton.elim _ _
  obtain rfl : z = 0 := Subsingleton.elim _ _
  pointwise [k0_pay108, k0_pay107]
  simp only [DS0t, ← coe_sum]
  rfl

theorem dcq1_payt (s : S1x1x512.Idx → EReal) (y z : Fin 1) (x : Fin 512) :
    k0_pay118 (F := Ideal) (k0_pay112 k0_pay84 (up2 B.k) (up2 B.v) (k0_pay89 (up2 B.ck)) k0_pay90 (up2 B.q) (up2 B.o) (k0_pay94 (up3 B.l)) (k0_pay95 (up3 B.d))) s (ix3 y z x)
      = s (ix3 y z x) + ((B.dcq tri 1 x : ℝ) : EReal) := by
  obtain rfl : y = 0 := Subsingleton.elim _ _
  obtain rfl : z = 0 := Subsingleton.elim _ _
  pointwise [k0_pay118]
  simp only [DS1t, ← coe_sum]
  rfl

end Cert.KernelIdeal.Attn

end
-- ==== Proof.Ideal.PassAcc.lean ====
/- The five sums held as real numbers, and what one pass makes of them: it adds the terms of its pair of blocks. -/
module

public import proofs.«01_k».proof.Proof.Ideal.PassSum

@[expose] public section

set_option maxRecDepth 16384

noncomputable section

namespace Cert.KernelIdeal.Attn

open Idealize.ShloMosaic Idealize.ShloMosaic.TcCoe Idealize.ShloMosaic.VecWindow
open Cert.KernelIdeal.Gen

/-! ## Positions and blocks of positions -/

/-- Row `r` of block `i` of the sequence. -/
def pos (i : ℕ) (r : Fin 512) : Fin 8192 := ⟨(512 * i + r.val) % 8192, Nat.mod_lt _ (by decide)⟩
/-- The block of a position. -/
def bl (y : Fin 8192) : ℕ := y.val / 512
/-- The row of a position in its block. -/
def rw512 (y : Fin 8192) : Fin 512 := ⟨y.val % 512, Nat.mod_lt _ (by decide)⟩

theorem pos_val (i : ℕ) (hi : i < 16) (r : Fin 512) : (pos i r).val = 512 * i + r.val := by
  have := r.isLt
  show (512 * i + r.val) % 8192 = _
  omega

theorem bl_pos (i : ℕ) (hi : i < 16) (r : Fin 512) : bl (pos i r) = i := by
  have := r.isLt
  unfold bl; rw [pos_val i hi]; omega

theorem rw512_pos (i : ℕ) (hi : i < 16) (r : Fin 512) : rw512 (pos i r) = r := by
  have := r.isLt
  apply Fin.ext; show (pos i r).val % 512 = _; rw [pos_val i hi]; omega

theorem pos_bl (y : Fin 8192) : pos (bl y) (rw512 y) = y := by
  have := y.isLt
  apply Fin.ext; show (512 * (y.val / 512) + y.val % 512) % 8192 = _; omega

theorem bl_lt (y : Fin 8192) : bl y < 16 := by
  have := y.isLt
  unfold bl; omega

/-! ## Windows and stores at a block -/

section
variable {α : Type}

theorem window_rows (x : S8192x128.Idx → α) (i : ℕ) (hi : i < 16) (o : Fin 2 → ℕ) (ho : o = ![512 * i, 0]) (h : ∀ a, o a + S512x128.size a ≤ S8192x128.size a)
    (r : Fin 512) (c : Fin 128) : window x o S512x128.size h (ix2 r c) = x (ix2 (pos i r) c) := by
  subst ho
  refine congrArg x (funext fun a => ?_)
  match a with
  | ⟨0, _⟩ => exact Fin.ext (by show 512 * i + 1 * r.val = (pos i r).val; rw [pos_val i hi]; omega)
  | ⟨1, _⟩ => exact Fin.ext (by show 0 + 1 * c.val = c.val; omega)

theorem put_rows (x : S8192x128.Idx → α) (i : ℕ) (hi : i < 16) (o : Fin 2 → ℕ) (ho : o = ![512 * i, 0]) (w : S512x128.Idx → α)
    (y : Fin 8192) (c : Fin 128) : put x o S512x128.size w (ix2 y c) = if bl y = i then w (ix2 (rw512 y) c) else x (ix2 y c) := by
  subst ho
  have hy := y.isLt; have hc := c.isLt
  by_cases e : bl y = i
  · have h : ∀ a : Fin 2, (![512 * i, 0] : Fin 2 → ℕ) a ≤ (ix2 y c a).val ∧ (ix2 y c a).val < (![512 * i, 0] : Fin 2 → ℕ) a + S512x128.size a := fun
      | ⟨0, _⟩ => ⟨by show 512 * i ≤ y.val; unfold bl at e; omega, by show y.val < 512 * i + 512; unfold bl at e; omega⟩
      | ⟨1, _⟩ => ⟨Nat.zero_le _, by show c.val < 0 + 128; omega⟩
    rw [if_pos e]; unfold put; rw [dif_pos h]
    refine congrArg w (funext fun a => ?_)
    match a with
    | ⟨0, _⟩ => exact Fin.ext (by show y.val - 512 * i = y.val % 512; unfold bl at e; omega)
    | ⟨1, _⟩ => exact Fin.ext (by show c.val - 0 = c.val; omega)
  · rw [if_neg e]; unfold put; rw [dif_neg]
    intro h
    have h0 := h 0
    have h1 : 512 * i ≤ y.val := h0.1
    have h2 : y.val < 512 * i + 512 := h0.2
    unfold bl at e; omega

theorem window_lanes (x : S1x2x8192.Idx → α) (i : ℕ) (hi : i < 16) (o : Fin 3 → ℕ) (ho : o = ![0, 0, 512 * i]) (h : ∀ a, o a + S1x2x512.size a ≤ S1x2x8192.size a)
    (z : Fin 1) (k : Fin 2) (r : Fin 512) : window x o S1x2x512.size h (ix3 z k r) = x (ix3 z k (pos i r)) := by
  subst ho
  refine congrArg x (funext fun a => ?_)
  match a with
  | ⟨0, _⟩ => exact Fin.ext (by show 0 + 1 * z.val = z.val; omega)
  | ⟨1, _⟩ => exact Fin.ext (by show 0 + 1 * k.val = k.val; omega)
  | ⟨2, _⟩ => exact Fin.ext (by show 512 * i + 1 * r.val = (pos i r).val; rw [pos_val i hi]; omega)

theorem window_lane (x : S1x2x8192.Idx → α) (k : Fin 2) (i : ℕ) (hi : i < 16) (o : Fin 3 → ℕ) (ho : o = ![0, k.val, 512 * i]) (h : ∀ a, o a + S1x1x512.size a ≤ S1x2x8192.size a)
    (z z' : Fin 1) (r : Fin 512) : window x o S1x1x512.size h (ix3 z z' r) = x (ix3 z k (pos i r)) := by
  subst ho
  refine congrArg x (funext fun a => ?_)
  match a with
  | ⟨0, _⟩ => exact Fin.ext (by show 0 + 1 * z.val = z.val; omega)
  | ⟨1, _⟩ => exact Fin.ext (by show k.val + 1 * z'.val = k.val; omega)
  | ⟨2, _⟩ => exact Fin.ext (by show 512 * i + 1 * r.val = (pos i r).val; rw [pos_val i hi]; omega)

theorem put_lane (x : S1x2x8192.Idx → α) (k : Fin 2) (i : ℕ) (o : Fin 3 → ℕ) (ho : o = ![0, k.val, 512 * i]) (w : S1x1x512.Idx → α)
    (z : Fin 1) (h : Fin 2) (y : Fin 8192) :
    put x o S1x1x512.size w (ix3 z h y) = if h = k ∧ bl y = i then w (ix3 0 0 (rw512 y)) else x (ix3 z h y) := by
  subst ho
  have hy := y.isLt; have hz := z.isLt
  by_cases e : h = k ∧ bl y = i
  · obtain ⟨rfl, e⟩ := e
    have hh : ∀ a : Fin 3, (![0, h.val, 512 * i] : Fin 3 → ℕ) a ≤ (ix3 z h y a).val ∧ (ix3 z h y a).val < (![0, h.val, 512 * i] : Fin 3 → ℕ) a + S1x1x512.size a := fun
      | ⟨0, _⟩ => ⟨Nat.zero_le _, by show z.val < 0 + 1; omega⟩
      | ⟨1, _⟩ => ⟨le_refl h.val, by show h.val < h.val + 1; omega⟩
      | ⟨2, _⟩ => ⟨by show 512 * i ≤ y.val; unfold bl at e; omega, by show y.val < 512 * i + 512; unfold bl at e; omega⟩
    rw [if_pos ⟨rfl, e⟩]; unfold put; rw [dif_pos hh]
    refine congrArg w (funext fun a => ?_)
    match a with
    | ⟨0, _⟩ => exact Fin.ext (by show z.val - 0 = 0; omega)
    | ⟨1, _⟩ => exact Fin.ext (by show h.val - h.val = 0; omega)
    | ⟨2, _⟩ => exact Fin.ext (by show y.val - 512 * i = y.val % 512; unfold bl at e; omega)
  · rw [if_neg e]; unfold put; rw [dif_neg]
    intro hh
    have h1 : k.val ≤ h.val := (hh 1).1
    have h2 : h.val < k.val + 1 := (hh 1).2
    have h3 : 512 * i ≤ y.val := (hh 2).1
    have h4 : y.val < 512 * i + 512 := (hh 2).2
    exact e ⟨Fin.ext (by omega), by unfold bl; omega⟩

theorem window_col (x : S512x128.Idx → α) (k : Fin 128) (o : Fin 2 → ℕ) (ho : o = ![0, k.val]) (h : ∀ a, o a + S512x1.size a ≤ S512x128.size a)
    (r : Fin 512) (z : Fin 1) : window x o S512x1.size h (ix2 r z) = x (ix2 r k) := by
  subst ho
  refine congrArg x (funext fun a => ?_)
  match a with
  | ⟨0, _⟩ => exact Fin.ext (by show 0 + 1 * r.val = r.val; omega)
  | ⟨1, _⟩ => exact Fin.ext (by show k.val + 1 * z.val = k.val; omega)

theorem put_col (x : S512x128.Idx → α) (k : Fin 128) (o : Fin 2 → ℕ) (ho : o = ![0, k.val]) (w : S512x1.Idx → α)
    (r : Fin 512) (c : Fin 128) : put x o S512x1.size w (ix2 r c) = if c = k then w (ix2 r 0) else x (ix2 r c) := by
  subst ho
  have hr := r.isLt
  by_cases e : c = k
  · subst e
    have h : ∀ a : Fin 2, (![0, c.val] : Fin 2 → ℕ) a ≤ (ix2 r c a).val ∧ (ix2 r c a).val < (![0, c.val] : Fin 2 → ℕ) a + S512x1.size a := fun
      | ⟨0, _⟩ => ⟨Nat.zero_le _, by show r.val < 0 + 512; omega⟩
      | ⟨1, _⟩ => ⟨le_refl c.val, by show c.val < c.val + 1; omega⟩
    rw [if_pos rfl]; unfold put; rw [dif_pos h]
    refine congrArg w (funext fun a => ?_)
    match a with
    | ⟨0, _⟩ => exact Fin.ext (by show r.val - 0 = r.val; omega)
    | ⟨1, _⟩ => exact Fin.ext (by show c.val - c.val = 0; omega)
  · rw [if_neg e]; unfold put; rw [dif_neg]
    intro h
    have h1 : k.val ≤ c.val := (h 1).1
    have h2 : c.val < k.val + 1 := (h 1).2
    exact e (Fin.ext (by omega))

end

/-! ## The sums as reals -/

/-- The five sums as real numbers. -/
structure Sums where
  dcq : Fin 2 → Fin 8192 → ℝ
  dq : Fin 8192 → Fin 128 → ℝ
  dk : Fin 512 → Fin 128 → ℝ
  dv : Fin 512 → Fin 128 → ℝ
  dck : Fin 2 → Fin 512 → ℝ

/-- The sums with the terms of one pair of blocks added: the keys' block against the queries' block `i`. -/
def Sums.add (R : Sums) (m : Fin 512 → Fin 512 → Bool) (B : Blk) (i : ℕ) : Sums where
  dcq h y := R.dcq h y + if bl y = i then B.dcq m h (rw512 y) else 0
  dq y c := R.dq y c + if bl y = i then B.dq m (rw512 y) c else 0
  dk r c := R.dk r c + B.dk m r c
  dv r c := R.dv r c + B.dv m r c
  dck h r := R.dck h r + B.dck m h r

/-- The lane of `dck` that carries a head's sum. -/
def dl (h : Fin 2) : Fin 128 := ⟨h.val, by have := h.isLt; omega⟩

/-- The program's sums hold these reals; of the array for the keys' bias, lanes 0 and 1 hold the two heads' sums, negated. -/
structure Holds (s : Acc Ideal) (R : Sums) : Prop where
  dcq : s.dcq = up3 R.dcq
  dq : s.dq = up2 R.dq
  dk : s.dk = up2 R.dk
  dv : s.dv = up2 R.dv
  dck : ∀ h r, s.dck (ix2 r (dl h)) = ((-R.dck h r : ℝ) : EReal)

theorem ext2 {a b : ℕ} (x : (⟨2, ![a, b]⟩ : Shape).Idx → EReal) (f : Fin a → Fin b → ℝ) (h : ∀ i j, x (ix2 i j) = ((f i j : ℝ) : EReal)) : x = up2 f := by
  funext j; rw [eq_ix2 j]; exact h _ _

theorem ext3 {a b : ℕ} (x : (⟨3, ![1, a, b]⟩ : Shape).Idx → EReal) (f : Fin a → Fin b → ℝ) (h : ∀ i j, x (ix3 0 i j) = ((f i j : ℝ) : EReal)) : x = up3 f := by
  funext j; rw [eq_ix3 j]
  have e : ∀ z : Fin 1, ∀ i k, x (ix3 z i k) = ((f i k : ℝ) : EReal) := fun z i k => by
    obtain rfl : z = 0 := Subsingleton.elim _ _
    exact h _ _
  exact e _ _ _

variable (B : Blk)

theorem holds_pass (s : Acc Ideal) (R : Sums) (H : Holds s R) (i : ℕ) (hi : i < 16)
    (o7 : Fin 2 → ℕ) (e7 : o7 = ![512 * i, 0]) (h7 : ∀ a, o7 a + S512x128.size a ≤ S8192x128.size a)
    (o9 : Fin 3 → ℕ) (e9 : o9 = ![0, 0, 512 * i]) (h9 : ∀ a, o9 a + S1x1x512.size a ≤ S1x2x8192.size a)
    (o10 : Fin 3 → ℕ) (e10 : o10 = ![0, 1, 512 * i]) (h10 : ∀ a, o10 a + S1x1x512.size a ≤ S1x2x8192.size a) :
    Holds (pass (F := Ideal) k0_pay83 k0_pay84 (up2 B.k) (up2 B.v) (k0_pay85 (up2 B.k)) (k0_pay86 (up2 B.k)) (k0_pay88 (up2 B.ck)) (k0_pay89 (up2 B.ck))
      (up2 B.q) (up2 B.o) (up3 B.l) (up3 B.d) o7 h7 o9 h9 o10 h10 s) (R.add full B i) where
  dcq := ext3 _ _ fun h y => by
    unfold pass Sums.add
    simp only
    rw [put_lane _ 1 i o10 e10, put_lane _ 0 i o9 e9]
    by_cases e : bl y = i
    · match h with
      | 0 =>
        rw [if_neg (by rintro ⟨h, _⟩; exact absurd h (by decide)), if_pos ⟨rfl, e⟩, dcq0_pay, window_lane _ 0 i hi o9 e9, H.dcq, if_pos e, ← e, pos_bl]
        rfl
      | 1 =>
        rw [if_pos ⟨rfl, e⟩, dcq1_pay, window_lane _ 1 i hi o10 e10, put_lane _ 0 i o9 e9, if_neg (by rintro ⟨h, _⟩; exact absurd h (by decide)), H.dcq, if_pos e, ← e, pos_bl]
        rfl
    · rw [if_neg (fun h => e h.2), if_neg (fun h => e h.2), if_neg e, H.dcq, add_zero]; rfl
  dq := ext2 _ _ fun y c => by
    unfold pass Sums.add
    simp only
    rw [put_rows _ i hi o7 e7]
    by_cases e : bl y = i
    · rw [if_pos e, dq_pay, window_rows _ i hi o7 e7, if_pos e, H.dq, ← e, pos_bl]; rfl
    · rw [if_neg e, if_neg e, H.dq, add_zero]; rfl
  dk := ext2 _ _ fun r c => by
    unfold pass Sums.add
    simp only
    rw [dk_pay, H.dk]; rfl
  dv := ext2 _ _ fun r c => by
    unfold pass Sums.add
    simp only
    rw [dv_pay, H.dv]; rfl
  dck h r := by
    unfold pass Sums.add
    simp only
    rw [put_col _ (dl 1) ![0, 1] rfl, put_col _ (dl 0) ![0, 0] rfl]
    match h with
    | 0 =>
      rw [if_neg (by decide), if_pos rfl, dck0_pay, window_col _ (dl 0) ![0, 0] rfl, H.dck, ← EReal.coe_sub]
      exact congrArg _ (by ring)
    | 1 =>
      rw [if_pos rfl, dck1_pay, window_col _ (dl 1) ![0, 1] rfl, H.dck, ← EReal.coe_sub]
      exact congrArg _ (by ring)

theorem holds_diag (s : Acc Ideal) (R : Sums) (H : Holds s R) (i : ℕ) (hi : i < 16)
    (o7 : Fin 2 → ℕ) (e7 : o7 = ![512 * i, 0]) (h7 : ∀ a, o7 a + S512x128.size a ≤ S8192x128.size a)
    (o9 : Fin 3 → ℕ) (e9 : o9 = ![0, 0, 512 * i]) (h9 : ∀ a, o9 a + S1x1x512.size a ≤ S1x2x8192.size a)
    (o10 : Fin 3 → ℕ) (e10 : o10 = ![0, 1, 512 * i]) (h10 : ∀ a, o10 a + S1x1x512.size a ≤ S1x2x8192.size a) :
    Holds (diagPass (F := Ideal) k0_pay83 k0_pay84 (up2 B.k) (up2 B.v) (k0_pay85 (up2 B.k)) (k0_pay86 (up2 B.k)) (k0_pay88 (up2 B.ck)) (k0_pay89 (up2 B.ck)) k0_pay90
      (up2 B.q) (up2 B.o) (up3 B.l) (up3 B.d) o7 h7 o9 h9 o10 h10 s) (R.add tri B i) where
  dcq := ext3 _ _ fun h y => by
    unfold diagPass Sums.add
    simp only
    rw [put_lane _ 1 i o10 e10, put_lane _ 0 i o9 e9]
    by_cases e : bl y = i
    · match h with
      | 0 =>
        rw [if_neg (by rintro ⟨h, _⟩; exact absurd h (by decide)), if_pos ⟨rfl, e⟩, dcq0_payt, window_lane _ 0 i hi o9 e9, H.dcq, if_pos e, ← e, pos_bl]
        rfl
      | 1 =>
        rw [if_pos ⟨rfl, e⟩, dcq1_payt, window_lane _ 1 i hi o10 e10, H.dcq, if_pos e, ← e, pos_bl]
        rfl
    · rw [if_neg (fun h => e h.2), if_neg (fun h => e h.2), if_neg e, H.dcq, add_zero]; rfl
  dq := ext2 _ _ fun y c => by
    unfold diagPass Sums.add
    simp only
    rw [put_rows _ i hi o7 e7]
    by_cases e : bl y = i
    · rw [if_pos e, dq_payt, window_rows _ i hi o7 e7, if_pos e, H.dq, ← e, pos_bl]; rfl
    · rw [if_neg e, if_neg e, H.dq, add_zero]; rfl
  dk := ext2 _ _ fun r c => by
    unfold diagPass Sums.add
    simp only
    rw [dk_payt, H.dk]; rfl
  dv := ext2 _ _ fun r c => by
    unfold diagPass Sums.add
    simp only
    rw [dv_payt, H.dv]; rfl
  dck h r := by
    unfold diagPass Sums.add
    simp only
    rw [put_col _ (dl 1) ![0, 1] rfl, put_col _ (dl 0) ![0, 0] rfl]
    match h with
    | 0 =>
      rw [if_neg (by decide), if_pos rfl, dck0_payt, window_col _ (dl 0) ![0, 0] rfl, H.dck, ← EReal.coe_sub]
      exact congrArg _ (by ring)
    | 1 =>
      rw [if_pos rfl, dck1_payt, window_col _ (dl 1) ![0, 1] rfl, put_col _ (dl 0) ![0, 0] rfl, if_neg (by decide), H.dck, ← EReal.coe_sub]
      exact congrArg _ (by ring)

end Cert.KernelIdeal.Attn

end
-- ==== Proof.Ideal.SeqSum.lean ====
/- The sums of a whole sequence: the reals one pair of heads holds, the terms of its blocks, and the sums over the blocks
   of queries of one block of keys. -/
module

public import proofs.«01_k».proof.Proof.Ideal.PassAcc

@[expose] public section

set_option maxRecDepth 16384

noncomputable section

namespace Cert.KernelIdeal.Attn

open Idealize.ShloMosaic Idealize.ShloMosaic.TcCoe Idealize.ShloMosaic.VecWindow
open Cert.KernelIdeal.Gen

/-- What one pair of heads reads: keys, values, queries, output gradients, the keys' bias, and the two rows of the queries. -/
structure Seq where
  k : Fin 8192 → Fin 128 → ℝ
  v : Fin 8192 → Fin 128 → ℝ
  q : Fin 8192 → Fin 128 → ℝ
  o : Fin 8192 → Fin 128 → ℝ
  ck : Fin 8192 → Fin 128 → ℝ
  l : Fin 2 → Fin 8192 → ℝ
  d : Fin 2 → Fin 8192 → ℝ

namespace Seq

variable (G : Seq)

/-- The weight of key `k` for query `y`. -/
def E (h : Fin 2) (k y : Fin 8192) : ℝ :=
  if k.val ≤ y.val then Real.exp (hdot h (G.k k) (G.q y) * (1 / 8) - G.ck k (hl h) - G.l h y) else 0

/-- The gradient of the logit of key `k` and query `y`. -/
def DS (h : Fin 2) (k y : Fin 8192) : ℝ := G.E h k y * (hdot h (G.v k) (G.o y) - G.d h y)

/-- The block of keys `j` against the block of queries `i`. -/
def blk (j i : ℕ) : Blk where
  k r := G.k (pos j r)
  v r := G.v (pos j r)
  q x := G.q (pos i x)
  o x := G.o (pos i x)
  ck r := G.ck (pos j r)
  l h x := G.l h (pos i x)
  d h x := G.d h (pos i x)

theorem E_tri (j : ℕ) (hj : j < 16) (h : Fin 2) (r x : Fin 512) : (G.blk j j).E tri h r x = G.E h (pos j r) (pos j x) := by
  unfold Blk.E E tri
  rw [pos_val j hj, pos_val j hj]
  by_cases e : r.val ≤ x.val
  · rw [if_pos (by simpa using e), if_pos (by omega)]; rfl
  · rw [if_neg (by simpa using e), if_neg (by omega)]

theorem E_full (j i : ℕ) (hji : j < i) (hi : i < 16) (h : Fin 2) (r x : Fin 512) : (G.blk j i).E full h r x = G.E h (pos j r) (pos i x) := by
  have := r.isLt
  unfold Blk.E E full
  rw [pos_val j (by omega), pos_val i hi, if_pos rfl, if_pos (by omega)]; rfl

theorem E_zero (j i : ℕ) (hij : i < j) (hj : j < 16) (h : Fin 2) (r x : Fin 512) : G.E h (pos j r) (pos i x) = 0 := by
  have := x.isLt
  unfold E
  rw [pos_val j hj, pos_val i (by omega), if_neg (by omega)]

theorem DS_tri (j : ℕ) (hj : j < 16) (h : Fin 2) (r x : Fin 512) : (G.blk j j).DS tri h r x = G.DS h (pos j r) (pos j x) := by
  unfold Blk.DS DS; rw [E_tri G j hj]; rfl
theorem DS_full (j i : ℕ) (hji : j < i) (hi : i < 16) (h : Fin 2) (r x : Fin 512) : (G.blk j i).DS full h r x = G.DS h (pos j r) (pos i x) := by
  unfold Blk.DS DS; rw [E_full G j i hji hi]; rfl
theorem DS_zero (j i : ℕ) (hij : i < j) (hj : j < 16) (h : Fin 2) (r x : Fin 512) : G.DS h (pos j r) (pos i x) = 0 := by
  unfold DS; rw [E_zero G j i hij hj, zero_mul]

end Seq

/-- A sum over the sequence, block by block. -/
theorem sum_blocks (f : Fin 8192 → ℝ) : ∑ i ∈ Finset.range 16, ∑ x : Fin 512, f (pos i x) = ∑ y, f y := by
  rw [Finset.sum_range (n := 16), ← Fintype.sum_prod_type' (f := fun (i : Fin 16) (x : Fin 512) => f (pos i x))]
  refine Fintype.sum_equiv ((finProdFinEquiv (m := 16) (n := 512)).trans (finCongr (by norm_num))) _ _ fun p => congrArg f (Fin.ext ?_)
  rw [pos_val p.1 p.1.isLt]
  show _ = p.2.val + 512 * p.1.val
  omega

/-- A sum over blocks of what vanishes before block `j`. -/
theorem sum_from (j : ℕ) (hj : j < 16) (f : ℕ → ℝ) (h0 : ∀ i < j, f i = 0) : ∑ a ∈ Finset.range (15 - j + 1), f (j + a) = ∑ i ∈ Finset.range 16, f i := by
  rw [show 15 - j + 1 = 16 - j by omega, ← Finset.sum_Ico_eq_sum_range, ← Finset.sum_range_add_sum_Ico f (by omega : j ≤ 16),
    Finset.sum_eq_zero (fun i hi => h0 i (Finset.mem_range.mp hi)), zero_add]

namespace Seq

variable (G : Seq)

/-- The sums after the diagonal pass and `n` further passes of the block of keys `j`, from `R`. -/
def passes (R : Sums) (j : ℕ) : ℕ → Sums
  | 0 => R.add tri (G.blk j j) j
  | n + 1 => (passes R j n).add full (G.blk j (j + 1 + n)) (j + 1 + n)

/-- The sums after the block of keys `j`: the queries' sums with this block's terms, the keys' sums over all queries. -/
def after (R : Sums) (j : ℕ) : Sums where
  dcq h y := R.dcq h y + ∑ r, G.DS h (pos j r) y
  dq y c := R.dq y c + (∑ r, G.DS (hd c) (pos j r) y * G.k (pos j r) c) * (1 / 8)
  dk r c := R.dk r c + ∑ y, G.DS (hd c) (pos j r) y * G.q y c
  dv r c := R.dv r c + ∑ y, G.E (hd c) (pos j r) y * G.o y c
  dck h r := R.dck h r + ∑ y, G.DS h (pos j r) y

theorem passes_dv (R : Sums) (j n : ℕ) (hn : j + n < 16) (r : Fin 512) (c : Fin 128) :
    (G.passes R j n).dv r c = R.dv r c + ∑ a ∈ Finset.range (n + 1), ∑ x, G.E (hd c) (pos j r) (pos (j + a) x) * G.o (pos (j + a) x) c := by
  induction n with
  | zero =>
    rw [Finset.sum_range_one]
    show R.dv r c + ∑ x, (G.blk j j).E tri (hd c) r x * G.o (pos j x) c = _
    simp only [E_tri G j (by omega)]; rfl
  | succ n ih =>
    rw [Finset.sum_range_succ, ← add_assoc, ← ih (by omega)]
    show (G.passes R j n).dv r c + ∑ x, (G.blk j (j + 1 + n)).E full (hd c) r x * G.o (pos (j + 1 + n) x) c = _
    rw [show j + 1 + n = j + (n + 1) by omega]
    simp only [E_full G j (j + (n + 1)) (by omega) (by omega)]

theorem passes_dk (R : Sums) (j n : ℕ) (hn : j + n < 16) (r : Fin 512) (c : Fin 128) :
    (G.passes R j n).dk r c = R.dk r c + ∑ a ∈ Finset.range (n + 1), ∑ x, G.DS (hd c) (pos j r) (pos (j + a) x) * G.q (pos (j + a) x) c := by
  induction n with
  | zero =>
    rw [Finset.sum_range_one]
    show R.dk r c + ∑ x, (G.blk j j).DS tri (hd c) r x * G.q (pos j x) c = _
    simp only [DS_tri G j (by omega)]; rfl
  | succ n ih =>
    rw [Finset.sum_range_succ, ← add_assoc, ← ih (by omega)]
    show (G.passes R j n).dk r c + ∑ x, (G.blk j (j + 1 + n)).DS full (hd c) r x * G.q (pos (j + 1 + n) x) c = _
    rw [show j + 1 + n = j + (n + 1) by omega]
    simp only [DS_full G j (j + (n + 1)) (by omega) (by omega)]

theorem passes_dck (R : Sums) (j n : ℕ) (hn : j + n < 16) (h : Fin 2) (r : Fin 512) :
    (G.passes R j n).dck h r = R.dck h r + ∑ a ∈ Finset.range (n + 1), ∑ x, G.DS h (pos j r) (pos (j + a) x) := by
  induction n with
  | zero =>
    rw [Finset.sum_range_one]
    show R.dck h r + ∑ x, (G.blk j j).DS tri h r x = _
    simp only [DS_tri G j (by omega)]; rfl
  | succ n ih =>
    rw [Finset.sum_range_succ, ← add_assoc, ← ih (by omega)]
    show (G.passes R j n).dck h r + ∑ x, (G.blk j (j + 1 + n)).DS full h r x = _
    rw [show j + 1 + n = j + (n + 1) by omega]
    simp only [DS_full G j (j + (n + 1)) (by omega) (by omega)]

theorem passes_dcq (R : Sums) (j n : ℕ) (hn : j + n < 16) (h : Fin 2) (y : Fin 8192) :
    (G.passes R j n).dcq h y = R.dcq h y + if j ≤ bl y ∧ bl y ≤ j + n then ∑ r, G.DS h (pos j r) y else 0 := by
  induction n with
  | zero =>
    show R.dcq h y + (if bl y = j then ∑ r, (G.blk j j).DS tri h r (rw512 y) else 0) = _
    by_cases e : bl y = j
    · rw [if_pos e, if_pos (by omega)]
      simp only [DS_tri G j (by omega)]
      rw [← e, pos_bl]
    · rw [if_neg e, if_neg (by omega)]
  | succ n ih =>
    show (G.passes R j n).dcq h y + (if bl y = j + 1 + n then ∑ r, (G.blk j (j + 1 + n)).DS full h r (rw512 y) else 0) = _
    rw [ih (by omega)]
    by_cases e : bl y = j + 1 + n
    · rw [if_pos e, if_neg (by omega), if_pos (by omega), add_zero]
      simp only [DS_full G j (j + 1 + n) (by omega) (by omega)]
      rw [← e, pos_bl]
    · rw [if_neg e, add_zero]
      by_cases e' : j ≤ bl y ∧ bl y ≤ j + n
      · rw [if_pos e', if_pos (by omega)]
      · rw [if_neg e', if_neg (by omega)]

theorem passes_dq (R : Sums) (j n : ℕ) (hn : j + n < 16) (y : Fin 8192) (c : Fin 128) :
    (G.passes R j n).dq y c = R.dq y c + if j ≤ bl y ∧ bl y ≤ j + n then (∑ r, G.DS (hd c) (pos j r) y * G.k (pos j r) c) * (1 / 8) else 0 := by
  induction n with
  | zero =>
    show R.dq y c + (if bl y = j then (∑ r, (G.blk j j).DS tri (hd c) r (rw512 y) * G.k (pos j r) c) * (1 / 8) else 0) = _
    by_cases e : bl y = j
    · rw [if_pos e, if_pos (by omega)]
      simp only [DS_tri G j (by omega)]
      rw [← e, pos_bl]
    · rw [if_neg e, if_neg (by omega)]
  | succ n ih =>
    show (G.passes R j n).dq y c + (if bl y = j + 1 + n then (∑ r, (G.blk j (j + 1 + n)).DS full (hd c) r (rw512 y) * G.k (pos j r) c) * (1 / 8) else 0) = _
    rw [ih (by omega)]
    by_cases e : bl y = j + 1 + n
    · rw [if_pos e, if_neg (by omega), if_pos (by omega), add_zero]
      simp only [DS_full G j (j + 1 + n) (by omega) (by omega)]
      rw [← e, pos_bl]
    · rw [if_neg e, add_zero]
      by_cases e' : j ≤ bl y ∧ bl y ≤ j + n
      · rw [if_pos e', if_pos (by omega)]
      · rw [if_neg e', if_neg (by omega)]

theorem DS_past (j : ℕ) (hj : j < 16) (h : Fin 2) (r : Fin 512) (y : Fin 8192) (hy : bl y < j) : G.DS h (pos j r) y = 0 := by
  rw [← pos_bl y]; exact DS_zero G j (bl y) hy hj h r _

/-- All the passes of a block of keys: the sums over the whole sequence. -/
theorem passes_all (R : Sums) (j : ℕ) (hj : j < 16) : G.passes R j (15 - j) = G.after R j := by
  have e1 : (G.passes R j (15 - j)).dcq = (G.after R j).dcq := by
    funext h y
    rw [passes_dcq G R j _ (by omega)]
    have := bl_lt y
    by_cases e : j ≤ bl y
    · rw [if_pos (by omega)]; rfl
    · rw [if_neg (by omega)]
      show _ = R.dcq h y + ∑ r, G.DS h (pos j r) y
      rw [Finset.sum_eq_zero fun r _ => DS_past G j hj h r y (by omega)]
  have e2 : (G.passes R j (15 - j)).dq = (G.after R j).dq := by
    funext y c
    rw [passes_dq G R j _ (by omega)]
    have := bl_lt y
    by_cases e : j ≤ bl y
    · rw [if_pos (by omega)]; rfl
    · rw [if_neg (by omega)]
      show _ = R.dq y c + (∑ r, G.DS (hd c) (pos j r) y * G.k (pos j r) c) * (1 / 8)
      rw [Finset.sum_eq_zero fun r _ => by rw [DS_past G j hj (hd c) r y (by omega), zero_mul], zero_mul]
  have e3 : (G.passes R j (15 - j)).dk = (G.after R j).dk := by
    funext r c
    rw [passes_dk G R j _ (by omega), sum_from j hj (fun i => ∑ x, G.DS (hd c) (pos j r) (pos i x) * G.q (pos i x) c)
      (fun i hi => Finset.sum_eq_zero fun x _ => by rw [DS_zero G j i hi hj, zero_mul]), sum_blocks fun y => G.DS (hd c) (pos j r) y * G.q y c]
    rfl
  have e4 : (G.passes R j (15 - j)).dv = (G.after R j).dv := by
    funext r c
    rw [passes_dv G R j _ (by omega), sum_from j hj (fun i => ∑ x, G.E (hd c) (pos j r) (pos i x) * G.o (pos i x) c)
      (fun i hi => Finset.sum_eq_zero fun x _ => by rw [E_zero G j i hi hj, zero_mul]), sum_blocks fun y => G.E (hd c) (pos j r) y * G.o y c]
    rfl
  have e5 : (G.passes R j (15 - j)).dck = (G.after R j).dck := by
    funext h r
    rw [passes_dck G R j _ (by omega), sum_from j hj (fun i => ∑ x, G.DS h (pos j r) (pos i x))
      (fun i hi => Finset.sum_eq_zero fun x _ => DS_zero G j i hi hj h r x), sum_blocks fun y => G.DS h (pos j r) y]
    rfl
  cases h : G.passes R j (15 - j)
  rw [h] at e1 e2 e3 e4 e5
  simp only at e1 e2 e3 e4 e5
  subst e1 e2 e3 e4 e5
  rfl

end Seq

end Cert.KernelIdeal.Attn

end
-- ==== Proof.Ideal.BodySum.lean ====
/- The body at a grid point, and the grid points one after another: the sums it holds are the sums of `SeqSum.lean`. -/
module

public import proofs.«01_k».proof.Proof.Ideal.SeqSum
public import proofs.«01_k».proof.Proof.Ideal.Frame

@[expose] public section

set_option maxRecDepth 16384

noncomputable section

namespace Cert.KernelIdeal.Attn

open Idealize.ShloMosaic Idealize.ShloMosaic.TcCoe Idealize.ShloMosaic.VecWindow
open Cert.KernelIdeal.Gen

/-! ## The offsets -/

theorem off3 (t : Fin grid0.N) : k0_off3 (grid0.coords t) = ![512 * (t.val % 16), 0] := by revert t; decide +kernel
theorem off4 (t : Fin grid0.N) : k0_off4 (grid0.coords t) = ![0, 0, 512 * (t.val % 16)] := by revert t; decide +kernel
theorem off5 (t : Fin grid0.N) : k0_off5 (grid0.coords t) = ![0, 0, 512 * (t.val % 16)] := by revert t; decide +kernel
theorem off6 (t : Fin grid0.N) : k0_off6 (grid0.coords t) = ![0, 1, 512 * (t.val % 16)] := by revert t; decide +kernel
theorem trips (t : Fin grid0.N) : (k0_t1_loop (grid0.coords t) 16#32 16#32).trips = 15 - t.val % 16 := by revert t; decide +kernel
theorem off7 : ∀ (t : Fin grid0.N) (n : Fin (k0_t1_loop (grid0.coords t) 16#32 16#32).trips),
    k0_off7 (grid0.coords t) 16#32 16#32 n = ![512 * (t.val % 16 + 1 + n.val), 0] := by decide +kernel
theorem off8 : ∀ (t : Fin grid0.N) (n : Fin (k0_t1_loop (grid0.coords t) 16#32 16#32).trips),
    k0_off8 (grid0.coords t) 16#32 16#32 n = ![0, 0, 512 * (t.val % 16 + 1 + n.val)] := by decide +kernel
theorem off9 : ∀ (t : Fin grid0.N) (n : Fin (k0_t1_loop (grid0.coords t) 16#32 16#32).trips),
    k0_off9 (grid0.coords t) 16#32 16#32 n = ![0, 0, 512 * (t.val % 16 + 1 + n.val)] := by decide +kernel
theorem off10 : ∀ (t : Fin grid0.N) (n : Fin (k0_t1_loop (grid0.coords t) 16#32 16#32).trips),
    k0_off10 (grid0.coords t) 16#32 16#32 n = ![0, 1, 512 * (t.val % 16 + 1 + n.val)] := by decide +kernel

/-! ## The windows of the queries -/

variable (G : Seq)

theorem win_rows (f : Fin 8192 → Fin 128 → ℝ) (i : ℕ) (hi : i < 16) (o : Fin 2 → ℕ) (ho : o = ![512 * i, 0]) (h : ∀ a, o a + S512x128.size a ≤ S8192x128.size a) :
    window (up2 f : S8192x128.Idx → EReal) o S512x128.size h = up2 fun x => f (pos i x) :=
  ext2 _ _ fun x c => by rw [window_rows _ i hi o ho]; rfl

theorem win_lanes (f : Fin 2 → Fin 8192 → ℝ) (i : ℕ) (hi : i < 16) (o : Fin 3 → ℕ) (ho : o = ![0, 0, 512 * i]) (h : ∀ a, o a + S1x2x512.size a ≤ S1x2x8192.size a) :
    window (up3 f : S1x2x8192.Idx → EReal) o S1x2x512.size h = up3 fun k x => f k (pos i x) :=
  ext3 _ _ fun k x => by rw [window_lanes _ i hi o ho]; rfl

/-! ## The sums the body starts from -/

/-- The sums before the first pass, the queries' sums `a` and `b` or nothing at the first block of keys. -/
def startSums (first : Bool) (a : Fin 2 → Fin 8192 → ℝ) (b : Fin 8192 → Fin 128 → ℝ) : Sums where
  dcq := if first then fun _ _ => 0 else a
  dq := if first then fun _ _ => 0 else b
  dk _ _ := 0
  dv _ _ := 0
  dck _ _ := 0

theorem holds_start (first : Bool) (x : S1x2x8192.Idx → EReal) (y : S8192x128.Idx → EReal) (a : Fin 2 → Fin 8192 → ℝ) (b : Fin 8192 → Fin 128 → ℝ)
    (hx : first = false → x = up3 a) (hy : first = false → y = up2 b) : Holds (start (F := Ideal) first x y) (startSums first a b) where
  dcq := by
    cases first with
    | false => exact hx rfl
    | true =>
      refine ext3 _ _ fun h y => ?_
      show k0_pay82 (F := Ideal) (ix3 0 h y) = ((0 : ℝ) : EReal)
      pointwise [k0_pay82]
      exact EReal.coe_zero.symm
  dq := by
    cases first with
    | false => exact hy rfl
    | true =>
      refine ext2 _ _ fun r c => ?_
      show k0_pay81 (F := Ideal) (ix2 r c) = ((0 : ℝ) : EReal)
      pointwise [k0_pay81]
      exact EReal.coe_zero.symm
  dk := ext2 _ _ fun r c => by
    show k0_pay91 (F := Ideal) (ix2 r c) = ((0 : ℝ) : EReal)
    pointwise [k0_pay91]
    exact EReal.coe_zero.symm
  dv := ext2 _ _ fun r c => by
    show k0_pay92 (F := Ideal) (Scalar.ofBits .f32 0x00000000#32) (ix2 r c) = ((0 : ℝ) : EReal)
    pointwise [k0_pay92]
    exact EReal.coe_zero.symm
  dck h r := by
    show k0_pay93 (F := Ideal) (ix2 r (dl h)) = ((-0 : ℝ) : EReal)
    pointwise [k0_pay93]
    rw [neg_zero]
    exact EReal.coe_zero.symm

/-! ## The body -/

theorem holds_iter (t : Fin grid0.N) (hw : k0_chk1 (grid0.coords t) 16#32 16#32) (s : Acc Ideal) (R : Sums)
    (H : Holds s (G.passes R (t.val % 16) 0)) (n : ℕ) (hn : n ≤ 15 - t.val % 16) :
    Holds (iter (F := Ideal) (grid0.coords t) 16#32 16#32 hw k0_pay83 k0_pay84 (up2 fun r => G.k (pos (t.val % 16) r)) (up2 fun r => G.v (pos (t.val % 16) r))
      (k0_pay85 (up2 fun r => G.k (pos (t.val % 16) r))) (k0_pay86 (up2 fun r => G.k (pos (t.val % 16) r)))
      (k0_pay88 (up2 fun r => G.ck (pos (t.val % 16) r))) (k0_pay89 (up2 fun r => G.ck (pos (t.val % 16) r)))
      (up2 G.q) (up2 G.o) (up3 G.l) (up3 G.d) s n) (G.passes R (t.val % 16) n) := by
  induction n with
  | zero => exact H
  | succ n ih =>
    have hk : n < (k0_t1_loop (grid0.coords t) 16#32 16#32).trips := by rw [trips]; omega
    have hi : t.val % 16 + 1 + n < 16 := by omega
    rw [iter_succ (F := Ideal) (k := ⟨n, hk⟩)]
    unfold tripAcc
    rw [win_rows G.q _ hi _ (off7 t ⟨n, hk⟩), win_rows G.o _ hi _ (off7 t ⟨n, hk⟩), win_lanes G.l _ hi _ (off8 t ⟨n, hk⟩), win_lanes G.d _ hi _ (off8 t ⟨n, hk⟩)]
    exact holds_pass (G.blk (t.val % 16) (t.val % 16 + 1 + n)) _ _ (ih (by omega)) _ hi _ (off7 t ⟨n, hk⟩) _ _ (off9 t ⟨n, hk⟩) _ _ (off10 t ⟨n, hk⟩) _

theorem holds_body (t : Fin grid0.N) (hw : k0_chk1 (grid0.coords t) 16#32 16#32) (first : Bool) (x : S1x2x8192.Idx → EReal) (y : S8192x128.Idx → EReal)
    (a : Fin 2 → Fin 8192 → ℝ) (b : Fin 8192 → Fin 128 → ℝ) (hx : first = false → x = up3 a) (hy : first = false → y = up2 b) :
    Holds (bodyAcc (F := Ideal) (grid0.coords t) hw first (up2 fun r => G.k (pos (t.val % 16) r)) (up2 fun r => G.v (pos (t.val % 16) r))
      (up2 G.q) (up2 G.o) (up3 G.l) (up3 G.d) (up2 fun r => G.ck (pos (t.val % 16) r)) x y)
      (G.after (startSums first a b) (t.val % 16)) := by
  have hj : t.val % 16 < 16 := Nat.mod_lt _ (by decide)
  unfold bodyAcc
  rw [← Seq.passes_all G _ _ hj, ← trips t]
  refine holds_iter G t hw _ _ ?_ _ (trips t).le
  rw [win_rows G.q _ hj _ (off3 t), win_rows G.o _ hj _ (off3 t), win_lanes G.l _ hj _ (off4 t), win_lanes G.d _ hj _ (off4 t)]
  exact holds_diag (G.blk (t.val % 16) (t.val % 16)) _ _ (holds_start first x y a b hx hy) _ hj _ (off3 t) _ _ (off5 t) _ _ (off6 t) _

end Cert.KernelIdeal.Attn

end
-- ==== Proof.Ideal.Blocks.lean ====
/- Where the blocks of the call's arrays lie: what a block of each array holds, entry by entry. -/
module

public import proofs.«01_k».proof.Proof.Ideal.PassAcc
public import proofs.«01_k».proof.Proof.Ideal.Entry

@[expose] public section

set_option maxRecDepth 16384

noncomputable section

namespace Cert.KernelIdeal.Attn

open Idealize.ShloMosaic Idealize.ShloMosaic.TcCoe
open Idealize.ShloMosaic.Pipeline (Window)
open Cert.KernelIdeal.Gen

variable {F : FTy → Type} [FloatOps F] [Named F]
variable (m : (ℓ : Loc nD τ sig) → Buf (Elt F) ℓ)

/-! ## The index maps -/

theorem map0 (t : Fin grid0.N) : cc0_transform_0 (grid0.coords t) = ![t.val % 16, 8 + t.val / 16] := by revert t; decide +kernel
theorem map1 (t : Fin grid0.N) : cc0_transform_1 (grid0.coords t) = ![t.val % 16, 16 + t.val / 16] := by revert t; decide +kernel
theorem map2 (t : Fin grid0.N) : cc0_transform_2 (grid0.coords t) = ![0, t.val / 16] := by revert t; decide +kernel
theorem map3 (t : Fin grid0.N) : cc0_transform_3 (grid0.coords t) = ![0, t.val / 16] := by revert t; decide +kernel
theorem map4 (t : Fin grid0.N) : cc0_transform_4 (grid0.coords t) = ![t.val / 16, 0, 0] := by revert t; decide +kernel
theorem map5 (t : Fin grid0.N) : cc0_transform_5 (grid0.coords t) = ![t.val / 16, 0, 0] := by revert t; decide +kernel
theorem map6 (t : Fin grid0.N) : cc0_transform_6 (grid0.coords t) = ![t.val % 16, t.val / 16] := by revert t; decide +kernel
theorem map7 (t : Fin grid0.N) : cc0_transform_7 (grid0.coords t) = ![0, t.val / 16] := by revert t; decide +kernel
theorem map8 (t : Fin grid0.N) : cc0_transform_8 (grid0.coords t) = ![t.val % 16, t.val / 16] := by revert t; decide +kernel
theorem map9 (t : Fin grid0.N) : cc0_transform_9 (grid0.coords t) = ![t.val % 16, t.val / 16] := by revert t; decide +kernel
theorem map10 (t : Fin grid0.N) : cc0_transform_10 (grid0.coords t) = ![t.val / 16, 0, t.val % 16] := by revert t; decide +kernel
theorem map11 (t : Fin grid0.N) : cc0_transform_11 (grid0.coords t) = ![t.val / 16, 0, 0] := by revert t; decide +kernel

theorem pair_lt (t : Fin grid0.N) : t.val / 16 < 8 := by have : t.val < 128 := t.isLt; omega
theorem key_lt (t : Fin grid0.N) : t.val % 16 < 16 := Nat.mod_lt _ (by decide)

/-- The column of lane `c` of the pair of heads `p`, after `o` blocks of columns. -/
def col (n o p : ℕ) (h : 128 * (o + p) + 128 ≤ n) (c : Fin 128) : Fin n := ⟨128 * (o + p) + c.val, by have := c.isLt; omega⟩

variable (t : Fin (cfgM m).N)

/-! ## Where an element of a block lies in its array -/

theorem emb0 (r : Fin 512) (c : Fin 128) :
    ((((cfgM m).win 0).rect t).emb (ix2 r c : S512x128.Idx) : S8192x3072.Idx) = ix2 (pos (t.val % 16) r) (col 3072 8 (t.val / 16) (by have := pair_lt t; omega) c) := by
  have hp := pos_val _ (key_lt t) r
  refine funext fun a => Fin.ext ?_
  refine (Window.rect_emb_val ((cfgM m).win 0) t (ix2 r c : S512x128.Idx) a).trans ?_
  match a with
  | ⟨0, _⟩ => show cc0_transform_0 (grid0.coords t) 0 * 512 + r.val = (pos _ r).val; rw [map0, hp]; show t.val % 16 * 512 + r.val = _; omega
  | ⟨1, _⟩ => show cc0_transform_0 (grid0.coords t) 1 * 128 + c.val = 128 * (8 + t.val / 16) + c.val; rw [map0]; show (8 + t.val / 16) * 128 + c.val = _; omega

theorem emb1 (r : Fin 512) (c : Fin 128) :
    ((((cfgM m).win 1).rect t).emb (ix2 r c : S512x128.Idx) : S8192x3072.Idx) = ix2 (pos (t.val % 16) r) (col 3072 16 (t.val / 16) (by have := pair_lt t; omega) c) := by
  have hp := pos_val _ (key_lt t) r
  refine funext fun a => Fin.ext ?_
  refine (Window.rect_emb_val ((cfgM m).win 1) t (ix2 r c : S512x128.Idx) a).trans ?_
  match a with
  | ⟨0, _⟩ => show cc0_transform_1 (grid0.coords t) 0 * 512 + r.val = (pos _ r).val; rw [map1, hp]; show t.val % 16 * 512 + r.val = _; omega
  | ⟨1, _⟩ => show cc0_transform_1 (grid0.coords t) 1 * 128 + c.val = 128 * (16 + t.val / 16) + c.val; rw [map1]; show (16 + t.val / 16) * 128 + c.val = _; omega

theorem emb2 (r : Fin 8192) (c : Fin 128) :
    ((((cfgM m).win 2).rect t).emb (ix2 r c : S8192x128.Idx) : S8192x3072.Idx) = ix2 r (col 3072 0 (t.val / 16) (by have := pair_lt t; omega) c) := by
  refine funext fun a => Fin.ext ?_
  refine (Window.rect_emb_val ((cfgM m).win 2) t (ix2 r c : S8192x128.Idx) a).trans ?_
  match a with
  | ⟨0, _⟩ => show cc0_transform_2 (grid0.coords t) 0 * 8192 + r.val = r.val; rw [map2]; show 0 * 8192 + r.val = _; omega
  | ⟨1, _⟩ => show cc0_transform_2 (grid0.coords t) 1 * 128 + c.val = 128 * (0 + t.val / 16) + c.val; rw [map2]; show (t.val / 16) * 128 + c.val = _; omega

theorem emb3 (r : Fin 8192) (c : Fin 128) :
    ((((cfgM m).win 3).rect t).emb (ix2 r c : S8192x128.Idx) : S8192x1024.Idx) = ix2 r (col 1024 0 (t.val / 16) (by have := pair_lt t; omega) c) := by
  refine funext fun a => Fin.ext ?_
  refine (Window.rect_emb_val ((cfgM m).win 3) t (ix2 r c : S8192x128.Idx) a).trans ?_
  match a with
  | ⟨0, _⟩ => show cc0_transform_3 (grid0.coords t) 0 * 8192 + r.val = r.val; rw [map3]; show 0 * 8192 + r.val = _; omega
  | ⟨1, _⟩ => show cc0_transform_3 (grid0.coords t) 1 * 128 + c.val = 128 * (0 + t.val / 16) + c.val; rw [map3]; show (t.val / 16) * 128 + c.val = _; omega

theorem emb4 (z : Fin 1) (h : Fin 2) (r : Fin 8192) :
    ((((cfgM m).win 4).rect t).emb (ix3 z h r : S1x2x8192.Idx) : S8x2x8192.Idx) = ix3 ⟨t.val / 16, pair_lt t⟩ h r := by
  have hz := z.isLt
  refine funext fun a => Fin.ext ?_
  refine (Window.rect_emb_val ((cfgM m).win 4) t (ix3 z h r : S1x2x8192.Idx) a).trans ?_
  match a with
  | ⟨0, _⟩ => show cc0_transform_4 (grid0.coords t) 0 * 1 + z.val = t.val / 16; rw [map4]; show t.val / 16 * 1 + z.val = _; omega
  | ⟨1, _⟩ => show cc0_transform_4 (grid0.coords t) 1 * 2 + h.val = h.val; rw [map4]; show 0 * 2 + h.val = _; omega
  | ⟨2, _⟩ => show cc0_transform_4 (grid0.coords t) 2 * 8192 + r.val = r.val; rw [map4]; show 0 * 8192 + r.val = _; omega

theorem emb5 (z : Fin 1) (h : Fin 2) (r : Fin 8192) :
    ((((cfgM m).win 5).rect t).emb (ix3 z h r : S1x2x8192.Idx) : S8x2x8192.Idx) = ix3 ⟨t.val / 16, pair_lt t⟩ h r := by
  have hz := z.isLt
  refine funext fun a => Fin.ext ?_
  refine (Window.rect_emb_val ((cfgM m).win 5) t (ix3 z h r : S1x2x8192.Idx) a).trans ?_
  match a with
  | ⟨0, _⟩ => show cc0_transform_5 (grid0.coords t) 0 * 1 + z.val = t.val / 16; rw [map5]; show t.val / 16 * 1 + z.val = _; omega
  | ⟨1, _⟩ => show cc0_transform_5 (grid0.coords t) 1 * 2 + h.val = h.val; rw [map5]; show 0 * 2 + h.val = _; omega
  | ⟨2, _⟩ => show cc0_transform_5 (grid0.coords t) 2 * 8192 + r.val = r.val; rw [map5]; show 0 * 8192 + r.val = _; omega

theorem emb6 (r : Fin 512) (c : Fin 128) :
    ((((cfgM m).win 6).rect t).emb (ix2 r c : S512x128.Idx) : S8192x1024.Idx) = ix2 (pos (t.val % 16) r) (col 1024 0 (t.val / 16) (by have := pair_lt t; omega) c) := by
  have hp := pos_val _ (key_lt t) r
  refine funext fun a => Fin.ext ?_
  refine (Window.rect_emb_val ((cfgM m).win 6) t (ix2 r c : S512x128.Idx) a).trans ?_
  match a with
  | ⟨0, _⟩ => show cc0_transform_6 (grid0.coords t) 0 * 512 + r.val = (pos _ r).val; rw [map6, hp]; show t.val % 16 * 512 + r.val = _; omega
  | ⟨1, _⟩ => show cc0_transform_6 (grid0.coords t) 1 * 128 + c.val = 128 * (0 + t.val / 16) + c.val; rw [map6]; show (t.val / 16) * 128 + c.val = _; omega

theorem emb7 (r : Fin 8192) (c : Fin 128) :
    ((((cfgM m).win 7).rect t).emb (ix2 r c : S8192x128.Idx) : S8192x1024.Idx) = ix2 r (col 1024 0 (t.val / 16) (by have := pair_lt t; omega) c) := by
  refine funext fun a => Fin.ext ?_
  refine (Window.rect_emb_val ((cfgM m).win 7) t (ix2 r c : S8192x128.Idx) a).trans ?_
  match a with
  | ⟨0, _⟩ => show cc0_transform_7 (grid0.coords t) 0 * 8192 + r.val = r.val; rw [map7]; show 0 * 8192 + r.val = _; omega
  | ⟨1, _⟩ => show cc0_transform_7 (grid0.coords t) 1 * 128 + c.val = 128 * (0 + t.val / 16) + c.val; rw [map7]; show (t.val / 16) * 128 + c.val = _; omega

theorem emb8 (r : Fin 512) (c : Fin 128) :
    ((((cfgM m).win 8).rect t).emb (ix2 r c : S512x128.Idx) : S8192x1024.Idx) = ix2 (pos (t.val % 16) r) (col 1024 0 (t.val / 16) (by have := pair_lt t; omega) c) := by
  have hp := pos_val _ (key_lt t) r
  refine funext fun a => Fin.ext ?_
  refine (Window.rect_emb_val ((cfgM m).win 8) t (ix2 r c : S512x128.Idx) a).trans ?_
  match a with
  | ⟨0, _⟩ => show cc0_transform_8 (grid0.coords t) 0 * 512 + r.val = (pos _ r).val; rw [map8, hp]; show t.val % 16 * 512 + r.val = _; omega
  | ⟨1, _⟩ => show cc0_transform_8 (grid0.coords t) 1 * 128 + c.val = 128 * (0 + t.val / 16) + c.val; rw [map8]; show (t.val / 16) * 128 + c.val = _; omega

theorem emb9 (r : Fin 512) (c : Fin 128) :
    ((((cfgM m).win 9).rect t).emb (ix2 r c : S512x128.Idx) : S8192x1024.Idx) = ix2 (pos (t.val % 16) r) (col 1024 0 (t.val / 16) (by have := pair_lt t; omega) c) := by
  have hp := pos_val _ (key_lt t) r
  refine funext fun a => Fin.ext ?_
  refine (Window.rect_emb_val ((cfgM m).win 9) t (ix2 r c : S512x128.Idx) a).trans ?_
  match a with
  | ⟨0, _⟩ => show cc0_transform_9 (grid0.coords t) 0 * 512 + r.val = (pos _ r).val; rw [map9, hp]; show t.val % 16 * 512 + r.val = _; omega
  | ⟨1, _⟩ => show cc0_transform_9 (grid0.coords t) 1 * 128 + c.val = 128 * (0 + t.val / 16) + c.val; rw [map9]; show (t.val / 16) * 128 + c.val = _; omega

theorem emb10 (z : Fin 1) (h : Fin 2) (r : Fin 512) :
    ((((cfgM m).win 10).rect t).emb (ix3 z h r : S1x2x512.Idx) : S8x2x8192.Idx) = ix3 ⟨t.val / 16, pair_lt t⟩ h (pos (t.val % 16) r) := by
  have hp := pos_val _ (key_lt t) r
  have hz := z.isLt
  refine funext fun a => Fin.ext ?_
  refine (Window.rect_emb_val ((cfgM m).win 10) t (ix3 z h r : S1x2x512.Idx) a).trans ?_
  match a with
  | ⟨0, _⟩ => show cc0_transform_10 (grid0.coords t) 0 * 1 + z.val = t.val / 16; rw [map10]; show t.val / 16 * 1 + z.val = _; omega
  | ⟨1, _⟩ => show cc0_transform_10 (grid0.coords t) 1 * 2 + h.val = h.val; rw [map10]; show 0 * 2 + h.val = _; omega
  | ⟨2, _⟩ => show cc0_transform_10 (grid0.coords t) 2 * 512 + r.val = (pos _ r).val; rw [map10, hp]; show t.val % 16 * 512 + r.val = _; omega

theorem emb11 (z : Fin 1) (h : Fin 2) (r : Fin 8192) :
    ((((cfgM m).win 11).rect t).emb (ix3 z h r : S1x2x8192.Idx) : S8x2x8192.Idx) = ix3 ⟨t.val / 16, pair_lt t⟩ h r := by
  have hz := z.isLt
  refine funext fun a => Fin.ext ?_
  refine (Window.rect_emb_val ((cfgM m).win 11) t (ix3 z h r : S1x2x8192.Idx) a).trans ?_
  match a with
  | ⟨0, _⟩ => show cc0_transform_11 (grid0.coords t) 0 * 1 + z.val = t.val / 16; rw [map11]; show t.val / 16 * 1 + z.val = _; omega
  | ⟨1, _⟩ => show cc0_transform_11 (grid0.coords t) 1 * 2 + h.val = h.val; rw [map11]; show 0 * 2 + h.val = _; omega
  | ⟨2, _⟩ => show cc0_transform_11 (grid0.coords t) 2 * 8192 + r.val = r.val; rw [map11]; show 0 * 8192 + r.val = _; omega

end Cert.KernelIdeal.Attn

end
-- ==== Proof.Ideal.PointSum.lean ====
/- The grid points in order: after each, the sums of its pair of heads up to its block of keys. -/
module

public import proofs.«01_k».proof.Proof.Ideal.BodySum
public import proofs.«01_k».proof.Proof.Ideal.Blocks

@[expose] public section

set_option maxRecDepth 16384

noncomputable section

namespace Cert.KernelIdeal.Attn

open Idealize.ShloMosaic Idealize.ShloMosaic.TcCoe Idealize.ShloMosaic.VecWindow
open Idealize.ShloMosaic.Pipeline (Window)
open Cert.KernelIdeal.Gen

/-- The real numbers the call's arrays hold: the projected rows, the output's gradient, the bias spread over the lanes, and
    the two rows per head. -/
structure Arrays where
  qkv : Fin 8192 → Fin 3072 → ℝ
  o : Fin 8192 → Fin 1024 → ℝ
  ck : Fin 8192 → Fin 1024 → ℝ
  l : Fin 8 → Fin 2 → Fin 8192 → ℝ
  d : Fin 8 → Fin 2 → Fin 8192 → ℝ

theorem col_q (p : Fin 8) : 128 * (0 + p.val) + 128 ≤ 3072 := by have := p.isLt; omega
theorem col_k (p : Fin 8) : 128 * (8 + p.val) + 128 ≤ 3072 := by have := p.isLt; omega
theorem col_v (p : Fin 8) : 128 * (16 + p.val) + 128 ≤ 3072 := by have := p.isLt; omega
theorem col_o (p : Fin 8) : 128 * (0 + p.val) + 128 ≤ 1024 := by have := p.isLt; omega

/-- What the pair of heads `p` reads of them. -/
def Arrays.seq (A : Arrays) (p : Fin 8) : Seq where
  k y c := A.qkv y (col 3072 8 p.val (col_k p) c)
  v y c := A.qkv y (col 3072 16 p.val (col_v p) c)
  q y c := A.qkv y (col 3072 0 p.val (col_q p) c)
  o y c := A.o y (col 1024 0 p.val (col_o p) c)
  ck y c := A.ck y (col 1024 0 p.val (col_o p) c)
  l h y := A.l p h y
  d h y := A.d p h y

/-- A real array of three axes as a program's array. -/
def up8 {a b n : ℕ} (f : Fin a → Fin b → Fin n → ℝ) : (⟨3, ![a, b, n]⟩ : Shape).Idx → EReal := fun i => ((f (i 0) (i 1) (i 2) : ℝ) : EReal)

variable (m : (ℓ : Loc nD τ sig) → Buf (Elt Ideal) ℓ)

/-- The arrays the call finds hold these reals. -/
structure Found (c : Dev nD) (A : Arrays) : Prop where
  qkv : (V m c main_arg0 : S8192x3072.Idx → EReal) = up2 A.qkv
  o : (V m c main_arg2 : S8192x1024.Idx → EReal) = up2 A.o
  ck : (V m c main_v61 : S8192x1024.Idx → EReal) = up2 A.ck
  l : (V m c main_v52 : S8x2x8192.Idx → EReal) = up8 A.l
  d : (V m c main_v58 : S8x2x8192.Idx → EReal) = up8 A.d

variable {m} {c : Dev nD} {A : Arrays}

/-- The pair of heads of a grid point. -/
def pr (t : Fin grid0.N) : Fin 8 := ⟨t.val / 16, pair_lt t⟩

/-! ## A block of an array of reals -/

section
variable (t : Fin (cfgM m).N)

theorem read0 : ((((cfgM m).win 0).blk t).view.read (Elt Ideal) (up2 A.qkv : S8192x3072.Idx → EReal) : S512x128.Idx → EReal) = up2 (fun r => (A.seq (pr t)).k (pos (t.val % 16) r)) := ext2 _ _ fun r x => by
  show (up2 A.qkv : S8192x3072.Idx → EReal) ((((cfgM m).win 0).rect t).emb (ix2 r x : S512x128.Idx)) = _
  rw [emb0]; rfl
theorem read1 : ((((cfgM m).win 1).blk t).view.read (Elt Ideal) (up2 A.qkv : S8192x3072.Idx → EReal) : S512x128.Idx → EReal) = up2 (fun r => (A.seq (pr t)).v (pos (t.val % 16) r)) := ext2 _ _ fun r x => by
  show (up2 A.qkv : S8192x3072.Idx → EReal) ((((cfgM m).win 1).rect t).emb (ix2 r x : S512x128.Idx)) = _
  rw [emb1]; rfl
theorem read2 : ((((cfgM m).win 2).blk t).view.read (Elt Ideal) (up2 A.qkv : S8192x3072.Idx → EReal) : S8192x128.Idx → EReal) = up2 ((A.seq (pr t)).q) := ext2 _ _ fun r x => by
  show (up2 A.qkv : S8192x3072.Idx → EReal) ((((cfgM m).win 2).rect t).emb (ix2 r x : S8192x128.Idx)) = _
  rw [emb2]; rfl
theorem read3 : ((((cfgM m).win 3).blk t).view.read (Elt Ideal) (up2 A.o : S8192x1024.Idx → EReal) : S8192x128.Idx → EReal) = up2 ((A.seq (pr t)).o) := ext2 _ _ fun r x => by
  show (up2 A.o : S8192x1024.Idx → EReal) ((((cfgM m).win 3).rect t).emb (ix2 r x : S8192x128.Idx)) = _
  rw [emb3]; rfl
theorem read4 : ((((cfgM m).win 4).blk t).view.read (Elt Ideal) (up8 A.l : S8x2x8192.Idx → EReal) : S1x2x8192.Idx → EReal) = up3 ((A.seq (pr t)).l) := ext3 _ _ fun h x => by
  show (up8 A.l : S8x2x8192.Idx → EReal) ((((cfgM m).win 4).rect t).emb (ix3 0 h x : S1x2x8192.Idx)) = _
  rw [emb4]; rfl
theorem read5 : ((((cfgM m).win 5).blk t).view.read (Elt Ideal) (up8 A.d : S8x2x8192.Idx → EReal) : S1x2x8192.Idx → EReal) = up3 ((A.seq (pr t)).d) := ext3 _ _ fun h x => by
  show (up8 A.d : S8x2x8192.Idx → EReal) ((((cfgM m).win 5).rect t).emb (ix3 0 h x : S1x2x8192.Idx)) = _
  rw [emb5]; rfl
theorem read6 : ((((cfgM m).win 6).blk t).view.read (Elt Ideal) (up2 A.ck : S8192x1024.Idx → EReal) : S512x128.Idx → EReal) = up2 (fun r => (A.seq (pr t)).ck (pos (t.val % 16) r)) := ext2 _ _ fun r x => by
  show (up2 A.ck : S8192x1024.Idx → EReal) ((((cfgM m).win 6).rect t).emb (ix2 r x : S512x128.Idx)) = _
  rw [emb6]; rfl

end

section
variable (H : Found m c A) (t : Fin (cfgM m).N)
include H

theorem in0 : (iblk m c 0 t : S512x128.Idx → EReal) = up2 (fun r => (A.seq (pr t)).k (pos (t.val % 16) r)) :=
  (congrArg (fun X => (((cfgM m).win 0).blk t).view.read (Elt Ideal) X) H.qkv).trans (read0 t)
theorem in1 : (iblk m c 1 t : S512x128.Idx → EReal) = up2 (fun r => (A.seq (pr t)).v (pos (t.val % 16) r)) :=
  (congrArg (fun X => (((cfgM m).win 1).blk t).view.read (Elt Ideal) X) H.qkv).trans (read1 t)
theorem in2 : (iblk m c 2 t : S8192x128.Idx → EReal) = up2 (A.seq (pr t)).q :=
  (congrArg (fun X => (((cfgM m).win 2).blk t).view.read (Elt Ideal) X) H.qkv).trans (read2 t)
theorem in3 : (iblk m c 3 t : S8192x128.Idx → EReal) = up2 (A.seq (pr t)).o :=
  (congrArg (fun X => (((cfgM m).win 3).blk t).view.read (Elt Ideal) X) H.o).trans (read3 t)
theorem in4 : (iblk m c 4 t : S1x2x8192.Idx → EReal) = up3 (A.seq (pr t)).l :=
  (congrArg (fun X => (((cfgM m).win 4).blk t).view.read (Elt Ideal) X) H.l).trans (read4 t)
theorem in5 : (iblk m c 5 t : S1x2x8192.Idx → EReal) = up3 (A.seq (pr t)).d :=
  (congrArg (fun X => (((cfgM m).win 5).blk t).view.read (Elt Ideal) X) H.d).trans (read5 t)
theorem in6 : (iblk m c 6 t : S512x128.Idx → EReal) = up2 (fun r => (A.seq (pr t)).ck (pos (t.val % 16) r)) :=
  (congrArg (fun X => (((cfgM m).win 6).blk t).view.read (Elt Ideal) X) H.ck).trans (read6 t)

/-- The step at a point is the body on the pair's reals. -/
theorem holds_step (x : S1x2x8192.Idx → EReal) (y : S8192x128.Idx → EReal)
    (a : Fin 2 → Fin 8192 → ℝ) (b : Fin 8192 → Fin 128 → ℝ) (hx : t.val % 16 ≠ 0 → x = up3 a) (hy : t.val % 16 ≠ 0 → y = up2 b) :
    Holds (stepAt m c t x y) ((A.seq (pr t)).after (startSums (decide (t.val % 16 = 0)) a b) (t.val % 16)) := by
  unfold stepAt
  rw [in0 H t, in1 H t, in2 H t, in3 H t, in4 H t, in5 H t, in6 H t]
  exact holds_body (A.seq (pr t)) t (chk t) _ x y a b (fun h => hx (of_decide_eq_false h)) (fun h => hy (of_decide_eq_false h))

end

/-- The queries' sums over the blocks of keys before `j`. -/
def before (G : Seq) (j : ℕ) : Sums where
  dcq h y := ∑ i ∈ Finset.range j, ∑ r, G.DS h (pos i r) y
  dq y c := (∑ i ∈ Finset.range j, ∑ r, G.DS (hd c) (pos i r) y * G.k (pos i r) c) * (1 / 8)
  dk _ _ := 0
  dv _ _ := 0
  dck _ _ := 0

theorem before_zero (G : Seq) (a : Fin 2 → Fin 8192 → ℝ) (b : Fin 8192 → Fin 128 → ℝ) : startSums true a b = before G 0 := by
  unfold startSums before
  simp only [Finset.range_zero, Finset.sum_empty, zero_mul, if_true]

theorem start_before (G : Seq) (n : ℕ) : startSums (decide (n = 0)) (before G n).dcq (before G n).dq = before G n := by
  by_cases h : n = 0
  · subst h; exact before_zero G _ _
  · rw [decide_eq_false h]; rfl

theorem after_before_dcq (G : Seq) (j : ℕ) : (G.after (before G j) j).dcq = (before G (j + 1)).dcq := by
  funext h y
  show _ + _ = ∑ i ∈ Finset.range (j + 1), _
  rw [Finset.sum_range_succ]; rfl

theorem after_before_dq (G : Seq) (j : ℕ) : (G.after (before G j) j).dq = (before G (j + 1)).dq := by
  funext y c
  show _ + _ = (∑ i ∈ Finset.range (j + 1), _) * _
  rw [Finset.sum_range_succ, add_mul]; rfl

/-- After each point: its keys' sums over all queries, and the queries' sums over the blocks of keys so far. -/
theorem holds_at (H : Found m c A) : ∀ (n : ℕ) (hn : n < (cfgM m).N),
    Holds (accAt m c n hn) ((A.seq (pr ⟨n, hn⟩)).after (before (A.seq (pr ⟨n, hn⟩)) (n % 16)) (n % 16))
  | 0, hn => by
    have h := holds_step H ⟨0, hn⟩ (fun _ => Scalar.ofBits (F := Ideal) .f32 0x00000000#32) (fun _ => Scalar.ofBits (F := Ideal) .f32 0x00000000#32)
      (before (A.seq (pr ⟨0, hn⟩)) 0).dcq (before (A.seq (pr ⟨0, hn⟩)) 0).dq (fun h => absurd rfl h) (fun h => absurd rfl h)
    rw [← start_before (A.seq (pr ⟨0, hn⟩)) (0 % 16)]
    exact h
  | n + 1, hn => by
    have hp := holds_at H n (Nat.lt_of_succ_lt hn)
    have key : (n + 1) % 16 ≠ 0 → pr (⟨n, Nat.lt_of_succ_lt hn⟩ : Fin grid0.N) = pr ⟨n + 1, hn⟩ ∧ n % 16 + 1 = (n + 1) % 16 := fun h =>
      ⟨Fin.ext (by show n / 16 = (n + 1) / 16; omega), by omega⟩
    rw [← start_before (A.seq (pr ⟨n + 1, hn⟩)) ((n + 1) % 16)]
    refine holds_step H ⟨n + 1, hn⟩ _ _ _ _ (fun h => ?_) (fun h => ?_)
    · obtain ⟨e1, e2⟩ := key h
      rw [hp.dcq, after_before_dcq, e1, e2]
    · obtain ⟨e1, e2⟩ := key h
      rw [hp.dq, after_before_dq, e1, e2]

end Cert.KernelIdeal.Attn

end
-- ==== Proof.Ideal.FinalVal.lean ====
/- What the call leaves in its five output arrays: the sums over the whole sequence, pair of heads by pair of heads. -/
module

public import proofs.«01_k».proof.Proof.Ideal.PointSum

@[expose] public section

set_option maxRecDepth 16384

noncomputable section

namespace Cert.KernelIdeal.Attn

open Idealize.ShloMosaic Idealize.ShloMosaic.TcCoe Idealize.ShloMosaic.VecWindow
open Idealize.ShloMosaic.Pipeline (Window Dat)
open Cert.KernelIdeal.Gen

/-! ## The five results -/

namespace Seq
variable (G : Seq)
/-- The queries' gradient. -/
def fdq (y : Fin 8192) (c : Fin 128) : ℝ := (∑ k, G.DS (hd c) k y * G.k k c) * (1 / 8)
/-- The keys' gradient. -/
def fdk (k : Fin 8192) (c : Fin 128) : ℝ := (∑ y, G.DS (hd c) k y * G.q y c) * (1 / 8)
/-- The values' gradient. -/
def fdv (k : Fin 8192) (c : Fin 128) : ℝ := ∑ y, G.E (hd c) k y * G.o y c
/-- The gradient of the keys' bias. -/
def fdck (h : Fin 2) (k : Fin 8192) : ℝ := -∑ y, G.DS h k y
/-- The gradient of the queries' bias. -/
def fdcq (h : Fin 2) (y : Fin 8192) : ℝ := ∑ k, G.DS h k y
end Seq

/-- The pair of heads of a column, and the column's lane in the pair. -/
def pairOf (x : Fin 1024) : Fin 8 := ⟨x.val / 128, by have := x.isLt; omega⟩
def laneOf (x : Fin 1024) : Fin 128 := ⟨x.val % 128, Nat.mod_lt _ (by decide)⟩

theorem pairOf_col (p : ℕ) (h : 128 * (0 + p) + 128 ≤ 1024) (c : Fin 128) : pairOf (col 1024 0 p h c) = ⟨p, by omega⟩ := by
  have := c.isLt
  exact Fin.ext (by show (128 * (0 + p) + c.val) / 128 = p; omega)
theorem laneOf_col (p : ℕ) (h : 128 * (0 + p) + 128 ≤ 1024) (c : Fin 128) : laneOf (col 1024 0 p h c) = c := by
  have := c.isLt
  exact Fin.ext (by show (128 * (0 + p) + c.val) % 128 = c.val; omega)
theorem col_pairOf (x : Fin 1024) (h : 128 * (0 + (pairOf x).val) + 128 ≤ 1024) : col 1024 0 (pairOf x).val h (laneOf x) = x := by
  have := x.isLt
  exact Fin.ext (by show 128 * (0 + x.val / 128) + x.val % 128 = x.val; omega)

namespace Arrays
variable (A : Arrays)
def fdq (y : Fin 8192) (x : Fin 1024) : ℝ := (A.seq (pairOf x)).fdq y (laneOf x)
def fdk (y : Fin 8192) (x : Fin 1024) : ℝ := (A.seq (pairOf x)).fdk y (laneOf x)
def fdv (y : Fin 8192) (x : Fin 1024) : ℝ := (A.seq (pairOf x)).fdv y (laneOf x)
def fdck (p : Fin 8) (h : Fin 2) (y : Fin 8192) : ℝ := (A.seq p).fdck h y
def fdcq (p : Fin 8) (h : Fin 2) (y : Fin 8192) : ℝ := (A.seq p).fdcq h y
end Arrays

variable {m : (ℓ : Loc nD τ sig) → Buf (Elt Ideal) ℓ} {c : Dev nD} {A : Arrays}

/-! ## What each point writes back -/

theorem flush_8 : ∀ t : Fin (cfgM m).N, ((cfgM m).win 8).flush t = true :=
  (by decide +kernel : ∀ t : Fin grid0.N, Window.flushOf grid0 true cc0_transform_8 t = true)
theorem flush_9 : ∀ t : Fin (cfgM m).N, ((cfgM m).win 9).flush t = true :=
  (by decide +kernel : ∀ t : Fin grid0.N, Window.flushOf grid0 true cc0_transform_9 t = true)
theorem flush_10 : ∀ t : Fin (cfgM m).N, ((cfgM m).win 10).flush t = true :=
  (by decide +kernel : ∀ t : Fin grid0.N, Window.flushOf grid0 true cc0_transform_10 t = true)

section
variable (H : Found m c A) (t : Fin (cfgM m).N)
include H

theorem left7 (h15 : t.val % 16 = 15) : ((dats m 0 c).after 7 t : S8192x128.Idx → EReal) = up2 (A.seq (pr t)).fdq := by
  refine ext2 _ _ fun y x => ?_
  rw [after_7]
  have h := holds_at H t.val t.isLt
  show k0_pay2 (F := Ideal) _ _ = _
  pointwise [k0_pay2]
  rw [h.dq, after_before_dq, h15]
  show (((∑ i ∈ Finset.range 16, ∑ r, (A.seq (pr t)).DS (hd x) (pos i r) y * (A.seq (pr t)).k (pos i r) x) * (1 / 8) : ℝ) : EReal) = _
  rw [sum_blocks fun k => (A.seq (pr t)).DS (hd x) k y * (A.seq (pr t)).k k x]
  rfl

theorem left8 : ((dats m 0 c).after 8 t : S512x128.Idx → EReal) = up2 fun r x => (A.seq (pr t)).fdk (pos (t.val % 16) r) x := by
  refine ext2 _ _ fun r x => ?_
  rw [after_8]
  have h := holds_at H t.val t.isLt
  show k0_pay140 (F := Ideal) _ _ = _
  pointwise [k0_pay140]
  rw [h.dk, up2_apply, eighth, ← EReal.coe_mul]
  show (((0 + ∑ y, (A.seq (pr t)).DS (hd x) (pos (t.val % 16) r) y * (A.seq (pr t)).q y x) * (1 / 8) : ℝ) : EReal) = _
  rw [zero_add]
  rfl

theorem left9 : ((dats m 0 c).after 9 t : S512x128.Idx → EReal) = up2 fun r x => (A.seq (pr t)).fdv (pos (t.val % 16) r) x := by
  refine ext2 _ _ fun r x => ?_
  rw [after_9]
  have h := holds_at H t.val t.isLt
  show k0_pay141 (F := Ideal) _ _ = _
  pointwise [k0_pay141]
  rw [h.dv, up2_apply]
  show (((0 + ∑ y, (A.seq (pr t)).E (hd x) (pos (t.val % 16) r) y * (A.seq (pr t)).o y x) : ℝ) : EReal) = _
  rw [zero_add]
  rfl

theorem left11 (h15 : t.val % 16 = 15) : ((dats m 0 c).after 11 t : S1x2x8192.Idx → EReal) = up3 (A.seq (pr t)).fdcq := by
  refine ext3 _ _ fun k y => ?_
  rw [after_11]
  have h := holds_at H t.val t.isLt
  rw [h.dcq, after_before_dcq, h15, up3_apply]
  show (((∑ i ∈ Finset.range 16, ∑ r, (A.seq (pr t)).DS k (pos i r) y) : ℝ) : EReal) = _
  rw [sum_blocks fun x => (A.seq (pr t)).DS k x y]
  rfl

end

theorem put_row {α : Type} (x : S1x2x512.Idx → α) (k : Fin 2) (o : Fin 3 → ℕ) (ho : o = ![0, k.val, 0]) (w : S1x1x512.Idx → α)
    (z : Fin 1) (h : Fin 2) (r : Fin 512) : put x o S1x1x512.size w (ix3 z h r) = if h = k then w (ix3 0 0 r) else x (ix3 z h r) := by
  subst ho
  have hz := z.isLt; have hr := r.isLt
  by_cases e : h = k
  · subst e
    have hh : ∀ a : Fin 3, (![0, h.val, 0] : Fin 3 → ℕ) a ≤ (ix3 z h r a).val ∧ (ix3 z h r a).val < (![0, h.val, 0] : Fin 3 → ℕ) a + S1x1x512.size a := fun
      | ⟨0, _⟩ => ⟨Nat.zero_le _, by show z.val < 0 + 1; omega⟩
      | ⟨1, _⟩ => ⟨le_refl h.val, by show h.val < h.val + 1; omega⟩
      | ⟨2, _⟩ => ⟨Nat.zero_le _, by show r.val < 0 + 512; omega⟩
    rw [if_pos rfl]; unfold put; rw [dif_pos hh]
    refine congrArg w (funext fun a => ?_)
    match a with
    | ⟨0, _⟩ => exact Fin.ext (by show z.val - 0 = 0; omega)
    | ⟨1, _⟩ => exact Fin.ext (by show h.val - h.val = 0; omega)
    | ⟨2, _⟩ => exact Fin.ext (by show r.val - 0 = r.val; omega)
  · rw [if_neg e]; unfold put; rw [dif_neg]
    intro hh
    have h1 : k.val ≤ h.val := (hh 1).1
    have h2 : h.val < k.val + 1 := (hh 1).2
    exact e (Fin.ext (by omega))

/-- The block of the keys' bias gradient: its two rows are lanes 0 and 1 of the sums. -/
theorem rows_dck (dck : S512x128.Idx → EReal) (f : Fin 2 → Fin 512 → ℝ) (h : ∀ k r, dck (ix2 r (dl k)) = ((f k r : ℝ) : EReal)) (z : Fin 1) (k : Fin 2) (r : Fin 512) :
    dckOut (F := Ideal) dck (ix3 z k r) = ((f k r : ℝ) : EReal) := by
  unfold dckOut dckRows
  rw [put_row _ 1 ![0, 1, 0] rfl, put_row _ 0 ![0, 0, 0] rfl]
  match k with
  | 0 =>
    rw [if_neg (by decide), if_pos rfl]
    pointwise [k0_pay143, k0_pay142]
    rw [sel83, if_pos (by decide)]
    exact (window_col dck (dl 0) ![0, 0] rfl _ r 0).trans (h 0 r)
  | 1 =>
    rw [if_pos rfl]
    pointwise [k0_pay1, k0_pay144, k0_pay142]
    rw [sel83, if_neg (by decide)]
    exact (window_col dck (dl 1) ![0, 1] rfl _ r 0).trans (h 1 r)

section
variable (H : Found m c A) (t : Fin (cfgM m).N)
include H

theorem left10 : ((dats m 0 c).after 10 t : S1x2x512.Idx → EReal) = up3 fun k r => (A.seq (pr t)).fdck k (pos (t.val % 16) r) := by
  refine ext3 _ _ fun k r => ?_
  rw [after_10]
  have h := holds_at H t.val t.isLt
  refine (rows_dck _ _ h.dck 0 k r).trans ?_
  show (((-(0 + ∑ y, (A.seq (pr t)).DS k (pos (t.val % 16) r) y)) : ℝ) : EReal) = _
  rw [zero_add]
  rfl

end

/-! ## The blocks of the results -/

section
variable (m) (A) (t : Fin (cfgM m).N)

theorem res7 : ((((cfgM m).win 7).blk t).view.read (Elt Ideal) (up2 A.fdq : S8192x1024.Idx → EReal) : S8192x128.Idx → EReal) = up2 (A.seq (pr t)).fdq := ext2 _ _ fun r x => by
  show (up2 A.fdq : S8192x1024.Idx → EReal) ((((cfgM m).win 7).rect t).emb (ix2 r x : S8192x128.Idx)) = _
  rw [emb7, up2_apply]; unfold Arrays.fdq
  rw [pairOf_col, laneOf_col]; rfl
theorem res8 : ((((cfgM m).win 8).blk t).view.read (Elt Ideal) (up2 A.fdk : S8192x1024.Idx → EReal) : S512x128.Idx → EReal) = up2 fun r x => (A.seq (pr t)).fdk (pos (t.val % 16) r) x := ext2 _ _ fun r x => by
  show (up2 A.fdk : S8192x1024.Idx → EReal) ((((cfgM m).win 8).rect t).emb (ix2 r x : S512x128.Idx)) = _
  rw [emb8, up2_apply]; unfold Arrays.fdk
  rw [pairOf_col, laneOf_col]; rfl
theorem res9 : ((((cfgM m).win 9).blk t).view.read (Elt Ideal) (up2 A.fdv : S8192x1024.Idx → EReal) : S512x128.Idx → EReal) = up2 fun r x => (A.seq (pr t)).fdv (pos (t.val % 16) r) x := ext2 _ _ fun r x => by
  show (up2 A.fdv : S8192x1024.Idx → EReal) ((((cfgM m).win 9).rect t).emb (ix2 r x : S512x128.Idx)) = _
  rw [emb9, up2_apply]; unfold Arrays.fdv
  rw [pairOf_col, laneOf_col]; rfl
theorem res10 : ((((cfgM m).win 10).blk t).view.read (Elt Ideal) (up8 A.fdck : S8x2x8192.Idx → EReal) : S1x2x512.Idx → EReal) = up3 fun k r => (A.seq (pr t)).fdck k (pos (t.val % 16) r) := ext3 _ _ fun k r => by
  show (up8 A.fdck : S8x2x8192.Idx → EReal) ((((cfgM m).win 10).rect t).emb (ix3 0 k r : S1x2x512.Idx)) = _
  rw [emb10]; rfl
theorem res11 : ((((cfgM m).win 11).blk t).view.read (Elt Ideal) (up8 A.fdcq : S8x2x8192.Idx → EReal) : S1x2x8192.Idx → EReal) = up3 (A.seq (pr t)).fdcq := ext3 _ _ fun k r => by
  show (up8 A.fdcq : S8x2x8192.Idx → EReal) ((((cfgM m).win 11).rect t).emb (ix3 0 k r : S1x2x8192.Idx)) = _
  rw [emb11]; rfl

end

/-! ## Every element is in a block -/

theorem fifteen_lt : 15 < 16 := by decide

/-- The grid point of a pair of heads and a block of keys. -/
def pt (p : Fin 8) (j : ℕ) (hj : j < 16) : Fin grid0.N := ⟨16 * p.val + j, by have := p.isLt; show 16 * p.val + j < 128; omega⟩
theorem pt_div (p : Fin 8) (j : ℕ) (hj : j < 16) : (pt p j hj).val / 16 = p.val := by show (16 * p.val + j) / 16 = p.val; omega
theorem pt_mod (p : Fin 8) (j : ℕ) (hj : j < 16) : (pt p j hj).val % 16 = j := by show (16 * p.val + j) % 16 = j; omega

section
variable (m)

theorem cover7 (i : S8192x1024.Idx) : ∃ t : Fin (cfgM m).N, ((cfgM m).win 7).flush t = true ∧ i ∈ (((cfgM m).win 7).blk t).view.set := by
  have key : ∀ (y : Fin 8192) (x : Fin 1024), ∃ t : Fin (cfgM m).N, ((cfgM m).win 7).flush t = true ∧ (ix2 y x : S8192x1024.Idx) ∈ (((cfgM m).win 7).blk t).view.set := fun y x => by
    refine ⟨pt (pairOf x) 15 fifteen_lt, (flush_7 m _).mpr (pt_mod _ _ _), ?_⟩
    have e : ((((cfgM m).win 7).rect (pt (pairOf x) 15 fifteen_lt)).emb (ix2 y (laneOf x) : S8192x128.Idx) : S8192x1024.Idx) = ix2 y x := by
      rw [emb7]
      refine congrArg (ix2 y) (Fin.ext ?_)
      refine Eq.trans ?_ (congrArg Fin.val (col_pairOf x (col_o _)))
      show 128 * (0 + (pt (pairOf x) 15 fifteen_lt).val / 16) + _ = 128 * (0 + (pairOf x).val) + _
      rw [pt_div]
    exact Eq.subst (motive := fun i : S8192x1024.Idx => i ∈ (((cfgM m).win 7).blk (pt (pairOf x) 15 fifteen_lt)).view.set) e (View.emb_mem_set _ _)
  have h := key (i 0) (i 1)
  rw [← eq_ix2 i] at h
  exact h

theorem cover8 (i : S8192x1024.Idx) : ∃ t : Fin (cfgM m).N, ((cfgM m).win 8).flush t = true ∧ i ∈ (((cfgM m).win 8).blk t).view.set := by
  have key : ∀ (y : Fin 8192) (x : Fin 1024), ∃ t : Fin (cfgM m).N, ((cfgM m).win 8).flush t = true ∧ (ix2 y x : S8192x1024.Idx) ∈ (((cfgM m).win 8).blk t).view.set := fun y x => by
    refine ⟨pt (pairOf x) (bl y) (bl_lt y), flush_8 _, ?_⟩
    have e : ((((cfgM m).win 8).rect (pt (pairOf x) (bl y) (bl_lt y))).emb (ix2 (rw512 y) (laneOf x) : S512x128.Idx) : S8192x1024.Idx) = ix2 y x := by
      rw [emb8, pt_mod, pos_bl]
      refine congrArg (ix2 y) (Fin.ext ?_)
      refine Eq.trans ?_ (congrArg Fin.val (col_pairOf x (col_o _)))
      show 128 * (0 + (pt (pairOf x) (bl y) (bl_lt y)).val / 16) + _ = 128 * (0 + (pairOf x).val) + _
      rw [pt_div]
    exact Eq.subst (motive := fun i : S8192x1024.Idx => i ∈ (((cfgM m).win 8).blk (pt (pairOf x) (bl y) (bl_lt y))).view.set) e (View.emb_mem_set _ _)
  have h := key (i 0) (i 1)
  rw [← eq_ix2 i] at h
  exact h

theorem cover9 (i : S8192x1024.Idx) : ∃ t : Fin (cfgM m).N, ((cfgM m).win 9).flush t = true ∧ i ∈ (((cfgM m).win 9).blk t).view.set := by
  have key : ∀ (y : Fin 8192) (x : Fin 1024), ∃ t : Fin (cfgM m).N, ((cfgM m).win 9).flush t = true ∧ (ix2 y x : S8192x1024.Idx) ∈ (((cfgM m).win 9).blk t).view.set := fun y x => by
    refine ⟨pt (pairOf x) (bl y) (bl_lt y), flush_9 _, ?_⟩
    have e : ((((cfgM m).win 9).rect (pt (pairOf x) (bl y) (bl_lt y))).emb (ix2 (rw512 y) (laneOf x) : S512x128.Idx) : S8192x1024.Idx) = ix2 y x := by
      rw [emb9, pt_mod, pos_bl]
      refine congrArg (ix2 y) (Fin.ext ?_)
      refine Eq.trans ?_ (congrArg Fin.val (col_pairOf x (col_o _)))
      show 128 * (0 + (pt (pairOf x) (bl y) (bl_lt y)).val / 16) + _ = 128 * (0 + (pairOf x).val) + _
      rw [pt_div]
    exact Eq.subst (motive := fun i : S8192x1024.Idx => i ∈ (((cfgM m).win 9).blk (pt (pairOf x) (bl y) (bl_lt y))).view.set) e (View.emb_mem_set _ _)
  have h := key (i 0) (i 1)
  rw [← eq_ix2 i] at h
  exact h

theorem cover10 (i : S8x2x8192.Idx) : ∃ t : Fin (cfgM m).N, ((cfgM m).win 10).flush t = true ∧ i ∈ (((cfgM m).win 10).blk t).view.set := by
  have key : ∀ (p : Fin 8) (k : Fin 2) (y : Fin 8192), ∃ t : Fin (cfgM m).N, ((cfgM m).win 10).flush t = true ∧ (ix3 p k y : S8x2x8192.Idx) ∈ (((cfgM m).win 10).blk t).view.set := fun p k y => by
    refine ⟨pt p (bl y) (bl_lt y), flush_10 _, ?_⟩
    have e : ((((cfgM m).win 10).rect (pt p (bl y) (bl_lt y))).emb (ix3 0 k (rw512 y) : S1x2x512.Idx) : S8x2x8192.Idx) = ix3 p k y := by
      rw [emb10, pt_mod, pos_bl]
      exact congrArg (fun z => ix3 z k y) (Fin.ext (pt_div p (bl y) (bl_lt y)))
    exact Eq.subst (motive := fun i : S8x2x8192.Idx => i ∈ (((cfgM m).win 10).blk (pt p (bl y) (bl_lt y))).view.set) e (View.emb_mem_set _ _)
  have h := key (i 0) (i 1) (i 2)
  rw [← eq_ix3 i] at h
  exact h

theorem cover11 (i : S8x2x8192.Idx) : ∃ t : Fin (cfgM m).N, ((cfgM m).win 11).flush t = true ∧ i ∈ (((cfgM m).win 11).blk t).view.set := by
  have key : ∀ (p : Fin 8) (k : Fin 2) (y : Fin 8192), ∃ t : Fin (cfgM m).N, ((cfgM m).win 11).flush t = true ∧ (ix3 p k y : S8x2x8192.Idx) ∈ (((cfgM m).win 11).blk t).view.set := fun p k y => by
    refine ⟨pt p 15 fifteen_lt, (flush_11 m _).mpr (pt_mod _ _ _), ?_⟩
    have e : ((((cfgM m).win 11).rect (pt p 15 fifteen_lt)).emb (ix3 0 k y : S1x2x8192.Idx) : S8x2x8192.Idx) = ix3 p k y := by
      rw [emb11]
      exact congrArg (fun z => ix3 z k y) (Fin.ext (pt_div p 15 fifteen_lt))
    exact Eq.subst (motive := fun i : S8x2x8192.Idx => i ∈ (((cfgM m).win 11).blk (pt p 15 fifteen_lt)).view.set) e (View.emb_mem_set _ _)
  have h := key (i 0) (i 1) (i 2)
  rw [← eq_ix3 i] at h
  exact h

end

/-! ## The arrays after the call -/

section
variable (H : Found m c A)
include H

theorem out7 : ((dats m 0 c).arrAt 7 (cfgM m).N : S8192x1024.Idx → EReal) = up2 A.fdq :=
  Dat.arrAt_eq_of_cover (dats m 0 c) 7 (up2 A.fdq : S8192x1024.Idx → EReal)
    (fun t hf => (left7 H t ((flush_7 m t).mp hf)).trans (res7 m A t).symm) (cover7 m)
theorem out8 : ((dats m 0 c).arrAt 8 (cfgM m).N : S8192x1024.Idx → EReal) = up2 A.fdk :=
  Dat.arrAt_eq_of_cover (dats m 0 c) 8 (up2 A.fdk : S8192x1024.Idx → EReal)
    (fun t _ => (left8 H t).trans (res8 m A t).symm) (cover8 m)
theorem out9 : ((dats m 0 c).arrAt 9 (cfgM m).N : S8192x1024.Idx → EReal) = up2 A.fdv :=
  Dat.arrAt_eq_of_cover (dats m 0 c) 9 (up2 A.fdv : S8192x1024.Idx → EReal)
    (fun t _ => (left9 H t).trans (res9 m A t).symm) (cover9 m)
theorem out10 : ((dats m 0 c).arrAt 10 (cfgM m).N : S8x2x8192.Idx → EReal) = up8 A.fdck :=
  Dat.arrAt_eq_of_cover (dats m 0 c) 10 (up8 A.fdck : S8x2x8192.Idx → EReal)
    (fun t _ => (left10 H t).trans (res10 m A t).symm) (cover10 m)
theorem out11 : ((dats m 0 c).arrAt 11 (cfgM m).N : S8x2x8192.Idx → EReal) = up8 A.fdcq :=
  Dat.arrAt_eq_of_cover (dats m 0 c) 11 (up8 A.fdcq : S8x2x8192.Idx → EReal)
    (fun t hf => (left11 H t ((flush_11 m t).mp hf)).trans (res11 m A t).symm) (cover11 m)

end

end Cert.KernelIdeal.Attn

end
-- ==== Proof.Ideal.Soft.lean ====
/- Attention with forget logits and its gradient in real numbers, head by head, from the call's three arguments: the
   logits, their softmax, the gradients. The sums the kernel leaves, pair of heads by pair of heads (FinalVal.lean), are
   these gradients. No program is mentioned here but the shapes of its arrays. -/
module

public import proofs.«01_k».proof.Proof.Ideal.FinalVal

@[expose] public section

set_option maxRecDepth 16384

noncomputable section

namespace Cert.KernelIdeal.Attn

open Idealize.ShloMosaic

/-- The three arguments in reals: the queries, keys and values side by side, the running sums of the log-forget gates
    and the gradient of the attention's output. -/
structure Inp where
  x : Fin 8192 → Fin 3072 → ℝ
  g : Fin 8192 → Fin 16 → ℝ
  o : Fin 8192 → Fin 1024 → ℝ

/-- The column, of 1024, of a head's lane. -/
def hc (a : Fin 16) (d : Fin 64) : Fin 1024 := ⟨64 * a.val + d.val, by have := a.isLt; have := d.isLt; omega⟩

theorem third_lt (n : ℕ) (hn : n ≤ 2048) (x : Fin 1024) : n + x.val < 3072 := by have := x.isLt; omega

/-- A column of the queries, the keys and the values. -/
def third (n : ℕ) (hn : n ≤ 2048) (x : Fin 1024) : Fin 3072 := ⟨n + x.val, third_lt n hn x⟩

theorem c0 : 0 ≤ 2048 := by decide
theorem c1 : 1024 ≤ 2048 := by decide
theorem c2 : 2048 ≤ 2048 := by decide

/-- Maxima of finitely many reals and minus infinities, one real among them, are real. -/
theorem fold_max_real {ι : Type} [Fintype ι] (f : ι → EReal) (hf : ∀ i, f i < ⊤) (i₀ : ι) (h₀ : ⊥ < f i₀) :
    Finset.univ.fold max ⊥ f = (((Finset.univ.fold max ⊥ f).toReal : ℝ) : EReal) := by
  refine (EReal.coe_toReal ?_ ?_).symm
  · exact ne_of_lt ((Finset.fold_max_lt ⊤).mpr ⟨bot_lt_top, fun i _ => hf i⟩)
  · exact ne_of_gt ((Finset.lt_fold_max ⊥).mpr (Or.inr ⟨i₀, Finset.mem_univ _, h₀⟩))

namespace Inp

variable (I : Inp)

def q (y : Fin 8192) (a : Fin 16) (d : Fin 64) : ℝ := I.x y (third 0 c0 (hc a d))
def k (y : Fin 8192) (a : Fin 16) (d : Fin 64) : ℝ := I.x y (third 1024 c1 (hc a d))
def v (y : Fin 8192) (a : Fin 16) (d : Fin 64) : ℝ := I.x y (third 2048 c2 (hc a d))
def w (y : Fin 8192) (a : Fin 16) (d : Fin 64) : ℝ := I.o y (hc a d)

/-- The logit of query `y` and key `z`. -/
def s (a : Fin 16) (y z : Fin 8192) : ℝ := (∑ d, I.q y a d * I.k z a d) * (1 / 8) + (I.g y a - I.g z a)

/-- The logit, minus infinity for a key that comes after the query. -/
def t (a : Fin 16) (y z : Fin 8192) : EReal := if z.val ≤ y.val then ((I.s a y z : ℝ) : EReal) else ⊥

/-- The largest logit of a query. -/
def M (a : Fin 16) (y : Fin 8192) : ℝ := (Finset.univ.fold max ⊥ (I.t a y)).toReal

theorem M_eq (a : Fin 16) (y : Fin 8192) : Finset.univ.fold max ⊥ (I.t a y) = ((I.M a y : ℝ) : EReal) := by
  refine fold_max_real _ (fun z => ?_) y ?_
  · unfold t; split
    · exact EReal.coe_lt_top _
    · exact bot_lt_top
  · unfold t; rw [if_pos le_rfl]; exact EReal.bot_lt_coe _

def e (a : Fin 16) (y z : Fin 8192) : ℝ := if z.val ≤ y.val then Real.exp (I.s a y z - I.M a y) else 0
def S (a : Fin 16) (y : Fin 8192) : ℝ := ∑ z, I.e a y z

theorem e_nonneg (a : Fin 16) (y z : Fin 8192) : 0 ≤ I.e a y z := by
  unfold e; split
  · exact (Real.exp_pos _).le
  · exact le_rfl

theorem S_pos (a : Fin 16) (y : Fin 8192) : 0 < I.S a y := by
  refine Finset.sum_pos' (fun z _ => I.e_nonneg a y z) ⟨y, Finset.mem_univ _, ?_⟩
  unfold e; rw [if_pos le_rfl]; exact Real.exp_pos _

/-- The attention's weights. -/
def P (a : Fin 16) (y z : Fin 8192) : ℝ := I.e a y z * (1 / I.S a y)

/-- The attention's output. -/
def out (y : Fin 8192) (a : Fin 16) (d : Fin 64) : ℝ := ∑ z, I.v z a d * I.P a y z

/-- The gradient of the weights. -/
def dP (a : Fin 16) (y z : Fin 8192) : ℝ := ∑ d, I.w y a d * I.v z a d

/-- The output's gradient against the output. -/
def D (a : Fin 16) (y : Fin 8192) : ℝ := ∑ d, I.w y a d * I.out y a d

theorem D_eq (a : Fin 16) (y : Fin 8192) : I.D a y = ∑ z, I.dP a y z * I.P a y z := by
  unfold D out dP
  simp only [Finset.mul_sum, Finset.sum_mul]
  rw [Finset.sum_comm]
  exact Finset.sum_congr rfl fun z _ => Finset.sum_congr rfl fun d _ => by ring

/-- The gradient of the logits. -/
def dS (a : Fin 16) (y z : Fin 8192) : ℝ := I.P a y z * (I.dP a y z - I.D a y)

/-- The gradient of the logits as differentiating the softmax spells it. -/
theorem dS_eq (a : Fin 16) (y z : Fin 8192) :
    (if z.val ≤ y.val then (I.dP a y z * (1 / I.S a y) + -(∑ z', I.dP a y z' * (1 * (1 / (I.S a y * I.S a y))) * I.e a y z')) * I.e a y z else 0) = I.dS a y z := by
  have hS := (I.S_pos a y).ne'
  by_cases h : z.val ≤ y.val
  · rw [if_pos h]; unfold dS
    have hD : (∑ z', I.dP a y z' * (1 * (1 / (I.S a y * I.S a y))) * I.e a y z') = I.D a y * (1 / I.S a y) := by
      rw [D_eq, Finset.sum_mul]
      refine Finset.sum_congr rfl fun z' _ => ?_
      unfold P; field_simp
    rw [hD]; unfold P; ring
  · rw [if_neg h]; unfold dS P e; rw [if_neg h]; ring

def dq (y : Fin 8192) (a : Fin 16) (d : Fin 64) : ℝ := ∑ z, I.dS a y z * (1 / 8) * I.k z a d
def dk (z : Fin 8192) (a : Fin 16) (d : Fin 64) : ℝ := ∑ y, I.dS a y z * (1 / 8) * I.q y a d
def dv (z : Fin 8192) (a : Fin 16) (d : Fin 64) : ℝ := ∑ y, I.w y a d * I.P a y z
def dck (a : Fin 16) (z : Fin 8192) : ℝ := ∑ y, -I.dS a y z
def dcq (a : Fin 16) (y : Fin 8192) : ℝ := ∑ z, I.dS a y z

end Inp

/-! ## Pairs of heads -/

/-- A head from its pair and its place there. -/
def hh (p : Fin 8) (h : Fin 2) : Fin 16 := ⟨2 * p.val + h.val, by have := p.isLt; have := h.isLt; omega⟩
/-- A lane of a pair from its head's. -/
def ln (h : Fin 2) (d : Fin 64) : Fin 128 := ⟨64 * h.val + d.val, by have := h.isLt; have := d.isLt; omega⟩

theorem hd_ln (h : Fin 2) (d : Fin 64) : hd (ln h d) = h := by
  have := d.isLt
  unfold hd ln
  match h with
  | 0 => rw [if_pos (by show 64 * 0 + d.val < 64; omega)]
  | 1 => rw [if_neg (by show ¬ 64 * 1 + d.val < 64; omega)]

theorem hdot_ln (h : Fin 2) (a b : Fin 128 → ℝ) : hdot h a b = ∑ d : Fin 64, a (ln h d) * b (ln h d) := by
  unfold hdot
  have key : ∀ f : Fin 128 → ℝ, ∑ c, f c = ∑ d : Fin 64, f (ln 0 d) + ∑ d : Fin 64, f (ln 1 d) := fun f =>
    (Fin.sum_univ_add (a := 64) (b := 64) f).trans (congrArg₂ (· + ·)
      (Finset.sum_congr rfl fun d _ => congrArg f (Fin.ext (by show d.val = 64 * 0 + d.val; omega)))
      (Finset.sum_congr rfl fun d _ => congrArg f (Fin.ext (by show 64 + d.val = 64 * 1 + d.val; omega))))
  rw [key]; simp only [hd_ln]
  match h with
  | 0 => simp
  | 1 => simp

theorem pairOf_hc (p : Fin 8) (h : Fin 2) (d : Fin 64) : pairOf (hc (hh p h) d) = p := by
  have := p.isLt; have := h.isLt; have := d.isLt
  exact Fin.ext (by show (64 * (2 * p.val + h.val) + d.val) / 128 = p.val; omega)
theorem laneOf_hc (p : Fin 8) (h : Fin 2) (d : Fin 64) : laneOf (hc (hh p h) d) = ln h d := by
  have := p.isLt; have := h.isLt; have := d.isLt
  exact Fin.ext (by show (64 * (2 * p.val + h.val) + d.val) % 128 = 64 * h.val + d.val; omega)

/-- Every head is one of a pair. -/
theorem hh_surj (a : Fin 16) : ∃ p h, a = hh p h :=
  ⟨⟨a.val / 2, by have := a.isLt; omega⟩, ⟨a.val % 2, by omega⟩, Fin.ext (by show a.val = 2 * (a.val / 2) + a.val % 2; omega)⟩
/-- Every column is a head's lane. -/
theorem hc_surj (x : Fin 1024) : ∃ a d, x = hc a d :=
  ⟨⟨x.val / 64, by have := x.isLt; omega⟩, ⟨x.val % 64, by omega⟩, Fin.ext (by show x.val = 64 * (x.val / 64) + x.val % 64; omega)⟩

/-- The head of a column. -/
def headOf (x : Fin 1024) : Fin 16 := ⟨x.val / 64, by have := x.isLt; omega⟩
theorem headOf_hc (a : Fin 16) (d : Fin 64) : headOf (hc a d) = a := by
  have := a.isLt; have := d.isLt
  exact Fin.ext (by show (64 * a.val + d.val) / 64 = a.val; omega)

/-! ## The kernel's arrays and what it leaves -/

namespace Inp

variable (I : Inp)

/-- What the kernel is called with. -/
def arrays : Arrays where
  qkv := I.x
  o := I.o
  ck := fun y x => I.g y (headOf x)
  l := fun p h y => I.M (hh p h) y + Real.log (I.S (hh p h) y) - I.g y (hh p h)
  d := fun p h y => I.D (hh p h) y

theorem seq_q (p : Fin 8) (h : Fin 2) (y : Fin 8192) (d : Fin 64) : (I.arrays.seq p).q y (ln h d) = I.q y (hh p h) d :=
  congrArg (I.x y) (Fin.ext (by show 128 * (0 + p.val) + (64 * h.val + d.val) = 0 + (64 * (2 * p.val + h.val) + d.val); omega))
theorem seq_k (p : Fin 8) (h : Fin 2) (y : Fin 8192) (d : Fin 64) : (I.arrays.seq p).k y (ln h d) = I.k y (hh p h) d :=
  congrArg (I.x y) (Fin.ext (by show 128 * (8 + p.val) + (64 * h.val + d.val) = 1024 + (64 * (2 * p.val + h.val) + d.val); omega))
theorem seq_v (p : Fin 8) (h : Fin 2) (y : Fin 8192) (d : Fin 64) : (I.arrays.seq p).v y (ln h d) = I.v y (hh p h) d :=
  congrArg (I.x y) (Fin.ext (by show 128 * (16 + p.val) + (64 * h.val + d.val) = 2048 + (64 * (2 * p.val + h.val) + d.val); omega))
theorem seq_o (p : Fin 8) (h : Fin 2) (y : Fin 8192) (d : Fin 64) : (I.arrays.seq p).o y (ln h d) = I.w y (hh p h) d :=
  congrArg (I.o y) (Fin.ext (by show 128 * (0 + p.val) + (64 * h.val + d.val) = 64 * (2 * p.val + h.val) + d.val; omega))
theorem seq_ck (p : Fin 8) (h : Fin 2) (y : Fin 8192) : (I.arrays.seq p).ck y (hl h) = I.g y (hh p h) :=
  congrArg (I.g y) (Fin.ext (by
    show (128 * (0 + p.val) + (hl h).val) / 64 = 2 * p.val + h.val
    match h with
    | 0 => show (128 * (0 + p.val) + 0) / 64 = 2 * p.val + 0; omega
    | 1 => show (128 * (0 + p.val) + 64) / 64 = 2 * p.val + 1; omega))

theorem seq_E (p : Fin 8) (h : Fin 2) (z y : Fin 8192) : (I.arrays.seq p).E h z y = I.P (hh p h) y z := by
  unfold Seq.E P e
  by_cases hz : z.val ≤ y.val
  · rw [if_pos hz, if_pos hz, hdot_ln, seq_ck]
    simp only [seq_k, seq_q]
    have hl : (I.arrays.seq p).l h y = I.M (hh p h) y + Real.log (I.S (hh p h) y) - I.g y (hh p h) := rfl
    have hs : ∑ d, I.k z (hh p h) d * I.q y (hh p h) d = ∑ d, I.q y (hh p h) d * I.k z (hh p h) d := Finset.sum_congr rfl fun d _ => mul_comm _ _
    have hx : (∑ d, I.q y (hh p h) d * I.k z (hh p h) d) * (1 / 8) - I.g z (hh p h) - (I.M (hh p h) y + Real.log (I.S (hh p h) y) - I.g y (hh p h))
        = (I.s (hh p h) y z - I.M (hh p h) y) - Real.log (I.S (hh p h) y) := by unfold s; ring
    rw [hl, hs, hx, Real.exp_sub, Real.exp_log (I.S_pos _ _), div_eq_mul_one_div]
  · rw [if_neg hz, if_neg hz, zero_mul]

theorem seq_DS (p : Fin 8) (h : Fin 2) (z y : Fin 8192) : (I.arrays.seq p).DS h z y = I.dS (hh p h) y z := by
  unfold Seq.DS dS
  rw [seq_E, hdot_ln]
  simp only [seq_v, seq_o]
  have hd : (I.arrays.seq p).d h y = I.D (hh p h) y := rfl
  have hs : ∑ d, I.v z (hh p h) d * I.w y (hh p h) d = I.dP (hh p h) y z := Finset.sum_congr rfl fun d _ => mul_comm _ _
  rw [hd, hs]

theorem fdq_eq (y : Fin 8192) (a : Fin 16) (d : Fin 64) : I.arrays.fdq y (hc a d) = I.dq y a d := by
  obtain ⟨p, h, rfl⟩ := hh_surj a
  unfold Arrays.fdq Seq.fdq dq
  rw [pairOf_hc, laneOf_hc, hd_ln, Finset.sum_mul]
  exact Finset.sum_congr rfl fun z _ => by rw [seq_DS, seq_k]; ring
theorem fdk_eq (z : Fin 8192) (a : Fin 16) (d : Fin 64) : I.arrays.fdk z (hc a d) = I.dk z a d := by
  obtain ⟨p, h, rfl⟩ := hh_surj a
  unfold Arrays.fdk Seq.fdk dk
  rw [pairOf_hc, laneOf_hc, hd_ln, Finset.sum_mul]
  exact Finset.sum_congr rfl fun y _ => by rw [seq_DS, seq_q]; ring
theorem fdv_eq (z : Fin 8192) (a : Fin 16) (d : Fin 64) : I.arrays.fdv z (hc a d) = I.dv z a d := by
  obtain ⟨p, h, rfl⟩ := hh_surj a
  unfold Arrays.fdv Seq.fdv dv
  rw [pairOf_hc, laneOf_hc, hd_ln]
  exact Finset.sum_congr rfl fun y _ => by rw [seq_E, seq_o]; ring
theorem fdck_eq (p : Fin 8) (h : Fin 2) (z : Fin 8192) : I.arrays.fdck p h z = I.dck (hh p h) z := by
  unfold Arrays.fdck Seq.fdck dck
  rw [Finset.sum_neg_distrib]
  exact congrArg Neg.neg (Finset.sum_congr rfl fun y _ => seq_DS I p h z y)
theorem fdcq_eq (p : Fin 8) (h : Fin 2) (y : Fin 8192) : I.arrays.fdcq p h y = I.dcq (hh p h) y := by
  unfold Arrays.fdcq Seq.fdcq dcq
  exact Finset.sum_congr rfl fun z _ => seq_DS I p h z y

end Inp

end Cert.KernelIdeal.Attn

end
-- ==== Proof.Ideal.RefRead.lean ====
/- The reference program read entry by entry over the reals: its five results are the gradients of Soft.lean. Every stage
   is read at an index with the generated reading of its operation. -/
module

public import proofs.«01_k».proof.Proof.Ideal.Soft
public import proofs.«01_k».proof.Proof.Gen.ReferenceIdeal.Read

@[expose] public section

set_option maxRecDepth 16384

noncomputable section

namespace Cert.ReferenceIdeal.Attn

open Idealize.ShloMosaic Idealize.ShloMosaic.TcCoe
open Cert.ReferenceIdeal Cert.ReferenceIdeal.Gen Cert.ReferenceIdeal.Read
open Cert.KernelIdeal.Attn (Inp up2 up2_apply up8 coe_sum eighth hc third c0 c1 c2 hh hc_surj ext2)

/-! ## Indices -/

theorem i2 {a b : ℕ} (i : (⟨2, ![a, b]⟩ : Shape).Idx) (x : Fin a) (y : Fin b) (h0 : (i 0).val = x.val) (h1 : (i 1).val = y.val) : i = ix2 x y := by
  rw [eq_ix2 i]
  exact congrArg₂ ix2 (Fin.ext h0) (Fin.ext h1)

theorem i3 {a b c : ℕ} (i : (⟨3, ![a, b, c]⟩ : Shape).Idx) (x : Fin a) (y : Fin b) (z : Fin c)
    (h0 : (i 0).val = x.val) (h1 : (i 1).val = y.val) (h2 : (i 2).val = z.val) : i = ix3 x y z := by
  funext j
  match j with
  | ⟨0, _⟩ => exact Fin.ext h0
  | ⟨1, _⟩ => exact Fin.ext h1
  | ⟨2, _⟩ => exact Fin.ext h2

theorem zero32 : Ideal.ofBits .f32 0x00000000#32 = ((0 : ℝ) : EReal) := by
  simp [Ideal.ofBits, Ideal.ieee]
theorem one32 : Ideal.ofBits .f32 0x3F800000#32 = ((1 : ℝ) : EReal) := by
  simp [Ideal.ofBits, Ideal.ieee, -EReal.coe_mul]; norm_num
theorem bot32 : Ideal.ofBits .f32 0xFF800000#32 = (⊥ : EReal) := by
  simp [Ideal.ofBits, Ideal.ieee]

theorem toInt_small (n : ℕ) (h : n < 8192) : (BitVec.ofNat 32 n).toInt = n := by
  rw [BitVec.toInt_eq_toNat_of_lt (by rw [BitVec.toNat_ofNat]; omega), BitVec.toNat_ofNat]; congr 1; omega

theorem select_le {α : Type} (y z : Fin 8192) (p q : α) :
    Scalar.select (IntOp.cmpi .sle (BitVec.ofNat 32 z.val) (BitVec.ofNat 32 y.val)) p q = if z.val ≤ y.val then p else q := by
  have h : IntOp.cmpi .sle (BitVec.ofNat 32 z.val) (BitVec.ofNat 32 y.val) = BitVec.ofBool (decide (z.val ≤ y.val)) := by
    simp only [IntOp.cmpi, BitVec.sle, toInt_small _ z.isLt, toInt_small _ y.isLt, Nat.cast_le]
  rw [h]
  by_cases hh : z.val ≤ y.val <;> simp [hh, Scalar.select]

variable (I : Inp)

/-- The three arguments. -/
abbrev X0 : (⟨S8192x3072, .bf16⟩ : BufTy).Contents (Elt Ideal) := (up2 I.x : S8192x3072.Idx → EReal)
abbrev X1 : (⟨S8192x16, .f32⟩ : BufTy).Contents (Elt Ideal) := (up2 I.g : S8192x16.Idx → EReal)
abbrev X2 : (⟨S8192x1024, .bf16⟩ : BufTy).Contents (Elt Ideal) := (up2 I.o : S8192x1024.Idx → EReal)

/-! ## The logits -/

theorem r4 (y : Fin 8192) (a : Fin 16) (d : Fin 64) : val_main_v4 (F := Ideal) (X0 I) (ix3 y a d) = ((I.q y a d : ℝ) : EReal) := by
  rw [val_main_v4_apply, val_main_v3_apply, val_main_v0_apply]
  have := y.isLt; have := a.isLt; have := d.isLt
  exact congrArg (X0 I) (i2 _ y (third 0 c0 (hc a d))
    (by show ((y.val * 16 + a.val) * 64 + d.val) / 1024 = y.val; omega)
    (by show ((y.val * 16 + a.val) * 64 + d.val) % 1024 = 0 + (64 * a.val + d.val); omega))
theorem r6 (y : Fin 8192) (a : Fin 16) (d : Fin 64) : val_main_v6 (F := Ideal) (X0 I) (ix3 y a d) = ((I.k y a d : ℝ) : EReal) := by
  rw [val_main_v6_apply, val_main_v5_apply, val_main_v1_apply]
  have := y.isLt; have := a.isLt; have := d.isLt
  exact congrArg (X0 I) (i2 _ y (third 1024 c1 (hc a d))
    (by show ((y.val * 16 + a.val) * 64 + d.val) / 1024 = y.val; omega)
    (by show 1024 + ((y.val * 16 + a.val) * 64 + d.val) % 1024 = 1024 + (64 * a.val + d.val); omega))
theorem r55 (y : Fin 8192) (a : Fin 16) (d : Fin 64) : val_main_v55 (F := Ideal) (X0 I) (ix3 y a d) = ((I.v y a d : ℝ) : EReal) := by
  rw [val_main_v55_apply, val_main_v54_apply, val_main_v2_apply]
  have := y.isLt; have := a.isLt; have := d.isLt
  exact congrArg (X0 I) (i2 _ y (third 2048 c2 (hc a d))
    (by show ((y.val * 16 + a.val) * 64 + d.val) / 1024 = y.val; omega)
    (by show 2048 + ((y.val * 16 + a.val) * 64 + d.val) % 1024 = 2048 + (64 * a.val + d.val); omega))
theorem r60 (y : Fin 8192) (a : Fin 16) (d : Fin 64) : val_main_v60 (F := Ideal) (X2 I) (ix3 y a d) = ((I.w y a d : ℝ) : EReal) := by
  rw [val_main_v60_apply, val_main_v59_apply]
  have := y.isLt; have := a.isLt; have := d.isLt
  exact congrArg (X2 I) (i2 _ y (hc a d)
    (by show ((y.val * 16 + a.val) * 64 + d.val) / 1024 = y.val; omega)
    (by show ((y.val * 16 + a.val) * 64 + d.val) % 1024 = 64 * a.val + d.val; omega))

theorem r7 (a : Fin 16) (y z : Fin 8192) : val_main_v7 (F := Ideal) (X0 I) (ix3 a y z) = ((∑ d, I.q y a d * I.k z a d : ℝ) : EReal) := by
  rw [val_main_v7_apply, coe_sum]
  refine Finset.sum_congr rfl fun d _ => ?_
  rw [i3 (lidx_main_v7 (ix3 a y z) d) y a d rfl rfl rfl, i3 (ridx_main_v7 (ix3 a y z) d) z a d rfl rfl rfl, r4, r6, EReal.coe_mul]
theorem r8 (i : S16x8192x8192.Idx) : val_main_v8 (F := Ideal) i = ((1 / 8 : ℝ) : EReal) := by
  rw [val_main_v8_apply, val_main_cst_apply]; exact eighth
theorem r14 (a : Fin 16) (y z : Fin 8192) : val_main_v14 (F := Ideal) (X1 I) (ix3 a y z) = ((I.g y a : ℝ) : EReal) := by
  rw [val_main_v14_apply, val_main_v11_apply, val_main_v10_apply]; rfl
theorem r15 (a : Fin 16) (y z : Fin 8192) : val_main_v15 (F := Ideal) (X1 I) (ix3 a y z) = ((I.g z a : ℝ) : EReal) := by
  rw [val_main_v15_apply, val_main_v13_apply, val_main_v12_apply]; rfl
theorem r17 (a : Fin 16) (y z : Fin 8192) : val_main_v17 (F := Ideal) (X0 I) (X1 I) (ix3 a y z) = ((I.s a y z : ℝ) : EReal) := by
  rw [val_main_v17_apply, val_main_v9_apply, val_main_v16_apply, r7, r8, r14, r15]
  rw [Ideal.addf_def, Ideal.mulf_def, Ideal.subf_def, ← EReal.coe_mul, ← EReal.coe_sub, ← EReal.coe_add]; rfl
theorem r25_1 (a : Fin 16) (y z : Fin 8192) : val_main_v25_1 (F := Ideal) (ix3 a y z) = IntOp.cmpi .sle (BitVec.ofNat 32 z.val) (BitVec.ofNat 32 y.val) := by
  rw [val_main_v25_1_apply, val_main_v24_apply, val_main_v23_apply, val_main_v21_apply, val_main_v22_apply, val_main_v19_apply, val_main_v20_apply,
    val_main_v18_apply, val_main_v18_apply]
  rfl
theorem r25 (a : Fin 16) (y z : Fin 8192) : val_main_v25_0 (F := Ideal) (X0 I) (X1 I) (ix3 a y z) = I.t a y z := by
  rw [val_main_v25_0_apply, r25_1, r17, select_le, val_main_call0_v2_apply, val_main_call0_v0_apply, val_main_cst_0_apply]
  exact congrArg (ite _ _) bot32

/-! ## The softmax -/

theorem r26 (a : Fin 16) (y : Fin 8192) : val_main_v26 (F := Ideal) (X0 I) (X1 I) (ix2 a y) = ((I.M a y : ℝ) : EReal) := by
  rw [← I.M_eq]
  have h : ∀ X : (⟨S16x8192x8192, .f32⟩ : BufTy).Contents (Elt Ideal), (Host.reduce (FloatOps.maximumf (F := Ideal) (φ := .f32)) X (constant (F := Ideal) S_ .f32 0xFF800000#32) reducesTo_S16x8192x8192_S16x8192_d2 h_S_ : S16x8192.Idx → EReal) (ix2 a y)
      = Finset.univ.fold max ⊥ fun z => (X (ix3 a y z) : EReal) := by
    intro X
    pointwise []
    rw [bot32]
  refine (h _).trans ?_
  exact congrArg (fun f => Finset.univ.fold max ⊥ f) (funext fun z => r25 I a y z)

theorem r44 (a : Fin 16) (y z : Fin 8192) : val_main_v44 (F := Ideal) (X0 I) (X1 I) (ix3 a y z) = ((I.M a y : ℝ) : EReal) := by
  rw [val_main_v44_apply, val_main_v43_apply, val_main_v33_apply, val_main_v32_apply, val_main_cst_3_apply,
    i2 (idx_main_v43 (idx_main_v44 (ix3 a y z))) a y rfl rfl, r26]
  show max (Ideal.ofBits .f32 0xFF800000#32) _ = _
  rw [bot32]; exact max_eq_right bot_le

/-- The exponential of a logit less the largest. -/
theorem exp_t (a : Fin 16) (y z : Fin 8192) : Ideal.exp (I.t a y z - ((I.M a y : ℝ) : EReal)) = ((I.e a y z : ℝ) : EReal) := by
  unfold Inp.t Inp.e
  by_cases h : z.val ≤ y.val
  · rw [if_pos h, if_pos h, ← EReal.coe_sub, Ideal.exp_coe]
  · rw [if_neg h, if_neg h, EReal.bot_sub, Ideal.exp_bot]; rfl

theorem r46 (a : Fin 16) (y z : Fin 8192) : val_main_v46 (F := Ideal) (X0 I) (X1 I) (ix3 a y z) = ((I.e a y z : ℝ) : EReal) := by
  rw [val_main_v46_apply, val_main_v45_apply, r25, r44]
  exact exp_t I a y z

theorem r47 (a : Fin 16) (y : Fin 8192) : val_main_v47 (F := Ideal) (X0 I) (X1 I) (ix2 a y) = ((I.S a y : ℝ) : EReal) := by
  rw [val_main_v47_apply, val_main_cst_9_apply, Ideal.ofBits_def, zero32, EReal.coe_zero, zero_add]
  unfold Inp.S
  rw [coe_sum]
  refine Finset.sum_congr rfl fun z _ => ?_
  rw [i3 (idx_main_v47 (ix2 a y) z) a y z rfl rfl rfl, r46]

theorem r48 (a : Fin 16) (y : Fin 8192) (z : Fin 1) : val_main_v48 (F := Ideal) (X0 I) (X1 I) (ix3 a y z) = ((I.S a y : ℝ) : EReal) := by
  rw [val_main_v48_apply, i2 (idx_main_v48 (ix3 a y z)) a y rfl rfl, r47]
theorem r50 (a : Fin 16) (y z : Fin 8192) : val_main_v50 (F := Ideal) (X0 I) (X1 I) (ix3 a y z) = ((I.P a y z : ℝ) : EReal) := by
  rw [val_main_v50_apply, val_main_v49_apply, i3 (idx_main_v49 (ix3 a y z)) a y (0 : Fin 1) rfl rfl rfl, r46, r48, Ideal.hostDivf_def,
    Ideal.div_coe (I.S_pos a y).ne', ← EReal.coe_mul]
  rfl
theorem r53 (a : Fin 16) (y : Fin 8192) (z : Fin 1) : val_main_v53 (F := Ideal) (X0 I) (X1 I) (ix3 a y z) = ((1 * (1 / (I.S a y * I.S a y)) : ℝ) : EReal) := by
  rw [val_main_v53_apply, val_main_v52_apply, val_main_cst_10_apply, val_main_v51_apply, r48, Ideal.hostDivf_def, Ideal.mulf_def, ← EReal.coe_mul,
    Ideal.div_coe (mul_pos (I.S_pos a y) (I.S_pos a y)).ne', Ideal.ofBits_def, one32, ← EReal.coe_mul]

/-- The attention's output. -/
theorem r58 (y : Fin 8192) (a : Fin 16) (d : Fin 64) : val_main_v58 (F := Ideal) (X0 I) (X1 I) (ix2 y (hc a d)) = ((I.out y a d : ℝ) : EReal) := by
  have := y.isLt; have := a.isLt; have := d.isLt
  rw [val_main_v58_apply, i3 (idx_main_v58 (ix2 y (hc a d))) y a d
    (by show (y.val * 1024 + (64 * a.val + d.val)) / 1024 = y.val; omega)
    (by show (y.val * 1024 + (64 * a.val + d.val)) / 64 % 16 = a.val; omega)
    (by show (y.val * 1024 + (64 * a.val + d.val)) % 64 = d.val; omega),
    val_main_v57_apply, i3 (idx_main_v57 (ix3 y a d)) a d y rfl rfl rfl, val_main_v56_apply]
  unfold Inp.out
  rw [coe_sum]
  refine Finset.sum_congr rfl fun z _ => ?_
  rw [i3 (lidx_main_v56 (ix3 a d y) z) z a d rfl rfl rfl, i3 (ridx_main_v56 (ix3 a d y) z) a y z rfl rfl rfl, r55, r50, EReal.coe_mul]

/-! ## The gradients -/

theorem r61 (a : Fin 16) (d : Fin 64) (y : Fin 8192) : val_main_v61 (F := Ideal) (X2 I) (ix3 a d y) = ((I.w y a d : ℝ) : EReal) := by
  rw [val_main_v61_apply, i3 (idx_main_v61 (ix3 a d y)) y a d rfl rfl rfl, r60]

theorem r62 (a : Fin 16) (y z : Fin 8192) : val_main_v62 (F := Ideal) (X0 I) (X2 I) (ix3 a y z) = ((I.dP a y z : ℝ) : EReal) := by
  rw [val_main_v62_apply]
  unfold Inp.dP
  rw [coe_sum]
  refine Finset.sum_congr rfl fun d _ => ?_
  rw [i3 (lidx_main_v62 (ix3 a y z) d) a d y rfl rfl rfl, i3 (ridx_main_v62 (ix3 a y z) d) z a d rfl rfl rfl, r61, r55, EReal.coe_mul]

/-- A head's lane in a row of 1024. -/
theorem back (y : Fin 8192) (a : Fin 16) (d : Fin 64) (i : S8192x16x64.Idx) (h0 : (i 0).val = (y.val * 1024 + (64 * a.val + d.val)) / 1024)
    (h1 : (i 1).val = (y.val * 1024 + (64 * a.val + d.val)) / 64 % 16) (h2 : (i 2).val = (y.val * 1024 + (64 * a.val + d.val)) % 64) : i = ix3 y a d := by
  have := y.isLt; have := a.isLt; have := d.isLt
  exact i3 i y a d (by rw [h0]; omega) (by rw [h1]; omega) (by rw [h2]; omega)

theorem r66 (z : Fin 8192) (a : Fin 16) (d : Fin 64) : val_main_v66 (F := Ideal) (X0 I) (X1 I) (X2 I) (ix2 z (hc a d)) = ((I.dv z a d : ℝ) : EReal) := by
  rw [val_main_v66_apply, back z a d (idx_main_v66 (ix2 z (hc a d))) rfl rfl rfl, val_main_v65_apply, val_main_v64_apply,
    i3 (idx_main_v64 (ix3 z a d)) a d z rfl rfl rfl, val_main_v63_apply, Ideal.truncf_def]
  unfold Inp.dv
  rw [coe_sum]
  refine Finset.sum_congr rfl fun y _ => ?_
  rw [i3 (lidx_main_v63 (ix3 a d z) y) a d y rfl rfl rfl, i3 (ridx_main_v63 (ix3 a d z) y) a y z rfl rfl rfl, r61, r50, EReal.coe_mul]

theorem r69 (a : Fin 16) (y z : Fin 8192) : val_main_v69 (F := Ideal) (X0 I) (X1 I) (X2 I) (ix3 a y z)
    = ((I.dP a y z * (1 * (1 / (I.S a y * I.S a y))) * I.e a y z : ℝ) : EReal) := by
  rw [val_main_v69_apply, val_main_v68_apply, val_main_v67_apply, i3 (idx_main_v67 (ix3 a y z)) a y (0 : Fin 1) rfl rfl rfl, r53, r62, r46,
    Ideal.mulf_def, Ideal.mulf_def, ← EReal.coe_mul, ← EReal.coe_mul]

/-- A sum over one index. -/
theorem one_sum (f : Fin 1 → EReal) : ∑ i : Fin 1, f i = f 0 := Fin.sum_univ_one f

theorem r70 (a : Fin 16) (y : Fin 8192) : val_main_v70 (F := Ideal) (X0 I) (X1 I) (X2 I) (ix2 a y)
    = ((∑ z, I.dP a y z * (1 * (1 / (I.S a y * I.S a y))) * I.e a y z : ℝ) : EReal) := by
  rw [val_main_v70_apply, val_main_cst_11_apply, Ideal.ofBits_def, zero32, EReal.coe_zero, zero_add, coe_sum]
  refine Finset.sum_congr rfl fun z _ => ?_
  rw [i3 (idx_main_v70 (ix2 a y) z) a y z rfl rfl rfl, r69]

/-- A row of the sixteen heads with a unit axis. -/
theorem unit (a : Fin 16) (y : Fin 8192) (i : S16x8192.Idx) (h0 : (i 0).val = ((a.val * 8192 + y.val) * 1 + 0) / 8192)
    (h1 : (i 1).val = ((a.val * 8192 + y.val) * 1 + 0) % 8192) : i = ix2 a y := by
  have := y.isLt; have := a.isLt
  exact i2 i a y (by rw [h0]; omega) (by rw [h1]; omega)
theorem unit' (a : Fin 16) (y : Fin 8192) (i : S16x8192.Idx) (h0 : (i 0).val = ((a.val * 1 + 0) * 8192 + y.val) / 8192)
    (h1 : (i 1).val = ((a.val * 1 + 0) * 8192 + y.val) % 8192) : i = ix2 a y := by
  have := y.isLt; have := a.isLt
  exact i2 i a y (by rw [h0]; omega) (by rw [h1]; omega)

theorem r75 (a : Fin 16) (y : Fin 8192) : val_main_v75 (F := Ideal) (X0 I) (X1 I) (X2 I) (ix2 a y)
    = ((-(∑ z, I.dP a y z * (1 * (1 / (I.S a y * I.S a y))) * I.e a y z) : ℝ) : EReal) := by
  rw [val_main_v75_apply, val_main_cst_12_apply, Ideal.ofBits_def, zero32, EReal.coe_zero, zero_add, one_sum, val_main_v72_apply, val_main_v71_apply,
    unit a y (idx_main_v71 (idx_main_v75 (ix2 a y) 0)) rfl rfl, r70]
  rfl

theorem r77 (a : Fin 16) (y z : Fin 8192) : val_main_v77 (F := Ideal) (X0 I) (X1 I) (X2 I) (ix3 a y z)
    = ((I.dP a y z * (1 / I.S a y) + -(∑ z', I.dP a y z' * (1 * (1 / (I.S a y * I.S a y))) * I.e a y z') : ℝ) : EReal) := by
  rw [val_main_v77_apply, val_main_v74_apply, val_main_v73_apply, i3 (idx_main_v73 (ix3 a y z)) a y (0 : Fin 1) rfl rfl rfl, r48, r62,
    val_main_v76_apply, i2 (idx_main_v76 (ix3 a y z)) a y rfl rfl, r75, Ideal.hostDivf_def, Ideal.div_coe (I.S_pos a y).ne', Ideal.addf_def,
    ← EReal.coe_mul, ← EReal.coe_add]

/-- The gradient of the logits. -/
theorem r79 (a : Fin 16) (y z : Fin 8192) : val_main_v79 (F := Ideal) (X0 I) (X1 I) (X2 I) (ix3 a y z) = ((I.dS a y z : ℝ) : EReal) := by
  rw [val_main_v79_apply, r25_1, select_le, val_main_v78_apply, r77, r46, val_main_call1_v0_apply, val_main_call1_cst_apply, Ideal.ofBits_def, zero32,
    Ideal.mulf_def, ← EReal.coe_mul, ← I.dS_eq]
  split <;> rfl

theorem r90 (a : Fin 16) (y z : Fin 8192) : val_main_v90 (F := Ideal) (X0 I) (X1 I) (X2 I) (ix3 a y z) = ((I.dS a y z * (1 / 8) : ℝ) : EReal) := by
  rw [val_main_v90_apply, r79, val_main_v89_apply, val_main_cst_17_apply, Ideal.ofBits_def, eighth, Ideal.mulf_def, ← EReal.coe_mul]

theorem r96 (z : Fin 8192) (a : Fin 16) (d : Fin 64) : val_main_v96 (F := Ideal) (X0 I) (X1 I) (X2 I) (ix2 z (hc a d)) = ((I.dk z a d : ℝ) : EReal) := by
  rw [val_main_v96_apply, back z a d (idx_main_v96 (ix2 z (hc a d))) rfl rfl rfl, val_main_v95_apply, val_main_v92_apply,
    i3 (idx_main_v92 (ix3 z a d)) a z d rfl rfl rfl, val_main_v91_apply, Ideal.truncf_def]
  unfold Inp.dk
  rw [coe_sum]
  refine Finset.sum_congr rfl fun y _ => ?_
  rw [i3 (lidx_main_v91 (ix3 a z d) y) a y z rfl rfl rfl, i3 (ridx_main_v91 (ix3 a z d) y) y a d rfl rfl rfl, r90, r4, ← EReal.coe_mul]

theorem r98 (y : Fin 8192) (a : Fin 16) (d : Fin 64) : val_main_v98 (F := Ideal) (X0 I) (X1 I) (X2 I) (ix2 y (hc a d)) = ((I.dq y a d : ℝ) : EReal) := by
  rw [val_main_v98_apply, back y a d (idx_main_v98 (ix2 y (hc a d))) rfl rfl rfl, val_main_v97_apply, val_main_v94_apply,
    i3 (idx_main_v94 (ix3 y a d)) a y d rfl rfl rfl, val_main_v93_apply, Ideal.truncf_def]
  unfold Inp.dq
  rw [coe_sum]
  refine Finset.sum_congr rfl fun z _ => ?_
  rw [i3 (lidx_main_v93 (ix3 a y d) z) a y z rfl rfl rfl, i3 (ridx_main_v93 (ix3 a y d) z) z a d rfl rfl rfl, r90, r6, ← EReal.coe_mul]

theorem r85 (a : Fin 16) (z : Fin 8192) : val_main_v85 (F := Ideal) (X0 I) (X1 I) (X2 I) (ix2 a z) = ((I.dck a z : ℝ) : EReal) := by
  rw [val_main_v85_apply, val_main_cst_15_apply, Ideal.ofBits_def, zero32, EReal.coe_zero, zero_add, one_sum, val_main_v84_apply,
    unit' a z (idx_main_v84 (idx_main_v85 (ix2 a z) 0)) rfl rfl, val_main_v83_apply, val_main_cst_14_apply, Ideal.ofBits_def, zero32, EReal.coe_zero, zero_add]
  unfold Inp.dck
  rw [coe_sum]
  refine Finset.sum_congr rfl fun y _ => ?_
  rw [i3 (idx_main_v83 (ix2 a z) y) a y z rfl rfl rfl, val_main_v82_apply, r79]
  rfl

theorem r87 (a : Fin 16) (y : Fin 8192) : val_main_v87 (F := Ideal) (X0 I) (X1 I) (X2 I) (ix2 a y) = ((I.dcq a y : ℝ) : EReal) := by
  rw [val_main_v87_apply, val_main_cst_16_apply, Ideal.ofBits_def, zero32, EReal.coe_zero, zero_add, one_sum, val_main_v81_apply,
    unit a y (idx_main_v81 (idx_main_v87 (ix2 a y) 0)) rfl rfl, val_main_v80_apply, val_main_cst_13_apply, Ideal.ofBits_def, zero32, EReal.coe_zero, zero_add]
  unfold Inp.dcq
  rw [coe_sum]
  refine Finset.sum_congr rfl fun z _ => ?_
  rw [i3 (idx_main_v80 (ix2 a y) z) a y z rfl rfl rfl, r79]

/-- The heads as pairs. -/
theorem pairs (p : Fin 8) (h : Fin 2) (y : Fin 8192) (i : S16x8192.Idx) (h0 : (i 0).val = ((p.val * 2 + h.val) * 8192 + y.val) / 8192)
    (h1 : (i 1).val = ((p.val * 2 + h.val) * 8192 + y.val) % 8192) : i = ix2 (hh p h) y := by
  have := y.isLt; have := p.isLt; have := h.isLt
  exact i2 i (hh p h) y (by rw [h0]; show _ = 2 * p.val + h.val; omega) (by rw [h1]; omega)

theorem r100 (p : Fin 8) (h : Fin 2) (z : Fin 8192) : val_main_v100 (F := Ideal) (X0 I) (X1 I) (X2 I) (ix3 p h z) = ((I.dck (hh p h) z : ℝ) : EReal) := by
  rw [val_main_v100_apply, pairs p h z (idx_main_v100 (ix3 p h z)) rfl rfl, val_main_v99_apply, val_main_v86_apply,
    i2 (idx_main_v86 (idx_main_v99 (ix2 (hh p h) z))) (hh p h) z rfl rfl, r85]
theorem r102 (p : Fin 8) (h : Fin 2) (y : Fin 8192) : val_main_v102 (F := Ideal) (X0 I) (X1 I) (X2 I) (ix3 p h y) = ((I.dcq (hh p h) y : ℝ) : EReal) := by
  rw [val_main_v102_apply, pairs p h y (idx_main_v102 (ix3 p h y)) rfl rfl, val_main_v101_apply, val_main_v88_apply,
    i2 (idx_main_v88 (idx_main_v101 (ix2 (hh p h) y))) (hh p h) y rfl rfl, r87]

/-! ## The five results -/

theorem cols (x : S8192x1024.Idx → EReal) (f : Fin 8192 → Fin 1024 → ℝ) (h : ∀ y a d, x (ix2 y (hc a d)) = ((f y (hc a d) : ℝ) : EReal)) : x = up2 f :=
  ext2 x f fun y c => by
    obtain ⟨a, d, rfl⟩ := hc_surj c
    exact h y a d

theorem rows (x : S8x2x8192.Idx → EReal) (f : Fin 8 → Fin 2 → Fin 8192 → ℝ) (h : ∀ p e y, x (ix3 p e y) = ((f p e y : ℝ) : EReal)) : x = up8 f := by
  have key : ∀ p e y, x (ix3 p e y) = up8 f (ix3 p e y) := h
  funext i
  have := key (i 0) (i 1) (i 2)
  rw [← eq_ix3 i] at this
  exact this

theorem ref98 : (val_main_v98 (F := Ideal) (X0 I) (X1 I) (X2 I) : S8192x1024.Idx → EReal) = up2 I.arrays.fdq :=
  cols _ _ fun y a d => by rw [I.fdq_eq]; exact r98 I y a d
theorem ref96 : (val_main_v96 (F := Ideal) (X0 I) (X1 I) (X2 I) : S8192x1024.Idx → EReal) = up2 I.arrays.fdk :=
  cols _ _ fun y a d => by rw [I.fdk_eq]; exact r96 I y a d
theorem ref66 : (val_main_v66 (F := Ideal) (X0 I) (X1 I) (X2 I) : S8192x1024.Idx → EReal) = up2 I.arrays.fdv :=
  cols _ _ fun y a d => by rw [I.fdv_eq]; exact r66 I y a d
theorem ref100 : (val_main_v100 (F := Ideal) (X0 I) (X1 I) (X2 I) : S8x2x8192.Idx → EReal) = up8 I.arrays.fdck :=
  rows _ _ fun p h y => by rw [I.fdck_eq]; exact r100 I p h y
theorem ref102 : (val_main_v102 (F := Ideal) (X0 I) (X1 I) (X2 I) : S8x2x8192.Idx → EReal) = up8 I.arrays.fdcq :=
  rows _ _ fun p h y => by rw [I.fdcq_eq]; exact r102 I p h y

end Cert.ReferenceIdeal.Attn

end
-- ==== Proof.Ideal.Prologue.lean ====
/- What the host operations before the kernel leave in the arrays it reads: the log-sums of the softmax, the output's
   gradient against the output, and the log-forget sums repeated over a head's lanes. The logits, the softmax and the
   output are the reference program's stages of the same arguments (RefRead.lean). -/
module

public import proofs.«01_k».proof.Proof.Ideal.RefRead

@[expose] public section

set_option maxRecDepth 16384

noncomputable section

namespace Cert.KernelIdeal.Attn

open Idealize.ShloMosaic Idealize.ShloMosaic.TcCoe Idealize.ShloMosaic.Tactic
open Cert.KernelIdeal.Gen
open Cert.ReferenceIdeal.Read (val_main_v25_0 val_main_v26 val_main_v58)
open Cert.ReferenceIdeal.Attn (X0 X1 X2 r25 r26 r58 exp_t i2 i3 zero32)

variable (m : (ℓ : Loc nD τ sig) → Buf (Elt Ideal) ℓ) (c : Dev nD)

/-- The exponentials of the logits less the largest. -/
def pE (x0 : (⟨S8192x3072, .bf16⟩ : BufTy).Contents (Elt Ideal)) (x1 : (⟨S8192x16, .f32⟩ : BufTy).Contents (Elt Ideal)) : (⟨S16x8192x8192, .f32⟩ : BufTy).Contents (Elt Ideal) :=
  Host.exp (F := Ideal) (φ := .f32) (subf (F := Ideal) (φ := .f32) (val_main_v25_0 (F := Ideal) x0 x1) (broadcastInDim S16x8192x8192 ![0, 1, 2] bcast_S16x8192x1_S16x8192x8192_0_1_2
    (broadcastInDim S16x8192x1 ![0, 1] bcast_S16x8192_S16x8192x1_0_1 (val_main_v26 (F := Ideal) x0 x1))))

/-- The log-sums less the queries' log-forget sums. -/
def pL (x0 : (⟨S8192x3072, .bf16⟩ : BufTy).Contents (Elt Ideal)) (x1 : (⟨S8192x16, .f32⟩ : BufTy).Contents (Elt Ideal)) : (⟨S16x8192, .f32⟩ : BufTy).Contents (Elt Ideal) :=
  subf (F := Ideal) (φ := .f32) (addf (F := Ideal) (φ := .f32) (val_main_v26 (F := Ideal) x0 x1) (Host.log (F := Ideal) (φ := .f32) (Host.reduceAdd (F := Ideal) (φ := .f32) (pE x0 x1) (constant (F := Ideal) S_ .f32 0x00000000#32) reducesTo_S16x8192x8192_S16x8192_d2 h_S_)))
    (transpose S16x8192 [1, 0] x1 transposes_S8192x16_S16x8192_1_0)

/-- The output's gradient times the output. -/
def pO (x0 : (⟨S8192x3072, .bf16⟩ : BufTy).Contents (Elt Ideal)) (x1 : (⟨S8192x16, .f32⟩ : BufTy).Contents (Elt Ideal)) (x2 : (⟨S8192x1024, .bf16⟩ : BufTy).Contents (Elt Ideal)) :
    (⟨S8192x1024, .f32⟩ : BufTy).Contents (Elt Ideal) :=
  mulf (F := Ideal) (φ := .f32) (extf (F := Ideal) (φ := .bf16) .f32 x2 bitsLt_bf16_f32) (val_main_v58 (F := Ideal) x0 x1)

/-- Its sums over a head's lanes. -/
def pD (x : (⟨S8192x1024, .f32⟩ : BufTy).Contents (Elt Ideal)) : (⟨S16x8192, .f32⟩ : BufTy).Contents (Elt Ideal) :=
  transpose S16x8192 [1, 0] (Host.reduceAdd (F := Ideal) (φ := .f32) (shapeCast S8192x16x64 x shapeCasts_S8192x1024_S8192x16x64) (constant (F := Ideal) S_ .f32 0x00000000#32) reducesTo_S8192x16x64_S8192x16_d2 h_S_)
    transposes_S8192x16_S16x8192_1_0

/-- The log-forget sums over a head's lanes. -/
def pC (x1 : (⟨S8192x16, .f32⟩ : BufTy).Contents (Elt Ideal)) : (⟨S8192x1024, .f32⟩ : BufTy).Contents (Elt Ideal) :=
  shapeCast S8192x1024 (broadcastInDim S8192x16x64 ![0, 1, 2] bcast_S8192x16x1_S8192x16x64_0_1_2 (broadcastInDim S8192x16x1 ![0, 1] bcast_S8192x16_S8192x16x1_0_1 x1)) shapeCasts_S8192x16x64_S8192x1024

set_option maxHeartbeats 1600000 in
theorem V_v61 : V m c main_v61 = pC (m ((c : Thread nD τ).loc main_arg1)) := by
  show StableHlo.after _ _ _ = _
  after_reads_simp
  rfl

set_option maxHeartbeats 1600000 in
theorem V_v52 : V m c main_v52 = shapeCast S8x2x8192 (pL (m ((c : Thread nD τ).loc main_arg0)) (m ((c : Thread nD τ).loc main_arg1))) shapeCasts_S16x8192_S8x2x8192 := by
  show StableHlo.after _ _ _ = _
  after_reads_simp
  rfl

set_option maxHeartbeats 1600000 in
theorem V_v58 : V m c main_v58 = shapeCast S8x2x8192 (pD (pO (m ((c : Thread nD τ).loc main_arg0)) (m ((c : Thread nD τ).loc main_arg1)) (m ((c : Thread nD τ).loc main_arg2)))) shapeCasts_S16x8192_S8x2x8192 := by
  show StableHlo.after _ _ _ = _
  after_reads_simp
  rfl

end Cert.KernelIdeal.Attn

end
-- ==== Proof.Ideal.FoundAt.lean ====
/- The arrays the kernel is called with, read entry by entry: with real arguments they are the arrays of Soft.lean. -/
module

public import proofs.«01_k».proof.Proof.Ideal.Prologue

@[expose] public section

set_option maxRecDepth 16384

noncomputable section

namespace Cert.KernelIdeal.Attn

open Idealize.ShloMosaic Idealize.ShloMosaic.TcCoe
open Cert.KernelIdeal.Gen
open Cert.ReferenceIdeal.Read
open Cert.ReferenceIdeal.Attn (X0 X1 X2 r26 r47 r58 i2 i3 zero32 bot32 cols rows)

/-- The largest logit, once more against minus infinity. -/
theorem v33_eq (x0 : (⟨S8192x3072, .bf16⟩ : BufTy).Contents (Elt Ideal)) (x1 : (⟨S8192x16, .f32⟩ : BufTy).Contents (Elt Ideal)) :
    val_main_v33 (F := Ideal) x0 x1 = val_main_v26 (F := Ideal) x0 x1 := by
  funext i
  rw [val_main_v33_apply, val_main_v32_apply, val_main_cst_3_apply]
  show max (Ideal.ofBits .f32 0xFF800000#32) _ = _
  rw [bot32]; exact max_eq_right bot_le

theorem pE_eq (x0 : (⟨S8192x3072, .bf16⟩ : BufTy).Contents (Elt Ideal)) (x1 : (⟨S8192x16, .f32⟩ : BufTy).Contents (Elt Ideal)) :
    pE x0 x1 = val_main_v46 (F := Ideal) x0 x1 := by
  unfold pE val_main_v46 val_main_v45 val_main_v44 val_main_v43
  rw [v33_eq]

theorem pL_eq (x0 : (⟨S8192x3072, .bf16⟩ : BufTy).Contents (Elt Ideal)) (x1 : (⟨S8192x16, .f32⟩ : BufTy).Contents (Elt Ideal)) :
    pL x0 x1 = subf (F := Ideal) (φ := .f32) (addf (F := Ideal) (φ := .f32) (val_main_v26 (F := Ideal) x0 x1) (Host.log (F := Ideal) (φ := .f32) (val_main_v47 (F := Ideal) x0 x1))) (val_main_v10 (F := Ideal) x1) := by
  unfold pL val_main_v47 val_main_v10 val_main_cst_9
  rw [pE_eq]

variable (I : Inp)

theorem log_real (x : ℝ) (h : 0 < x) : Ideal.log ((x : ℝ) : EReal) = ((Real.log x : ℝ) : EReal) := by
  rw [Ideal.log_coe, if_neg (not_le.mpr h)]

/-- A difference of a sum with a logarithm, entry by entry. -/
theorem log_at (u w z : FVec Ideal S16x8192 .f32) (i : S16x8192.Idx) :
    subf (addf u (Host.log w)) z i = FloatOps.subf (FloatOps.addf (u i) (FloatOps.hostUnary .log (w i))) (z i) := rfl

theorem v10_at (a : Fin 16) (y : Fin 8192) : val_main_v10 (F := Ideal) (X1 I) (ix2 a y) = ((I.g y a : ℝ) : EReal) := by
  rw [val_main_v10_apply]; rfl

theorem pL_at (a : Fin 16) (y : Fin 8192) : pL (X0 I) (X1 I) (ix2 a y) = ((I.M a y + Real.log (I.S a y) - I.g y a : ℝ) : EReal) := by
  refine (congrFun (pL_eq (X0 I) (X1 I)) (ix2 a y)).trans ((log_at _ _ _ (ix2 a y)).trans ?_)
  rw [r26, r47, v10_at, Ideal.hostUnary_log_def, log_real _ (I.S_pos a y), Ideal.addf_def, Ideal.subf_def, ← EReal.coe_add, ← EReal.coe_sub]

theorem pO_at (y : Fin 8192) (a : Fin 16) (d : Fin 64) : pO (X0 I) (X1 I) (X2 I) (ix2 y (hc a d)) = ((I.w y a d * I.out y a d : ℝ) : EReal) := by
  have ho := r58 I y a d
  unfold pO
  generalize val_main_v58 (F := Ideal) (X0 I) (X1 I) = w at ho ⊢
  show ((I.w y a d : ℝ) : EReal) * w (ix2 y (hc a d)) = _
  rw [ho, ← EReal.coe_mul]

theorem cast_at {φ : EltTy} (X : (⟨S8192x1024, φ⟩ : BufTy).Contents (Elt Ideal)) (y : Fin 8192) (a : Fin 16) (d : Fin 64) :
    shapeCast S8192x16x64 X shapeCasts_S8192x1024_S8192x16x64 (ix3 y a d) = X (ix2 y (hc a d)) :=
  shapeCast_apply X shapeCasts_S8192x1024_S8192x16x64 (ix3 y a d) (ix2 y (hc a d))
    (by rewrite [Shape.rowMajor_val_two, Shape.rowMajor_val_three]; show y.val * 1024 + (64 * a.val + d.val) = (y.val * 16 + a.val) * 64 + d.val; omega)

theorem uncast_at {φ : EltTy} (X : (⟨S8192x16x64, φ⟩ : BufTy).Contents (Elt Ideal)) (y : Fin 8192) (a : Fin 16) (d : Fin 64) :
    shapeCast S8192x1024 X shapeCasts_S8192x16x64_S8192x1024 (ix2 y (hc a d)) = X (ix3 y a d) :=
  shapeCast_apply X shapeCasts_S8192x16x64_S8192x1024 (ix2 y (hc a d)) (ix3 y a d)
    (by rewrite [Shape.rowMajor_val_two, Shape.rowMajor_val_three]; show (y.val * 16 + a.val) * 64 + d.val = y.val * 1024 + (64 * a.val + d.val); omega)

theorem pair_at {φ : EltTy} (X : (⟨S16x8192, φ⟩ : BufTy).Contents (Elt Ideal)) (p : Fin 8) (h : Fin 2) (y : Fin 8192) :
    shapeCast S8x2x8192 X shapeCasts_S16x8192_S8x2x8192 (ix3 p h y) = X (ix2 (hh p h) y) :=
  shapeCast_apply X shapeCasts_S16x8192_S8x2x8192 (ix3 p h y) (ix2 (hh p h) y)
    (by rewrite [Shape.rowMajor_val_two, Shape.rowMajor_val_three]; show (2 * p.val + h.val) * 8192 + y.val = (p.val * 2 + h.val) * 8192 + y.val; omega)

theorem sum64 (Y : (⟨S8192x16x64, .f32⟩ : BufTy).Contents (Elt Ideal)) (y : Fin 8192) (a : Fin 16) :
    (Host.reduceAdd (F := Ideal) (φ := .f32) Y (constant (F := Ideal) S_ .f32 0x00000000#32) reducesTo_S8192x16x64_S8192x16_d2 h_S_ : S8192x16.Idx → EReal) (ix2 y a) = ∑ d : Fin 64, (Y (ix3 y a d) : EReal) := by
  simp only [Host.reduceAdd, Ideal.hostReduceAdd_def]
  rw [Ideal.hostReduceAdd_single reducesTo_S8192x16x64_S8192x16_d2 (by decide)]
  refine (congrArg₂ (· + ·) (zero32.trans EReal.coe_zero) (Finset.sum_congr rfl fun d _ => ?_)).trans (zero_add _)
  exact congrArg Y (funext fun b => Fin.ext (by match b with | ⟨0, _⟩ => rfl | ⟨1, _⟩ => rfl | ⟨2, _⟩ => rfl))

theorem pD_at (X : (⟨S8192x1024, .f32⟩ : BufTy).Contents (Elt Ideal)) (a : Fin 16) (y : Fin 8192) : (pD X (ix2 a y) : EReal) = ∑ d : Fin 64, (X (ix2 y (hc a d)) : EReal) := by
  unfold pD
  refine (transpose_apply [1, 0] _ transposes_S8192x16_S16x8192_1_0 (ix2 a y) (ix2 y a) (fun b => match b with
    | ⟨0, _⟩ => rfl
    | ⟨1, _⟩ => rfl)).trans ?_
  refine (sum64 _ y a).trans (Finset.sum_congr rfl fun d _ => ?_)
  exact cast_at X y a d

theorem pC_at (y : Fin 8192) (a : Fin 16) (d : Fin 64) : pC (X1 I) (ix2 y (hc a d)) = ((I.g y a : ℝ) : EReal) := by
  unfold pC
  refine (uncast_at (φ := .f32) _ y a d).trans ?_
  refine (broadcastInDim_apply _ bcast_S8192x16x1_S8192x16x64_0_1_2 _ (ix3 y a d) (ix3 y a (0 : Fin 1)) (fun b => match b with
    | ⟨0, _⟩ => by show y.val = if (8192 : Nat) = 1 then 0 else y.val; rw [if_neg (by decide)]
    | ⟨1, _⟩ => by show a.val = if (16 : Nat) = 1 then 0 else a.val; rw [if_neg (by decide)]
    | ⟨2, _⟩ => by show 0 = if (1 : Nat) = 1 then 0 else d.val; rw [if_pos rfl])).trans ?_
  exact broadcastInDim_apply _ bcast_S8192x16_S8192x16x1_0_1 (X1 I) (ix3 y a (0 : Fin 1)) (ix2 y a) (fun b => match b with
    | ⟨0, _⟩ => by show y.val = if (8192 : Nat) = 1 then 0 else y.val; rw [if_neg (by decide)]
    | ⟨1, _⟩ => by show a.val = if (16 : Nat) = 1 then 0 else a.val; rw [if_neg (by decide)])

theorem l_eq : (shapeCast S8x2x8192 (pL (X0 I) (X1 I)) shapeCasts_S16x8192_S8x2x8192 : S8x2x8192.Idx → EReal) = up8 I.arrays.l :=
  rows _ _ fun p h y => (pair_at (φ := .f32) _ p h y).trans (pL_at I (hh p h) y)

theorem d_eq : (shapeCast S8x2x8192 (pD (pO (X0 I) (X1 I) (X2 I))) shapeCasts_S16x8192_S8x2x8192 : S8x2x8192.Idx → EReal) = up8 I.arrays.d :=
  rows _ _ fun p h y => by
    refine (pair_at (φ := .f32) _ p h y).trans ((pD_at _ (hh p h) y).trans ?_)
    show _ = ((I.D (hh p h) y : ℝ) : EReal)
    unfold Inp.D
    rw [coe_sum]
    exact Finset.sum_congr rfl fun d _ => pO_at I y (hh p h) d

theorem ck_eq : (pC (X1 I) : S8192x1024.Idx → EReal) = up2 I.arrays.ck :=
  cols _ _ fun y a d => by
    refine (pC_at I y a d).trans ?_
    show _ = ((I.g y (headOf (hc a d)) : ℝ) : EReal)
    rw [headOf_hc]

/-- The kernel's arrays, from real arguments. -/
theorem found (m : (ℓ : Loc nD τ sig) → Buf (Elt Ideal) ℓ) (c : Dev nD) (h0 : m ((c : Thread nD τ).loc main_arg0) = X0 I)
    (h1 : m ((c : Thread nD τ).loc main_arg1) = X1 I) (h2 : m ((c : Thread nD τ).loc main_arg2) = X2 I) : Found m c I.arrays where
  qkv := (V_arg0 m c).trans h0
  o := (V_arg2 m c).trans h2
  ck := (V_v61 m c).trans ((congrArg pC h1).trans (ck_eq I))
  l := (V_v52 m c).trans ((congrArg₂ (fun x0 x1 => shapeCast S8x2x8192 (pL x0 x1) shapeCasts_S16x8192_S8x2x8192) h0 h1).trans (l_eq I))
  d := (V_v58 m c).trans ((congr (congrArg₂ (fun x0 x1 x2 => shapeCast S8x2x8192 (pD (pO x0 x1 x2)) shapeCasts_S16x8192_S8x2x8192) h0 h1) h2).trans (d_eq I))

end Cert.KernelIdeal.Attn

end
-- ==== Proof.Ideal.Value.lean ====
/- What the call leaves and what the reference leaves, from real arguments: the same five arrays, the gradients of
   Soft.lean. -/
module

public import proofs.«01_k».proof.Proof.Ideal.FoundAt
public import proofs.«01_k».proof.Proof.Ideal.FinalVal
public import proofs.«01_k».proof.Proof.Ideal.Frame
public import proofs.«01_k».proof.Proof.Gen.ReferenceIdeal.Run

@[expose] public section

set_option maxRecDepth 16384

noncomputable section

namespace Cert.KernelIdeal.Attn

open Idealize.ShloMosaic Idealize.ShloMosaic.TcCoe Idealize.SL.Sem
open Cert.KernelIdeal Cert.KernelIdeal.Gen
open Cert.ReferenceIdeal.Attn (X0 X1 X2 ref98 ref96 ref66 ref100 ref102)

/-- The call's five results on real arguments, with its arguments unchanged. -/
theorem value (I : Dev nD → Inp) (m : (ℓ : Loc nD τ sig) → Buf (Elt Ideal) ℓ) (ρ : Dev nD → PrngReg)
    (hx : ∀ c : Dev nD, m ((c.tc : Thread nD τ).loc main_arg0) = X0 (I c) ∧ m ((c.tc : Thread nD τ).loc main_arg1) = X1 (I c)
      ∧ m ((c.tc : Thread nD τ).loc main_arg2) = X2 (I c)) :
    θ_run (defs (F := Ideal)) (onTc (τ := τ) (main (F := Ideal))) ⟨m, fun _ => 0, ρ⟩ (fun r => ∀ c : Dev nD,
      r.2.mem ((c.tc : Thread nD τ).loc main_v63_0) = (up2 (I c).arrays.fdq : S8192x1024.Idx → EReal)
      ∧ r.2.mem ((c.tc : Thread nD τ).loc main_v63_1) = (up2 (I c).arrays.fdk : S8192x1024.Idx → EReal)
      ∧ r.2.mem ((c.tc : Thread nD τ).loc main_v63_2) = (up2 (I c).arrays.fdv : S8192x1024.Idx → EReal)
      ∧ r.2.mem ((c.tc : Thread nD τ).loc main_v63_3) = (up8 (I c).arrays.fdck : S8x2x8192.Idx → EReal)
      ∧ r.2.mem ((c.tc : Thread nD τ).loc main_v63_4) = (up8 (I c).arrays.fdcq : S8x2x8192.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    have H : Found m c (I c).arrays := found (I c) m c (hx c).1 (hx c).2.1 (hx c).2.2
    ⟨((h.1 c).1 7).trans (out7 H), ((h.1 c).1 8).trans (out8 H), ((h.1 c).1 9).trans (out9 H),
     ((h.1 c).1 10).trans (out10 H), ((h.1 c).1 11).trans (out11 H),
     ((h.1 c).1 0).trans (((dats m 0 c).arrAt_in 0 rfl _).trans ((A_eq m c 0).trans (V_arg0 m c))),
     ((h.1 c).2 main_arg1 (by decide : main_arg1 ∈ Pipeline.restRefs sig spec0)).trans (V_arg1 m c),
     ((h.1 c).1 3).trans (((dats m 0 c).arrAt_in 3 rfl _).trans ((A_eq m c 3).trans (V_arg2 m c)))⟩) (run_main m ρ)

end Cert.KernelIdeal.Attn

namespace Cert.ReferenceIdeal.Attn

open Idealize.ShloMosaic Idealize.ShloMosaic.TcCoe Idealize.SL.Sem
open Cert.ReferenceIdeal Cert.ReferenceIdeal.Gen Cert.ReferenceIdeal.Read
open Cert.KernelIdeal.Attn (Inp up2 up8)

/-- A stage of three arguments at equal arguments. -/
theorem at3 {α β γ δ : Type} (f : α → β → γ → δ) {a a' : α} {b b' : β} {c c' : γ} (h0 : a = a') (h1 : b = b') (h2 : c = c') : f a b c = f a' b' c' := by
  rw [h0, h1, h2]

/-- The reference's five results on real arguments, with its arguments unchanged. -/
theorem value (I : Dev nD → Inp) (m : (ℓ : Loc nD τ sig) → Buf (Elt Ideal) ℓ) (ρ : Dev nD → PrngReg)
    (hx : ∀ c : Dev nD, m ((c.tc : Thread nD τ).loc main_arg0) = X0 (I c) ∧ m ((c.tc : Thread nD τ).loc main_arg1) = X1 (I c)
      ∧ m ((c.tc : Thread nD τ).loc main_arg2) = X2 (I c)) :
    θ_run (defs (F := Ideal)) (onTc (τ := τ) (main (F := Ideal))) ⟨m, fun _ => 0, ρ⟩ (fun r => ∀ c : Dev nD,
      r.2.mem ((c.tc : Thread nD τ).loc main_v98) = (up2 (I c).arrays.fdq : S8192x1024.Idx → EReal)
      ∧ r.2.mem ((c.tc : Thread nD τ).loc main_v96) = (up2 (I c).arrays.fdk : S8192x1024.Idx → EReal)
      ∧ r.2.mem ((c.tc : Thread nD τ).loc main_v66) = (up2 (I c).arrays.fdv : S8192x1024.Idx → EReal)
      ∧ r.2.mem ((c.tc : Thread nD τ).loc main_v100) = (up8 (I c).arrays.fdck : S8x2x8192.Idx → EReal)
      ∧ r.2.mem ((c.tc : Thread nD τ).loc main_v102) = (up8 (I c).arrays.fdcq : S8x2x8192.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c).1.trans ((val_main_v98_eq m c).trans ((at3 (val_main_v98 (F := Ideal)) (hx c).1 (hx c).2.1 (hx c).2.2).trans (ref98 (I c)))),
     (h c).2.1.trans ((val_main_v96_eq m c).trans ((at3 (val_main_v96 (F := Ideal)) (hx c).1 (hx c).2.1 (hx c).2.2).trans (ref96 (I c)))),
     (h c).2.2.1.trans ((val_main_v66_eq m c).trans ((at3 (val_main_v66 (F := Ideal)) (hx c).1 (hx c).2.1 (hx c).2.2).trans (ref66 (I c)))),
     (h c).2.2.2.1.trans ((val_main_v100_eq m c).trans ((at3 (val_main_v100 (F := Ideal)) (hx c).1 (hx c).2.1 (hx c).2.2).trans (ref100 (I c)))),
     (h c).2.2.2.2.1.trans ((val_main_v102_eq m c).trans ((at3 (val_main_v102 (F := Ideal)) (hx c).1 (hx c).2.1 (hx c).2.2).trans (ref102 (I c)))),
     (h c).2.2.2.2.2⟩) (Cert.ReferenceIdeal.Value.run (F := Ideal) m ρ)

end Cert.ReferenceIdeal.Attn

end
-- ==== Proof.Ideal.AllReal.lean ====
/- The precondition read: arguments whose entries all lie strictly between the two infinities are real matrices. -/
module

public import proofs.«01_k».proof.Proof.Ideal.RefRead
public import proofs.«01_k».proof.Proof.Gen.Pre_all_real
public import Idealize.ShloMosaic.Lib.ReduceAll

@[expose] public section

set_option maxRecDepth 16384

noncomputable section

namespace Cert.Pre_all_real.Attn

open Idealize.ShloMosaic
open Cert.Pre_all_real Cert.Pre_all_real.Gen
open Cert.KernelIdeal.Attn (Inp up2 ext2)
open Cert.ReferenceIdeal.Attn (X0 X1 X2 bot32)

theorem top32 : Ideal.ofBits .f32 0x7F800000#32 = (⊤ : EReal) := by
  simp [Ideal.ofBits, Ideal.ieee]

/-- Two truth values whose conjunction is true. -/
theorem and_one (a b : BitVec 1) (h : a &&& b = 1#1) : a = 1#1 ∧ b = 1#1 := by
  revert a b; decide

theorem of_bit (p : Prop) [Decidable p] (h : BitVec.ofBool (decide p) = 1#1) : p := by
  by_contra hp
  rw [decide_eq_false hp] at h
  exact absurd h (by decide)

/-- Every entry of an array found strictly between the infinities is a real. -/
theorem real_of {s : Shape} (hr : S_.BroadcastsInDim s (![] : Fin 0 → Fin s.rank)) (x : FVec Ideal s .f32) (i : s.Idx)
    (h : andi (cmpf (F := Ideal) .ogt x (broadcastInDim s ![] hr (constant (F := Ideal) S_ .f32 0xFF800000#32)))
      (cmpf (F := Ideal) .olt x (broadcastInDim s ![] hr (constant (F := Ideal) S_ .f32 0x7F800000#32))) i = 1#1) :
    (x i : EReal) = (((x i : EReal).toReal : ℝ) : EReal) := by
  obtain ⟨h1, h2⟩ := and_one _ _ h
  have g1 : Ideal.ofBits .f32 0xFF800000#32 < (x i : EReal) := of_bit _ h1
  have g2 : (x i : EReal) < Ideal.ofBits .f32 0x7F800000#32 := of_bit _ h2
  rw [bot32] at g1
  rw [top32] at g2
  exact (EReal.coe_toReal g2.ne g1.ne').symm

/-- A matrix of extended reals as reals. -/
def reals {a b : ℕ} (x : (⟨2, ![a, b]⟩ : Shape).Idx → EReal) (i : Fin a) (j : Fin b) : ℝ := (x (ix2 i j)).toReal

/-- The arguments, as reals. -/
def inp (x0 : S8192x3072.Idx → EReal) (x1 : S8192x16.Idx → EReal) (x2 : S8192x1024.Idx → EReal) : Inp := ⟨reals x0, reals x1, reals x2⟩

theorem read (x0 : FVec Ideal S8192x3072 .bf16) (x1 : FVec Ideal S8192x16 .f32) (x2 : FVec Ideal S8192x1024 .bf16)
    (h : fn (F := Ideal) x0 x1 x2 = fun _ => 1#1) : x0 = X0 (inp x0 x1 x2) ∧ x1 = X1 (inp x0 x1 x2) ∧ x2 = X2 (inp x0 x1 x2) := by
  have e := congrFun h ix0
  unfold fn fn_part1 at e
  obtain ⟨e', e2⟩ := and_one _ _ e
  obtain ⟨e0, e1⟩ := and_one _ _ e'
  haveI : Subsingleton S_.Idx := ⟨fun a b => funext fun k => k.elim0⟩
  exact ⟨ext2 _ _ fun i j => real_of _ _ _ (Host.reduce_andi_all _ _ _ _ _ e0 (ix2 i j)),
    ext2 _ _ fun i j => real_of _ _ _ (Host.reduce_andi_all _ _ _ _ _ e1 (ix2 i j)),
    ext2 _ _ fun i j => real_of _ _ _ (Host.reduce_andi_all _ _ _ _ _ e2 (ix2 i j))⟩

end Cert.Pre_all_real.Attn

end
-- ==== Proof.InGrad.Steps.lean ====
/- What one grid point of the input gradient's product leaves in the running sum, and in the result's block at the last
   step of a row block. -/
module

public import proofs.«01_k».proof.Proof.Gen.Kernel2Ideal.Value

@[expose] public section

set_option maxRecDepth 16384

noncomputable section

namespace Cert.Kernel2Ideal.InGrad

open Idealize.ShloMosaic Idealize.ShloMosaic.TcCoe Idealize.SL.Sem
open Cert.Kernel2Ideal Cert.Kernel2Ideal.Gen Cert.Kernel2Ideal.Value

variable {F : FTy → Type} [FloatOps F]

theorem off0 : (![0, 0] : Fin 2 → Nat) = fun _ => 0 := funext fun a => by fin_cases a <;> rfl

section
variable (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1024x1024 .bf16) (h6 : a6.IsWhole) (a7 : Memref sig .tc .vmem S1024x1024 .bf16) (h7 : a7.IsWhole) (a8 : Memref sig .tc .vmem S1024x1024 .f32) (h8 : a8.IsWhole) (a9 : Memref sig .tc .vmem S1024x1024 .f32) (h9 : a9.IsWhole)
variable (x0 x1 x2 x3 x4 : Vec F S1024x1024 .bf16) (xs : Vec F S1024x1024 .f32)

/-- The first step: from zero, the first part's block times its columns of the matrix. -/
theorem sum_A (hc0 : cond0_0 i) (hc1 : cond0_1 i) (hc2 : ¬cond0_2 i) (hc3 : ¬cond0_3 i) (hc4 : ¬cond0_4 i) (hc5 : ¬cond0_5 i) :
    sout0_A_0 c i a3 h3 a4 h4 a5 h5 a6 h6 a7 h7 a8 h8 a9 h9 hc0 hc1 hc2 hc3 hc4 hc5 x0 x1 x2 x3 x4 = k0_pay2 (F := F) (k0_pay1 (F := F)) x0 x4 := by
  unfold sout0_A_0
  rw [View.read_writes_eq_canon _ _ _ (scover0_A_0 c i a3 h3 a4 h4 a5 h5 a6 h6 a7 h7 a8 h8 a9 h9 hc0 hc1 hc2 hc3 hc4 hc5 x0 x1 x2 x3 x4)]
  unfold kernelRun0_A
  dsimp only
  sl_unfold_words
  rw [View.canon_cons_unit_zero (S := S1024x1024) off0, View.readCov_unit_zero (S := S1024x1024) _ off0]
  simp only [View.readAt_eq_ld, h3.read_unread, h4.read_unread, h5.read_unread, h6.read_unread, h7.read_unread, h9.read_unread, View.ld_unit_zero (S := S1024x1024) off0]

/-- The second step adds the second part's product. -/
theorem sum_B (hc0 : ¬cond0_0 i) (hc1 : ¬cond0_1 i) (hc2 : cond0_2 i) (hc3 : ¬cond0_3 i) (hc4 : ¬cond0_4 i) (hc5 : ¬cond0_5 i) :
    sout0_B_0 c i a3 h3 a4 h4 a5 h5 a6 h6 a7 h7 a8 h8 a9 h9 hc0 hc1 hc2 hc3 hc4 hc5 x0 x1 x2 x3 x4 xs = k0_pay3 xs x1 x4 := by
  unfold sout0_B_0
  rw [View.read_writes_eq_canon _ _ _ (scover0_B_0 c i a3 h3 a4 h4 a5 h5 a6 h6 a7 h7 a8 h8 a9 h9 hc0 hc1 hc2 hc3 hc4 hc5 x0 x1 x2 x3 x4 xs)]
  unfold kernelRun0_B
  dsimp only
  try sl_unfold_words
  rw [View.canon_unit_zero off0]
  simp only [View.readAt_eq_ld, h3.read_unread, h4.read_unread, h5.read_unread, h6.read_unread, h7.read_unread, h9.read_unread, View.ld_unit_zero (S := S1024x1024) off0]

/-- The third step adds the third part's product. -/
theorem sum_C (hc0 : ¬cond0_0 i) (hc1 : ¬cond0_1 i) (hc2 : ¬cond0_2 i) (hc3 : cond0_3 i) (hc4 : ¬cond0_4 i) (hc5 : ¬cond0_5 i) :
    sout0_C_0 c i a3 h3 a4 h4 a5 h5 a6 h6 a7 h7 a8 h8 a9 h9 hc0 hc1 hc2 hc3 hc4 hc5 x0 x1 x2 x3 x4 xs = k0_pay4 xs x2 x4 := by
  unfold sout0_C_0
  rw [View.read_writes_eq_canon _ _ _ (scover0_C_0 c i a3 h3 a4 h4 a5 h5 a6 h6 a7 h7 a8 h8 a9 h9 hc0 hc1 hc2 hc3 hc4 hc5 x0 x1 x2 x3 x4 xs)]
  unfold kernelRun0_C
  dsimp only
  try sl_unfold_words
  rw [View.canon_unit_zero off0]
  simp only [View.readAt_eq_ld, h3.read_unread, h4.read_unread, h5.read_unread, h6.read_unread, h7.read_unread, h9.read_unread, View.ld_unit_zero (S := S1024x1024) off0]

/-- The fourth step adds the fourth part's product. -/
theorem sum_D (hc0 : ¬cond0_0 i) (hc1 : ¬cond0_1 i) (hc2 : ¬cond0_2 i) (hc3 : ¬cond0_3 i) (hc4 : cond0_4 i) (hc5 : cond0_5 i) :
    sout0_D_0 c i a3 h3 a4 h4 a5 h5 a6 h6 a7 h7 a8 h8 a9 h9 hc0 hc1 hc2 hc3 hc4 hc5 x0 x1 x2 x3 x4 xs = k0_pay5 xs x3 x4 := by
  unfold sout0_D_0
  rw [View.read_writes_eq_canon _ _ _ (scover0_D_0 c i a3 h3 a4 h4 a5 h5 a6 h6 a7 h7 a8 h8 a9 h9 hc0 hc1 hc2 hc3 hc4 hc5 x0 x1 x2 x3 x4 xs)]
  unfold kernelRun0_D
  dsimp only
  try sl_unfold_words
  rw [View.canon_unit_zero off0]
  simp only [View.readAt_eq_ld, h3.read_unread, h4.read_unread, h5.read_unread, h6.read_unread, h7.read_unread, h9.read_unread, View.ld_unit_zero (S := S1024x1024) off0]

/-- The fourth step also stores the sum as the result's block. -/
theorem out_D (hc0 : ¬cond0_0 i) (hc1 : ¬cond0_1 i) (hc2 : ¬cond0_2 i) (hc3 : ¬cond0_3 i) (hc4 : cond0_4 i) (hc5 : cond0_5 i) :
    out0_D_5 c i a3 h3 a4 h4 a5 h5 a6 h6 a7 h7 a8 h8 a9 h9 hc0 hc1 hc2 hc3 hc4 hc5 x0 x1 x2 x3 x4 xs = k0_pay5 xs x3 x4 := by
  unfold out0_D_5
  rw [View.read_writes_eq_canon _ _ _ (cover0_D_5 c i a3 h3 a4 h4 a5 h5 a6 h6 a7 h7 a8 h8 a9 h9 hc0 hc1 hc2 hc3 hc4 hc5 x0 x1 x2 x3 x4 xs)]
  unfold kernelRun0_D
  dsimp only
  try sl_unfold_words
  rw [View.canon_unit_zero off0, View.readCov_unit_zero (S := S1024x1024) _ off0]
  simp only [View.readAt_eq_ld, h3.read_unread, h4.read_unread, h5.read_unread, h6.read_unread, h7.read_unread, h9.read_unread, View.ld_unit_zero (S := S1024x1024) off0]
end

variable (m : (ℓ : Loc nD τ sig) → Buf (Elt F) ℓ) (c : Dev nD) (t : Fin cfg0.N) (acc : Vec F S1024x1024 .f32 × Vec F S1024x1024 .f32)

theorem step_A (h : t.val % 4 = 0) : (stAt0 m c t.val t.isLt acc).2 = k0_pay2 (F := F) (k0_pay1 (F := F)) (iblk m c 0 t) (iblk m c 4 t) := by
  rw [stAt0_A m c t acc h h (by omega) (by omega) (by omega) (by omega)]; dsimp only; rw [sum_A]
theorem step_B (h : t.val % 4 = 1) : (stAt0 m c t.val t.isLt acc).2 = k0_pay3 (F := F) acc.2 (iblk m c 1 t) (iblk m c 4 t) := by
  rw [stAt0_B m c t acc (by omega) (by omega) h (by omega) (by omega) (by omega)]; dsimp only; rw [sum_B]
theorem step_C (h : t.val % 4 = 2) : (stAt0 m c t.val t.isLt acc).2 = k0_pay4 (F := F) acc.2 (iblk m c 2 t) (iblk m c 4 t) := by
  rw [stAt0_C m c t acc (by omega) (by omega) (by omega) h (by omega) (by omega)]; dsimp only; rw [sum_C]
theorem step_D (h : t.val % 4 = 3) : (stAt0 m c t.val t.isLt acc).1 = k0_pay5 (F := F) acc.2 (iblk m c 3 t) (iblk m c 4 t) := by
  rw [stAt0_D m c t acc (by omega) (by omega) (by omega) (by omega) h h]; dsimp only; rw [out_D]

end Cert.Kernel2Ideal.InGrad

end
-- ==== Proof.InGrad.Sum.lean ====
/- The product of the four parts laid side by side with a matrix's transpose, as sums over the extended reals: entry
   (i, n) is the sum over the parts s and their columns k of part s [i, k] times the matrix [n, 1024 s + k]. -/
module

public import Idealize.ShloMosaic.PureOps.Ideal.Laws
public import Idealize.ShloMosaic.Lib.MatmulPlain
public import Idealize.ShloMosaic.Lib.Pipeline.Value

@[expose] public section

set_option maxRecDepth 16384

noncomputable section

namespace Cert.Parts

open Idealize.ShloMosaic Idealize.ShloMosaic.ValueIdx
open scoped BigOperators

/-- Place k of block s of 1024, in an axis of 4096. -/
def at4 (s : Fin 4) (k : Fin 1024) : Fin 4096 := ⟨1024 * s.val + k.val, by have := s.isLt; have := k.isLt; omega⟩

/-- A sum over 4096 places is the sum over four blocks of 1024. -/
theorem sum4 (f : Fin 4096 → EReal) : ∑ k, f k = ∑ s : Fin 4, ∑ k : Fin 1024, f (at4 s k) := by
  rw [← Fintype.sum_prod_type' (f := fun s k => f (at4 s k))]
  refine (Fintype.sum_equiv (finProdFinEquiv (m := 4) (n := 1024)) _ _ fun p => congrArg f (Fin.ext ?_)).symm
  show 1024 * p.1.val + p.2.val = p.2.val + 1024 * p.1.val
  omega

/-- One part's share of an entry. -/
def share (x : (⟨2, ![8192, 1024]⟩ : Shape).Idx → EReal) (w : (⟨2, ![1024, 4096]⟩ : Shape).Idx → EReal) (s : Fin 4) (r : Fin 8192) (n : Fin 1024) : EReal :=
  ∑ k : Fin 1024, x (ix2 r k) * w (ix2 n (at4 s k))

/-- The whole product. -/
def prod (x0 x1 x2 x3 : (⟨2, ![8192, 1024]⟩ : Shape).Idx → EReal) (w : (⟨2, ![1024, 4096]⟩ : Shape).Idx → EReal) (i : (⟨2, ![8192, 1024]⟩ : Shape).Idx) : EReal :=
  share x0 w 0 (i 0) (i 1) + share x1 w 1 (i 0) (i 1) + share x2 w 2 (i 0) (i 1) + share x3 w 3 (i 0) (i 1)

end Cert.Parts

end
-- ==== Proof.InGrad.KernelVal.lean ====
/- The input gradient's product, read off the call: its result array is the product of the four parts with the matrix's
   transpose. -/
module

public import proofs.«01_k».proof.Proof.InGrad.Steps
public import proofs.«01_k».proof.Proof.InGrad.Sum

@[expose] public section

set_option maxRecDepth 16384

noncomputable section

namespace Cert.Kernel2Ideal.InGrad

open Idealize.ShloMosaic Idealize.ShloMosaic.TcCoe Idealize.ShloMosaic.ValueIdx Idealize.SL.Sem
open Idealize.ShloMosaic.Pipeline (Window)
open Cert.Kernel2Ideal Cert.Kernel2Ideal.Gen Cert.Kernel2Ideal.Value Cert.Parts
open scoped BigOperators

/-! ## One step, at an entry -/

/-- A step's product of two tiles, from zero. -/
theorem tile (a b : Vec Ideal S1024x1024 .bf16) (r n : Fin 1024) :
    matmul (F := Ideal) (φ₁ := .bf16) (φ₂ := .bf16) dot_S1024x1024_S1024x1024_S1024x1024_1_1_0_0_n_n none a b (constant (F := Ideal) S1024x1024 .f32 0x00000000#32) (ix2 r n)
      = ∑ k : Fin 1024, (a (ix2 r k) : EReal) * b (ix2 n k) := by
  show FloatOps.matmul (F := Ideal) (φ₁ := .bf16) (φ₂ := .bf16) (DotDims.transposedRhs 1024 1024 1024) none a b (constant (F := Ideal) S1024x1024 .f32 0x00000000#32) (ix2 r n) = _
  rw [Ideal.matmul_transposedRhs_apply]
  show Ideal.ofBits .f32 0x00000000#32 + _ = _
  rw [Ideal.ofBits_zero_f32, zero_add]

theorem pay1_at (i : S1024x1024.Idx) : (k0_pay1 (F := Ideal) i : EReal) = 0 := by
  unfold k0_pay1
  rw [shapeCast_self]
  exact Ideal.ofBits_zero_f32

variable (acc : Vec Ideal S1024x1024 .f32) (a b : Vec Ideal S1024x1024 .bf16) (r n : Fin 1024)

theorem pay2_at : (k0_pay2 (F := Ideal) acc a b (ix2 r n) : EReal) = acc (ix2 r n) + ∑ k : Fin 1024, (a (ix2 r k) : EReal) * b (ix2 n k) := by
  unfold k0_pay2
  rw [shapeCast_self]
  exact congrArg (fun z : EReal => (acc (ix2 r n) : EReal) + z) (tile a b r n)
theorem pay3_at : (k0_pay3 (F := Ideal) acc a b (ix2 r n) : EReal) = acc (ix2 r n) + ∑ k : Fin 1024, (a (ix2 r k) : EReal) * b (ix2 n k) := pay2_at acc a b r n
theorem pay4_at : (k0_pay4 (F := Ideal) acc a b (ix2 r n) : EReal) = acc (ix2 r n) + ∑ k : Fin 1024, (a (ix2 r k) : EReal) * b (ix2 n k) := pay2_at acc a b r n
theorem pay5_at : (k0_pay5 (F := Ideal) acc a b (ix2 r n) : EReal) = acc (ix2 r n) + ∑ k : Fin 1024, (a (ix2 r k) : EReal) * b (ix2 n k) := pay2_at acc a b r n

/-! ## The blocks -/

theorem map0 (t : Fin grid0.N) : cc0_transform_0 (grid0.coords t) = ![t.val / 4, 0] := by revert t; decide +kernel
theorem map1 (t : Fin grid0.N) : cc0_transform_1 (grid0.coords t) = ![t.val / 4, 0] := by revert t; decide +kernel
theorem map2 (t : Fin grid0.N) : cc0_transform_2 (grid0.coords t) = ![t.val / 4, 0] := by revert t; decide +kernel
theorem map3 (t : Fin grid0.N) : cc0_transform_3 (grid0.coords t) = ![t.val / 4, 0] := by revert t; decide +kernel
theorem map4 (t : Fin grid0.N) : cc0_transform_4 (grid0.coords t) = ![0, t.val % 4] := by revert t; decide +kernel

theorem rows_lt (t : Fin grid0.N) : t.val / 4 < 8 := by have : t.val < 32 := t.isLt; omega

/-- Row r of row block q. -/
def row (q : ℕ) (hq : q < 8) (r : Fin 1024) : Fin 8192 := ⟨1024 * q + r.val, by have := r.isLt; omega⟩

variable (m : (ℓ : Loc nD τ sig) → Buf (Elt Ideal) ℓ) (c : Dev nD) (t : Fin cfg0.N)

theorem blk0 (k : Fin 1024) : (iblk m c 0 t (ix2 r k : S1024x1024.Idx) : EReal) = m ((c : Thread nD τ).loc main_arg0) (ix2 (row (t.val / 4) (rows_lt t) r) k : S8192x1024.Idx) := by
  show (V m c main_arg0 (((cfg0.win 0).rect t).emb (ix2 r k : S1024x1024.Idx)) : EReal) = _
  refine congrArg (V m c main_arg0) (funext fun a => Fin.ext ?_)
  refine (Window.rect_emb_val (cfg0.win 0) t (ix2 r k : S1024x1024.Idx) a).trans ?_
  match a with
  | ⟨0, _⟩ => show cc0_transform_0 (grid0.coords t) 0 * 1024 + r.val = 1024 * (t.val / 4) + r.val; rw [map0]; show t.val / 4 * 1024 + r.val = _; omega
  | ⟨1, _⟩ => show cc0_transform_0 (grid0.coords t) 1 * 1024 + k.val = k.val; rw [map0]; show 0 * 1024 + k.val = _; omega

theorem blk1 (k : Fin 1024) : (iblk m c 1 t (ix2 r k : S1024x1024.Idx) : EReal) = m ((c : Thread nD τ).loc main_arg1) (ix2 (row (t.val / 4) (rows_lt t) r) k : S8192x1024.Idx) := by
  show (V m c main_arg1 (((cfg0.win 1).rect t).emb (ix2 r k : S1024x1024.Idx)) : EReal) = _
  refine congrArg (V m c main_arg1) (funext fun a => Fin.ext ?_)
  refine (Window.rect_emb_val (cfg0.win 1) t (ix2 r k : S1024x1024.Idx) a).trans ?_
  match a with
  | ⟨0, _⟩ => show cc0_transform_1 (grid0.coords t) 0 * 1024 + r.val = 1024 * (t.val / 4) + r.val; rw [map1]; show t.val / 4 * 1024 + r.val = _; omega
  | ⟨1, _⟩ => show cc0_transform_1 (grid0.coords t) 1 * 1024 + k.val = k.val; rw [map1]; show 0 * 1024 + k.val = _; omega

theorem blk2 (k : Fin 1024) : (iblk m c 2 t (ix2 r k : S1024x1024.Idx) : EReal) = m ((c : Thread nD τ).loc main_arg2) (ix2 (row (t.val / 4) (rows_lt t) r) k : S8192x1024.Idx) := by
  show (V m c main_arg2 (((cfg0.win 2).rect t).emb (ix2 r k : S1024x1024.Idx)) : EReal) = _
  refine congrArg (V m c main_arg2) (funext fun a => Fin.ext ?_)
  refine (Window.rect_emb_val (cfg0.win 2) t (ix2 r k : S1024x1024.Idx) a).trans ?_
  match a with
  | ⟨0, _⟩ => show cc0_transform_2 (grid0.coords t) 0 * 1024 + r.val = 1024 * (t.val / 4) + r.val; rw [map2]; show t.val / 4 * 1024 + r.val = _; omega
  | ⟨1, _⟩ => show cc0_transform_2 (grid0.coords t) 1 * 1024 + k.val = k.val; rw [map2]; show 0 * 1024 + k.val = _; omega

theorem blk3 (k : Fin 1024) : (iblk m c 3 t (ix2 r k : S1024x1024.Idx) : EReal) = m ((c : Thread nD τ).loc main_arg3) (ix2 (row (t.val / 4) (rows_lt t) r) k : S8192x1024.Idx) := by
  show (V m c main_arg3 (((cfg0.win 3).rect t).emb (ix2 r k : S1024x1024.Idx)) : EReal) = _
  refine congrArg (V m c main_arg3) (funext fun a => Fin.ext ?_)
  refine (Window.rect_emb_val (cfg0.win 3) t (ix2 r k : S1024x1024.Idx) a).trans ?_
  match a with
  | ⟨0, _⟩ => show cc0_transform_3 (grid0.coords t) 0 * 1024 + r.val = 1024 * (t.val / 4) + r.val; rw [map3]; show t.val / 4 * 1024 + r.val = _; omega
  | ⟨1, _⟩ => show cc0_transform_3 (grid0.coords t) 1 * 1024 + k.val = k.val; rw [map3]; show 0 * 1024 + k.val = _; omega

theorem blk4 (s : Fin 4) (hs : t.val % 4 = s.val) (k : Fin 1024) : (iblk m c 4 t (ix2 n k : S1024x1024.Idx) : EReal) = m ((c : Thread nD τ).loc main_arg4) (ix2 n (at4 s k) : S1024x4096.Idx) := by
  show (V m c main_arg4 (((cfg0.win 4).rect t).emb (ix2 n k : S1024x1024.Idx)) : EReal) = _
  refine congrArg (V m c main_arg4) (funext fun a => Fin.ext ?_)
  refine (Window.rect_emb_val (cfg0.win 4) t (ix2 n k : S1024x1024.Idx) a).trans ?_
  match a with
  | ⟨0, _⟩ => show cc0_transform_4 (grid0.coords t) 0 * 1024 + n.val = n.val; rw [map4]; show 0 * 1024 + n.val = _; omega
  | ⟨1, _⟩ => show cc0_transform_4 (grid0.coords t) 1 * 1024 + k.val = 1024 * s.val + k.val; rw [map4]; show t.val % 4 * 1024 + k.val = _; omega

/-! ## A row block's four steps -/

/-- What a point leaves, whatever it found (a row block's first point). -/
theorem outs_first (k : ℕ) (h : k < cfg0.N) : ∃ acc, outsAt0 m c k h = stAt0 m c k h acc := by
  cases k with
  | zero => exact ⟨_, outsAt0_zero m c h⟩
  | succ k => exact ⟨_, outsAt0_succ m c k h⟩

theorem four (q : ℕ) (h : 4 * q + 3 < cfg0.N) :
    (outsAt0 m c (4 * q + 3) h).1
      = k0_pay5 (F := Ideal) (k0_pay4 (F := Ideal) (k0_pay3 (F := Ideal) (k0_pay2 (F := Ideal) (k0_pay1 (F := Ideal))
          (iblk m c 0 ⟨4 * q, by omega⟩) (iblk m c 4 ⟨4 * q, by omega⟩))
          (iblk m c 1 ⟨4 * q + 1, by omega⟩) (iblk m c 4 ⟨4 * q + 1, by omega⟩))
          (iblk m c 2 ⟨4 * q + 2, by omega⟩) (iblk m c 4 ⟨4 * q + 2, by omega⟩))
          (iblk m c 3 ⟨4 * q + 3, h⟩) (iblk m c 4 ⟨4 * q + 3, h⟩) := by
  obtain ⟨acc, e⟩ := outs_first m c (4 * q) (by omega)
  have e0 : (outsAt0 m c (4 * q) (by omega)).2 = _ := (congrArg Prod.snd e).trans (step_A m c ⟨4 * q, by omega⟩ acc (by dsimp only; omega))
  have e1 : (outsAt0 m c (4 * q + 1) (by omega)).2 = _ := (congrArg Prod.snd (outsAt0_succ m c (4 * q) (by omega))).trans (step_B m c ⟨4 * q + 1, by omega⟩ _ (by dsimp only; omega))
  have e2 : (outsAt0 m c (4 * q + 2) (by omega)).2 = _ := (congrArg Prod.snd (outsAt0_succ m c (4 * q + 1) (by omega))).trans (step_C m c ⟨4 * q + 2, by omega⟩ _ (by dsimp only; omega))
  have e3 : (outsAt0 m c (4 * q + 3) h).1 = _ := (congrArg Prod.fst (outsAt0_succ m c (4 * q + 2) h)).trans (step_D m c ⟨4 * q + 3, h⟩ _ (by dsimp only; omega))
  rw [e3, e2, e1, e0]

/-- One step's sum over blocks is a part's share. -/
theorem share_of (x : S8192x1024.Idx → EReal) (w : S1024x4096.Idx → EReal) (s : Fin 4) (y : Fin 8192) (a b : S1024x1024.Idx → EReal)
    (ha : ∀ k, a (ix2 r k) = x (ix2 y k)) (hb : ∀ k, b (ix2 n k) = w (ix2 n (at4 s k))) :
    ∑ k : Fin 1024, a (ix2 r k) * b (ix2 n k) = share x w s y n :=
  Finset.sum_congr rfl fun k _ => by rw [ha, hb]

/-- The arguments. -/
def arg0 : S8192x1024.Idx → EReal := m ((c : Thread nD τ).loc main_arg0)
def arg1 : S8192x1024.Idx → EReal := m ((c : Thread nD τ).loc main_arg1)
def arg2 : S8192x1024.Idx → EReal := m ((c : Thread nD τ).loc main_arg2)
def arg3 : S8192x1024.Idx → EReal := m ((c : Thread nD τ).loc main_arg3)
def arg4 : S1024x4096.Idx → EReal := m ((c : Thread nD τ).loc main_arg4)

theorem row_of (q : ℕ) (hq : q < 8) (s : ℕ) (hs : s < 4) (h : (4 * q + s) / 4 < 8) : row ((4 * q + s) / 4) h r = row q hq r :=
  Fin.ext (by show 1024 * ((4 * q + s) / 4) + r.val = 1024 * q + r.val; omega)

theorem four_at (q : ℕ) (hq : q < 8) (h : 4 * q + 3 < cfg0.N) :
    ((outsAt0 m c (4 * q + 3) h).1 (ix2 r n) : EReal)
      = share (arg0 m c) (arg4 m c) 0 (row q hq r) n + share (arg1 m c) (arg4 m c) 1 (row q hq r) n
        + share (arg2 m c) (arg4 m c) 2 (row q hq r) n + share (arg3 m c) (arg4 m c) 3 (row q hq r) n := by
  rw [four m c q h]
  refine (pay5_at _ _ _ r n).trans (congrArg₂ (· + ·) ?_ (share_of r n _ _ 3 _ _ _ (fun k => ?_) (fun k => blk4 n m c _ 3 (by show (4 * q + 3) % 4 = 3; omega) k)))
  · refine (pay4_at _ _ _ r n).trans (congrArg₂ (· + ·) ?_ (share_of r n _ _ 2 _ _ _ (fun k => ?_) (fun k => blk4 n m c _ 2 (by show (4 * q + 2) % 4 = 2; omega) k)))
    · refine (pay3_at _ _ _ r n).trans (congrArg₂ (· + ·) ?_ (share_of r n _ _ 1 _ _ _ (fun k => ?_) (fun k => blk4 n m c _ 1 (by show (4 * q + 1) % 4 = 1; omega) k)))
      · refine (pay2_at _ _ _ r n).trans ?_
        rw [pay1_at, zero_add]
        refine share_of r n _ _ 0 _ _ _ (fun k => ?_) (fun k => blk4 n m c _ 0 (by show (4 * q) % 4 = 0; omega) k)
        refine (blk0 r m c _ k).trans (congrArg (fun y => arg0 m c (ix2 y k)) (row_of r q hq 0 (by omega) _))
      · exact (blk1 r m c _ k).trans (congrArg (fun y => arg1 m c (ix2 y k)) (row_of r q hq 1 (by omega) _))
    · exact (blk2 r m c _ k).trans (congrArg (fun y => arg2 m c (ix2 y k)) (row_of r q hq 2 (by omega) _))
  · exact (blk3 r m c _ k).trans (congrArg (fun y => arg3 m c (ix2 y k)) (row_of r q hq 3 (by omega) _))

/-! ## The result -/

theorem outs_at {k k' : ℕ} (e : k = k') (h : k < cfg0.N) (h' : k' < cfg0.N) (j : S1024x1024.Idx) :
    ((outsAt0 m c k h).1 j : EReal) = (outsAt0 m c k' h').1 j := by
  subst e; rfl

theorem result (i : S8192x1024.Idx) : (G5 m c i : EReal) = prod (arg0 m c) (arg1 m c) (arg2 m c) (arg3 m c) (arg4 m c) i := by
  have h0 : (i 0).val < 8192 := (i 0).isLt
  have h1 : (i 1).val < 1024 := (i 1).isLt
  have hN : cfg0.N = 32 := N_0
  have hp : pt5Of i = 4 * ((i 0).val / 1024) + 3 := by unfold pt5Of run5Of; omega
  have hl : loc5Of i = (ix2 ⟨(i 0).val % 1024, Nat.mod_lt _ (by decide)⟩ (i 1) : S1024x1024.Idx) := funext fun a => Fin.ext (by
    match a with
    | ⟨0, _⟩ => rfl
    | ⟨1, _⟩ => show (i 1).val % 1024 = (i 1).val; omega)
  have hr : row ((i 0).val / 1024) (by omega) ⟨(i 0).val % 1024, Nat.mod_lt _ (by decide)⟩ = i 0 := Fin.ext (by
    show 1024 * ((i 0).val / 1024) + (i 0).val % 1024 = (i 0).val; omega)
  unfold G5
  rw [dif_pos (show pt5Of i < cfg0.N by omega), ← outsAt0_sweep m c (pt5Of i) (by omega), hl]
  have e := four_at ⟨(i 0).val % 1024, Nat.mod_lt _ (by decide)⟩ (i 1) m c ((i 0).val / 1024) (by omega) (by omega)
  rw [hr] at e
  exact (outs_at m c hp _ _ _).trans e

end Cert.Kernel2Ideal.InGrad

end
-- ==== Proof.InGrad.RefVal.lean ====
/- The reference's product, read off its run: the gradient is the product of the four parts, laid side by side, with the
   matrix's transpose. -/
module

public import proofs.«01_k».proof.Proof.InGrad.Sum
public import proofs.«01_k».proof.Proof.Gen.Reference2Ideal.Read

@[expose] public section

set_option maxRecDepth 16384

noncomputable section

namespace Cert.Reference2Ideal.InGrad

open Idealize.ShloMosaic Idealize.ShloMosaic.TcCoe Idealize.ShloMosaic.ValueIdx Idealize.SL.Sem
open Cert.Reference2Ideal Cert.Reference2Ideal.Gen Cert.Reference2Ideal.Read Cert.Parts
open Facts₀ Facts
open scoped BigOperators

variable (x0 x1 x2 x3 : S8192x1024.Idx → EReal) (w : S1024x4096.Idx → EReal) (r : Fin 8192)

/-- Part s of the four laid side by side. -/
def part (s : Fin 4) : S8192x1024.Idx → EReal := match s with
  | 0 => x0
  | 1 => x1
  | 2 => x2
  | 3 => x3

theorem laid (s : Fin 4) (k : Fin 1024) :
    (val_main_v0 (F := Ideal) x0 x1 x2 x3 (ix2 r (at4 s k) : S8192x4096.Idx) : EReal) = part x0 x1 x2 x3 s (ix2 r k) := by
  unfold val_main_v0
  have hs := s.isLt
  have hb : ∀ b : Fin 2, b ≠ 1 → ((ix2 r k : S8192x1024.Idx) b).val = ((ix2 r (at4 s k) : S8192x4096.Idx) b).val := fun b hb => by
    match b with
    | ⟨0, _⟩ => rfl
    | ⟨1, _⟩ => exact absurd rfl hb
  match s with
  | 0 => exact concatenate_apply_piece (t := S8192x4096) 1 _ _ _ 0 (by show 0 < 4; omega) S8192x1024 x0 rfl rfl 0 rfl (ix2 r k) hb (by show 0 + k.val = 1024 * 0 + k.val; omega)
  | 1 => exact concatenate_apply_piece (t := S8192x4096) 1 _ _ _ 1 (by show 1 < 4; omega) S8192x1024 x1 rfl rfl 1024 rfl (ix2 r k) hb (by show 1024 + k.val = 1024 * 1 + k.val; omega)
  | 2 => exact concatenate_apply_piece (t := S8192x4096) 1 _ _ _ 2 (by show 2 < 4; omega) S8192x1024 x2 rfl rfl 2048 rfl (ix2 r k) hb (by show 2048 + k.val = 1024 * 2 + k.val; omega)
  | 3 => exact concatenate_apply_piece (t := S8192x4096) 1 _ _ _ 3 (by show 3 < 4; omega) S8192x1024 x3 rfl rfl 3072 rfl (ix2 r k) hb (by show 3072 + k.val = 1024 * 3 + k.val; omega)

theorem result (i : S8192x1024.Idx) : (val_main_v5 (F := Ideal) x0 x1 x2 x3 w i : EReal) = prod x0 x1 x2 x3 w i := by
  refine (val_main_v5_apply x0 x1 x2 x3 w i).trans ((sum4 _).trans ?_)
  have e : ∀ s : Fin 4, (∑ k : Fin 1024, (val_main_v1 (F := Ideal) x0 x1 x2 x3 (lidx_main_v5 i (at4 s k)) : EReal) * val_main_v3 (F := Ideal) w (ridx_main_v5 i (at4 s k)))
      = share (part x0 x1 x2 x3 s) w s (i 0) (i 1) := fun s => Finset.sum_congr rfl fun k _ => by
    have hl : lidx_main_v5 i (at4 s k) = (ix2 (i 0) (at4 s k) : S8192x4096.Idx) := funext fun a => by
      match a with
      | ⟨0, _⟩ => rfl
      | ⟨1, _⟩ => rfl
    have hr : ridx_main_v5 i (at4 s k) = (ix2 (i 1) (at4 s k) : S1024x4096.Idx) := funext fun a => by
      match a with
      | ⟨0, _⟩ => rfl
      | ⟨1, _⟩ => rfl
    rw [val_main_v1_apply, val_main_v3_apply, hl, hr]
    exact congrArg₂ (fun y z : EReal => y * z) (laid x0 x1 x2 x3 (i 0) s k) rfl
  rw [Fin.sum_univ_four, e 0, e 1, e 2, e 3]
  rfl

end Cert.Reference2Ideal.InGrad

end
-- ==== Proof.InGrad.Whole.lean ====
/- The input gradient's product: the call and the reference end with the same array. -/
module

public import proofs.«01_k».proof.Defs
public import proofs.«01_k».proof.Proof.Gen.Kernel2
public import proofs.«01_k».proof.Proof.InGrad.KernelVal
public import proofs.«01_k».proof.Proof.InGrad.RefVal
public import Idealize.ShloMosaic.Adequacy
public import Idealize.ShloMosaic.Init

@[expose] public section

noncomputable section

namespace Cert.InGrad

open Idealize.ShloMosaic Idealize.SL.Sem

/-- The call and the idealized call have the same text. -/
theorem defs₀_eq : Cert.Kernel2.defs₀ (F := Bits) = Cert.Kernel2Ideal.defs₀ (F := Bits) := by
  unfold Cert.Kernel2.defs₀ Cert.Kernel2Ideal.defs₀
  refine congrArg _ (funext fun l => ?_)
  match l with
  | 0 => rfl

theorem defs_eq : Cert.Kernel2.defs (F := Bits) = Cert.Kernel2Ideal.defs (F := Bits) :=
  congrArg (Pipeline.defs (Cert.Kernel2Ideal.pcfgs (F := Bits))) defs₀_eq

/-- The call's frame at its own arithmetic: the idealized call's run, which holds at any arithmetic. -/
theorem frame_k : Cert.quiescent_Kernel2 := fun m ρ _ => by
  rw [defs_eq]
  exact Cert.Kernel2Ideal.Gen.frame (F := Bits) m ρ

/-- The reference's frame. -/
theorem frame_r : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- A function of five arguments at equal arguments. -/
theorem at5 {α β γ : Type} (f : α → α → α → α → β → γ) {a a' b b' d d' e e' : α} {g g' : β} (h0 : a' = a) (h1 : b' = b) (h2 : d' = d) (h3 : e' = e) (h4 : g' = g) :
    f a' b' d' e' g' = f a b d e g := by
  rw [h0, h1, h2, h3, h4]

theorem algebraic : Cert.algebraic_Kernel2Ideal_Reference2Ideal := fun m g m' g' _ hag =>
  ⟨fun c => (Cert.Parts.prod (Cert.Kernel2Ideal.InGrad.arg0 m c) (Cert.Kernel2Ideal.InGrad.arg1 m c) (Cert.Kernel2Ideal.InGrad.arg2 m c) (Cert.Kernel2Ideal.InGrad.arg3 m c) (Cert.Kernel2Ideal.InGrad.arg4 m c) :
      (⟨2, ![8192, 1024]⟩ : Shape).Idx → EReal),
    (θ_run Cert.Kernel2Ideal.defs _ _).mono (fun r h c => ⟨(h c).1.trans (funext fun i => Cert.Kernel2Ideal.InGrad.result m c i), (h c).2⟩)
      (Cert.Kernel2Ideal.Value.run (F := Ideal) m g),
    (θ_run Cert.Reference2Ideal.defs _ _).mono (fun r h c =>
        ⟨(h c).1.trans ((Cert.Reference2Ideal.Read.val_main_v5_eq _ _ _ _ _).trans
          ((funext fun i => Cert.Reference2Ideal.InGrad.result _ _ _ _ _ i).trans
            (at5 Cert.Parts.prod (hag c).1 (hag c).2.1 (hag c).2.2.1 (hag c).2.2.2.1 (hag c).2.2.2.2))), (h c).2⟩)
      (Cert.Reference2Ideal.Value.run (F := Ideal) m' g')⟩

end Cert.InGrad

end
-- ==== Proof.WGrad.Steps.lean ====
/- What one grid point of the weights gradient's product leaves in the running sum, and in the result's block at the last
   tile of tokens. -/
module

public import proofs.«01_k».proof.Proof.Gen.Kernel3Ideal.Frame
public import Idealize.ShloMosaic.Lib.Pipeline.Value

@[expose] public section

set_option maxRecDepth 16384

noncomputable section

namespace Cert.Kernel3Ideal.WGrad

open Idealize.ShloMosaic Idealize.ShloMosaic.TcCoe Idealize.SL.Sem
open Cert.Kernel3Ideal Cert.Kernel3Ideal.Gen

variable {F : FTy → Type} [FloatOps F]

theorem off0 : (![0, 0] : Fin 2 → Nat) = fun _ => 0 := funext fun a => by fin_cases a <;> rfl

section
variable (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1024x1024 .bf16) (h6 : a6.IsWhole) (a7 : Memref sig .tc .vmem S1024x1024 .bf16) (h7 : a7.IsWhole) (a8 : Memref sig .tc .vmem S1024x1024 .bf16) (h8 : a8.IsWhole) (a9 : Memref sig .tc .vmem S1024x1024 .f32) (h9 : a9.IsWhole)
variable (x0 x1 x2 x3 x4 : Vec F S1024x1024 .bf16) (xs : Vec F S1024x1024 .f32)

/-- The first tile of the first part: from zero. -/
theorem sum_A (hc0 : cond0_0 i) (hc1 : cond0_1 i) (hc2 : ¬cond0_2 i) (hc3 : ¬cond0_3 i) (hc4 : ¬cond0_4 i) (hc5 : ¬cond0_5 i) :
    sout0_A_0 c i a3 h3 a4 h4 a5 h5 a6 h6 a7 h7 a8 h8 a9 h9 hc0 hc1 hc2 hc3 hc4 hc5 x0 x1 x2 x3 x4 = k0_pay2 (F := F) (k0_pay1 (F := F)) x0 x1 := by
  unfold sout0_A_0
  rw [View.read_writes_eq_canon _ _ _ (scover0_A_0 c i a3 h3 a4 h4 a5 h5 a6 h6 a7 h7 a8 h8 a9 h9 hc0 hc1 hc2 hc3 hc4 hc5 x0 x1 x2 x3 x4)]
  unfold kernelRun0_A
  dsimp only
  sl_unfold_words
  rw [View.canon_cons_unit_zero (S := S1024x1024) off0, View.readCov_unit_zero (S := S1024x1024) _ off0]
  simp only [View.readAt_eq_ld, h3.read_unread, h4.read_unread, h5.read_unread, h6.read_unread, h7.read_unread, h9.read_unread, View.ld_unit_zero (S := S1024x1024) off0]

/-- A later tile of the first part adds its product. -/
theorem sum_B (hc0 : ¬cond0_0 i) (hc1 : cond0_1 i) (hc2 : ¬cond0_2 i) (hc3 : ¬cond0_3 i) (hc4 : ¬cond0_4 i) (hc5 : ¬cond0_5 i) :
    sout0_B_0 c i a3 h3 a4 h4 a5 h5 a6 h6 a7 h7 a8 h8 a9 h9 hc0 hc1 hc2 hc3 hc4 hc5 x0 x1 x2 x3 x4 xs = k0_pay2 (F := F) xs x0 x1 := by
  unfold sout0_B_0
  rw [View.read_writes_eq_canon _ _ _ (scover0_B_0 c i a3 h3 a4 h4 a5 h5 a6 h6 a7 h7 a8 h8 a9 h9 hc0 hc1 hc2 hc3 hc4 hc5 x0 x1 x2 x3 x4 xs)]
  unfold kernelRun0_B
  dsimp only
  try sl_unfold_words
  rw [View.canon_unit_zero off0]
  simp only [View.readAt_eq_ld, h3.read_unread, h4.read_unread, h5.read_unread, h6.read_unread, h7.read_unread, h9.read_unread, View.ld_unit_zero (S := S1024x1024) off0]

/-- The last tile of the first part adds its product and stores the sum, rounded, as the result's block. -/
theorem out_C (hc0 : ¬cond0_0 i) (hc1 : cond0_1 i) (hc2 : ¬cond0_2 i) (hc3 : ¬cond0_3 i) (hc4 : ¬cond0_4 i) (hc5 : cond0_5 i) :
    out0_C_5 c i a3 h3 a4 h4 a5 h5 a6 h6 a7 h7 a8 h8 a9 h9 hc0 hc1 hc2 hc3 hc4 hc5 x0 x1 x2 x3 x4 xs = k0_pay6 (F := F) (k0_pay2 (F := F) xs x0 x1) := by
  unfold out0_C_5
  rw [View.read_writes_eq_canon _ _ _ (cover0_C_5 c i a3 h3 a4 h4 a5 h5 a6 h6 a7 h7 a8 h8 a9 h9 hc0 hc1 hc2 hc3 hc4 hc5 x0 x1 x2 x3 x4 xs)]
  unfold kernelRun0_C
  dsimp only
  try sl_unfold_words
  rw [View.canon_unit_zero off0, View.readCov_unit_zero (S := S1024x1024) _ off0]
  simp only [View.readAt_eq_ld, h3.read_unread, h4.read_unread, h5.read_unread, h6.read_unread, h7.read_unread, h9.read_unread, View.ld_unit_zero (S := S1024x1024) off0]

/-- The first tile of the second part: from zero. -/
theorem sum_D (hc0 : cond0_0 i) (hc1 : ¬cond0_1 i) (hc2 : cond0_2 i) (hc3 : ¬cond0_3 i) (hc4 : ¬cond0_4 i) (hc5 : ¬cond0_5 i) :
    sout0_D_0 c i a3 h3 a4 h4 a5 h5 a6 h6 a7 h7 a8 h8 a9 h9 hc0 hc1 hc2 hc3 hc4 hc5 x0 x1 x2 x3 x4 = k0_pay3 (F := F) (k0_pay1 (F := F)) x0 x2 := by
  unfold sout0_D_0
  rw [View.read_writes_eq_canon _ _ _ (scover0_D_0 c i a3 h3 a4 h4 a5 h5 a6 h6 a7 h7 a8 h8 a9 h9 hc0 hc1 hc2 hc3 hc4 hc5 x0 x1 x2 x3 x4)]
  unfold kernelRun0_D
  dsimp only
  sl_unfold_words
  rw [View.canon_cons_unit_zero (S := S1024x1024) off0, View.readCov_unit_zero (S := S1024x1024) _ off0]
  simp only [View.readAt_eq_ld, h3.read_unread, h4.read_unread, h5.read_unread, h6.read_unread, h7.read_unread, h9.read_unread, View.ld_unit_zero (S := S1024x1024) off0]

/-- A later tile of the second part adds its product. -/
theorem sum_E (hc0 : ¬cond0_0 i) (hc1 : ¬cond0_1 i) (hc2 : cond0_2 i) (hc3 : ¬cond0_3 i) (hc4 : ¬cond0_4 i) (hc5 : ¬cond0_5 i) :
    sout0_E_0 c i a3 h3 a4 h4 a5 h5 a6 h6 a7 h7 a8 h8 a9 h9 hc0 hc1 hc2 hc3 hc4 hc5 x0 x1 x2 x3 x4 xs = k0_pay3 (F := F) xs x0 x2 := by
  unfold sout0_E_0
  rw [View.read_writes_eq_canon _ _ _ (scover0_E_0 c i a3 h3 a4 h4 a5 h5 a6 h6 a7 h7 a8 h8 a9 h9 hc0 hc1 hc2 hc3 hc4 hc5 x0 x1 x2 x3 x4 xs)]
  unfold kernelRun0_E
  dsimp only
  try sl_unfold_words
  rw [View.canon_unit_zero off0]
  simp only [View.readAt_eq_ld, h3.read_unread, h4.read_unread, h5.read_unread, h6.read_unread, h7.read_unread, h9.read_unread, View.ld_unit_zero (S := S1024x1024) off0]

/-- The last tile of the second part adds its product and stores the sum, rounded, as the result's block. -/
theorem out_F (hc0 : ¬cond0_0 i) (hc1 : ¬cond0_1 i) (hc2 : cond0_2 i) (hc3 : ¬cond0_3 i) (hc4 : ¬cond0_4 i) (hc5 : cond0_5 i) :
    out0_F_5 c i a3 h3 a4 h4 a5 h5 a6 h6 a7 h7 a8 h8 a9 h9 hc0 hc1 hc2 hc3 hc4 hc5 x0 x1 x2 x3 x4 xs = k0_pay6 (F := F) (k0_pay3 (F := F) xs x0 x2) := by
  unfold out0_F_5
  rw [View.read_writes_eq_canon _ _ _ (cover0_F_5 c i a3 h3 a4 h4 a5 h5 a6 h6 a7 h7 a8 h8 a9 h9 hc0 hc1 hc2 hc3 hc4 hc5 x0 x1 x2 x3 x4 xs)]
  unfold kernelRun0_F
  dsimp only
  try sl_unfold_words
  rw [View.canon_unit_zero off0, View.readCov_unit_zero (S := S1024x1024) _ off0]
  simp only [View.readAt_eq_ld, h3.read_unread, h4.read_unread, h5.read_unread, h6.read_unread, h7.read_unread, h9.read_unread, View.ld_unit_zero (S := S1024x1024) off0]

/-- The first tile of the third part: from zero. -/
theorem sum_G (hc0 : cond0_0 i) (hc1 : ¬cond0_1 i) (hc2 : ¬cond0_2 i) (hc3 : cond0_3 i) (hc4 : ¬cond0_4 i) (hc5 : ¬cond0_5 i) :
    sout0_G_0 c i a3 h3 a4 h4 a5 h5 a6 h6 a7 h7 a8 h8 a9 h9 hc0 hc1 hc2 hc3 hc4 hc5 x0 x1 x2 x3 x4 = k0_pay4 (F := F) (k0_pay1 (F := F)) x0 x3 := by
  unfold sout0_G_0
  rw [View.read_writes_eq_canon _ _ _ (scover0_G_0 c i a3 h3 a4 h4 a5 h5 a6 h6 a7 h7 a8 h8 a9 h9 hc0 hc1 hc2 hc3 hc4 hc5 x0 x1 x2 x3 x4)]
  unfold kernelRun0_G
  dsimp only
  sl_unfold_words
  rw [View.canon_cons_unit_zero (S := S1024x1024) off0, View.readCov_unit_zero (S := S1024x1024) _ off0]
  simp only [View.readAt_eq_ld, h3.read_unread, h4.read_unread, h5.read_unread, h6.read_unread, h7.read_unread, h9.read_unread, View.ld_unit_zero (S := S1024x1024) off0]

/-- A later tile of the third part adds its product. -/
theorem sum_H (hc0 : ¬cond0_0 i) (hc1 : ¬cond0_1 i) (hc2 : ¬cond0_2 i) (hc3 : cond0_3 i) (hc4 : ¬cond0_4 i) (hc5 : ¬cond0_5 i) :
    sout0_H_0 c i a3 h3 a4 h4 a5 h5 a6 h6 a7 h7 a8 h8 a9 h9 hc0 hc1 hc2 hc3 hc4 hc5 x0 x1 x2 x3 x4 xs = k0_pay4 (F := F) xs x0 x3 := by
  unfold sout0_H_0
  rw [View.read_writes_eq_canon _ _ _ (scover0_H_0 c i a3 h3 a4 h4 a5 h5 a6 h6 a7 h7 a8 h8 a9 h9 hc0 hc1 hc2 hc3 hc4 hc5 x0 x1 x2 x3 x4 xs)]
  unfold kernelRun0_H
  dsimp only
  try sl_unfold_words
  rw [View.canon_unit_zero off0]
  simp only [View.readAt_eq_ld, h3.read_unread, h4.read_unread, h5.read_unread, h6.read_unread, h7.read_unread, h9.read_unread, View.ld_unit_zero (S := S1024x1024) off0]

/-- The last tile of the third part adds its product and stores the sum, rounded, as the result's block. -/
theorem out_I (hc0 : ¬cond0_0 i) (hc1 : ¬cond0_1 i) (hc2 : ¬cond0_2 i) (hc3 : cond0_3 i) (hc4 : ¬cond0_4 i) (hc5 : cond0_5 i) :
    out0_I_5 c i a3 h3 a4 h4 a5 h5 a6 h6 a7 h7 a8 h8 a9 h9 hc0 hc1 hc2 hc3 hc4 hc5 x0 x1 x2 x3 x4 xs = k0_pay6 (F := F) (k0_pay4 (F := F) xs x0 x3) := by
  unfold out0_I_5
  rw [View.read_writes_eq_canon _ _ _ (cover0_I_5 c i a3 h3 a4 h4 a5 h5 a6 h6 a7 h7 a8 h8 a9 h9 hc0 hc1 hc2 hc3 hc4 hc5 x0 x1 x2 x3 x4 xs)]
  unfold kernelRun0_I
  dsimp only
  try sl_unfold_words
  rw [View.canon_unit_zero off0, View.readCov_unit_zero (S := S1024x1024) _ off0]
  simp only [View.readAt_eq_ld, h3.read_unread, h4.read_unread, h5.read_unread, h6.read_unread, h7.read_unread, h9.read_unread, View.ld_unit_zero (S := S1024x1024) off0]

/-- The first tile of the fourth part: from zero. -/
theorem sum_J (hc0 : cond0_0 i) (hc1 : ¬cond0_1 i) (hc2 : ¬cond0_2 i) (hc3 : ¬cond0_3 i) (hc4 : cond0_4 i) (hc5 : ¬cond0_5 i) :
    sout0_J_0 c i a3 h3 a4 h4 a5 h5 a6 h6 a7 h7 a8 h8 a9 h9 hc0 hc1 hc2 hc3 hc4 hc5 x0 x1 x2 x3 x4 = k0_pay5 (F := F) (k0_pay1 (F := F)) x0 x4 := by
  unfold sout0_J_0
  rw [View.read_writes_eq_canon _ _ _ (scover0_J_0 c i a3 h3 a4 h4 a5 h5 a6 h6 a7 h7 a8 h8 a9 h9 hc0 hc1 hc2 hc3 hc4 hc5 x0 x1 x2 x3 x4)]
  unfold kernelRun0_J
  dsimp only
  sl_unfold_words
  rw [View.canon_cons_unit_zero (S := S1024x1024) off0, View.readCov_unit_zero (S := S1024x1024) _ off0]
  simp only [View.readAt_eq_ld, h3.read_unread, h4.read_unread, h5.read_unread, h6.read_unread, h7.read_unread, h9.read_unread, View.ld_unit_zero (S := S1024x1024) off0]

/-- A later tile of the fourth part adds its product. -/
theorem sum_K (hc0 : ¬cond0_0 i) (hc1 : ¬cond0_1 i) (hc2 : ¬cond0_2 i) (hc3 : ¬cond0_3 i) (hc4 : cond0_4 i) (hc5 : ¬cond0_5 i) :
    sout0_K_0 c i a3 h3 a4 h4 a5 h5 a6 h6 a7 h7 a8 h8 a9 h9 hc0 hc1 hc2 hc3 hc4 hc5 x0 x1 x2 x3 x4 xs = k0_pay5 (F := F) xs x0 x4 := by
  unfold sout0_K_0
  rw [View.read_writes_eq_canon _ _ _ (scover0_K_0 c i a3 h3 a4 h4 a5 h5 a6 h6 a7 h7 a8 h8 a9 h9 hc0 hc1 hc2 hc3 hc4 hc5 x0 x1 x2 x3 x4 xs)]
  unfold kernelRun0_K
  dsimp only
  try sl_unfold_words
  rw [View.canon_unit_zero off0]
  simp only [View.readAt_eq_ld, h3.read_unread, h4.read_unread, h5.read_unread, h6.read_unread, h7.read_unread, h9.read_unread, View.ld_unit_zero (S := S1024x1024) off0]

/-- The last tile of the fourth part adds its product and stores the sum, rounded, as the result's block. -/
theorem out_L (hc0 : ¬cond0_0 i) (hc1 : ¬cond0_1 i) (hc2 : ¬cond0_2 i) (hc3 : ¬cond0_3 i) (hc4 : cond0_4 i) (hc5 : cond0_5 i) :
    out0_L_5 c i a3 h3 a4 h4 a5 h5 a6 h6 a7 h7 a8 h8 a9 h9 hc0 hc1 hc2 hc3 hc4 hc5 x0 x1 x2 x3 x4 xs = k0_pay6 (F := F) (k0_pay5 (F := F) xs x0 x4) := by
  unfold out0_L_5
  rw [View.read_writes_eq_canon _ _ _ (cover0_L_5 c i a3 h3 a4 h4 a5 h5 a6 h6 a7 h7 a8 h8 a9 h9 hc0 hc1 hc2 hc3 hc4 hc5 x0 x1 x2 x3 x4 xs)]
  unfold kernelRun0_L
  dsimp only
  try sl_unfold_words
  rw [View.canon_unit_zero off0, View.readCov_unit_zero (S := S1024x1024) _ off0]
  simp only [View.readAt_eq_ld, h3.read_unread, h4.read_unread, h5.read_unread, h6.read_unread, h7.read_unread, h9.read_unread, View.ld_unit_zero (S := S1024x1024) off0]
end

variable (m : (ℓ : Loc nD τ sig) → Buf (Elt F) ℓ) (c : Dev nD) (t : Fin cfg0.N)

theorem step_A (h : t.val = 0) : (outsAt0 m c t.val t.isLt).2 = k0_pay2 (F := F) (k0_pay1 (F := F)) (iblk m c 0 t) (iblk m c 1 t) := by
  rw [outsAt0_A m c t (by omega) (by omega) (by omega) (by omega) (by omega) (by omega)]; dsimp only; rw [sum_A]
theorem step_B (h : 0 < t.val) (h' : t.val < 7) : (outsAt0 m c t.val t.isLt).2 = k0_pay2 (F := F) (outsAt0 m c (t.val - 1) (Nat.lt_of_le_of_lt (Nat.sub_le _ _) t.isLt)).2 (iblk m c 0 t) (iblk m c 1 t) := by
  rw [outsAt0_B m c t (by omega) (by omega) (by omega) (by omega) (by omega) (by omega)]; dsimp only; rw [sum_B]
theorem step_C (h : t.val = 7) : (outsAt0 m c t.val t.isLt).1 = k0_pay6 (F := F) (k0_pay2 (F := F) (outsAt0 m c (t.val - 1) (Nat.lt_of_le_of_lt (Nat.sub_le _ _) t.isLt)).2 (iblk m c 0 t) (iblk m c 1 t)) := by
  rw [outsAt0_C m c t (by omega) (by omega) (by omega) (by omega) (by omega) (by omega)]; dsimp only; rw [out_C]
theorem step_D (h : t.val = 8) : (outsAt0 m c t.val t.isLt).2 = k0_pay3 (F := F) (k0_pay1 (F := F)) (iblk m c 0 t) (iblk m c 2 t) := by
  rw [outsAt0_D m c t (by omega) (by omega) (by omega) (by omega) (by omega) (by omega)]; dsimp only; rw [sum_D]
theorem step_E (h : 8 < t.val) (h' : t.val < 15) : (outsAt0 m c t.val t.isLt).2 = k0_pay3 (F := F) (outsAt0 m c (t.val - 1) (Nat.lt_of_le_of_lt (Nat.sub_le _ _) t.isLt)).2 (iblk m c 0 t) (iblk m c 2 t) := by
  rw [outsAt0_E m c t (by omega) (by omega) (by omega) (by omega) (by omega) (by omega)]; dsimp only; rw [sum_E]
theorem step_F (h : t.val = 15) : (outsAt0 m c t.val t.isLt).1 = k0_pay6 (F := F) (k0_pay3 (F := F) (outsAt0 m c (t.val - 1) (Nat.lt_of_le_of_lt (Nat.sub_le _ _) t.isLt)).2 (iblk m c 0 t) (iblk m c 2 t)) := by
  rw [outsAt0_F m c t (by omega) (by omega) (by omega) (by omega) (by omega) (by omega)]; dsimp only; rw [out_F]
theorem step_G (h : t.val = 16) : (outsAt0 m c t.val t.isLt).2 = k0_pay4 (F := F) (k0_pay1 (F := F)) (iblk m c 0 t) (iblk m c 3 t) := by
  rw [outsAt0_G m c t (by omega) (by omega) (by omega) (by omega) (by omega) (by omega)]; dsimp only; rw [sum_G]
theorem step_H (h : 16 < t.val) (h' : t.val < 23) : (outsAt0 m c t.val t.isLt).2 = k0_pay4 (F := F) (outsAt0 m c (t.val - 1) (Nat.lt_of_le_of_lt (Nat.sub_le _ _) t.isLt)).2 (iblk m c 0 t) (iblk m c 3 t) := by
  rw [outsAt0_H m c t (by omega) (by omega) (by omega) (by omega) (by omega) (by omega)]; dsimp only; rw [sum_H]
theorem step_I (h : t.val = 23) : (outsAt0 m c t.val t.isLt).1 = k0_pay6 (F := F) (k0_pay4 (F := F) (outsAt0 m c (t.val - 1) (Nat.lt_of_le_of_lt (Nat.sub_le _ _) t.isLt)).2 (iblk m c 0 t) (iblk m c 3 t)) := by
  rw [outsAt0_I m c t (by omega) (by omega) (by omega) (by omega) (by omega) (by omega)]; dsimp only; rw [out_I]
theorem step_J (h : t.val = 24) : (outsAt0 m c t.val t.isLt).2 = k0_pay5 (F := F) (k0_pay1 (F := F)) (iblk m c 0 t) (iblk m c 4 t) := by
  rw [outsAt0_J m c t (by omega) (by omega) (by omega) (by omega) (by omega) (by omega)]; dsimp only; rw [sum_J]
theorem step_K (h : 24 < t.val) (h' : t.val < 31) : (outsAt0 m c t.val t.isLt).2 = k0_pay5 (F := F) (outsAt0 m c (t.val - 1) (Nat.lt_of_le_of_lt (Nat.sub_le _ _) t.isLt)).2 (iblk m c 0 t) (iblk m c 4 t) := by
  rw [outsAt0_K m c t (by omega) (by omega) (by omega) (by omega) (by omega) (by omega)]; dsimp only; rw [sum_K]
theorem step_L (h : t.val = 31) : (outsAt0 m c t.val t.isLt).1 = k0_pay6 (F := F) (k0_pay5 (F := F) (outsAt0 m c (t.val - 1) (Nat.lt_of_le_of_lt (Nat.sub_le _ _) t.isLt)).2 (iblk m c 0 t) (iblk m c 4 t)) := by
  rw [outsAt0_L m c t (by omega) (by omega) (by omega) (by omega) (by omega) (by omega)]; dsimp only; rw [out_L]

end Cert.Kernel3Ideal.WGrad

end
-- ==== Proof.WGrad.Sum.lean ====
/- The product of a layer's input, transposed, with a gradient, as sums over the extended reals: entry (r, n) is the sum
   over the tokens y of x [y, r] times y [y, n], here by eight tiles of tokens. -/
module

public import proofs.«01_k».proof.Proof.InGrad.Sum

@[expose] public section

set_option maxRecDepth 16384

noncomputable section

namespace Cert.Parts

open Idealize.ShloMosaic Idealize.ShloMosaic.ValueIdx
open scoped BigOperators

namespace W

/-- Place k of tile q of 1024, in an axis of 8192. -/
def at8 (q : Fin 8) (k : Fin 1024) : Fin 8192 := ⟨1024 * q.val + k.val, by have := q.isLt; have := k.isLt; omega⟩

/-- A sum over 8192 places is the sum over eight tiles of 1024. -/
theorem sum8 (f : Fin 8192 → EReal) : ∑ k, f k = ∑ q : Fin 8, ∑ k : Fin 1024, f (at8 q k) := by
  rw [← Fintype.sum_prod_type' (f := fun q k => f (at8 q k))]
  refine (Fintype.sum_equiv (finProdFinEquiv (m := 8) (n := 1024)) _ _ fun p => congrArg f (Fin.ext ?_)).symm
  show 1024 * p.1.val + p.2.val = p.2.val + 1024 * p.1.val
  omega

/-- One tile's share of an entry. -/
def share (x y : (⟨2, ![8192, 1024]⟩ : Shape).Idx → EReal) (q : Fin 8) (r n : Fin 1024) : EReal :=
  ∑ k : Fin 1024, x (ix2 (at8 q k) r) * y (ix2 (at8 q k) n)

end W

end Cert.Parts

end
-- ==== Proof.WGrad.KernelVal.lean ====
/- The weights gradient's product, read off the call: its result array is the product of the layer's input, transposed,
   with the four parts laid side by side. -/
module

public import proofs.«01_k».proof.Proof.WGrad.Steps
public import proofs.«01_k».proof.Proof.WGrad.Sum

@[expose] public section

set_option maxRecDepth 16384

noncomputable section

namespace Cert.Kernel3Ideal.WGrad

open Idealize.ShloMosaic Idealize.ShloMosaic.TcCoe Idealize.ShloMosaic.ValueIdx Idealize.SL.Sem
open Idealize.ShloMosaic.Pipeline (Window)
open Cert.Kernel3Ideal Cert.Kernel3Ideal.Gen Cert.Parts.W
open Cert.Parts (at4)
open scoped BigOperators

/-! ## One step, at an entry -/

/-- A step's product of two tiles over their rows, from zero. -/
theorem tile (a b : Vec Ideal S1024x1024 .bf16) (r n : Fin 1024) :
    matmul (F := Ideal) (φ₁ := .bf16) (φ₂ := .bf16) dot_S1024x1024_S1024x1024_S1024x1024_0_0_1_1_n_n none a b (constant (F := Ideal) S1024x1024 .f32 0x00000000#32) (ix2 r n)
      = ∑ k : Fin 1024, (a (ix2 k r) : EReal) * b (ix2 k n) := by
  show FloatOps.matmul (F := Ideal) (φ₁ := .bf16) (φ₂ := .bf16) dot_S1024x1024_S1024x1024_S1024x1024_0_0_1_1_n_n none a b (constant (F := Ideal) S1024x1024 .f32 0x00000000#32) (ix2 r n) = _
  rw [Ideal.matmul_apply, ← Equiv.sum_comp (contrEquiv1 dot_S1024x1024_S1024x1024_S1024x1024_0_0_1_1_n_n 1024 rfl rfl).symm]
  show Ideal.ofBits .f32 0x00000000#32 + _ = _
  rw [Ideal.ofBits_zero_f32, zero_add]
  refine Finset.sum_congr rfl fun k _ => ?_
  have hk := contrEquiv1_symm_val dot_S1024x1024_S1024x1024_S1024x1024_0_0_1_1_n_n 1024 rfl rfl k
  have el : dot_S1024x1024_S1024x1024_S1024x1024_0_0_1_1_n_n.lhsIdx (ix2 r n) ((contrEquiv1 dot_S1024x1024_S1024x1024_S1024x1024_0_0_1_1_n_n 1024 rfl rfl).symm k) = ix2 k r := funext fun a => Fin.ext (by
    match a with
    | ⟨0, _⟩ => exact hk
    | ⟨1, _⟩ => rfl)
  have er : dot_S1024x1024_S1024x1024_S1024x1024_0_0_1_1_n_n.rhsIdx (ix2 r n) ((contrEquiv1 dot_S1024x1024_S1024x1024_S1024x1024_0_0_1_1_n_n 1024 rfl rfl).symm k) = ix2 k n := funext fun a => Fin.ext (by
    match a with
    | ⟨0, _⟩ => exact hk
    | ⟨1, _⟩ => rfl)
  rw [el, er]

theorem pay1_at (i : S1024x1024.Idx) : (k0_pay1 (F := Ideal) i : EReal) = 0 := by
  unfold k0_pay1
  rw [shapeCast_self]
  exact Ideal.ofBits_zero_f32

variable (acc : Vec Ideal S1024x1024 .f32) (a b : Vec Ideal S1024x1024 .bf16) (r n : Fin 1024)

theorem pay2_at : (k0_pay2 (F := Ideal) acc a b (ix2 r n) : EReal) = acc (ix2 r n) + ∑ k : Fin 1024, (a (ix2 k r) : EReal) * b (ix2 k n) := by
  unfold k0_pay2
  rw [shapeCast_self]
  exact congrArg (fun z : EReal => (acc (ix2 r n) : EReal) + z) (tile a b r n)

/-- The four parts' steps are one operation. -/
theorem pay3_eq : k0_pay3 (F := Ideal) acc a b = k0_pay2 (F := Ideal) acc a b := rfl
theorem pay4_eq : k0_pay4 (F := Ideal) acc a b = k0_pay2 (F := Ideal) acc a b := rfl
theorem pay5_eq : k0_pay5 (F := Ideal) acc a b = k0_pay2 (F := Ideal) acc a b := rfl
/-- Rounding keeps the entries. -/
theorem pay6_eq (j : S1024x1024.Idx) : (k0_pay6 (F := Ideal) acc j : EReal) = acc j := rfl

/-! ## The blocks -/

theorem map0 (t : Fin grid0.N) : cc0_transform_0 (grid0.coords t) = ![t.val % 8, 0] := by revert t; decide +kernel
theorem map1 (t : Fin grid0.N) : t.val / 8 = 0 → cc0_transform_1 (grid0.coords t) = ![t.val % 8, 0] := by revert t; decide +kernel
theorem map2 (t : Fin grid0.N) : t.val / 8 = 1 → cc0_transform_2 (grid0.coords t) = ![t.val % 8, 0] := by revert t; decide +kernel
theorem map3 (t : Fin grid0.N) : t.val / 8 = 2 → cc0_transform_3 (grid0.coords t) = ![t.val % 8, 0] := by revert t; decide +kernel
theorem map4 (t : Fin grid0.N) : t.val / 8 = 3 → cc0_transform_4 (grid0.coords t) = ![t.val % 8, 0] := by revert t; decide +kernel

variable (m : (ℓ : Loc nD τ sig) → Buf (Elt Ideal) ℓ) (c : Dev nD) (t : Fin cfg0.N)

theorem blk0 (q : Fin 8) (hq : t.val % 8 = q.val) (k x : Fin 1024) : (iblk m c 0 t (ix2 k x : S1024x1024.Idx) : EReal) = m ((c : Thread nD τ).loc main_arg0) (ix2 (at8 q k) x : S8192x1024.Idx) := by
  show (V m c main_arg0 (((cfg0.win 0).rect t).emb (ix2 k x : S1024x1024.Idx)) : EReal) = _
  refine congrArg (V m c main_arg0) (funext fun a => Fin.ext ?_)
  refine (Window.rect_emb_val (cfg0.win 0) t (ix2 k x : S1024x1024.Idx) a).trans ?_
  match a with
  | ⟨0, _⟩ => show cc0_transform_0 (grid0.coords t) 0 * 1024 + k.val = 1024 * q.val + k.val; rw [map0]; show t.val % 8 * 1024 + k.val = _; omega
  | ⟨1, _⟩ => show cc0_transform_0 (grid0.coords t) 1 * 1024 + x.val = x.val; rw [map0]; show 0 * 1024 + x.val = _; omega

theorem blk1 (hp : t.val / 8 = 0) (q : Fin 8) (hq : t.val % 8 = q.val) (k x : Fin 1024) : (iblk m c 1 t (ix2 k x : S1024x1024.Idx) : EReal) = m ((c : Thread nD τ).loc main_arg1) (ix2 (at8 q k) x : S8192x1024.Idx) := by
  show (V m c main_arg1 (((cfg0.win 1).rect t).emb (ix2 k x : S1024x1024.Idx)) : EReal) = _
  refine congrArg (V m c main_arg1) (funext fun a => Fin.ext ?_)
  refine (Window.rect_emb_val (cfg0.win 1) t (ix2 k x : S1024x1024.Idx) a).trans ?_
  match a with
  | ⟨0, _⟩ => show cc0_transform_1 (grid0.coords t) 0 * 1024 + k.val = 1024 * q.val + k.val; rw [map1 t hp]; show t.val % 8 * 1024 + k.val = _; omega
  | ⟨1, _⟩ => show cc0_transform_1 (grid0.coords t) 1 * 1024 + x.val = x.val; rw [map1 t hp]; show 0 * 1024 + x.val = _; omega

theorem blk2 (hp : t.val / 8 = 1) (q : Fin 8) (hq : t.val % 8 = q.val) (k x : Fin 1024) : (iblk m c 2 t (ix2 k x : S1024x1024.Idx) : EReal) = m ((c : Thread nD τ).loc main_arg2) (ix2 (at8 q k) x : S8192x1024.Idx) := by
  show (V m c main_arg2 (((cfg0.win 2).rect t).emb (ix2 k x : S1024x1024.Idx)) : EReal) = _
  refine congrArg (V m c main_arg2) (funext fun a => Fin.ext ?_)
  refine (Window.rect_emb_val (cfg0.win 2) t (ix2 k x : S1024x1024.Idx) a).trans ?_
  match a with
  | ⟨0, _⟩ => show cc0_transform_2 (grid0.coords t) 0 * 1024 + k.val = 1024 * q.val + k.val; rw [map2 t hp]; show t.val % 8 * 1024 + k.val = _; omega
  | ⟨1, _⟩ => show cc0_transform_2 (grid0.coords t) 1 * 1024 + x.val = x.val; rw [map2 t hp]; show 0 * 1024 + x.val = _; omega

theorem blk3 (hp : t.val / 8 = 2) (q : Fin 8) (hq : t.val % 8 = q.val) (k x : Fin 1024) : (iblk m c 3 t (ix2 k x : S1024x1024.Idx) : EReal) = m ((c : Thread nD τ).loc main_arg3) (ix2 (at8 q k) x : S8192x1024.Idx) := by
  show (V m c main_arg3 (((cfg0.win 3).rect t).emb (ix2 k x : S1024x1024.Idx)) : EReal) = _
  refine congrArg (V m c main_arg3) (funext fun a => Fin.ext ?_)
  refine (Window.rect_emb_val (cfg0.win 3) t (ix2 k x : S1024x1024.Idx) a).trans ?_
  match a with
  | ⟨0, _⟩ => show cc0_transform_3 (grid0.coords t) 0 * 1024 + k.val = 1024 * q.val + k.val; rw [map3 t hp]; show t.val % 8 * 1024 + k.val = _; omega
  | ⟨1, _⟩ => show cc0_transform_3 (grid0.coords t) 1 * 1024 + x.val = x.val; rw [map3 t hp]; show 0 * 1024 + x.val = _; omega

theorem blk4 (hp : t.val / 8 = 3) (q : Fin 8) (hq : t.val % 8 = q.val) (k x : Fin 1024) : (iblk m c 4 t (ix2 k x : S1024x1024.Idx) : EReal) = m ((c : Thread nD τ).loc main_arg4) (ix2 (at8 q k) x : S8192x1024.Idx) := by
  show (V m c main_arg4 (((cfg0.win 4).rect t).emb (ix2 k x : S1024x1024.Idx)) : EReal) = _
  refine congrArg (V m c main_arg4) (funext fun a => Fin.ext ?_)
  refine (Window.rect_emb_val (cfg0.win 4) t (ix2 k x : S1024x1024.Idx) a).trans ?_
  match a with
  | ⟨0, _⟩ => show cc0_transform_4 (grid0.coords t) 0 * 1024 + k.val = 1024 * q.val + k.val; rw [map4 t hp]; show t.val % 8 * 1024 + k.val = _; omega
  | ⟨1, _⟩ => show cc0_transform_4 (grid0.coords t) 1 * 1024 + x.val = x.val; rw [map4 t hp]; show 0 * 1024 + x.val = _; omega

/-! ## The steps of a part -/

/-- The arguments. -/
def arg0 : S8192x1024.Idx → EReal := m ((c : Thread nD τ).loc main_arg0)
/-- Part j of the four. -/
def arg (j : Fin 4) : S8192x1024.Idx → EReal := match j with
  | 0 => m ((c : Thread nD τ).loc main_arg1)
  | 1 => m ((c : Thread nD τ).loc main_arg2)
  | 2 => m ((c : Thread nD τ).loc main_arg3)
  | 3 => m ((c : Thread nD τ).loc main_arg4)

/-- One step's sum over blocks is a tile's share. -/
theorem share_of (x y : S8192x1024.Idx → EReal) (q : Fin 8) (a b : S1024x1024.Idx → EReal)
    (ha : ∀ k, a (ix2 k r) = x (ix2 (at8 q k) r)) (hb : ∀ k, b (ix2 k n) = y (ix2 (at8 q k) n)) :
    ∑ k : Fin 1024, a (ix2 k r) * b (ix2 k n) = share x y q r n :=
  Finset.sum_congr rfl fun k _ => by rw [ha, hb]

/-- One step's entry: the sum so far, plus the tile's share. -/
theorem pay_at (x y : S8192x1024.Idx → EReal) (q : Fin 8)
    (ha : ∀ k, (a (ix2 k r) : EReal) = x (ix2 (at8 q k) r)) (hb : ∀ k, (b (ix2 k n) : EReal) = y (ix2 (at8 q k) n)) :
    (k0_pay2 (F := Ideal) acc a b (ix2 r n) : EReal) = acc (ix2 r n) + share x y q r n :=
  (pay2_at acc a b r n).trans (congrArg (fun z : EReal => (acc (ix2 r n) : EReal) + z) (share_of r n x y q a b ha hb))

theorem first (j : Fin 4) (q : Fin 8) (ht : t.val = 8 * j.val + q.val) (h : q.val = 0) :
    ((outsAt0 m c t.val t.isLt).2 (ix2 r n) : EReal) = share (arg0 m c) (arg m c j) q r n := by
  have hq : t.val % 8 = q.val := by have := q.isLt; omega
  have hl := q.isLt
  match j with
  | 0 => rw [step_A m c t (by omega), pay_at _ _ _ r n (arg0 m c) (arg m c 0) q (fun k => blk0 m c t q hq k r) (fun k => blk1 m c t (by omega) q hq k n), pay1_at, zero_add]
  | 1 => rw [step_D m c t (by omega), pay3_eq, pay_at _ _ _ r n (arg0 m c) (arg m c 1) q (fun k => blk0 m c t q hq k r) (fun k => blk2 m c t (by omega) q hq k n), pay1_at, zero_add]
  | 2 => rw [step_G m c t (by omega), pay4_eq, pay_at _ _ _ r n (arg0 m c) (arg m c 2) q (fun k => blk0 m c t q hq k r) (fun k => blk3 m c t (by omega) q hq k n), pay1_at, zero_add]
  | 3 => rw [step_J m c t (by omega), pay5_eq, pay_at _ _ _ r n (arg0 m c) (arg m c 3) q (fun k => blk0 m c t q hq k r) (fun k => blk4 m c t (by omega) q hq k n), pay1_at, zero_add]

theorem later (j : Fin 4) (q : Fin 8) (ht : t.val = 8 * j.val + q.val) (h : 0 < q.val) (h' : q.val < 7) :
    ((outsAt0 m c t.val t.isLt).2 (ix2 r n) : EReal) = (outsAt0 m c (t.val - 1) (Nat.lt_of_le_of_lt (Nat.sub_le _ _) t.isLt)).2 (ix2 r n) + share (arg0 m c) (arg m c j) q r n := by
  have hq : t.val % 8 = q.val := by have := q.isLt; omega
  have hl := q.isLt
  match j with
  | 0 => rw [step_B m c t (by omega) (by omega), pay_at _ _ _ r n (arg0 m c) (arg m c 0) q (fun k => blk0 m c t q hq k r) (fun k => blk1 m c t (by omega) q hq k n)]
  | 1 => rw [step_E m c t (by omega) (by omega), pay3_eq, pay_at _ _ _ r n (arg0 m c) (arg m c 1) q (fun k => blk0 m c t q hq k r) (fun k => blk2 m c t (by omega) q hq k n)]
  | 2 => rw [step_H m c t (by omega) (by omega), pay4_eq, pay_at _ _ _ r n (arg0 m c) (arg m c 2) q (fun k => blk0 m c t q hq k r) (fun k => blk3 m c t (by omega) q hq k n)]
  | 3 => rw [step_K m c t (by omega) (by omega), pay5_eq, pay_at _ _ _ r n (arg0 m c) (arg m c 3) q (fun k => blk0 m c t q hq k r) (fun k => blk4 m c t (by omega) q hq k n)]

theorem last (j : Fin 4) (q : Fin 8) (ht : t.val = 8 * j.val + q.val) (h : q.val = 7) :
    ((outsAt0 m c t.val t.isLt).1 (ix2 r n) : EReal) = (outsAt0 m c (t.val - 1) (Nat.lt_of_le_of_lt (Nat.sub_le _ _) t.isLt)).2 (ix2 r n) + share (arg0 m c) (arg m c j) q r n := by
  have hq : t.val % 8 = q.val := by have := q.isLt; omega
  have hl := q.isLt
  match j with
  | 0 => rw [step_C m c t (by omega), pay6_eq, pay_at _ _ _ r n (arg0 m c) (arg m c 0) q (fun k => blk0 m c t q hq k r) (fun k => blk1 m c t (by omega) q hq k n)]
  | 1 => rw [step_F m c t (by omega), pay6_eq, pay3_eq, pay_at _ _ _ r n (arg0 m c) (arg m c 1) q (fun k => blk0 m c t q hq k r) (fun k => blk2 m c t (by omega) q hq k n)]
  | 2 => rw [step_I m c t (by omega), pay6_eq, pay4_eq, pay_at _ _ _ r n (arg0 m c) (arg m c 2) q (fun k => blk0 m c t q hq k r) (fun k => blk3 m c t (by omega) q hq k n)]
  | 3 => rw [step_L m c t (by omega), pay6_eq, pay5_eq, pay_at _ _ _ r n (arg0 m c) (arg m c 3) q (fun k => blk0 m c t q hq k r) (fun k => blk4 m c t (by omega) q hq k n)]

/-! ## A part's eight tiles -/

theorem outs_at {k k' : ℕ} (e : k = k') (h : k < cfg0.N) (h' : k' < cfg0.N) : outsAt0 m c k h = outsAt0 m c k' h' := by
  subst e; rfl

theorem pt_lt (j : Fin 4) (q : ℕ) (hq : q < 8) : 8 * j.val + q < cfg0.N := by
  have hN : cfg0.N = 32 := N_0
  have := j.isLt
  omega

/-- After tile q of part j (not the last) the scratch holds the sum of the shares so far. -/
theorem upto (j : Fin 4) : ∀ (q : ℕ) (hq : q < 7),
    ((outsAt0 m c (8 * j.val + q) (pt_lt j q (by omega))).2 (ix2 r n) : EReal) = ∑ s : Fin (q + 1), share (arg0 m c) (arg m c j) ⟨s.val, by have := s.isLt; omega⟩ r n
  | 0, hq => by
    rw [Fin.sum_univ_one]
    exact first r n m c ⟨8 * j.val, pt_lt j 0 (by omega)⟩ j 0 (by show 8 * j.val = 8 * j.val + 0; omega) rfl
  | q + 1, hq => by
    rw [Fin.sum_univ_castSucc]
    refine (later r n m c ⟨8 * j.val + (q + 1), pt_lt j (q + 1) (by omega)⟩ j ⟨q + 1, by omega⟩ rfl (Nat.succ_pos q) hq).trans ?_
    rw [outs_at m c (show 8 * j.val + (q + 1) - 1 = 8 * j.val + q by omega) _ (pt_lt j q (by omega)), upto j q (by omega)]
    rfl

/-- After the last tile the result's block holds the sum of all eight. -/
theorem block_at (j : Fin 4) :
    ((outsAt0 m c (8 * j.val + 7) (pt_lt j 7 (by omega))).1 (ix2 r n) : EReal) = ∑ q : Fin 8, share (arg0 m c) (arg m c j) q r n := by
  rw [Fin.sum_univ_castSucc]
  refine (last r n m c ⟨8 * j.val + 7, pt_lt j 7 (by omega)⟩ j 7 rfl rfl).trans ?_
  rw [outs_at m c (show 8 * j.val + 7 - 1 = 8 * j.val + 6 by omega) _ (pt_lt j 6 (by omega)), upto r n m c j 6 (by omega)]
  rfl

end Cert.Kernel3Ideal.WGrad

end
-- ==== Proof.WGrad.Run.lean ====
/- The weights gradient's array after the run: every block written back is a part's sum, and the four blocks fill the array. -/
module

public import proofs.«01_k».proof.Proof.WGrad.KernelVal
public import Idealize.ShloMosaic.Lib.Pipeline.Value

@[expose] public section

set_option maxRecDepth 16384

noncomputable section

namespace Cert.Kernel3Ideal.WGrad

open Idealize.ShloMosaic Idealize.ShloMosaic.TcCoe Idealize.ShloMosaic.ValueIdx Idealize.SL.Sem
open Cert.Kernel3Ideal Cert.Kernel3Ideal.Gen Cert.Parts.W
open Cert.Parts (at4)
open scoped BigOperators

variable (m : (ℓ : Loc nD τ sig) → Buf (Elt Ideal) ℓ) (ρ : Dev nD → PrngReg) (c : Dev nD)

/-- The part a column belongs to, and its place in the part. -/
def partOf (x : Fin 4096) : Fin 4 := ⟨x.val / 1024, by have := x.isLt; omega⟩
def placeOf (x : Fin 4096) : Fin 1024 := ⟨x.val % 1024, Nat.mod_lt _ (by decide)⟩

/-- The array's entries. -/
def entry (i : S1024x4096.Idx) : EReal := ∑ q : Fin 8, share (arg0 m c) (arg m c (partOf (i 1))) q (i 0) (placeOf (i 1))

/-- The array. -/
def whole : Buf (Elt Ideal) ((c : Thread nD τ).loc main_v0) := fun i => entry m c i

theorem blockIdx : ∀ t : Fin cfg0.N, win0_5.index t (0 : Fin 2) = 0 ∧ win0_5.index t (1 : Fin 2) = t.val / 8 :=
  (by decide +kernel : ∀ t : Fin grid0.N, _)

/-- A point that writes back writes its block of the array. -/
theorem written (t : Fin cfg0.N) (hf : (cfg0.win 5).flush t = true) :
    (dats m 0 c).flushed 5 t = ((cfg0.win 5).blk t).view.read (Elt Ideal) (whole m c) := by
  show (cfg0.win 5).cut (grid0.coords t) ((dats m 0 c).after 5 t) = _
  rw [after0_5]
  have hm : t.val % 8 = 7 := (flush0_5 t).mp hf
  have hN : t.val < 32 := lt_of_lt_of_eq t.isLt N_0
  obtain ⟨e0, e1⟩ := blockIdx t
  funext y
  have h0 : (y 0).val < 1024 := (y 0).isLt
  have h1 : (y 1).val < 1024 := (y 1).isLt
  have b0 : (((cfg0.win 5).blk t).view.emb y 0).val = win0_5.index t (0 : Fin 2) * 1024 + 1 * (y 0).val := rfl
  have b1 : (((cfg0.win 5).blk t).view.emb y 1).val = win0_5.index t (1 : Fin 2) * 1024 + 1 * (y 1).val := rfl
  show ((outsAt0 m c t.val t.isLt).1 ((cfg0.win 5).xinj (grid0.coords t) y) : EReal) = entry m c (((cfg0.win 5).blk t).view.emb y)
  have hy : (cfg0.win 5).xinj (grid0.coords t) y = (ix2 (⟨(y 0).val, h0⟩ : Fin 1024) (⟨(y 1).val, h1⟩ : Fin 1024) : S1024x1024.Idx) := funext fun a => Fin.ext (by
    match a with
    | ⟨0, _⟩ => rfl
    | ⟨1, _⟩ => rfl)
  have ht : t.val = 8 * (⟨t.val / 8, by omega⟩ : Fin 4).val + 7 := by show t.val = 8 * (t.val / 8) + 7; omega
  rw [hy, outs_at m c ht t.isLt (pt_lt _ 7 (by omega)), block_at]
  have k0 : (((cfg0.win 5).blk t).view.emb y 0 : Fin 1024) = ⟨(y 0).val, h0⟩ := Fin.ext (by rw [b0, e0]; show 0 * 1024 + 1 * (y 0).val = (y 0).val; omega)
  have k1 : partOf (((cfg0.win 5).blk t).view.emb y 1 : Fin 4096) = ⟨t.val / 8, by omega⟩ := Fin.ext (by
    show (((cfg0.win 5).blk t).view.emb y 1).val / 1024 = t.val / 8; rw [b1, e1]; omega)
  have k2 : placeOf (((cfg0.win 5).blk t).view.emb y 1 : Fin 4096) = ⟨(y 1).val, h1⟩ := Fin.ext (by
    show (((cfg0.win 5).blk t).view.emb y 1).val % 1024 = (y 1).val; rw [b1, e1]; omega)
  unfold entry
  rw [k0, k1, k2]
  rfl

/-- The point that writes back a column's block: the last of its part. -/
def lastOf (x : Fin 4096) : Fin cfg0.N := ⟨8 * (x.val / 1024) + 7, by have := x.isLt; have hN : cfg0.N = 32 := N_0; omega⟩

theorem lastOf_val (x : Fin 4096) : (lastOf x).val = 8 * (x.val / 1024) + 7 := rfl

theorem mem_block (t : Fin cfg0.N) (i : S1024x4096.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v0).slice (win0_5.rect t)).set ↔ _
  rw [View.set_slice_whole, Rect.mem_set_unit]
  exact Iff.rfl

/-- Every index is in a block written back. -/
theorem filled (i : S1024x4096.Idx) : ∃ t : Fin cfg0.N, (cfg0.win 5).flush t = true ∧ i ∈ ((cfg0.win 5).blk t).view.set := by
  have h0 : (i 0).val < 1024 := (i 0).isLt
  have h1 : (i 1).val < 4096 := (i 1).isLt
  have hv : (lastOf (i 1)).val = 8 * ((i 1).val / 1024) + 7 := lastOf_val (i 1)
  refine ⟨lastOf (i 1), (flush0_5 _).mpr (by omega), ?_⟩
  obtain ⟨e0, e1⟩ := blockIdx (lastOf (i 1))
  rw [mem_block]
  intro a
  match a with
  | ⟨0, _⟩ =>
    show win0_5.index (lastOf (i 1)) (0 : Fin 2) * 1024 ≤ (i 0).val ∧ (i 0).val < win0_5.index (lastOf (i 1)) (0 : Fin 2) * 1024 + 1024
    omega
  | ⟨1, _⟩ =>
    show win0_5.index (lastOf (i 1)) (1 : Fin 2) * 1024 ≤ (i 1).val ∧ (i 1).val < win0_5.index (lastOf (i 1)) (1 : Fin 2) * 1024 + 1024
    omega

/-- An input array ends as it was. -/
theorem input_kept (r : PUnit × MemSt nD τ sig (Elt Ideal)) (h : Pipeline.FramePost cfgs (dats m) 0 (V m) r) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c)))⟩

/-- The run: the result array ends at the sums, the inputs as they were. -/
theorem run : θ_run defs (onTc (τ := τ) (main (F := Ideal))) ⟨m, fun _ => 0, ρ⟩ fun r => ∀ c : Dev nD,
      r.2.mem ((c : Thread nD τ).loc main_v0) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
      ⟨((h c).1 5).trans ((dats m 0 c).arrAt_eq_of_cover 5 _ (fun t hf => written m c t hf) (fun i => filled i)), input_kept m c r h⟩)
    (run_main m ρ)

end Cert.Kernel3Ideal.WGrad

end
-- ==== Proof.WGrad.RefVal.lean ====
/- The reference's weights gradient, read off its run: the product of the input, transposed, with the four parts laid side
   by side. -/
module

public import proofs.«01_k».proof.Proof.WGrad.Sum
public import proofs.«01_k».proof.Proof.InGrad.RefVal
public import proofs.«01_k».proof.Proof.Gen.Reference3Ideal.Read

@[expose] public section

set_option maxRecDepth 16384

noncomputable section

namespace Cert.Reference3Ideal.WGrad

open Idealize.ShloMosaic Idealize.ShloMosaic.TcCoe Idealize.ShloMosaic.ValueIdx Idealize.SL.Sem
open Cert.Reference3Ideal Cert.Reference3Ideal.Gen Cert.Reference3Ideal.Read Cert.Parts Cert.Parts.W
open Cert.Reference2Ideal.InGrad (part)
open scoped BigOperators

variable (x x0 x1 x2 x3 : S8192x1024.Idx → EReal)

/-- The four parts laid side by side, read at a place of part s, as in the input gradient's reference. -/
theorem laid (y : Fin 8192) (s : Fin 4) (k : Fin 1024) :
    (val_main_v0 (F := Ideal) x0 x1 x2 x3 (ix2 y (at4 s k) : S8192x4096.Idx) : EReal) = part x0 x1 x2 x3 s (ix2 y k) :=
  Cert.Reference2Ideal.InGrad.laid x0 x1 x2 x3 y s k

/-- An entry: the sum over the tokens, by tiles. -/
theorem result (r : Fin 1024) (s : Fin 4) (n : Fin 1024) :
    (val_main_v7 (F := Ideal) x x0 x1 x2 x3 (ix2 r (at4 s n) : S1024x4096.Idx) : EReal) = ∑ q : Fin 8, share x (part x0 x1 x2 x3 s) q r n := by
  show (val_main_v6 (F := Ideal) x x0 x1 x2 x3 (ix2 r (at4 s n) : S1024x4096.Idx) : EReal) = _
  rw [val_main_v6_apply]
  refine (val_main_v5_apply x x0 x1 x2 x3 _).trans ((sum8 _).trans (Finset.sum_congr rfl fun q _ => Finset.sum_congr rfl fun k _ => ?_))
  have hl : lidx_main_v5 (idx_main_v6 (ix2 r (at4 s n) : S1024x4096.Idx)) (at8 q k) = (ix2 (at8 q k) (at4 s n) : S8192x4096.Idx) := funext fun a => by
    match a with
    | ⟨0, _⟩ => rfl
    | ⟨1, _⟩ => rfl
  have hr : ridx_main_v5 (idx_main_v6 (ix2 r (at4 s n) : S1024x4096.Idx)) (at8 q k) = (ix2 (at8 q k) r : S8192x1024.Idx) := funext fun a => by
    match a with
    | ⟨0, _⟩ => rfl
    | ⟨1, _⟩ => rfl
  rw [val_main_v1_apply, val_main_v3_apply, hl, hr]
  exact (congrArg₂ (fun y z : EReal => y * z) (laid x0 x1 x2 x3 (at8 q k) s n) rfl).trans (mul_comm _ _)

end Cert.Reference3Ideal.WGrad

end
-- ==== Proof.WGrad.Whole.lean ====
/- The weights gradient's product: the call and the reference end with the same array. -/
module

public import proofs.«01_k».proof.Defs
public import proofs.«01_k».proof.Proof.Gen.Kernel3
public import proofs.«01_k».proof.Proof.InGrad.Whole
public import proofs.«01_k».proof.Proof.WGrad.Run
public import proofs.«01_k».proof.Proof.WGrad.RefVal
public import Idealize.ShloMosaic.Adequacy
public import Idealize.ShloMosaic.Init

@[expose] public section

noncomputable section

namespace Cert.WGrad

open Idealize.ShloMosaic Idealize.ShloMosaic.ValueIdx Idealize.SL.Sem
open Cert.Parts Cert.Parts.W
open scoped BigOperators

/-- The call and the idealized call have the same text. -/
theorem defs₀_eq : Cert.Kernel3.defs₀ (F := Bits) = Cert.Kernel3Ideal.defs₀ (F := Bits) := by
  unfold Cert.Kernel3.defs₀ Cert.Kernel3Ideal.defs₀
  refine congrArg _ (funext fun l => ?_)
  match l with
  | 0 => rfl

theorem defs_eq : Cert.Kernel3.defs (F := Bits) = Cert.Kernel3Ideal.defs (F := Bits) :=
  congrArg (Pipeline.defs (Cert.Kernel3Ideal.pcfgs (F := Bits))) defs₀_eq

/-- The call's frame at its own arithmetic: the idealized call's run, which holds at any arithmetic. -/
theorem frame_k : Cert.quiescent_Kernel3 := fun m ρ _ => by
  rw [defs_eq]
  exact Cert.Kernel3Ideal.Gen.frame (F := Bits) m ρ

/-- The reference's frame. -/
theorem frame_r : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- The array of the product, as a function of the five arguments. -/
def prod (x x0 x1 x2 x3 : (⟨2, ![8192, 1024]⟩ : Shape).Idx → EReal) : (⟨2, ![1024, 4096]⟩ : Shape).Idx → EReal := fun i =>
  ∑ q : Fin 8, share x (Cert.Reference2Ideal.InGrad.part x0 x1 x2 x3 (Cert.Kernel3Ideal.WGrad.partOf (i 1))) q (i 0) (Cert.Kernel3Ideal.WGrad.placeOf (i 1))

/-- The reference's array is the product. -/
theorem ref_eq (x x0 x1 x2 x3 : (⟨2, ![8192, 1024]⟩ : Shape).Idx → EReal) :
    (Cert.Reference3Ideal.Read.val_main_v7 (F := Ideal) x x0 x1 x2 x3 : (⟨2, ![1024, 4096]⟩ : Shape).Idx → EReal) = prod x x0 x1 x2 x3 := funext fun i => by
  have e : i = (ix2 (i 0) (at4 (Cert.Kernel3Ideal.WGrad.partOf (i 1)) (Cert.Kernel3Ideal.WGrad.placeOf (i 1))) : (⟨2, ![1024, 4096]⟩ : Shape).Idx) := funext fun a => Fin.ext (by
    match a with
    | ⟨0, _⟩ => rfl
    | ⟨1, _⟩ => show (i 1).val = 1024 * ((i 1).val / 1024) + (i 1).val % 1024; omega)
  exact (congrArg (Cert.Reference3Ideal.Read.val_main_v7 (F := Ideal) x x0 x1 x2 x3) e).trans (Cert.Reference3Ideal.WGrad.result x x0 x1 x2 x3 _ _ _)

/-- A part of the call's is the reference's. -/
theorem part_eq (m : (ℓ : Loc Cert.Kernel3Ideal.nD Cert.Kernel3Ideal.τ Cert.Kernel3Ideal.sig) → Buf (Elt Ideal) ℓ) (c : Dev Cert.Kernel3Ideal.nD) (j : Fin 4) :
    Cert.Kernel3Ideal.WGrad.arg m c j = Cert.Reference2Ideal.InGrad.part (Cert.Kernel3Ideal.WGrad.arg m c 0) (Cert.Kernel3Ideal.WGrad.arg m c 1) (Cert.Kernel3Ideal.WGrad.arg m c 2) (Cert.Kernel3Ideal.WGrad.arg m c 3) j := by
  match j with
  | 0 => rfl
  | 1 => rfl
  | 2 => rfl
  | 3 => rfl

/-- The call's array is the product. -/
theorem ker_eq (m : (ℓ : Loc Cert.Kernel3Ideal.nD Cert.Kernel3Ideal.τ Cert.Kernel3Ideal.sig) → Buf (Elt Ideal) ℓ) (c : Dev Cert.Kernel3Ideal.nD) :
    (Cert.Kernel3Ideal.WGrad.whole m c : (⟨2, ![1024, 4096]⟩ : Shape).Idx → EReal)
      = prod (Cert.Kernel3Ideal.WGrad.arg0 m c) (Cert.Kernel3Ideal.WGrad.arg m c 0) (Cert.Kernel3Ideal.WGrad.arg m c 1) (Cert.Kernel3Ideal.WGrad.arg m c 2) (Cert.Kernel3Ideal.WGrad.arg m c 3) := funext fun i => by
  show Cert.Kernel3Ideal.WGrad.entry m c i = _
  unfold Cert.Kernel3Ideal.WGrad.entry prod
  rw [part_eq m c]

theorem algebraic : Cert.algebraic_Kernel3Ideal_Reference3Ideal := fun m g m' g' _ hag =>
  ⟨fun c => Cert.Kernel3Ideal.WGrad.whole m c,
    Cert.Kernel3Ideal.WGrad.run m g,
    (θ_run Cert.Reference3Ideal.defs _ _).mono (fun r h c =>
        ⟨(h c).1.trans ((Cert.Reference3Ideal.Read.val_main_v7_eq _ _ _ _ _).trans
          ((ref_eq _ _ _ _ _).trans ((Cert.InGrad.at5 prod (hag c).1 (hag c).2.1 (hag c).2.2.1 (hag c).2.2.2.1 (hag c).2.2.2.2).trans (ker_eq m c).symm))), (h c).2⟩)
      (Cert.Reference3Ideal.Value.run (F := Ideal) m' g')⟩

end Cert.WGrad

end
-- ==== Proof.Gate.Fun.lean ====
/- The output gate's backward on reals: the logistic function by its two spellings, the gradients of one entry, and the
   head-wise sum read from sixteen groups of 64 channels. -/
module

public import proofs.«01_k».proof.Proof.Ideal.RefRead

@[expose] public section

set_option maxRecDepth 16384

noncomputable section

namespace Cert.Gate

open Idealize.ShloMosaic
open Cert.ReferenceIdeal.Attn (zero32 one32)
open scoped BigOperators

theorem half32 : Ideal.ofBits .f32 0x3F000000#32 = ((1 / 2 : ℝ) : EReal) := by
  simp [Ideal.ofBits, Ideal.ieee, -EReal.coe_mul]; norm_num

/-- The logistic function. -/
def sg (g : ℝ) : ℝ := (1 + Real.exp (-g))⁻¹

theorem pos (g : ℝ) : 0 < 1 + Real.exp (-g) := by positivity

/-- The logistic function is half the hyperbolic tangent of the half, plus a half. -/
theorem half_tanh (g : ℝ) : 1 / 2 * Real.tanh (1 / 2 * g) + 1 / 2 = sg g := by
  have h1 : Real.exp (-g) = Real.exp (-(1 / 2 * g)) * Real.exp (-(1 / 2 * g)) := by rw [← Real.exp_add]; congr 1; ring
  have h2 : Real.exp (1 / 2 * g) * Real.exp (-(1 / 2 * g)) = 1 := by rw [← Real.exp_add]; simp
  have p := Real.exp_pos (1 / 2 * g)
  have q := Real.exp_pos (-(1 / 2 * g))
  unfold sg
  rw [Real.tanh_eq_sinh_div_cosh, Real.sinh_eq, Real.cosh_eq, h1]
  generalize Real.exp (1 / 2 * g) = a at *
  generalize Real.exp (-(1 / 2 * g)) = b at *
  have e : a = b⁻¹ := eq_inv_of_mul_eq_one_left h2
  subst e
  have : (1 + b * b) ≠ 0 := by positivity
  have : (b⁻¹ + b) ≠ 0 := by positivity
  field_simp
  ring

/-- The three arguments: the gradient of the gated output, the output, and the gate. -/
structure Inp where
  d : Fin 8192 → Fin 1024 → ℝ
  o : Fin 8192 → Fin 1024 → ℝ
  g : Fin 8192 → Fin 1024 → ℝ

variable (I : Inp) (y : Fin 8192) (n : Fin 1024)

/-- The output's gradient. -/
def Inp.dO : ℝ := I.d y n * (I.g y n * sg (I.g y n))
/-- The gate's gradient. -/
def Inp.dG : ℝ := I.d y n * I.o y n * (sg (I.g y n) * (1 + I.g y n * (1 - sg (I.g y n))))
/-- Their contribution to the head's sum. -/
def Inp.pr : ℝ := I.dO y n * I.o y n

/-- The channel of a head's place. -/
def chan (a : Fin 16) (k : Fin 64) : Fin 1024 := ⟨64 * a.val + k.val, by have := a.isLt; have := k.isLt; omega⟩

/-- The head's sum, zero from the sixteenth lane on. -/
def Inp.dL (l : Fin 128) : ℝ := if h : l.val < 16 then ∑ k : Fin 64, I.pr y (chan ⟨l.val, h⟩ k) else 0

/-- A sum over the channels picking those of one head is that head's sum. -/
theorem pick_sum (f : Fin 1024 → ℝ) (l : Fin 128) :
    ∑ n : Fin 1024, f n * (if n.val / 64 = l.val then (1 : ℝ) else 0) = if h : l.val < 16 then ∑ k : Fin 64, f (chan ⟨l.val, h⟩ k) else 0 := by
  have e : ∑ n : Fin 1024, f n * (if n.val / 64 = l.val then (1 : ℝ) else 0)
      = ∑ a : Fin 16, ∑ k : Fin 64, f (chan a k) * (if a.val = l.val then (1 : ℝ) else 0) := by
    rw [← (finProdFinEquiv (m := 16) (n := 64)).sum_comp, Fintype.sum_prod_type]
    refine Finset.sum_congr rfl fun a _ => Finset.sum_congr rfl fun k _ => ?_
    have hv : (finProdFinEquiv (m := 16) (n := 64) (a, k)).val = k.val + 64 * a.val := rfl
    have hk := k.isLt
    have hc : (finProdFinEquiv (m := 16) (n := 64) (a, k) : Fin 1024) = chan a k := Fin.ext (by show _ = 64 * a.val + k.val; omega)
    have hd : (chan a k).val / 64 = a.val := by show (64 * a.val + k.val) / 64 = a.val; omega
    rw [hc, hd]
  rw [e]
  by_cases h : l.val < 16
  · rw [dif_pos h, Finset.sum_eq_single (⟨l.val, h⟩ : Fin 16)]
    · simp
    · intro a _ ha
      have : a.val ≠ l.val := fun h' => ha (Fin.ext h')
      simp [this]
    · intro h'; exact absurd (Finset.mem_univ _) h'
  · rw [dif_neg h]
    refine Finset.sum_eq_zero fun a _ => Finset.sum_eq_zero fun k _ => ?_
    have : a.val ≠ l.val := fun h' => h (h' ▸ a.isLt)
    simp [this]

end Cert.Gate

end
-- ==== Proof.Gate.KernelVal.lean ====
/- The output gate's backward, read off one grid point of the call: the entries its body leaves, on blocks of reals. -/
module

public import proofs.«01_k».proof.Proof.Gate.Fun
public import proofs.«01_k».proof.Proof.Gen.Kernel4Ideal.Value

@[expose] public section

set_option maxRecDepth 16384

noncomputable section

namespace Cert.Kernel4Ideal.Gate

open Idealize.ShloMosaic Idealize.ShloMosaic.TcCoe Idealize.SL.Sem
open Idealize.ShloMosaic.ValueIdx (contrEquiv1 contrEquiv1_symm_val)
open Cert.Kernel4Ideal Cert.Kernel4Ideal.Gen Cert.Gate

open Cert.KernelIdeal.Attn (up2 up2_apply coe_sum)
open Cert.ReferenceIdeal.Attn (zero32 one32)
open scoped BigOperators

variable (d o g : Fin 512 → Fin 1024 → ℝ) (r : Fin 512) (n : Fin 1024) (l : Fin 128)

/-! ## The two gradients -/

theorem pay2_at : (k0_pay2 (F := Ideal) (up2 g) (ix2 r n) : EReal) = ((sg (g r n) : ℝ) : EReal) := by
  show Ideal.ofBits .f32 0x3F000000#32 * Ideal.tanh (Ideal.ofBits .f32 0x3F000000#32 * ((g r n : ℝ) : EReal)) + Ideal.ofBits .f32 0x3F000000#32 = _
  rw [half32, ← EReal.coe_mul, Ideal.tanh_coe, ← EReal.coe_mul, ← EReal.coe_add, half_tanh]

theorem pay3_at : (k0_pay3 (F := Ideal) (up2 g) (up2 d) (ix2 r n) : EReal) = ((d r n * (g r n * sg (g r n)) : ℝ) : EReal) := by
  show ((d r n : ℝ) : EReal) * (((g r n : ℝ) : EReal) * (k0_pay2 (F := Ideal) (up2 g) (ix2 r n) : EReal)) = _
  rw [pay2_at, ← EReal.coe_mul, ← EReal.coe_mul]

theorem pay4_at : (k0_pay4 (F := Ideal) (up2 g) (up2 d) (ix2 r n) : EReal) = ((d r n * (g r n * sg (g r n)) : ℝ) : EReal) := pay3_at d g r n

theorem pay5_at : (k0_pay5 (F := Ideal) (up2 g) (up2 d) (up2 o) (ix2 r n) : EReal)
    = ((d r n * o r n * (sg (g r n) * (1 + g r n * (1 - sg (g r n)))) : ℝ) : EReal) := by
  show (((d r n : ℝ) : EReal) * ((o r n : ℝ) : EReal)) * ((k0_pay2 (F := Ideal) (up2 g) (ix2 r n) : EReal)
    * (Ideal.ofBits .f32 0x3F800000#32 + ((g r n : ℝ) : EReal) * (Ideal.ofBits .f32 0x3F800000#32 - (k0_pay2 (F := Ideal) (up2 g) (ix2 r n) : EReal)))) = _
  rw [pay2_at, one32, ← EReal.coe_sub, ← EReal.coe_mul, ← EReal.coe_mul, ← EReal.coe_add, ← EReal.coe_mul, ← EReal.coe_mul]

/-! ## The head-wise sum -/

/-- The head of a channel, as the body computes it. -/
def headWord (n : BitVec 32) : BitVec 32 :=
  Scalar.select (IntOp.andi (IntOp.cmpi .ne
      (IntOp.subi ((IntOp.cmpi .sgt n 0#32).setWidth 32) ((IntOp.cmpi .slt n 0#32).setWidth 32))
      (Scalar.subi (Scalar.extui (Scalar.cmpi .sgt 64#32 0#32)) (Scalar.extui (Scalar.cmpi .slt 64#32 0#32) : BitVec 32)))
    (IntOp.cmpi .ne (IntOp.remsi .vector n 64#32) 0#32))
    (IntOp.subi (IntOp.divsi .vector n 64#32) 1#32) (IntOp.divsi .vector n 64#32)

theorem headWord_eq : ∀ n : Fin 1024, headWord (BitVec.ofNat 32 n.val) = BitVec.ofNat 32 (n.val / 64) := by decide +kernel

/-- One entry of the picking matrix. -/
theorem pick_word : (((BitVec.setWidth 32 (IntOp.cmpi .eq (headWord (BitVec.ofNat 32 n.val)) (BitVec.ofNat 32 l.val))).toInt : ℝ))
    = if n.val / 64 = l.val then (1 : ℝ) else 0 := by
  rw [headWord_eq]
  have hn := n.isLt
  have hl := l.isLt
  by_cases h : n.val / 64 = l.val
  · rw [if_pos h, h]
    have : IntOp.cmpi .eq (BitVec.ofNat 32 l.val) (BitVec.ofNat 32 l.val) = 1#1 := by simp [IntOp.cmpi]
    rw [this]; norm_num
  · rw [if_neg h]
    have hne : BitVec.ofNat 32 (n.val / 64) ≠ BitVec.ofNat 32 l.val := fun e => h (by
      have := congrArg BitVec.toNat e
      simp only [BitVec.toNat_ofNat] at this
      omega)
    have : IntOp.cmpi .eq (BitVec.ofNat 32 (n.val / 64)) (BitVec.ofNat 32 l.val) = 0#1 := by simp only [IntOp.cmpi]; rw [beq_eq_false_iff_ne.mpr hne]; rfl
    rw [this]; norm_num

/-- A block's product with a matrix of one column per lane, from zero. -/
theorem tile (a : FVec Ideal S512x1024 .bf16) (b : FVec Ideal S1024x128 .bf16) :
    matmul (F := Ideal) (φ₁ := .bf16) (φ₂ := .bf16) dot_S512x1024_S1024x128_S512x128_1_0_0_1_n_n none a b (constant (F := Ideal) S512x128 .f32 0x00000000#32) (ix2 r l)
      = ∑ n : Fin 1024, (a (ix2 r n) : EReal) * b (ix2 n l) := by
  show FloatOps.matmul (F := Ideal) (φ₁ := .bf16) (φ₂ := .bf16) dot_S512x1024_S1024x128_S512x128_1_0_0_1_n_n none a b (constant (F := Ideal) S512x128 .f32 0x00000000#32) (ix2 r l) = _
  rw [Ideal.matmul_apply, ← Equiv.sum_comp (contrEquiv1 dot_S512x1024_S1024x128_S512x128_1_0_0_1_n_n 1024 rfl rfl).symm]
  show Ideal.ofBits .f32 0x00000000#32 + _ = _
  rw [Ideal.ofBits_zero_f32, zero_add]
  refine Finset.sum_congr rfl fun k _ => ?_
  have hk := contrEquiv1_symm_val dot_S512x1024_S1024x128_S512x128_1_0_0_1_n_n 1024 rfl rfl k
  have el : dot_S512x1024_S1024x128_S512x128_1_0_0_1_n_n.lhsIdx (ix2 r l) ((contrEquiv1 dot_S512x1024_S1024x128_S512x128_1_0_0_1_n_n 1024 rfl rfl).symm k) = ix2 r k := funext fun a => Fin.ext (by
    match a with
    | ⟨0, _⟩ => rfl
    | ⟨1, _⟩ => exact hk)
  have er : dot_S512x1024_S1024x128_S512x128_1_0_0_1_n_n.rhsIdx (ix2 r l) ((contrEquiv1 dot_S512x1024_S1024x128_S512x128_1_0_0_1_n_n 1024 rfl rfl).symm k) = ix2 k l := funext fun a => Fin.ext (by
    match a with
    | ⟨0, _⟩ => exact hk
    | ⟨1, _⟩ => rfl)
  rw [el, er]

/-- The matrix's entry for a channel and a lane. -/
def word : EReal :=
  (((BitVec.setWidth 32 (IntOp.cmpi .eq (headWord (iota .tc S1024x128 32 [0] iota_S1024x128_d0_w32 (ix2 n l))) (iota .tc S1024x128 32 [1] iota_S1024x128_d1_w32 (ix2 n l)))).toInt : ℝ) : EReal)

/-- The head-wise sum of a block, by three pieces of which the last two are zero. -/
theorem pay1_at (p : FVec Ideal S512x1024 .f32) (u : Fin 512 → Fin 1024 → ℝ) (hp : ∀ n, (p (ix2 r n) : EReal) = ((u r n : ℝ) : EReal)) :
    (k0_pay1 (F := Ideal) (up2 o) p (iota .tc S1024x128 32 [0] iota_S1024x128_d0_w32) (iota .tc S1024x128 32 [1] iota_S1024x128_d1_w32) 64#32 k0_pay6 k0_pay7 (Scalar.extui (Scalar.cmpi .sgt 64#32 0#32)) 0#32 (ix2 r l) : EReal)
      = ((if h : l.val < 16 then ∑ k : Fin 64, u r (chan ⟨l.val, h⟩ k) * o r (chan ⟨l.val, h⟩ k) else 0 : ℝ) : EReal) := by
  rw [← pick_sum (fun n => u r n * o r n) l]
  have hw : ∀ n : Fin 1024, word n l = (((if n.val / 64 = l.val then (1 : ℝ) else 0) : ℝ) : EReal) := fun n => by
    unfold word
    rw [iota_single_apply, iota_single_apply]
    exact congrArg (fun x : ℝ => (x : EReal)) (pick_word n l)
  unfold k0_pay1
  dsimp only
  simp only [addf, Ideal.addf_def]
  rw [tile, tile, tile]
  show (Ideal.ofBits .f32 0x00000000#32 + ∑ n : Fin 1024, ((p (ix2 r n) : EReal) * ((o r n : ℝ) : EReal)) * word n l)
    + (∑ n : Fin 1024, (((p (ix2 r n) : EReal) * ((o r n : ℝ) : EReal)) - ((p (ix2 r n) : EReal) * ((o r n : ℝ) : EReal))) * word n l)
    + (∑ n : Fin 1024, ((((p (ix2 r n) : EReal) * ((o r n : ℝ) : EReal)) - ((p (ix2 r n) : EReal) * ((o r n : ℝ) : EReal)))
        - (((p (ix2 r n) : EReal) * ((o r n : ℝ) : EReal)) - ((p (ix2 r n) : EReal) * ((o r n : ℝ) : EReal)))) * word n l) = _
  have hz : ∀ n : Fin 1024, (((p (ix2 r n) : EReal) * ((o r n : ℝ) : EReal)) - ((p (ix2 r n) : EReal) * ((o r n : ℝ) : EReal))) = 0 := fun n => by
    rw [hp, ← EReal.coe_mul, ← EReal.coe_sub, sub_self, EReal.coe_zero]
  simp only [hz, sub_zero, zero_mul, Finset.sum_const_zero, add_zero]
  rw [Ideal.ofBits_zero_f32, zero_add, coe_sum]
  exact Finset.sum_congr rfl fun n _ => by rw [hp, hw, ← EReal.coe_mul, ← EReal.coe_mul]

end Cert.Kernel4Ideal.Gate

end
-- ==== Proof.Gate.Run.lean ====
/- The output gate's backward after the run, on real arguments: each of the sixteen points writes its rows of the three
   results, and the rows fill the arrays. -/
module

public import proofs.«01_k».proof.Proof.Gate.KernelVal

@[expose] public section

set_option maxRecDepth 16384

noncomputable section

namespace Cert.Kernel4Ideal.Gate

open Idealize.ShloMosaic Idealize.ShloMosaic.TcCoe Idealize.SL.Sem
open Idealize.ShloMosaic.Pipeline (Window)
open Cert.Kernel4Ideal Cert.Kernel4Ideal.Gen Cert.Kernel4Ideal.Value Cert.Gate
open Cert.KernelIdeal.Attn (up2 ext2)

theorem off0 : (![0, 0] : Fin 2 → Nat) = fun _ => 0 := funext fun a => by fin_cases a <;> rfl

/-! ## The rows of a point -/

theorem map0 (t : Fin grid0.N) : cc0_transform_0 (grid0.coords t) = ![t.val, 0] := by revert t; decide +kernel
theorem map1 (t : Fin grid0.N) : cc0_transform_1 (grid0.coords t) = ![t.val, 0] := by revert t; decide +kernel
theorem map2 (t : Fin grid0.N) : cc0_transform_2 (grid0.coords t) = ![t.val, 0] := by revert t; decide +kernel
theorem map3 : ∀ t : Fin cfg0.N, win0_3.index t (0 : Fin 2) = t.val ∧ win0_3.index t (1 : Fin 2) = 0 :=
  (by decide +kernel : ∀ t : Fin grid0.N, _)
theorem map4 : ∀ t : Fin cfg0.N, win0_4.index t (0 : Fin 2) = t.val ∧ win0_4.index t (1 : Fin 2) = 0 :=
  (by decide +kernel : ∀ t : Fin grid0.N, _)
theorem map5 : ∀ t : Fin cfg0.N, win0_5.index t (0 : Fin 2) = t.val ∧ win0_5.index t (1 : Fin 2) = 0 :=
  (by decide +kernel : ∀ t : Fin grid0.N, _)

theorem points : cfg0.N = 16 := by decide +kernel

/-- Row r of point t. -/
def row (t : Fin cfg0.N) (r : Fin 512) : Fin 8192 := ⟨512 * t.val + r.val, by have := t.isLt; have h : cfg0.N = 16 := points; have := r.isLt; omega⟩

/-- The point of a row. -/
def pointOf (y : Fin 8192) : Fin cfg0.N := ⟨y.val / 512, by have := y.isLt; have h : cfg0.N = 16 := points; omega⟩

variable (m : (ℓ : Loc nD τ sig) → Buf (Elt Ideal) ℓ) (ρ : Dev nD → PrngReg) (c : Dev nD) (t : Fin cfg0.N) (I : Inp)

theorem blk0 (h : m ((c : Thread nD τ).loc main_arg0) = (up2 I.d : S8192x1024.Idx → EReal)) :
    (iblk m c 0 t : S512x1024.Idx → EReal) = up2 fun r n => I.d (row t r) n := ext2 _ _ fun r n => by
  show (V m c main_arg0 (((cfg0.win 0).rect t).emb (ix2 r n : S512x1024.Idx)) : EReal) = _
  refine Eq.trans (congrArg (V m c main_arg0) (?_ : _ = (ix2 (row t r) n : S8192x1024.Idx))) (congrFun h _)
  refine funext fun a => Fin.ext ?_
  refine (Window.rect_emb_val (cfg0.win 0) t (ix2 r n : S512x1024.Idx) a).trans ?_
  match a with
  | ⟨0, _⟩ => show cc0_transform_0 (grid0.coords t) 0 * 512 + r.val = 512 * t.val + r.val; rw [map0]; show t.val * 512 + r.val = _; omega
  | ⟨1, _⟩ => show cc0_transform_0 (grid0.coords t) 1 * 1024 + n.val = n.val; rw [map0]; show 0 * 1024 + n.val = _; omega

theorem blk1 (h : m ((c : Thread nD τ).loc main_arg1) = (up2 I.o : S8192x1024.Idx → EReal)) :
    (iblk m c 1 t : S512x1024.Idx → EReal) = up2 fun r n => I.o (row t r) n := ext2 _ _ fun r n => by
  show (V m c main_arg1 (((cfg0.win 1).rect t).emb (ix2 r n : S512x1024.Idx)) : EReal) = _
  refine Eq.trans (congrArg (V m c main_arg1) (?_ : _ = (ix2 (row t r) n : S8192x1024.Idx))) (congrFun h _)
  refine funext fun a => Fin.ext ?_
  refine (Window.rect_emb_val (cfg0.win 1) t (ix2 r n : S512x1024.Idx) a).trans ?_
  match a with
  | ⟨0, _⟩ => show cc0_transform_1 (grid0.coords t) 0 * 512 + r.val = 512 * t.val + r.val; rw [map1]; show t.val * 512 + r.val = _; omega
  | ⟨1, _⟩ => show cc0_transform_1 (grid0.coords t) 1 * 1024 + n.val = n.val; rw [map1]; show 0 * 1024 + n.val = _; omega

theorem blk2 (h : m ((c : Thread nD τ).loc main_arg2) = (up2 I.g : S8192x1024.Idx → EReal)) :
    (iblk m c 2 t : S512x1024.Idx → EReal) = up2 fun r n => I.g (row t r) n := ext2 _ _ fun r n => by
  show (V m c main_arg2 (((cfg0.win 2).rect t).emb (ix2 r n : S512x1024.Idx)) : EReal) = _
  refine Eq.trans (congrArg (V m c main_arg2) (?_ : _ = (ix2 (row t r) n : S8192x1024.Idx))) (congrFun h _)
  refine funext fun a => Fin.ext ?_
  refine (Window.rect_emb_val (cfg0.win 2) t (ix2 r n : S512x1024.Idx) a).trans ?_
  match a with
  | ⟨0, _⟩ => show cc0_transform_2 (grid0.coords t) 0 * 512 + r.val = 512 * t.val + r.val; rw [map2]; show t.val * 512 + r.val = _; omega
  | ⟨1, _⟩ => show cc0_transform_2 (grid0.coords t) 1 * 1024 + n.val = n.val; rw [map2]; show 0 * 1024 + n.val = _; omega

/-- The three arguments are these matrices. -/
def Args : Prop :=
  m ((c : Thread nD τ).loc main_arg0) = (up2 I.d : S8192x1024.Idx → EReal)
    ∧ m ((c : Thread nD τ).loc main_arg1) = (up2 I.o : S8192x1024.Idx → EReal)
    ∧ m ((c : Thread nD τ).loc main_arg2) = (up2 I.g : S8192x1024.Idx → EReal)

variable (hA : Args m c I)
include hA

/-! ## What a point leaves -/

theorem left3 : (out0_3 (iblk m c 0 t) (iblk m c 1 t) (iblk m c 2 t) : S512x1024.Idx → EReal) = up2 fun r n => I.dO (row t r) n := by
  rw [show iblk m c 0 t = _ from blk0 m c t I hA.1, show iblk m c 2 t = _ from blk2 m c t I hA.2.2]
  unfold out0_3
  rw [View.canon_unit_zero off0, View.ld_unit_zero (S := S512x1024) off0, View.ld_unit_zero (S := S512x1024) off0]
  exact ext2 _ _ fun r n => pay4_at (fun r n => I.d (row t r) n) (fun r n => I.g (row t r) n) r n

theorem left4 : (out0_4 (iblk m c 0 t) (iblk m c 1 t) (iblk m c 2 t) : S512x1024.Idx → EReal) = up2 fun r n => I.dG (row t r) n := by
  rw [show iblk m c 0 t = _ from blk0 m c t I hA.1, show iblk m c 1 t = _ from blk1 m c t I hA.2.1, show iblk m c 2 t = _ from blk2 m c t I hA.2.2]
  unfold out0_4
  rw [View.canon_unit_zero off0, View.ld_unit_zero (S := S512x1024) off0, View.ld_unit_zero (S := S512x1024) off0, View.ld_unit_zero (S := S512x1024) off0]
  exact ext2 _ _ fun r n => pay5_at (fun r n => I.d (row t r) n) (fun r n => I.o (row t r) n) (fun r n => I.g (row t r) n) r n

theorem left5 : (out0_5 (iblk m c 0 t) (iblk m c 1 t) (iblk m c 2 t) : S512x128.Idx → EReal) = up2 fun r l => I.dL (row t r) l := by
  rw [show iblk m c 0 t = _ from blk0 m c t I hA.1, show iblk m c 1 t = _ from blk1 m c t I hA.2.1, show iblk m c 2 t = _ from blk2 m c t I hA.2.2]
  unfold out0_5
  rw [View.canon_unit_zero off0, View.ld_unit_zero (S := S512x1024) off0, View.ld_unit_zero (S := S512x1024) off0, View.ld_unit_zero (S := S512x1024) off0]
  exact ext2 _ _ fun r l => pay1_at (fun r n => I.o (row t r) n) r l _ (fun r n => I.dO (row t r) n)
    (fun n => pay3_at (fun r n => I.d (row t r) n) (fun r n => I.g (row t r) n) r n)

/-! ## The arrays -/

theorem written3 (hf : (cfg0.win 3).flush t = true) :
    (dats m 0 c).flushed 3 t = ((cfg0.win 3).blk t).view.read (Elt Ideal) (up2 I.dO : S8192x1024.Idx → EReal) := by
  rw [flushed3]
  obtain ⟨e0, e1⟩ := map3 t
  funext y
  have h0 : (y 0).val < 512 := (y 0).isLt
  have h1 : (y 1).val < 1024 := (y 1).isLt
  have b0 : (((cfg0.win 3).blk t).view.emb y 0).val = win0_3.index t (0 : Fin 2) * 512 + 1 * (y 0).val := rfl
  have b1 : (((cfg0.win 3).blk t).view.emb y 1).val = win0_3.index t (1 : Fin 2) * 1024 + 1 * (y 1).val := rfl
  show (out0_3 (iblk m c 0 t) (iblk m c 1 t) (iblk m c 2 t) ((cfg0.win 3).xinj (grid0.coords t) y) : EReal) = up2 I.dO (((cfg0.win 3).blk t).view.emb y)
  refine (congrFun (left3 m c t I hA) _).trans ?_
  show ((I.dO (row t ⟨(y 0).val, h0⟩) ⟨(y 1).val, h1⟩ : ℝ) : EReal) = ((I.dO (((cfg0.win 3).blk t).view.emb y 0) (((cfg0.win 3).blk t).view.emb y 1) : ℝ) : EReal)
  have k0 : (((cfg0.win 3).blk t).view.emb y 0 : Fin 8192) = row t ⟨(y 0).val, h0⟩ := Fin.ext (by rw [b0, e0]; show t.val * 512 + 1 * (y 0).val = 512 * t.val + (y 0).val; omega)
  have k1 : (((cfg0.win 3).blk t).view.emb y 1 : Fin 1024) = ⟨(y 1).val, h1⟩ := Fin.ext (by rw [b1, e1]; show 0 * 1024 + 1 * (y 1).val = (y 1).val; omega)
  rw [k0, k1]
  rfl

theorem written4 (hf : (cfg0.win 4).flush t = true) :
    (dats m 0 c).flushed 4 t = ((cfg0.win 4).blk t).view.read (Elt Ideal) (up2 I.dG : S8192x1024.Idx → EReal) := by
  rw [flushed4]
  obtain ⟨e0, e1⟩ := map4 t
  funext y
  have h0 : (y 0).val < 512 := (y 0).isLt
  have h1 : (y 1).val < 1024 := (y 1).isLt
  have b0 : (((cfg0.win 4).blk t).view.emb y 0).val = win0_4.index t (0 : Fin 2) * 512 + 1 * (y 0).val := rfl
  have b1 : (((cfg0.win 4).blk t).view.emb y 1).val = win0_4.index t (1 : Fin 2) * 1024 + 1 * (y 1).val := rfl
  show (out0_4 (iblk m c 0 t) (iblk m c 1 t) (iblk m c 2 t) ((cfg0.win 4).xinj (grid0.coords t) y) : EReal) = up2 I.dG (((cfg0.win 4).blk t).view.emb y)
  refine (congrFun (left4 m c t I hA) _).trans ?_
  show ((I.dG (row t ⟨(y 0).val, h0⟩) ⟨(y 1).val, h1⟩ : ℝ) : EReal) = ((I.dG (((cfg0.win 4).blk t).view.emb y 0) (((cfg0.win 4).blk t).view.emb y 1) : ℝ) : EReal)
  have k0 : (((cfg0.win 4).blk t).view.emb y 0 : Fin 8192) = row t ⟨(y 0).val, h0⟩ := Fin.ext (by rw [b0, e0]; show t.val * 512 + 1 * (y 0).val = 512 * t.val + (y 0).val; omega)
  have k1 : (((cfg0.win 4).blk t).view.emb y 1 : Fin 1024) = ⟨(y 1).val, h1⟩ := Fin.ext (by rw [b1, e1]; show 0 * 1024 + 1 * (y 1).val = (y 1).val; omega)
  rw [k0, k1]
  rfl

theorem written5 (hf : (cfg0.win 5).flush t = true) :
    (dats m 0 c).flushed 5 t = ((cfg0.win 5).blk t).view.read (Elt Ideal) (up2 I.dL : S8192x128.Idx → EReal) := by
  rw [flushed5]
  obtain ⟨e0, e1⟩ := map5 t
  funext y
  have h0 : (y 0).val < 512 := (y 0).isLt
  have h1 : (y 1).val < 128 := (y 1).isLt
  have b0 : (((cfg0.win 5).blk t).view.emb y 0).val = win0_5.index t (0 : Fin 2) * 512 + 1 * (y 0).val := rfl
  have b1 : (((cfg0.win 5).blk t).view.emb y 1).val = win0_5.index t (1 : Fin 2) * 128 + 1 * (y 1).val := rfl
  show (out0_5 (iblk m c 0 t) (iblk m c 1 t) (iblk m c 2 t) ((cfg0.win 5).xinj (grid0.coords t) y) : EReal) = up2 I.dL (((cfg0.win 5).blk t).view.emb y)
  refine (congrFun (left5 m c t I hA) _).trans ?_
  show ((I.dL (row t ⟨(y 0).val, h0⟩) ⟨(y 1).val, h1⟩ : ℝ) : EReal) = ((I.dL (((cfg0.win 5).blk t).view.emb y 0) (((cfg0.win 5).blk t).view.emb y 1) : ℝ) : EReal)
  have k0 : (((cfg0.win 5).blk t).view.emb y 0 : Fin 8192) = row t ⟨(y 0).val, h0⟩ := Fin.ext (by rw [b0, e0]; show t.val * 512 + 1 * (y 0).val = 512 * t.val + (y 0).val; omega)
  have k1 : (((cfg0.win 5).blk t).view.emb y 1 : Fin 128) = ⟨(y 1).val, h1⟩ := Fin.ext (by rw [b1, e1]; show 0 * 128 + 1 * (y 1).val = (y 1).val; omega)
  rw [k0, k1]
  rfl

omit hA

theorem filled3 (i : S8192x1024.Idx) : ∃ t : Fin cfg0.N, (cfg0.win 3).flush t = true ∧ i ∈ ((cfg0.win 3).blk t).view.set := by
  have h0 : (i 0).val < 8192 := (i 0).isLt
  have h1 : (i 1).val < 1024 := (i 1).isLt
  have hv : (pointOf (i 0)).val = (i 0).val / 512 := rfl
  refine ⟨pointOf (i 0), flush0_3 _, ?_⟩
  obtain ⟨e0, e1⟩ := map3 (pointOf (i 0))
  show i ∈ ((View.whole main_v0_0).slice (win0_3.rect (pointOf (i 0)))).set
  rw [View.set_slice_whole, Rect.mem_set_unit]
  intro a
  match a with
  | ⟨0, _⟩ => show win0_3.index (pointOf (i 0)) (0 : Fin 2) * 512 ≤ (i 0).val ∧ (i 0).val < win0_3.index (pointOf (i 0)) (0 : Fin 2) * 512 + 512; omega
  | ⟨1, _⟩ => show win0_3.index (pointOf (i 0)) (1 : Fin 2) * 1024 ≤ (i 1).val ∧ (i 1).val < win0_3.index (pointOf (i 0)) (1 : Fin 2) * 1024 + 1024; omega

theorem filled4 (i : S8192x1024.Idx) : ∃ t : Fin cfg0.N, (cfg0.win 4).flush t = true ∧ i ∈ ((cfg0.win 4).blk t).view.set := by
  have h0 : (i 0).val < 8192 := (i 0).isLt
  have h1 : (i 1).val < 1024 := (i 1).isLt
  have hv : (pointOf (i 0)).val = (i 0).val / 512 := rfl
  refine ⟨pointOf (i 0), flush0_4 _, ?_⟩
  obtain ⟨e0, e1⟩ := map4 (pointOf (i 0))
  show i ∈ ((View.whole main_v0_1).slice (win0_4.rect (pointOf (i 0)))).set
  rw [View.set_slice_whole, Rect.mem_set_unit]
  intro a
  match a with
  | ⟨0, _⟩ => show win0_4.index (pointOf (i 0)) (0 : Fin 2) * 512 ≤ (i 0).val ∧ (i 0).val < win0_4.index (pointOf (i 0)) (0 : Fin 2) * 512 + 512; omega
  | ⟨1, _⟩ => show win0_4.index (pointOf (i 0)) (1 : Fin 2) * 1024 ≤ (i 1).val ∧ (i 1).val < win0_4.index (pointOf (i 0)) (1 : Fin 2) * 1024 + 1024; omega

theorem filled5 (i : S8192x128.Idx) : ∃ t : Fin cfg0.N, (cfg0.win 5).flush t = true ∧ i ∈ ((cfg0.win 5).blk t).view.set := by
  have h0 : (i 0).val < 8192 := (i 0).isLt
  have h1 : (i 1).val < 128 := (i 1).isLt
  have hv : (pointOf (i 0)).val = (i 0).val / 512 := rfl
  refine ⟨pointOf (i 0), flush0_5 _, ?_⟩
  obtain ⟨e0, e1⟩ := map5 (pointOf (i 0))
  show i ∈ ((View.whole main_v0_2).slice (win0_5.rect (pointOf (i 0)))).set
  rw [View.set_slice_whole, Rect.mem_set_unit]
  intro a
  match a with
  | ⟨0, _⟩ => show win0_5.index (pointOf (i 0)) (0 : Fin 2) * 512 ≤ (i 0).val ∧ (i 0).val < win0_5.index (pointOf (i 0)) (0 : Fin 2) * 512 + 512; omega
  | ⟨1, _⟩ => show win0_5.index (pointOf (i 0)) (1 : Fin 2) * 128 ≤ (i 1).val ∧ (i 1).val < win0_5.index (pointOf (i 0)) (1 : Fin 2) * 128 + 128; omega

/-- The run on real arguments: the three results end at the gradients and the head-wise sum, the arguments as they were. -/
theorem run (J : Dev nD → Inp) (hJ : ∀ c, Args m c (J c)) :
    θ_run defs (onTc (τ := τ) (main (F := Ideal))) ⟨m, fun _ => 0, ρ⟩ fun r => ∀ c : Dev nD,
      r.2.mem ((c : Thread nD τ).loc main_v0_0) = (up2 (J c).dO : S8192x1024.Idx → EReal)
      ∧ r.2.mem ((c : Thread nD τ).loc main_v0_1) = (up2 (J c).dG : S8192x1024.Idx → EReal)
      ∧ r.2.mem ((c : Thread nD τ).loc main_v0_2) = (up2 (J c).dL : S8192x128.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
      ⟨(h c).1.trans ((dats m 0 c).arrAt_eq_of_cover 3 _ (fun t hf => written3 m c t (J c) (hJ c) hf) (fun i => filled3 i)),
        (h c).2.1.trans ((dats m 0 c).arrAt_eq_of_cover 4 _ (fun t hf => written4 m c t (J c) (hJ c) hf) (fun i => filled4 i)),
        (h c).2.2.1.trans ((dats m 0 c).arrAt_eq_of_cover 5 _ (fun t hf => written5 m c t (J c) (hJ c) hf) (fun i => filled5 i)),
        (h c).2.2.2⟩)
    (run_blocks m ρ)

end Cert.Kernel4Ideal.Gate

end
-- ==== Proof.Gate.RefVal.lean ====
/- The reference of the output gate's backward, read off its run on real arguments: the two gradients and the head-wise sum
   beside its zeros. The precondition read: arguments strictly between the infinities are real matrices. -/
module

public import proofs.«01_k».proof.Proof.Gate.Fun
public import proofs.«01_k».proof.Proof.Ideal.AllReal
public import proofs.«01_k».proof.Proof.Gen.Reference4Ideal.Read
public import proofs.«01_k».proof.Proof.Gen.Pre_gate_real

@[expose] public section

set_option maxRecDepth 16384

noncomputable section

namespace Cert.Reference4Ideal.Gate

open Idealize.ShloMosaic Idealize.ShloMosaic.TcCoe Idealize.SL.Sem
open Cert.Reference4Ideal Cert.Reference4Ideal.Gen Cert.Reference4Ideal.Read Cert.Gate
open Cert.KernelIdeal.Attn (up2 coe_sum ext2)
open Cert.ReferenceIdeal.Attn (zero32 one32 i2)
open scoped BigOperators

variable (I : Inp) (y : Fin 8192) (n : Fin 1024) (l : Fin 128)

abbrev D : (⟨S8192x1024, .f32⟩ : BufTy).Contents (Elt Ideal) := (up2 I.d : S8192x1024.Idx → EReal)
abbrev O : (⟨S8192x1024, .f32⟩ : BufTy).Contents (Elt Ideal) := (up2 I.o : S8192x1024.Idx → EReal)
abbrev G : (⟨S8192x1024, .f32⟩ : BufTy).Contents (Elt Ideal) := (up2 I.g : S8192x1024.Idx → EReal)

/-- The logistic function of the gate. -/
theorem sg_at : (val_main_v0_2 (F := Ideal) (G I) (ix2 y n) : EReal) = ((sg (I.g y n) : ℝ) : EReal) := by
  rw [val_main_v0_2_apply, val_main_call0_v4_apply, val_main_call0_cst_0_apply, val_main_call0_v3_apply, val_main_call0_v2_apply,
    val_main_call0_cst_apply, val_main_call0_v1_apply, val_main_call0_v0_apply]
  show Ideal.div (Ideal.ofBits .f32 0x3F800000#32) (Ideal.ofBits .f32 0x3F800000#32 + Ideal.exp (-((I.g y n : ℝ) : EReal))) = _
  rw [one32, ← EReal.coe_neg, Ideal.exp_coe, ← EReal.coe_add, Ideal.div_coe (pos _).ne', ← EReal.coe_mul]
  unfold sg
  rw [one_mul, one_div]

theorem do_at : (val_main_v3 (F := Ideal) (D I) (G I) (ix2 y n) : EReal) = ((I.dO y n : ℝ) : EReal) := by
  rw [val_main_v3_apply, val_main_v0_0_apply]
  show ((I.d y n : ℝ) : EReal) * (((I.g y n : ℝ) : EReal) * (val_main_v0_2 (F := Ideal) (G I) (ix2 y n) : EReal)) = _
  rw [sg_at, ← EReal.coe_mul, ← EReal.coe_mul]
  rfl

theorem dg_at : (val_main_v4 (F := Ideal) (D I) (O I) (G I) (ix2 y n) : EReal) = ((I.dG y n : ℝ) : EReal) := by
  rw [val_main_v4_apply, val_main_call1_v1_apply, val_main_call1_v2_apply, val_main_call1_v0_apply, val_main_v2_apply,
    val_main_v0_1_apply, val_main_call0_v7_apply, val_main_call0_v6_apply, val_main_call0_cst_1_apply]
  show (((I.o y n : ℝ) : EReal) * ((I.d y n : ℝ) : EReal)) * (val_main_v0_2 (F := Ideal) (G I) (ix2 y n) : EReal)
    + (((I.g y n : ℝ) : EReal) * (((I.o y n : ℝ) : EReal) * ((I.d y n : ℝ) : EReal)))
      * ((val_main_v0_2 (F := Ideal) (G I) (ix2 y n) : EReal) * (Ideal.ofBits .f32 0x3F800000#32 - (val_main_v0_2 (F := Ideal) (G I) (ix2 y n) : EReal))) = _
  rw [sg_at, one32, ← EReal.coe_sub]
  simp only [← EReal.coe_mul, ← EReal.coe_add]
  congr 1
  unfold Inp.dG
  ring

/-- The head-wise sum. -/
theorem sum_at (a : Fin 16) : (val_main_v7 (F := Ideal) (D I) (O I) (G I) (ix2 y a) : EReal) = ((∑ k : Fin 64, I.pr y (chan a k) : ℝ) : EReal) := by
  rw [val_main_v7_apply, val_main_cst_apply]
  show Ideal.ofBits .f32 0x00000000#32 + _ = _
  rw [Ideal.ofBits_zero_f32, zero_add, coe_sum]
  refine Finset.sum_congr rfl fun k _ => ?_
  have hy := y.isLt; have ha := a.isLt; have hk := k.isLt
  rw [val_main_v6_apply, i2 (idx_main_v6 (idx_main_v7 (ix2 y a) k)) y (chan a k)
    (by show ((y.val * 16 + a.val) * 64 + k.val) / 1024 = y.val; omega)
    (by show ((y.val * 16 + a.val) * 64 + k.val) % 1024 = 64 * a.val + k.val; omega), val_main_v5_apply]
  show (val_main_v3 (F := Ideal) (D I) (G I) (ix2 y (chan a k)) : EReal) * ((I.o y (chan a k) : ℝ) : EReal) = _
  rw [do_at, ← EReal.coe_mul]
  rfl

/-- The head-wise sum beside its zeros. -/
theorem dl_at : (val_main_v11 (F := Ideal) (D I) (O I) (G I) (ix2 y l) : EReal) = ((I.dL y l : ℝ) : EReal) := by
  unfold val_main_v11 Inp.dL
  have hl := l.isLt
  by_cases h : l.val < 16
  · rw [dif_pos h]
    refine Eq.trans ?_ (sum_at I y ⟨l.val, h⟩)
    refine concatenate_apply_piece (t := S8192x128) 1 _ _ _ 0 (by show 0 < 2; omega) S8192x16 (val_main_v7 (F := Ideal) (D I) (O I) (G I)) rfl rfl 0 rfl (ix2 y ⟨l.val, h⟩) (fun b hb => ?_) (by show 0 + l.val = l.val; omega)
    match b with
    | ⟨0, _⟩ => rfl
    | ⟨1, _⟩ => exact absurd rfl hb
  · rw [dif_neg h]
    have hz : (val_main_v10 (F := Ideal) (ix2 y (⟨l.val - 16, by omega⟩ : Fin 112)) : EReal) = ((0 : ℝ) : EReal) := by
      rw [val_main_v10_apply, val_main_cst_0_apply]
      exact zero32
    refine Eq.trans ?_ hz
    refine concatenate_apply_piece (t := S8192x128) 1 _ _ _ 1 (by show 1 < 2; omega) S8192x112 (val_main_v10 (F := Ideal)) rfl rfl 16 rfl (ix2 y (⟨l.val - 16, by omega⟩ : Fin 112)) (fun b hb => ?_) (by show 16 + (l.val - 16) = l.val; omega)
    match b with
    | ⟨0, _⟩ => rfl
    | ⟨1, _⟩ => exact absurd rfl hb

/-- The three results. -/
theorem do_eq : (val_main_v8 (F := Ideal) (D I) (G I) : S8192x1024.Idx → EReal) = up2 I.dO := ext2 _ _ fun y n => do_at I y n
theorem dg_eq : (val_main_v9 (F := Ideal) (D I) (O I) (G I) : S8192x1024.Idx → EReal) = up2 I.dG := ext2 _ _ fun y n => dg_at I y n
theorem dl_eq : (val_main_v11 (F := Ideal) (D I) (O I) (G I) : S8192x128.Idx → EReal) = up2 I.dL := ext2 _ _ fun y l => dl_at I y l

end Cert.Reference4Ideal.Gate

namespace Cert.Pre_gate_real.Gate

open Idealize.ShloMosaic
open Cert.Pre_gate_real Cert.Pre_gate_real.Gen
open Cert.KernelIdeal.Attn (up2 ext2)
open Cert.Pre_all_real.Attn (reals and_one real_of)

/-- The arguments, as reals. -/
def inp (x0 x1 x2 : S8192x1024.Idx → EReal) : Cert.Gate.Inp := ⟨reals x0, reals x1, reals x2⟩

theorem read (x0 x1 x2 : FVec Ideal S8192x1024 .f32) (h : fn (F := Ideal) x0 x1 x2 = fun _ => 1#1) :
    x0 = (up2 (inp x0 x1 x2).d : S8192x1024.Idx → EReal) ∧ x1 = (up2 (inp x0 x1 x2).o : S8192x1024.Idx → EReal) ∧ x2 = (up2 (inp x0 x1 x2).g : S8192x1024.Idx → EReal) := by
  have e := congrFun h ix0
  unfold fn fn_part1 at e
  obtain ⟨e', e2⟩ := and_one _ _ e
  obtain ⟨e0, e1⟩ := and_one _ _ e'
  haveI : Subsingleton S_.Idx := ⟨fun a b => funext fun k => k.elim0⟩
  exact ⟨ext2 _ _ fun i j => real_of _ _ _ (Host.reduce_andi_all _ _ _ _ _ e0 (ix2 i j)),
    ext2 _ _ fun i j => real_of _ _ _ (Host.reduce_andi_all _ _ _ _ _ e1 (ix2 i j)),
    ext2 _ _ fun i j => real_of _ _ _ (Host.reduce_andi_all _ _ _ _ _ e2 (ix2 i j))⟩

end Cert.Pre_gate_real.Gate

end
-- ==== Proof.Gate.Whole.lean ====
/- The output gate's backward: on real arguments the call and the reference end with the same three arrays. -/
module

public import proofs.«01_k».proof.Defs
public import proofs.«01_k».proof.Proof.Gen.Kernel4
public import proofs.«01_k».proof.Proof.Gate.Run
public import proofs.«01_k».proof.Proof.Gate.RefVal
public import Idealize.ShloMosaic.Adequacy
public import Idealize.ShloMosaic.Init

@[expose] public section

noncomputable section

namespace Cert.Gate

open Idealize.ShloMosaic Idealize.SL.Sem
open Cert.KernelIdeal.Attn (up2)

/-- The call and the idealized call have the same text. -/
theorem defs₀_eq : Cert.Kernel4.defs₀ (F := Bits) = Cert.Kernel4Ideal.defs₀ (F := Bits) := by
  unfold Cert.Kernel4.defs₀ Cert.Kernel4Ideal.defs₀
  refine congrArg _ (funext fun l => ?_)
  match l with
  | 0 => rfl

theorem defs_eq : Cert.Kernel4.defs (F := Bits) = Cert.Kernel4Ideal.defs (F := Bits) :=
  congrArg (Pipeline.defs (Cert.Kernel4Ideal.pcfgs (F := Bits))) defs₀_eq

/-- The call's frame at its own arithmetic: the idealized call's run, which holds at any arithmetic. -/
theorem frame_k : Cert.quiescent_Kernel4 := fun m ρ _ => by
  rw [defs_eq]
  exact Cert.Kernel4Ideal.Gen.frame (F := Bits) m ρ

/-- The reference's frame. -/
theorem frame_r : Cert.quiescent_Reference4Ideal := fun m ρ _ =>
  (θ_run Cert.Reference4Ideal.defs _ _).mono (fun r h => ⟨fun c => (h c).2.2.2,
      Idealize.ShloMosaic.sem_eq_zero_of_no_sems (by decide) r.2⟩)
    (Cert.Reference4Ideal.Value.run (F := Ideal) m ρ)

/-- The reference's run on real arguments. -/
theorem ref_run (m : (ℓ : Loc Cert.Reference4Ideal.nD Cert.Reference4Ideal.τ Cert.Reference4Ideal.sig) → Buf (Elt Ideal) ℓ) (g : Dev Cert.Reference4Ideal.nD → PrngReg)
    (J : Dev Cert.Reference4Ideal.nD → Inp) (hJ : ∀ c : Dev Cert.Reference4Ideal.nD,
      m ((c.tc : Thread Cert.Reference4Ideal.nD Cert.Reference4Ideal.τ).loc Cert.Reference4Ideal.main_arg0) = Cert.Reference4Ideal.Gate.D (J c)
      ∧ m ((c.tc : Thread Cert.Reference4Ideal.nD Cert.Reference4Ideal.τ).loc Cert.Reference4Ideal.main_arg1) = Cert.Reference4Ideal.Gate.O (J c)
      ∧ m ((c.tc : Thread Cert.Reference4Ideal.nD Cert.Reference4Ideal.τ).loc Cert.Reference4Ideal.main_arg2) = Cert.Reference4Ideal.Gate.G (J c)) :
    θ_run (Cert.Reference4Ideal.defs (F := Ideal)) (onTc (τ := Cert.Reference4Ideal.τ) (Cert.Reference4Ideal.main (F := Ideal))) ⟨m, fun _ => 0, g⟩ (fun r => ∀ c : Dev Cert.Reference4Ideal.nD,
      r.2.mem ((c.tc : Thread Cert.Reference4Ideal.nD Cert.Reference4Ideal.τ).loc Cert.Reference4Ideal.main_v8) = (up2 (J c).dO : Cert.Reference4Ideal.S8192x1024.Idx → EReal)
      ∧ r.2.mem ((c.tc : Thread Cert.Reference4Ideal.nD Cert.Reference4Ideal.τ).loc Cert.Reference4Ideal.main_v9) = (up2 (J c).dG : Cert.Reference4Ideal.S8192x1024.Idx → EReal)
      ∧ r.2.mem ((c.tc : Thread Cert.Reference4Ideal.nD Cert.Reference4Ideal.τ).loc Cert.Reference4Ideal.main_v11) = (up2 (J c).dL : Cert.Reference4Ideal.S8192x128.Idx → EReal)
      ∧ r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)) :=
  (θ_run Cert.Reference4Ideal.defs _ _).mono (fun r h c => by
      obtain ⟨h0, h1, h2, hk⟩ := h c
      obtain ⟨a0, a1, a2⟩ := hJ c
      refine ⟨h0.trans ((Cert.Reference4Ideal.Read.val_main_v8_eq _ _).trans ?_), h1.trans ((Cert.Reference4Ideal.Read.val_main_v9_eq _ _ _).trans ?_),
        h2.trans ((Cert.Reference4Ideal.Read.val_main_v11_eq _ _ _).trans ?_), hk⟩
      · rw [a0, a2]; exact Cert.Reference4Ideal.Gate.do_eq (J c)
      · rw [a0, a1, a2]; exact Cert.Reference4Ideal.Gate.dg_eq (J c)
      · rw [a0, a1, a2]; exact Cert.Reference4Ideal.Gate.dl_eq (J c))
    (Cert.Reference4Ideal.Value.run (F := Ideal) m g)

theorem algebraic : Cert.algebraic_Kernel4Ideal_Reference4Ideal_pre_gate_real := fun m g m' g' hpre hag =>
  ⟨_, _, _,
    Cert.Kernel4Ideal.Gate.run m g (fun _ => Cert.Pre_gate_real.Gate.inp _ _ _) (fun c => Cert.Pre_gate_real.Gate.read _ _ _ (hpre c)),
    ref_run m' g' (fun _ => Cert.Pre_gate_real.Gate.inp _ _ _) (fun c =>
      have h := Cert.Pre_gate_real.Gate.read _ _ _ (hpre c)
      ⟨(hag c).1.trans h.1, (hag c).2.1.trans h.2.1, (hag c).2.2.trans h.2.2⟩)⟩

end Cert.Gate

end
-- ==== Proof.Proj.Sum.lean ====
/- A product of two matrices over the extended reals, the right one as it is or transposed, and the places of the tiles of
   1024 rows. -/
module

public import Idealize.ShloMosaic.PureOps.Ideal.Laws
public import Idealize.ShloMosaic.Lib.MatmulPlain
public import Idealize.ShloMosaic.Lib.Pipeline.Value

@[expose] public section

set_option maxRecDepth 16384

noncomputable section

namespace Cert.Proj

open Idealize.ShloMosaic Idealize.ShloMosaic.ValueIdx
open scoped BigOperators

/-- The offset of a whole block. -/
theorem off0 : (![0, 0] : Fin 2 → Nat) = fun _ => 0 := funext fun a => by fin_cases a <;> rfl

/-- Row r of row block q. -/
def row (q : ℕ) (hq : q < 8) (r : Fin 1024) : Fin 8192 := ⟨1024 * q + r.val, by have := r.isLt; omega⟩

/-- Column n of column block p, of two blocks of 1536. -/
def col (p : ℕ) (hp : p < 2) (n : Fin 1536) : Fin 3072 := ⟨1536 * p + n.val, by have := n.isLt; omega⟩

variable {M K N : ℕ}

/-- The product of an M x K and a K x N matrix. -/
def prod (x : (⟨2, ![M, K]⟩ : Shape).Idx → EReal) (w : (⟨2, ![K, N]⟩ : Shape).Idx → EReal) (i : (⟨2, ![M, N]⟩ : Shape).Idx) : EReal :=
  ∑ k : Fin K, x (ix2 (i 0) k) * w (ix2 k (i 1))

/-- The product of an M x K matrix and an N x K matrix's transpose. -/
def prodT (x : (⟨2, ![M, K]⟩ : Shape).Idx → EReal) (w : (⟨2, ![N, K]⟩ : Shape).Idx → EReal) (i : (⟨2, ![M, N]⟩ : Shape).Idx) : EReal :=
  ∑ k : Fin K, x (ix2 (i 0) k) * w (ix2 (i 1) k)

/-- A tile's product, from zero. -/
theorem tile (a : FVec Ideal ⟨2, ![M, K]⟩ .bf16) (b : FVec Ideal ⟨2, ![K, N]⟩ .bf16) (r : Fin M) (n : Fin N) :
    matmul (F := Ideal) (φ₁ := .bf16) (φ₂ := .bf16) (DotDims.plain M K N) none a b (constant (F := Ideal) ⟨2, ![M, N]⟩ .f32 0x00000000#32) (ix2 r n)
      = ∑ k : Fin K, (a (ix2 r k) : EReal) * b (ix2 k n) := by
  show FloatOps.matmul (F := Ideal) (φ₁ := .bf16) (φ₂ := .bf16) (DotDims.plain M K N) none a b (constant (F := Ideal) ⟨2, ![M, N]⟩ .f32 0x00000000#32) (ix2 r n) = _
  rw [Ideal.matmul_plain_apply]
  show Ideal.ofBits .f32 0x00000000#32 + _ = _
  rw [Ideal.ofBits_zero_f32, zero_add]

/-- A tile's product with a transpose, from zero. -/
theorem tileT (a : FVec Ideal ⟨2, ![M, K]⟩ .bf16) (b : FVec Ideal ⟨2, ![N, K]⟩ .bf16) (r : Fin M) (n : Fin N) :
    matmul (F := Ideal) (φ₁ := .bf16) (φ₂ := .bf16) (DotDims.transposedRhs M K N) none a b (constant (F := Ideal) ⟨2, ![M, N]⟩ .f32 0x00000000#32) (ix2 r n)
      = ∑ k : Fin K, (a (ix2 r k) : EReal) * b (ix2 n k) := by
  show FloatOps.matmul (F := Ideal) (φ₁ := .bf16) (φ₂ := .bf16) (DotDims.transposedRhs M K N) none a b (constant (F := Ideal) ⟨2, ![M, N]⟩ .f32 0x00000000#32) (ix2 r n) = _
  rw [Ideal.matmul_transposedRhs_apply]
  show Ideal.ofBits .f32 0x00000000#32 + _ = _
  rw [Ideal.ofBits_zero_f32, zero_add]

variable {M' N' : ℕ}

/-- A tile's entry is the product's, where its rows and columns are the arrays'. -/
theorem tile_sum (x : (⟨2, ![M, K]⟩ : Shape).Idx → EReal) (w : (⟨2, ![K, N]⟩ : Shape).Idx → EReal) (a : (⟨2, ![M', K]⟩ : Shape).Idx → EReal)
    (b : (⟨2, ![K, N']⟩ : Shape).Idx → EReal) (r : Fin M') (n : Fin N') (y : Fin M) (z : Fin N)
    (ha : ∀ k, a (ix2 r k) = x (ix2 y k)) (hb : ∀ k, b (ix2 k n) = w (ix2 k z)) :
    ∑ k : Fin K, a (ix2 r k) * b (ix2 k n) = prod x w (ix2 y z) :=
  Finset.sum_congr rfl fun k _ => congrArg₂ (fun u v : EReal => u * v) (ha k) (hb k)

theorem tile_sumT (x : (⟨2, ![M, K]⟩ : Shape).Idx → EReal) (w : (⟨2, ![N, K]⟩ : Shape).Idx → EReal) (a : (⟨2, ![M', K]⟩ : Shape).Idx → EReal)
    (b : (⟨2, ![N', K]⟩ : Shape).Idx → EReal) (r : Fin M') (n : Fin N') (y : Fin M) (z : Fin N)
    (ha : ∀ k, a (ix2 r k) = x (ix2 y k)) (hb : ∀ k, b (ix2 n k) = w (ix2 z k)) :
    ∑ k : Fin K, a (ix2 r k) * b (ix2 n k) = prodT x w (ix2 y z) :=
  Finset.sum_congr rfl fun k _ => congrArg₂ (fun u v : EReal => u * v) (ha k) (hb k)

/-- An index of two coordinates, by its coordinates. -/
theorem at2 (f : (⟨2, ![M, N]⟩ : Shape).Idx) (y : Fin M) (z : Fin N) (h0 : f 0 = y) (h1 : f 1 = z) : f = ix2 y z := funext fun a => by
  match a with
  | ⟨0, _⟩ => exact h0
  | ⟨1, _⟩ => exact h1

/-- A sum over the places of a row and of a column is the product's entry. -/
theorem read_prod (x : (⟨2, ![M, K]⟩ : Shape).Idx → EReal) (w : (⟨2, ![K, N]⟩ : Shape).Idx → EReal) (i : (⟨2, ![M, N]⟩ : Shape).Idx)
    (l : Fin K → (⟨2, ![M, K]⟩ : Shape).Idx) (r : Fin K → (⟨2, ![K, N]⟩ : Shape).Idx) (h0 : ∀ k, l k 0 = i 0) (h1 : ∀ k, l k 1 = k)
    (h2 : ∀ k, r k 0 = k) (h3 : ∀ k, r k 1 = i 1) : ∑ k : Fin K, x (l k) * w (r k) = prod x w i :=
  Finset.sum_congr rfl fun k _ => congrArg₂ (fun u v : EReal => u * v) (congrArg x (at2 _ _ _ (h0 k) (h1 k))) (congrArg w (at2 _ _ _ (h2 k) (h3 k)))

theorem read_prodT (x : (⟨2, ![M, K]⟩ : Shape).Idx → EReal) (w : (⟨2, ![N, K]⟩ : Shape).Idx → EReal) (i : (⟨2, ![M, N]⟩ : Shape).Idx)
    (l : Fin K → (⟨2, ![M, K]⟩ : Shape).Idx) (r : Fin K → (⟨2, ![N, K]⟩ : Shape).Idx) (h0 : ∀ k, l k 0 = i 0) (h1 : ∀ k, l k 1 = k)
    (h2 : ∀ k, r k 0 = i 1) (h3 : ∀ k, r k 1 = k) : ∑ k : Fin K, x (l k) * w (r k) = prodT x w i :=
  Finset.sum_congr rfl fun k _ => congrArg₂ (fun u v : EReal => u * v) (congrArg x (at2 _ _ _ (h0 k) (h1 k))) (congrArg w (at2 _ _ _ (h2 k) (h3 k)))

end Cert.Proj

end
-- ==== Proof.Proj.Qkv.lean ====
/- The attention layer's input projection, read off the call: each of the sixteen points writes its tile of the product,
   and the tiles fill the array. -/
module

public import proofs.«01_k».proof.Proof.Proj.Sum
public import proofs.«01_k».proof.Proof.Gen.Kernel5Ideal.Value

@[expose] public section

set_option maxRecDepth 16384

noncomputable section

namespace Cert.Kernel5Ideal.Proj

open Idealize.ShloMosaic Idealize.ShloMosaic.TcCoe Idealize.ShloMosaic.ValueIdx Idealize.SL.Sem
open Idealize.ShloMosaic.Pipeline (Window)
open Cert.Kernel5Ideal Cert.Kernel5Ideal.Gen Cert.Kernel5Ideal.Value Cert.Proj
open scoped BigOperators

theorem map0 (t : Fin grid0.N) : cc0_transform_0 (grid0.coords t) = ![t.val / 2, 0] := by revert t; decide +kernel
theorem map1 (t : Fin grid0.N) : cc0_transform_1 (grid0.coords t) = ![0, t.val % 2] := by revert t; decide +kernel
theorem map2 : ∀ t : Fin cfg0.N, win0_2.index t (0 : Fin 2) = t.val / 2 ∧ win0_2.index t (1 : Fin 2) = t.val % 2 :=
  (by decide +kernel : ∀ t : Fin grid0.N, _)

/-- The point of an entry. -/
def pointOf (y : Fin 8192) (z : Fin 3072) : Fin cfg0.N :=
  ⟨2 * (y.val / 1024) + z.val / 1536, by have := y.isLt; have := z.isLt; have h : cfg0.N = 16 := N_0; omega⟩

theorem rows_lt (t : Fin cfg0.N) : t.val / 2 < 8 := by have h : cfg0.N = 16 := N_0; have := t.isLt; omega
theorem cols_lt (t : Fin cfg0.N) : t.val % 2 < 2 := Nat.mod_lt _ (by decide)

/-- A point's payload, at an entry. -/
theorem pay_at (a : Vec Ideal S1024x1024 .bf16) (b : Vec Ideal S1024x1536 .bf16) (r : Fin 1024) (n : Fin 1536) :
    (k0_pay1 (F := Ideal) a b (ix2 r n) : EReal) = ∑ k : Fin 1024, (a (ix2 r k) : EReal) * b (ix2 k n) := by
  unfold k0_pay1
  exact tile a b r n

variable (m : (ℓ : Loc nD τ sig) → Buf (Elt Ideal) ℓ) (ρ : Dev nD → PrngReg) (c : Dev nD) (t : Fin cfg0.N)

/-- The arguments. -/
def arg0 : S8192x1024.Idx → EReal := m ((c : Thread nD τ).loc main_arg0)
def arg1 : S1024x3072.Idx → EReal := m ((c : Thread nD τ).loc main_arg1)

theorem blk0 (r k : Fin 1024) : (iblk m c 0 t (ix2 r k : S1024x1024.Idx) : EReal) = arg0 m c (ix2 (row (t.val / 2) (rows_lt t) r) k) := by
  show (V m c main_arg0 (((cfg0.win 0).rect t).emb (ix2 r k : S1024x1024.Idx)) : EReal) = _
  refine congrArg (V m c main_arg0) (funext fun a => Fin.ext ?_)
  refine (Window.rect_emb_val (cfg0.win 0) t (ix2 r k : S1024x1024.Idx) a).trans ?_
  match a with
  | ⟨0, _⟩ => show cc0_transform_0 (grid0.coords t) 0 * 1024 + r.val = 1024 * (t.val / 2) + r.val; rw [map0]; show t.val / 2 * 1024 + r.val = _; omega
  | ⟨1, _⟩ => show cc0_transform_0 (grid0.coords t) 1 * 1024 + k.val = k.val; rw [map0]; show 0 * 1024 + k.val = _; omega

theorem blk1 (k : Fin 1024) (n : Fin 1536) : (iblk m c 1 t (ix2 k n : S1024x1536.Idx) : EReal) = arg1 m c (ix2 k (col (t.val % 2) (cols_lt t) n)) := by
  show (V m c main_arg1 (((cfg0.win 1).rect t).emb (ix2 k n : S1024x1536.Idx)) : EReal) = _
  refine congrArg (V m c main_arg1) (funext fun a => Fin.ext ?_)
  refine (Window.rect_emb_val (cfg0.win 1) t (ix2 k n : S1024x1536.Idx) a).trans ?_
  match a with
  | ⟨0, _⟩ => show cc0_transform_1 (grid0.coords t) 0 * 1024 + k.val = k.val; rw [map1]; show 0 * 1024 + k.val = _; omega
  | ⟨1, _⟩ => show cc0_transform_1 (grid0.coords t) 1 * 1536 + n.val = 1536 * (t.val % 2) + n.val; rw [map1]; show t.val % 2 * 1536 + n.val = _; omega

/-- What a point leaves. -/
theorem left (r : Fin 1024) (n : Fin 1536) : (out0_2 (iblk m c 0 t) (iblk m c 1 t) (ix2 r n) : EReal)
    = prod (arg0 m c) (arg1 m c) (ix2 (row (t.val / 2) (rows_lt t) r) (col (t.val % 2) (cols_lt t) n)) := by
  unfold out0_2
  rw [View.canon_unit_zero off0, View.ld_unit_zero (S := S1024x1024) off0, View.ld_unit_zero (S := S1024x1536) off0]
  exact (pay_at _ _ r n).trans (tile_sum _ _ _ _ r n _ _ (fun k => blk0 m c t r k) (fun k => blk1 m c t k n))

theorem written (hf : (cfg0.win 2).flush t = true) :
    (dats m 0 c).flushed 2 t = ((cfg0.win 2).blk t).view.read (Elt Ideal) (prod (arg0 m c) (arg1 m c) : S8192x3072.Idx → EReal) := by
  rw [flushed2]
  obtain ⟨e0, e1⟩ := map2 t
  funext y
  have h0 : (y 0).val < 1024 := (y 0).isLt
  have h1 : (y 1).val < 1536 := (y 1).isLt
  have b0 : (((cfg0.win 2).blk t).view.emb y 0).val = win0_2.index t (0 : Fin 2) * 1024 + 1 * (y 0).val := rfl
  have b1 : (((cfg0.win 2).blk t).view.emb y 1).val = win0_2.index t (1 : Fin 2) * 1536 + 1 * (y 1).val := rfl
  show (out0_2 (iblk m c 0 t) (iblk m c 1 t) ((cfg0.win 2).xinj (grid0.coords t) y) : EReal) = prod (arg0 m c) (arg1 m c) (((cfg0.win 2).blk t).view.emb y)
  have hx : (cfg0.win 2).xinj (grid0.coords t) y = (ix2 ⟨(y 0).val, h0⟩ ⟨(y 1).val, h1⟩ : S1024x1536.Idx) := funext fun a => Fin.ext (by
    match a with
    | ⟨0, _⟩ => rfl
    | ⟨1, _⟩ => rfl)
  have hz : ((cfg0.win 2).blk t).view.emb y = (ix2 (row (t.val / 2) (rows_lt t) ⟨(y 0).val, h0⟩) (col (t.val % 2) (cols_lt t) ⟨(y 1).val, h1⟩) : S8192x3072.Idx) := funext fun a => Fin.ext (by
    match a with
    | ⟨0, _⟩ => refine b0.trans ?_; rw [e0]; show t.val / 2 * 1024 + 1 * (y 0).val = 1024 * (t.val / 2) + (y 0).val; omega
    | ⟨1, _⟩ => refine b1.trans ?_; rw [e1]; show t.val % 2 * 1536 + 1 * (y 1).val = 1536 * (t.val % 2) + (y 1).val; omega)
  exact (congrArg (out0_2 (iblk m c 0 t) (iblk m c 1 t)) hx).trans ((left m c t _ _).trans (congrArg (prod (arg0 m c) (arg1 m c)) hz).symm)

theorem filled (i : S8192x3072.Idx) : ∃ t : Fin cfg0.N, (cfg0.win 2).flush t = true ∧ i ∈ ((cfg0.win 2).blk t).view.set := by
  have h0 : (i 0).val < 8192 := (i 0).isLt
  have h1 : (i 1).val < 3072 := (i 1).isLt
  have hv : (pointOf (i 0) (i 1)).val = 2 * ((i 0).val / 1024) + (i 1).val / 1536 := rfl
  refine ⟨pointOf (i 0) (i 1), flush0_2 _, ?_⟩
  obtain ⟨e0, e1⟩ := map2 (pointOf (i 0) (i 1))
  show i ∈ ((View.whole main_v0).slice (win0_2.rect (pointOf (i 0) (i 1)))).set
  rw [View.set_slice_whole, Rect.mem_set_unit]
  intro a
  match a with
  | ⟨0, _⟩ => show win0_2.index (pointOf (i 0) (i 1)) (0 : Fin 2) * 1024 ≤ (i 0).val ∧ (i 0).val < win0_2.index (pointOf (i 0) (i 1)) (0 : Fin 2) * 1024 + 1024; omega
  | ⟨1, _⟩ => show win0_2.index (pointOf (i 0) (i 1)) (1 : Fin 2) * 1536 ≤ (i 1).val ∧ (i 1).val < win0_2.index (pointOf (i 0) (i 1)) (1 : Fin 2) * 1536 + 1536; omega

/-- The run: the result ends at the product, the arguments as they were. -/
theorem run :
    θ_run defs (onTc (τ := τ) (main (F := Ideal))) ⟨m, fun _ => 0, ρ⟩ fun r => ∀ c : Dev nD,
      r.2.mem ((c : Thread nD τ).loc main_v0) = (prod (arg0 m c) (arg1 m c) : S8192x3072.Idx → EReal)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨(h c).1.trans ((dats m 0 c).arrAt_eq_of_cover 2 _ (fun t hf => written m c t hf) (fun i => filled i)), (h c).2⟩)
    (run_blocks m ρ)

end Cert.Kernel5Ideal.Proj

end
-- ==== Proof.Proj.LruIn.lean ====
/- The recurrent layer's input projection, read off the call: each of the sixteen points writes its tile of the product,
   and the tiles fill the array. -/
module

public import proofs.«01_k».proof.Proof.Proj.Sum
public import proofs.«01_k».proof.Proof.Gen.Kernel6Ideal.Value

@[expose] public section

set_option maxRecDepth 16384

noncomputable section

namespace Cert.Kernel6Ideal.Proj

open Idealize.ShloMosaic Idealize.ShloMosaic.TcCoe Idealize.ShloMosaic.ValueIdx Idealize.SL.Sem
open Idealize.ShloMosaic.Pipeline (Window)
open Cert.Kernel6Ideal Cert.Kernel6Ideal.Gen Cert.Kernel6Ideal.Value Cert.Proj
open scoped BigOperators

theorem map0 (t : Fin grid0.N) : cc0_transform_0 (grid0.coords t) = ![t.val / 2, 0] := by revert t; decide +kernel
theorem map1 (t : Fin grid0.N) : cc0_transform_1 (grid0.coords t) = ![0, t.val % 2] := by revert t; decide +kernel
theorem map2 : ∀ t : Fin cfg0.N, win0_2.index t (0 : Fin 2) = t.val / 2 ∧ win0_2.index t (1 : Fin 2) = t.val % 2 :=
  (by decide +kernel : ∀ t : Fin grid0.N, _)

/-- The point of an entry. -/
def pointOf (y : Fin 8192) (z : Fin 3072) : Fin cfg0.N :=
  ⟨2 * (y.val / 1024) + z.val / 1536, by have := y.isLt; have := z.isLt; have h : cfg0.N = 16 := N_0; omega⟩

theorem rows_lt (t : Fin cfg0.N) : t.val / 2 < 8 := by have h : cfg0.N = 16 := N_0; have := t.isLt; omega
theorem cols_lt (t : Fin cfg0.N) : t.val % 2 < 2 := Nat.mod_lt _ (by decide)

/-- A point's payload, at an entry. -/
theorem pay_at (a : Vec Ideal S1024x1024 .bf16) (b : Vec Ideal S1024x1536 .bf16) (r : Fin 1024) (n : Fin 1536) :
    (k0_pay1 (F := Ideal) a b (ix2 r n) : EReal) = ∑ k : Fin 1024, (a (ix2 r k) : EReal) * b (ix2 k n) := by
  unfold k0_pay1
  exact tile a b r n

variable (m : (ℓ : Loc nD τ sig) → Buf (Elt Ideal) ℓ) (ρ : Dev nD → PrngReg) (c : Dev nD) (t : Fin cfg0.N)

/-- The arguments. -/
def arg0 : S8192x1024.Idx → EReal := m ((c : Thread nD τ).loc main_arg0)
def arg1 : S1024x3072.Idx → EReal := m ((c : Thread nD τ).loc main_arg1)

theorem blk0 (r k : Fin 1024) : (iblk m c 0 t (ix2 r k : S1024x1024.Idx) : EReal) = arg0 m c (ix2 (row (t.val / 2) (rows_lt t) r) k) := by
  show (V m c main_arg0 (((cfg0.win 0).rect t).emb (ix2 r k : S1024x1024.Idx)) : EReal) = _
  refine congrArg (V m c main_arg0) (funext fun a => Fin.ext ?_)
  refine (Window.rect_emb_val (cfg0.win 0) t (ix2 r k : S1024x1024.Idx) a).trans ?_
  match a with
  | ⟨0, _⟩ => show cc0_transform_0 (grid0.coords t) 0 * 1024 + r.val = 1024 * (t.val / 2) + r.val; rw [map0]; show t.val / 2 * 1024 + r.val = _; omega
  | ⟨1, _⟩ => show cc0_transform_0 (grid0.coords t) 1 * 1024 + k.val = k.val; rw [map0]; show 0 * 1024 + k.val = _; omega

theorem blk1 (k : Fin 1024) (n : Fin 1536) : (iblk m c 1 t (ix2 k n : S1024x1536.Idx) : EReal) = arg1 m c (ix2 k (col (t.val % 2) (cols_lt t) n)) := by
  show (V m c main_arg1 (((cfg0.win 1).rect t).emb (ix2 k n : S1024x1536.Idx)) : EReal) = _
  refine congrArg (V m c main_arg1) (funext fun a => Fin.ext ?_)
  refine (Window.rect_emb_val (cfg0.win 1) t (ix2 k n : S1024x1536.Idx) a).trans ?_
  match a with
  | ⟨0, _⟩ => show cc0_transform_1 (grid0.coords t) 0 * 1024 + k.val = k.val; rw [map1]; show 0 * 1024 + k.val = _; omega
  | ⟨1, _⟩ => show cc0_transform_1 (grid0.coords t) 1 * 1536 + n.val = 1536 * (t.val % 2) + n.val; rw [map1]; show t.val % 2 * 1536 + n.val = _; omega

/-- What a point leaves. -/
theorem left (r : Fin 1024) (n : Fin 1536) : (out0_2 (iblk m c 0 t) (iblk m c 1 t) (ix2 r n) : EReal)
    = prod (arg0 m c) (arg1 m c) (ix2 (row (t.val / 2) (rows_lt t) r) (col (t.val % 2) (cols_lt t) n)) := by
  unfold out0_2
  rw [View.canon_unit_zero off0, View.ld_unit_zero (S := S1024x1024) off0, View.ld_unit_zero (S := S1024x1536) off0]
  exact (pay_at _ _ r n).trans (tile_sum _ _ _ _ r n _ _ (fun k => blk0 m c t r k) (fun k => blk1 m c t k n))

theorem written (hf : (cfg0.win 2).flush t = true) :
    (dats m 0 c).flushed 2 t = ((cfg0.win 2).blk t).view.read (Elt Ideal) (prod (arg0 m c) (arg1 m c) : S8192x3072.Idx → EReal) := by
  rw [flushed2]
  obtain ⟨e0, e1⟩ := map2 t
  funext y
  have h0 : (y 0).val < 1024 := (y 0).isLt
  have h1 : (y 1).val < 1536 := (y 1).isLt
  have b0 : (((cfg0.win 2).blk t).view.emb y 0).val = win0_2.index t (0 : Fin 2) * 1024 + 1 * (y 0).val := rfl
  have b1 : (((cfg0.win 2).blk t).view.emb y 1).val = win0_2.index t (1 : Fin 2) * 1536 + 1 * (y 1).val := rfl
  show (out0_2 (iblk m c 0 t) (iblk m c 1 t) ((cfg0.win 2).xinj (grid0.coords t) y) : EReal) = prod (arg0 m c) (arg1 m c) (((cfg0.win 2).blk t).view.emb y)
  have hx : (cfg0.win 2).xinj (grid0.coords t) y = (ix2 ⟨(y 0).val, h0⟩ ⟨(y 1).val, h1⟩ : S1024x1536.Idx) := funext fun a => Fin.ext (by
    match a with
    | ⟨0, _⟩ => rfl
    | ⟨1, _⟩ => rfl)
  have hz : ((cfg0.win 2).blk t).view.emb y = (ix2 (row (t.val / 2) (rows_lt t) ⟨(y 0).val, h0⟩) (col (t.val % 2) (cols_lt t) ⟨(y 1).val, h1⟩) : S8192x3072.Idx) := funext fun a => Fin.ext (by
    match a with
    | ⟨0, _⟩ => refine b0.trans ?_; rw [e0]; show t.val / 2 * 1024 + 1 * (y 0).val = 1024 * (t.val / 2) + (y 0).val; omega
    | ⟨1, _⟩ => refine b1.trans ?_; rw [e1]; show t.val % 2 * 1536 + 1 * (y 1).val = 1536 * (t.val % 2) + (y 1).val; omega)
  exact (congrArg (out0_2 (iblk m c 0 t) (iblk m c 1 t)) hx).trans ((left m c t _ _).trans (congrArg (prod (arg0 m c) (arg1 m c)) hz).symm)

theorem filled (i : S8192x3072.Idx) : ∃ t : Fin cfg0.N, (cfg0.win 2).flush t = true ∧ i ∈ ((cfg0.win 2).blk t).view.set := by
  have h0 : (i 0).val < 8192 := (i 0).isLt
  have h1 : (i 1).val < 3072 := (i 1).isLt
  have hv : (pointOf (i 0) (i 1)).val = 2 * ((i 0).val / 1024) + (i 1).val / 1536 := rfl
  refine ⟨pointOf (i 0) (i 1), flush0_2 _, ?_⟩
  obtain ⟨e0, e1⟩ := map2 (pointOf (i 0) (i 1))
  show i ∈ ((View.whole main_v0).slice (win0_2.rect (pointOf (i 0) (i 1)))).set
  rw [View.set_slice_whole, Rect.mem_set_unit]
  intro a
  match a with
  | ⟨0, _⟩ => show win0_2.index (pointOf (i 0) (i 1)) (0 : Fin 2) * 1024 ≤ (i 0).val ∧ (i 0).val < win0_2.index (pointOf (i 0) (i 1)) (0 : Fin 2) * 1024 + 1024; omega
  | ⟨1, _⟩ => show win0_2.index (pointOf (i 0) (i 1)) (1 : Fin 2) * 1536 ≤ (i 1).val ∧ (i 1).val < win0_2.index (pointOf (i 0) (i 1)) (1 : Fin 2) * 1536 + 1536; omega

/-- The run: the result ends at the product, the arguments as they were. -/
theorem run :
    θ_run defs (onTc (τ := τ) (main (F := Ideal))) ⟨m, fun _ => 0, ρ⟩ fun r => ∀ c : Dev nD,
      r.2.mem ((c : Thread nD τ).loc main_v0) = (prod (arg0 m c) (arg1 m c) : S8192x3072.Idx → EReal)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨(h c).1.trans ((dats m 0 c).arrAt_eq_of_cover 2 _ (fun t hf => written m c t hf) (fun i => filled i)), (h c).2⟩)
    (run_blocks m ρ)

end Cert.Kernel6Ideal.Proj

end
-- ==== Proof.Proj.FoxGate.lean ====
/- The attention layer's gate projection, read off the call: each of the eight points writes its tile of the product,
   and the tiles fill the array. -/
module

public import proofs.«01_k».proof.Proof.Proj.Sum
public import proofs.«01_k».proof.Proof.Gen.Kernel7Ideal.Value

@[expose] public section

set_option maxRecDepth 16384

noncomputable section

namespace Cert.Kernel7Ideal.Proj

open Idealize.ShloMosaic Idealize.ShloMosaic.TcCoe Idealize.ShloMosaic.ValueIdx Idealize.SL.Sem
open Idealize.ShloMosaic.Pipeline (Window)
open Cert.Kernel7Ideal Cert.Kernel7Ideal.Gen Cert.Kernel7Ideal.Value Cert.Proj
open scoped BigOperators

theorem map0 (t : Fin grid0.N) : cc0_transform_0 (grid0.coords t) = ![t.val, 0] := by revert t; decide +kernel
theorem map1 (t : Fin grid0.N) : cc0_transform_1 (grid0.coords t) = ![0, 0] := by revert t; decide +kernel
theorem map2 : ∀ t : Fin cfg0.N, win0_2.index t (0 : Fin 2) = t.val ∧ win0_2.index t (1 : Fin 2) = 0 :=
  (by decide +kernel : ∀ t : Fin grid0.N, _)

/-- The point of a row. -/
def pointOf (y : Fin 8192) : Fin cfg0.N := ⟨y.val / 1024, by have := y.isLt; have h : cfg0.N = 8 := N_0; omega⟩

theorem rows_lt (t : Fin cfg0.N) : t.val < 8 := by have h : cfg0.N = 8 := N_0; have := t.isLt; omega

/-- A point's payload, at an entry. -/
theorem pay_at (a : Vec Ideal S1024x1024 .bf16) (b : Vec Ideal S1024x1024 .bf16) (r : Fin 1024) (n : Fin 1024) :
    (k0_pay1 (F := Ideal) a b (ix2 r n) : EReal) = ∑ k : Fin 1024, (a (ix2 r k) : EReal) * b (ix2 k n) := by
  unfold k0_pay1
  exact tile a b r n

variable (m : (ℓ : Loc nD τ sig) → Buf (Elt Ideal) ℓ) (ρ : Dev nD → PrngReg) (c : Dev nD) (t : Fin cfg0.N)

/-- The arguments. -/
def arg0 : S8192x1024.Idx → EReal := m ((c : Thread nD τ).loc main_arg0)
def arg1 : S1024x1024.Idx → EReal := m ((c : Thread nD τ).loc main_arg1)

theorem blk0 (r k : Fin 1024) : (iblk m c 0 t (ix2 r k : S1024x1024.Idx) : EReal) = arg0 m c (ix2 (row t.val (rows_lt t) r) k) := by
  show (V m c main_arg0 (((cfg0.win 0).rect t).emb (ix2 r k : S1024x1024.Idx)) : EReal) = _
  refine congrArg (V m c main_arg0) (funext fun a => Fin.ext ?_)
  refine (Window.rect_emb_val (cfg0.win 0) t (ix2 r k : S1024x1024.Idx) a).trans ?_
  match a with
  | ⟨0, _⟩ => show cc0_transform_0 (grid0.coords t) 0 * 1024 + r.val = 1024 * t.val + r.val; rw [map0]; show t.val * 1024 + r.val = _; omega
  | ⟨1, _⟩ => show cc0_transform_0 (grid0.coords t) 1 * 1024 + k.val = k.val; rw [map0]; show 0 * 1024 + k.val = _; omega

theorem blk1 (k : Fin 1024) (n : Fin 1024) : (iblk m c 1 t (ix2 k n : S1024x1024.Idx) : EReal) = arg1 m c (ix2 k n) := by
  show (V m c main_arg1 (((cfg0.win 1).rect t).emb (ix2 k n : S1024x1024.Idx)) : EReal) = _
  refine congrArg (V m c main_arg1) (funext fun a => Fin.ext ?_)
  refine (Window.rect_emb_val (cfg0.win 1) t (ix2 k n : S1024x1024.Idx) a).trans ?_
  match a with
  | ⟨0, _⟩ => show cc0_transform_1 (grid0.coords t) 0 * 1024 + k.val = k.val; rw [map1]; show 0 * 1024 + k.val = _; omega
  | ⟨1, _⟩ => show cc0_transform_1 (grid0.coords t) 1 * 1024 + n.val = n.val; rw [map1]; show 0 * 1024 + n.val = _; omega

/-- What a point leaves. -/
theorem left (r : Fin 1024) (n : Fin 1024) : (out0_2 (iblk m c 0 t) (iblk m c 1 t) (ix2 r n) : EReal)
    = prod (arg0 m c) (arg1 m c) (ix2 (row t.val (rows_lt t) r) n) := by
  unfold out0_2
  rw [View.canon_unit_zero off0, View.ld_unit_zero (S := S1024x1024) off0, View.ld_unit_zero (S := S1024x1024) off0]
  exact (pay_at _ _ r n).trans (tile_sum _ _ _ _ r n _ _ (fun k => blk0 m c t r k) (fun k => blk1 m c t k n))

theorem written (hf : (cfg0.win 2).flush t = true) :
    (dats m 0 c).flushed 2 t = ((cfg0.win 2).blk t).view.read (Elt Ideal) (prod (arg0 m c) (arg1 m c) : S8192x1024.Idx → EReal) := by
  rw [flushed2]
  obtain ⟨e0, e1⟩ := map2 t
  funext y
  have h0 : (y 0).val < 1024 := (y 0).isLt
  have h1 : (y 1).val < 1024 := (y 1).isLt
  have b0 : (((cfg0.win 2).blk t).view.emb y 0).val = win0_2.index t (0 : Fin 2) * 1024 + 1 * (y 0).val := rfl
  have b1 : (((cfg0.win 2).blk t).view.emb y 1).val = win0_2.index t (1 : Fin 2) * 1024 + 1 * (y 1).val := rfl
  show (out0_2 (iblk m c 0 t) (iblk m c 1 t) ((cfg0.win 2).xinj (grid0.coords t) y) : EReal) = prod (arg0 m c) (arg1 m c) (((cfg0.win 2).blk t).view.emb y)
  have hx : (cfg0.win 2).xinj (grid0.coords t) y = (ix2 ⟨(y 0).val, h0⟩ ⟨(y 1).val, h1⟩ : S1024x1024.Idx) := funext fun a => Fin.ext (by
    match a with
    | ⟨0, _⟩ => rfl
    | ⟨1, _⟩ => rfl)
  have hz : ((cfg0.win 2).blk t).view.emb y = (ix2 (row t.val (rows_lt t) ⟨(y 0).val, h0⟩) ⟨(y 1).val, h1⟩ : S8192x1024.Idx) := funext fun a => Fin.ext (by
    match a with
    | ⟨0, _⟩ => refine b0.trans ?_; rw [e0]; show t.val * 1024 + 1 * (y 0).val = 1024 * t.val + (y 0).val; omega
    | ⟨1, _⟩ => refine b1.trans ?_; rw [e1]; show 0 * 1024 + 1 * (y 1).val = (y 1).val; omega)
  exact (congrArg (out0_2 (iblk m c 0 t) (iblk m c 1 t)) hx).trans ((left m c t _ _).trans (congrArg (prod (arg0 m c) (arg1 m c)) hz).symm)

theorem filled (i : S8192x1024.Idx) : ∃ t : Fin cfg0.N, (cfg0.win 2).flush t = true ∧ i ∈ ((cfg0.win 2).blk t).view.set := by
  have h0 : (i 0).val < 8192 := (i 0).isLt
  have h1 : (i 1).val < 1024 := (i 1).isLt
  have hv : (pointOf (i 0)).val = (i 0).val / 1024 := rfl
  refine ⟨pointOf (i 0), flush0_2 _, ?_⟩
  obtain ⟨e0, e1⟩ := map2 (pointOf (i 0))
  show i ∈ ((View.whole main_v0).slice (win0_2.rect (pointOf (i 0)))).set
  rw [View.set_slice_whole, Rect.mem_set_unit]
  intro a
  match a with
  | ⟨0, _⟩ => show win0_2.index (pointOf (i 0)) (0 : Fin 2) * 1024 ≤ (i 0).val ∧ (i 0).val < win0_2.index (pointOf (i 0)) (0 : Fin 2) * 1024 + 1024; omega
  | ⟨1, _⟩ => show win0_2.index (pointOf (i 0)) (1 : Fin 2) * 1024 ≤ (i 1).val ∧ (i 1).val < win0_2.index (pointOf (i 0)) (1 : Fin 2) * 1024 + 1024; omega

/-- The run: the result ends at the product, the arguments as they were. -/
theorem run :
    θ_run defs (onTc (τ := τ) (main (F := Ideal))) ⟨m, fun _ => 0, ρ⟩ fun r => ∀ c : Dev nD,
      r.2.mem ((c : Thread nD τ).loc main_v0) = (prod (arg0 m c) (arg1 m c) : S8192x1024.Idx → EReal)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨(h c).1.trans ((dats m 0 c).arrAt_eq_of_cover 2 _ (fun t hf => written m c t hf) (fun i => filled i)), (h c).2⟩)
    (run_blocks m ρ)

end Cert.Kernel7Ideal.Proj

end
-- ==== Proof.Proj.FoxOut.lean ====
/- The attention layer's output projection, read off the call: each of the eight points writes its tile of the product, added to the layer's input,
   and the tiles fill the array. -/
module

public import proofs.«01_k».proof.Proof.Proj.Sum
public import proofs.«01_k».proof.Proof.Gen.Kernel8Ideal.Value

@[expose] public section

set_option maxRecDepth 16384

noncomputable section

namespace Cert.Kernel8Ideal.Proj

open Idealize.ShloMosaic Idealize.ShloMosaic.TcCoe Idealize.ShloMosaic.ValueIdx Idealize.SL.Sem
open Idealize.ShloMosaic.Pipeline (Window)
open Cert.Kernel8Ideal Cert.Kernel8Ideal.Gen Cert.Kernel8Ideal.Value Cert.Proj
open scoped BigOperators

theorem map0 (t : Fin grid0.N) : cc0_transform_0 (grid0.coords t) = ![t.val, 0] := by revert t; decide +kernel
theorem map1 (t : Fin grid0.N) : cc0_transform_1 (grid0.coords t) = ![0, 0] := by revert t; decide +kernel
theorem map2 (t : Fin grid0.N) : cc0_transform_2 (grid0.coords t) = ![t.val, 0] := by revert t; decide +kernel
theorem map3 : ∀ t : Fin cfg0.N, win0_3.index t (0 : Fin 2) = t.val ∧ win0_3.index t (1 : Fin 2) = 0 :=
  (by decide +kernel : ∀ t : Fin grid0.N, _)

/-- The point of a row. -/
def pointOf (y : Fin 8192) : Fin cfg0.N := ⟨y.val / 1024, by have := y.isLt; have h : cfg0.N = 8 := N_0; omega⟩

theorem rows_lt (t : Fin cfg0.N) : t.val < 8 := by have h : cfg0.N = 8 := N_0; have := t.isLt; omega

/-- A point's payload, at an entry. -/
theorem pay_at (a : Vec Ideal S1024x1024 .bf16) (b : Vec Ideal S1024x1024 .bf16) (d : Vec Ideal S1024x1024 .f32) (r : Fin 1024) (n : Fin 1024) :
    (k0_pay1 (F := Ideal) a b d (ix2 r n) : EReal) = (∑ k : Fin 1024, (a (ix2 r k) : EReal) * b (ix2 k n)) + d (ix2 r n) := by
  unfold k0_pay1
  exact congrArg (fun z : EReal => z + d (ix2 r n)) (tile a b r n)

variable (m : (ℓ : Loc nD τ sig) → Buf (Elt Ideal) ℓ) (ρ : Dev nD → PrngReg) (c : Dev nD) (t : Fin cfg0.N)

/-- The arguments. -/
def arg0 : S8192x1024.Idx → EReal := m ((c : Thread nD τ).loc main_arg0)
def arg1 : S1024x1024.Idx → EReal := m ((c : Thread nD τ).loc main_arg1)
def arg2 : S8192x1024.Idx → EReal := m ((c : Thread nD τ).loc main_arg2)

/-- The result: the layer's input and the product. -/
def sum : S8192x1024.Idx → EReal := fun i => arg2 m c i + prod (arg0 m c) (arg1 m c) i

theorem blk0 (r k : Fin 1024) : (iblk m c 0 t (ix2 r k : S1024x1024.Idx) : EReal) = arg0 m c (ix2 (row t.val (rows_lt t) r) k) := by
  show (V m c main_arg0 (((cfg0.win 0).rect t).emb (ix2 r k : S1024x1024.Idx)) : EReal) = _
  refine congrArg (V m c main_arg0) (funext fun a => Fin.ext ?_)
  refine (Window.rect_emb_val (cfg0.win 0) t (ix2 r k : S1024x1024.Idx) a).trans ?_
  match a with
  | ⟨0, _⟩ => show cc0_transform_0 (grid0.coords t) 0 * 1024 + r.val = 1024 * t.val + r.val; rw [map0]; show t.val * 1024 + r.val = _; omega
  | ⟨1, _⟩ => show cc0_transform_0 (grid0.coords t) 1 * 1024 + k.val = k.val; rw [map0]; show 0 * 1024 + k.val = _; omega

theorem blk1 (k : Fin 1024) (n : Fin 1024) : (iblk m c 1 t (ix2 k n : S1024x1024.Idx) : EReal) = arg1 m c (ix2 k n) := by
  show (V m c main_arg1 (((cfg0.win 1).rect t).emb (ix2 k n : S1024x1024.Idx)) : EReal) = _
  refine congrArg (V m c main_arg1) (funext fun a => Fin.ext ?_)
  refine (Window.rect_emb_val (cfg0.win 1) t (ix2 k n : S1024x1024.Idx) a).trans ?_
  match a with
  | ⟨0, _⟩ => show cc0_transform_1 (grid0.coords t) 0 * 1024 + k.val = k.val; rw [map1]; show 0 * 1024 + k.val = _; omega
  | ⟨1, _⟩ => show cc0_transform_1 (grid0.coords t) 1 * 1024 + n.val = n.val; rw [map1]; show 0 * 1024 + n.val = _; omega

theorem blk2 (r n : Fin 1024) : (iblk m c 2 t (ix2 r n : S1024x1024.Idx) : EReal) = arg2 m c (ix2 (row t.val (rows_lt t) r) n) := by
  show (V m c main_arg2 (((cfg0.win 2).rect t).emb (ix2 r n : S1024x1024.Idx)) : EReal) = _
  refine congrArg (V m c main_arg2) (funext fun a => Fin.ext ?_)
  refine (Window.rect_emb_val (cfg0.win 2) t (ix2 r n : S1024x1024.Idx) a).trans ?_
  match a with
  | ⟨0, _⟩ => show cc0_transform_2 (grid0.coords t) 0 * 1024 + r.val = 1024 * t.val + r.val; rw [map2]; show t.val * 1024 + r.val = _; omega
  | ⟨1, _⟩ => show cc0_transform_2 (grid0.coords t) 1 * 1024 + n.val = n.val; rw [map2]; show 0 * 1024 + n.val = _; omega

/-- What a point leaves. -/
theorem left (r : Fin 1024) (n : Fin 1024) : (out0_3 (iblk m c 0 t) (iblk m c 1 t) (iblk m c 2 t) (ix2 r n) : EReal)
    = sum m c (ix2 (row t.val (rows_lt t) r) n) := by
  unfold out0_3
  rw [View.canon_unit_zero off0, View.ld_unit_zero (S := S1024x1024) off0, View.ld_unit_zero (S := S1024x1024) off0, View.ld_unit_zero (S := S1024x1024) off0]
  exact (pay_at _ _ _ r n).trans ((congrArg₂ (fun y z : EReal => y + z)
    (tile_sum _ _ _ _ r n _ _ (fun k => blk0 m c t r k) (fun k => blk1 m c t k n)) (blk2 m c t r n)).trans (add_comm _ _))

theorem written (hf : (cfg0.win 3).flush t = true) :
    (dats m 0 c).flushed 3 t = ((cfg0.win 3).blk t).view.read (Elt Ideal) (sum m c : S8192x1024.Idx → EReal) := by
  rw [flushed3]
  obtain ⟨e0, e1⟩ := map3 t
  funext y
  have h0 : (y 0).val < 1024 := (y 0).isLt
  have h1 : (y 1).val < 1024 := (y 1).isLt
  have b0 : (((cfg0.win 3).blk t).view.emb y 0).val = win0_3.index t (0 : Fin 2) * 1024 + 1 * (y 0).val := rfl
  have b1 : (((cfg0.win 3).blk t).view.emb y 1).val = win0_3.index t (1 : Fin 2) * 1024 + 1 * (y 1).val := rfl
  show (out0_3 (iblk m c 0 t) (iblk m c 1 t) (iblk m c 2 t) ((cfg0.win 3).xinj (grid0.coords t) y) : EReal) = sum m c (((cfg0.win 3).blk t).view.emb y)
  have hx : (cfg0.win 3).xinj (grid0.coords t) y = (ix2 ⟨(y 0).val, h0⟩ ⟨(y 1).val, h1⟩ : S1024x1024.Idx) := funext fun a => Fin.ext (by
    match a with
    | ⟨0, _⟩ => rfl
    | ⟨1, _⟩ => rfl)
  have hz : ((cfg0.win 3).blk t).view.emb y = (ix2 (row t.val (rows_lt t) ⟨(y 0).val, h0⟩) ⟨(y 1).val, h1⟩ : S8192x1024.Idx) := funext fun a => Fin.ext (by
    match a with
    | ⟨0, _⟩ => refine b0.trans ?_; rw [e0]; show t.val * 1024 + 1 * (y 0).val = 1024 * t.val + (y 0).val; omega
    | ⟨1, _⟩ => refine b1.trans ?_; rw [e1]; show 0 * 1024 + 1 * (y 1).val = (y 1).val; omega)
  exact (congrArg (out0_3 (iblk m c 0 t) (iblk m c 1 t) (iblk m c 2 t)) hx).trans ((left m c t _ _).trans (congrArg (sum m c) hz).symm)

theorem filled (i : S8192x1024.Idx) : ∃ t : Fin cfg0.N, (cfg0.win 3).flush t = true ∧ i ∈ ((cfg0.win 3).blk t).view.set := by
  have h0 : (i 0).val < 8192 := (i 0).isLt
  have h1 : (i 1).val < 1024 := (i 1).isLt
  have hv : (pointOf (i 0)).val = (i 0).val / 1024 := rfl
  refine ⟨pointOf (i 0), flush0_3 _, ?_⟩
  obtain ⟨e0, e1⟩ := map3 (pointOf (i 0))
  show i ∈ ((View.whole main_v0).slice (win0_3.rect (pointOf (i 0)))).set
  rw [View.set_slice_whole, Rect.mem_set_unit]
  intro a
  match a with
  | ⟨0, _⟩ => show win0_3.index (pointOf (i 0)) (0 : Fin 2) * 1024 ≤ (i 0).val ∧ (i 0).val < win0_3.index (pointOf (i 0)) (0 : Fin 2) * 1024 + 1024; omega
  | ⟨1, _⟩ => show win0_3.index (pointOf (i 0)) (1 : Fin 2) * 1024 ≤ (i 1).val ∧ (i 1).val < win0_3.index (pointOf (i 0)) (1 : Fin 2) * 1024 + 1024; omega

/-- The run: the result ends at the sum, the arguments as they were. -/
theorem run :
    θ_run defs (onTc (τ := τ) (main (F := Ideal))) ⟨m, fun _ => 0, ρ⟩ fun r => ∀ c : Dev nD,
      r.2.mem ((c : Thread nD τ).loc main_v0) = (sum m c : S8192x1024.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
      ⟨(h c).1.trans ((dats m 0 c).arrAt_eq_of_cover 3 _ (fun t hf => written m c t hf) (fun i => filled i)), (h c).2⟩)
    (run_blocks m ρ)

end Cert.Kernel8Ideal.Proj

end
-- ==== Proof.Proj.LruOut.lean ====
/- The recurrent layer's output projection, read off the call: each of the eight points writes its tile of the product, added to the layer's input,
   and the tiles fill the array. -/
module

public import proofs.«01_k».proof.Proof.Proj.Sum
public import proofs.«01_k».proof.Proof.Gen.Kernel9Ideal.Value

@[expose] public section

set_option maxRecDepth 16384

noncomputable section

namespace Cert.Kernel9Ideal.Proj

open Idealize.ShloMosaic Idealize.ShloMosaic.TcCoe Idealize.ShloMosaic.ValueIdx Idealize.SL.Sem
open Idealize.ShloMosaic.Pipeline (Window)
open Cert.Kernel9Ideal Cert.Kernel9Ideal.Gen Cert.Kernel9Ideal.Value Cert.Proj
open scoped BigOperators

theorem map0 (t : Fin grid0.N) : cc0_transform_0 (grid0.coords t) = ![t.val, 0] := by revert t; decide +kernel
theorem map1 (t : Fin grid0.N) : cc0_transform_1 (grid0.coords t) = ![0, 0] := by revert t; decide +kernel
theorem map2 (t : Fin grid0.N) : cc0_transform_2 (grid0.coords t) = ![t.val, 0] := by revert t; decide +kernel
theorem map3 : ∀ t : Fin cfg0.N, win0_3.index t (0 : Fin 2) = t.val ∧ win0_3.index t (1 : Fin 2) = 0 :=
  (by decide +kernel : ∀ t : Fin grid0.N, _)

/-- The point of a row. -/
def pointOf (y : Fin 8192) : Fin cfg0.N := ⟨y.val / 1024, by have := y.isLt; have h : cfg0.N = 8 := N_0; omega⟩

theorem rows_lt (t : Fin cfg0.N) : t.val < 8 := by have h : cfg0.N = 8 := N_0; have := t.isLt; omega

/-- A point's payload, at an entry. -/
theorem pay_at (a : Vec Ideal S1024x1536 .bf16) (b : Vec Ideal S1536x1024 .bf16) (d : Vec Ideal S1024x1024 .f32) (r : Fin 1024) (n : Fin 1024) :
    (k0_pay1 (F := Ideal) a b d (ix2 r n) : EReal) = (∑ k : Fin 1536, (a (ix2 r k) : EReal) * b (ix2 k n)) + d (ix2 r n) := by
  unfold k0_pay1
  exact congrArg (fun z : EReal => z + d (ix2 r n)) (tile a b r n)

variable (m : (ℓ : Loc nD τ sig) → Buf (Elt Ideal) ℓ) (ρ : Dev nD → PrngReg) (c : Dev nD) (t : Fin cfg0.N)

/-- The arguments. -/
def arg0 : S8192x1536.Idx → EReal := m ((c : Thread nD τ).loc main_arg0)
def arg1 : S1536x1024.Idx → EReal := m ((c : Thread nD τ).loc main_arg1)
def arg2 : S8192x1024.Idx → EReal := m ((c : Thread nD τ).loc main_arg2)

/-- The result: the layer's input and the product. -/
def sum : S8192x1024.Idx → EReal := fun i => arg2 m c i + prod (arg0 m c) (arg1 m c) i

theorem blk0 (r : Fin 1024) (k : Fin 1536) : (iblk m c 0 t (ix2 r k : S1024x1536.Idx) : EReal) = arg0 m c (ix2 (row t.val (rows_lt t) r) k) := by
  show (V m c main_arg0 (((cfg0.win 0).rect t).emb (ix2 r k : S1024x1536.Idx)) : EReal) = _
  refine congrArg (V m c main_arg0) (funext fun a => Fin.ext ?_)
  refine (Window.rect_emb_val (cfg0.win 0) t (ix2 r k : S1024x1536.Idx) a).trans ?_
  match a with
  | ⟨0, _⟩ => show cc0_transform_0 (grid0.coords t) 0 * 1024 + r.val = 1024 * t.val + r.val; rw [map0]; show t.val * 1024 + r.val = _; omega
  | ⟨1, _⟩ => show cc0_transform_0 (grid0.coords t) 1 * 1536 + k.val = k.val; rw [map0]; show 0 * 1536 + k.val = _; omega

theorem blk1 (k : Fin 1536) (n : Fin 1024) : (iblk m c 1 t (ix2 k n : S1536x1024.Idx) : EReal) = arg1 m c (ix2 k n) := by
  show (V m c main_arg1 (((cfg0.win 1).rect t).emb (ix2 k n : S1536x1024.Idx)) : EReal) = _
  refine congrArg (V m c main_arg1) (funext fun a => Fin.ext ?_)
  refine (Window.rect_emb_val (cfg0.win 1) t (ix2 k n : S1536x1024.Idx) a).trans ?_
  match a with
  | ⟨0, _⟩ => show cc0_transform_1 (grid0.coords t) 0 * 1536 + k.val = k.val; rw [map1]; show 0 * 1536 + k.val = _; omega
  | ⟨1, _⟩ => show cc0_transform_1 (grid0.coords t) 1 * 1024 + n.val = n.val; rw [map1]; show 0 * 1024 + n.val = _; omega

theorem blk2 (r n : Fin 1024) : (iblk m c 2 t (ix2 r n : S1024x1024.Idx) : EReal) = arg2 m c (ix2 (row t.val (rows_lt t) r) n) := by
  show (V m c main_arg2 (((cfg0.win 2).rect t).emb (ix2 r n : S1024x1024.Idx)) : EReal) = _
  refine congrArg (V m c main_arg2) (funext fun a => Fin.ext ?_)
  refine (Window.rect_emb_val (cfg0.win 2) t (ix2 r n : S1024x1024.Idx) a).trans ?_
  match a with
  | ⟨0, _⟩ => show cc0_transform_2 (grid0.coords t) 0 * 1024 + r.val = 1024 * t.val + r.val; rw [map2]; show t.val * 1024 + r.val = _; omega
  | ⟨1, _⟩ => show cc0_transform_2 (grid0.coords t) 1 * 1024 + n.val = n.val; rw [map2]; show 0 * 1024 + n.val = _; omega

/-- What a point leaves. -/
theorem left (r : Fin 1024) (n : Fin 1024) : (out0_3 (iblk m c 0 t) (iblk m c 1 t) (iblk m c 2 t) (ix2 r n) : EReal)
    = sum m c (ix2 (row t.val (rows_lt t) r) n) := by
  unfold out0_3
  rw [View.canon_unit_zero off0, View.ld_unit_zero (S := S1024x1536) off0, View.ld_unit_zero (S := S1536x1024) off0, View.ld_unit_zero (S := S1024x1024) off0]
  exact (pay_at _ _ _ r n).trans ((congrArg₂ (fun y z : EReal => y + z)
    (tile_sum _ _ _ _ r n _ _ (fun k => blk0 m c t r k) (fun k => blk1 m c t k n)) (blk2 m c t r n)).trans (add_comm _ _))

theorem written (hf : (cfg0.win 3).flush t = true) :
    (dats m 0 c).flushed 3 t = ((cfg0.win 3).blk t).view.read (Elt Ideal) (sum m c : S8192x1024.Idx → EReal) := by
  rw [flushed3]
  obtain ⟨e0, e1⟩ := map3 t
  funext y
  have h0 : (y 0).val < 1024 := (y 0).isLt
  have h1 : (y 1).val < 1024 := (y 1).isLt
  have b0 : (((cfg0.win 3).blk t).view.emb y 0).val = win0_3.index t (0 : Fin 2) * 1024 + 1 * (y 0).val := rfl
  have b1 : (((cfg0.win 3).blk t).view.emb y 1).val = win0_3.index t (1 : Fin 2) * 1024 + 1 * (y 1).val := rfl
  show (out0_3 (iblk m c 0 t) (iblk m c 1 t) (iblk m c 2 t) ((cfg0.win 3).xinj (grid0.coords t) y) : EReal) = sum m c (((cfg0.win 3).blk t).view.emb y)
  have hx : (cfg0.win 3).xinj (grid0.coords t) y = (ix2 ⟨(y 0).val, h0⟩ ⟨(y 1).val, h1⟩ : S1024x1024.Idx) := funext fun a => Fin.ext (by
    match a with
    | ⟨0, _⟩ => rfl
    | ⟨1, _⟩ => rfl)
  have hz : ((cfg0.win 3).blk t).view.emb y = (ix2 (row t.val (rows_lt t) ⟨(y 0).val, h0⟩) ⟨(y 1).val, h1⟩ : S8192x1024.Idx) := funext fun a => Fin.ext (by
    match a with
    | ⟨0, _⟩ => refine b0.trans ?_; rw [e0]; show t.val * 1024 + 1 * (y 0).val = 1024 * t.val + (y 0).val; omega
    | ⟨1, _⟩ => refine b1.trans ?_; rw [e1]; show 0 * 1024 + 1 * (y 1).val = (y 1).val; omega)
  exact (congrArg (out0_3 (iblk m c 0 t) (iblk m c 1 t) (iblk m c 2 t)) hx).trans ((left m c t _ _).trans (congrArg (sum m c) hz).symm)

theorem filled (i : S8192x1024.Idx) : ∃ t : Fin cfg0.N, (cfg0.win 3).flush t = true ∧ i ∈ ((cfg0.win 3).blk t).view.set := by
  have h0 : (i 0).val < 8192 := (i 0).isLt
  have h1 : (i 1).val < 1024 := (i 1).isLt
  have hv : (pointOf (i 0)).val = (i 0).val / 1024 := rfl
  refine ⟨pointOf (i 0), flush0_3 _, ?_⟩
  obtain ⟨e0, e1⟩ := map3 (pointOf (i 0))
  show i ∈ ((View.whole main_v0).slice (win0_3.rect (pointOf (i 0)))).set
  rw [View.set_slice_whole, Rect.mem_set_unit]
  intro a
  match a with
  | ⟨0, _⟩ => show win0_3.index (pointOf (i 0)) (0 : Fin 2) * 1024 ≤ (i 0).val ∧ (i 0).val < win0_3.index (pointOf (i 0)) (0 : Fin 2) * 1024 + 1024; omega
  | ⟨1, _⟩ => show win0_3.index (pointOf (i 0)) (1 : Fin 2) * 1024 ≤ (i 1).val ∧ (i 1).val < win0_3.index (pointOf (i 0)) (1 : Fin 2) * 1024 + 1024; omega

/-- The run: the result ends at the sum, the arguments as they were. -/
theorem run :
    θ_run defs (onTc (τ := τ) (main (F := Ideal))) ⟨m, fun _ => 0, ρ⟩ fun r => ∀ c : Dev nD,
      r.2.mem ((c : Thread nD τ).loc main_v0) = (sum m c : S8192x1024.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
      ⟨(h c).1.trans ((dats m 0 c).arrAt_eq_of_cover 3 _ (fun t hf => written m c t hf) (fun i => filled i)), (h c).2⟩)
    (run_blocks m ρ)

end Cert.Kernel9Ideal.Proj

end
-- ==== Proof.Proj.OutBack.lean ====
/- The output projection's backward of the attention layer, read off the call: each of the eight points writes its tile of
   the product with the weights' transpose,
   and the tiles fill the array. -/
module

public import proofs.«01_k».proof.Proof.Proj.Sum
public import proofs.«01_k».proof.Proof.Gen.Kernel10Ideal.Value

@[expose] public section

set_option maxRecDepth 16384

noncomputable section

namespace Cert.Kernel10Ideal.Proj

open Idealize.ShloMosaic Idealize.ShloMosaic.TcCoe Idealize.ShloMosaic.ValueIdx Idealize.SL.Sem
open Idealize.ShloMosaic.Pipeline (Window)
open Cert.Kernel10Ideal Cert.Kernel10Ideal.Gen Cert.Kernel10Ideal.Value Cert.Proj
open scoped BigOperators

theorem map0 (t : Fin grid0.N) : cc0_transform_0 (grid0.coords t) = ![t.val, 0] := by revert t; decide +kernel
theorem map1 (t : Fin grid0.N) : cc0_transform_1 (grid0.coords t) = ![0, 0] := by revert t; decide +kernel
theorem map2 : ∀ t : Fin cfg0.N, win0_2.index t (0 : Fin 2) = t.val ∧ win0_2.index t (1 : Fin 2) = 0 :=
  (by decide +kernel : ∀ t : Fin grid0.N, _)

/-- The point of a row. -/
def pointOf (y : Fin 8192) : Fin cfg0.N := ⟨y.val / 1024, by have := y.isLt; have h : cfg0.N = 8 := N_0; omega⟩

theorem rows_lt (t : Fin cfg0.N) : t.val < 8 := by have h : cfg0.N = 8 := N_0; have := t.isLt; omega

/-- A point's payload, at an entry. -/
theorem pay_at (a : Vec Ideal S1024x1024 .bf16) (b : Vec Ideal S1024x1024 .bf16) (r : Fin 1024) (n : Fin 1024) :
    (k0_pay1 (F := Ideal) a b (ix2 r n) : EReal) = ∑ k : Fin 1024, (a (ix2 r k) : EReal) * b (ix2 n k) := by
  unfold k0_pay1
  exact tileT a b r n

variable (m : (ℓ : Loc nD τ sig) → Buf (Elt Ideal) ℓ) (ρ : Dev nD → PrngReg) (c : Dev nD) (t : Fin cfg0.N)

/-- The arguments. -/
def arg0 : S8192x1024.Idx → EReal := m ((c : Thread nD τ).loc main_arg0)
def arg1 : S1024x1024.Idx → EReal := m ((c : Thread nD τ).loc main_arg1)

theorem blk0 (r k : Fin 1024) : (iblk m c 0 t (ix2 r k : S1024x1024.Idx) : EReal) = arg0 m c (ix2 (row t.val (rows_lt t) r) k) := by
  show (V m c main_arg0 (((cfg0.win 0).rect t).emb (ix2 r k : S1024x1024.Idx)) : EReal) = _
  refine congrArg (V m c main_arg0) (funext fun a => Fin.ext ?_)
  refine (Window.rect_emb_val (cfg0.win 0) t (ix2 r k : S1024x1024.Idx) a).trans ?_
  match a with
  | ⟨0, _⟩ => show cc0_transform_0 (grid0.coords t) 0 * 1024 + r.val = 1024 * t.val + r.val; rw [map0]; show t.val * 1024 + r.val = _; omega
  | ⟨1, _⟩ => show cc0_transform_0 (grid0.coords t) 1 * 1024 + k.val = k.val; rw [map0]; show 0 * 1024 + k.val = _; omega

theorem blk1 (n k : Fin 1024) : (iblk m c 1 t (ix2 n k : S1024x1024.Idx) : EReal) = arg1 m c (ix2 n k) := by
  show (V m c main_arg1 (((cfg0.win 1).rect t).emb (ix2 n k : S1024x1024.Idx)) : EReal) = _
  refine congrArg (V m c main_arg1) (funext fun a => Fin.ext ?_)
  refine (Window.rect_emb_val (cfg0.win 1) t (ix2 n k : S1024x1024.Idx) a).trans ?_
  match a with
  | ⟨0, _⟩ => show cc0_transform_1 (grid0.coords t) 0 * 1024 + n.val = n.val; rw [map1]; show 0 * 1024 + n.val = _; omega
  | ⟨1, _⟩ => show cc0_transform_1 (grid0.coords t) 1 * 1024 + k.val = k.val; rw [map1]; show 0 * 1024 + k.val = _; omega

/-- What a point leaves. -/
theorem left (r : Fin 1024) (n : Fin 1024) : (out0_2 (iblk m c 0 t) (iblk m c 1 t) (ix2 r n) : EReal)
    = prodT (arg0 m c) (arg1 m c) (ix2 (row t.val (rows_lt t) r) n) := by
  unfold out0_2
  rw [View.canon_unit_zero off0, View.ld_unit_zero (S := S1024x1024) off0, View.ld_unit_zero (S := S1024x1024) off0]
  exact (pay_at _ _ r n).trans (tile_sumT _ _ _ _ r n _ _ (fun k => blk0 m c t r k) (fun k => blk1 m c t n k))

theorem written (hf : (cfg0.win 2).flush t = true) :
    (dats m 0 c).flushed 2 t = ((cfg0.win 2).blk t).view.read (Elt Ideal) (prodT (arg0 m c) (arg1 m c) : S8192x1024.Idx → EReal) := by
  rw [flushed2]
  obtain ⟨e0, e1⟩ := map2 t
  funext y
  have h0 : (y 0).val < 1024 := (y 0).isLt
  have h1 : (y 1).val < 1024 := (y 1).isLt
  have b0 : (((cfg0.win 2).blk t).view.emb y 0).val = win0_2.index t (0 : Fin 2) * 1024 + 1 * (y 0).val := rfl
  have b1 : (((cfg0.win 2).blk t).view.emb y 1).val = win0_2.index t (1 : Fin 2) * 1024 + 1 * (y 1).val := rfl
  show (out0_2 (iblk m c 0 t) (iblk m c 1 t) ((cfg0.win 2).xinj (grid0.coords t) y) : EReal) = prodT (arg0 m c) (arg1 m c) (((cfg0.win 2).blk t).view.emb y)
  have hx : (cfg0.win 2).xinj (grid0.coords t) y = (ix2 ⟨(y 0).val, h0⟩ ⟨(y 1).val, h1⟩ : S1024x1024.Idx) := funext fun a => Fin.ext (by
    match a with
    | ⟨0, _⟩ => rfl
    | ⟨1, _⟩ => rfl)
  have hz : ((cfg0.win 2).blk t).view.emb y = (ix2 (row t.val (rows_lt t) ⟨(y 0).val, h0⟩) ⟨(y 1).val, h1⟩ : S8192x1024.Idx) := funext fun a => Fin.ext (by
    match a with
    | ⟨0, _⟩ => refine b0.trans ?_; rw [e0]; show t.val * 1024 + 1 * (y 0).val = 1024 * t.val + (y 0).val; omega
    | ⟨1, _⟩ => refine b1.trans ?_; rw [e1]; show 0 * 1024 + 1 * (y 1).val = (y 1).val; omega)
  exact (congrArg (out0_2 (iblk m c 0 t) (iblk m c 1 t)) hx).trans ((left m c t _ _).trans (congrArg (prodT (arg0 m c) (arg1 m c)) hz).symm)

theorem filled (i : S8192x1024.Idx) : ∃ t : Fin cfg0.N, (cfg0.win 2).flush t = true ∧ i ∈ ((cfg0.win 2).blk t).view.set := by
  have h0 : (i 0).val < 8192 := (i 0).isLt
  have h1 : (i 1).val < 1024 := (i 1).isLt
  have hv : (pointOf (i 0)).val = (i 0).val / 1024 := rfl
  refine ⟨pointOf (i 0), flush0_2 _, ?_⟩
  obtain ⟨e0, e1⟩ := map2 (pointOf (i 0))
  show i ∈ ((View.whole main_v0).slice (win0_2.rect (pointOf (i 0)))).set
  rw [View.set_slice_whole, Rect.mem_set_unit]
  intro a
  match a with
  | ⟨0, _⟩ => show win0_2.index (pointOf (i 0)) (0 : Fin 2) * 1024 ≤ (i 0).val ∧ (i 0).val < win0_2.index (pointOf (i 0)) (0 : Fin 2) * 1024 + 1024; omega
  | ⟨1, _⟩ => show win0_2.index (pointOf (i 0)) (1 : Fin 2) * 1024 ≤ (i 1).val ∧ (i 1).val < win0_2.index (pointOf (i 0)) (1 : Fin 2) * 1024 + 1024; omega

/-- The run: the result ends at the product, the arguments as they were. -/
theorem run :
    θ_run defs (onTc (τ := τ) (main (F := Ideal))) ⟨m, fun _ => 0, ρ⟩ fun r => ∀ c : Dev nD,
      r.2.mem ((c : Thread nD τ).loc main_v0) = (prodT (arg0 m c) (arg1 m c) : S8192x1024.Idx → EReal)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨(h c).1.trans ((dats m 0 c).arrAt_eq_of_cover 2 _ (fun t hf => written m c t hf) (fun i => filled i)), (h c).2⟩)
    (run_blocks m ρ)

end Cert.Kernel10Ideal.Proj

end
-- ==== Proof.Proj.LruBack.lean ====
/- The output projection's backward of the recurrent layer, read off the call: each of the eight points writes its tile of
   the product with the weights' transpose,
   and the tiles fill the array. -/
module

public import proofs.«01_k».proof.Proof.Proj.Sum
public import proofs.«01_k».proof.Proof.Gen.Kernel11Ideal.Value

@[expose] public section

set_option maxRecDepth 16384

noncomputable section

namespace Cert.Kernel11Ideal.Proj

open Idealize.ShloMosaic Idealize.ShloMosaic.TcCoe Idealize.ShloMosaic.ValueIdx Idealize.SL.Sem
open Idealize.ShloMosaic.Pipeline (Window)
open Cert.Kernel11Ideal Cert.Kernel11Ideal.Gen Cert.Kernel11Ideal.Value Cert.Proj
open scoped BigOperators

theorem map0 (t : Fin grid0.N) : cc0_transform_0 (grid0.coords t) = ![t.val, 0] := by revert t; decide +kernel
theorem map1 (t : Fin grid0.N) : cc0_transform_1 (grid0.coords t) = ![0, 0] := by revert t; decide +kernel
theorem map2 : ∀ t : Fin cfg0.N, win0_2.index t (0 : Fin 2) = t.val ∧ win0_2.index t (1 : Fin 2) = 0 :=
  (by decide +kernel : ∀ t : Fin grid0.N, _)

/-- The point of a row. -/
def pointOf (y : Fin 8192) : Fin cfg0.N := ⟨y.val / 1024, by have := y.isLt; have h : cfg0.N = 8 := N_0; omega⟩

theorem rows_lt (t : Fin cfg0.N) : t.val < 8 := by have h : cfg0.N = 8 := N_0; have := t.isLt; omega

/-- A point's payload, at an entry. -/
theorem pay_at (a : Vec Ideal S1024x1024 .bf16) (b : Vec Ideal S1536x1024 .bf16) (r : Fin 1024) (n : Fin 1536) :
    (k0_pay1 (F := Ideal) a b (ix2 r n) : EReal) = ∑ k : Fin 1024, (a (ix2 r k) : EReal) * b (ix2 n k) := by
  unfold k0_pay1
  exact tileT a b r n

variable (m : (ℓ : Loc nD τ sig) → Buf (Elt Ideal) ℓ) (ρ : Dev nD → PrngReg) (c : Dev nD) (t : Fin cfg0.N)

/-- The arguments. -/
def arg0 : S8192x1024.Idx → EReal := m ((c : Thread nD τ).loc main_arg0)
def arg1 : S1536x1024.Idx → EReal := m ((c : Thread nD τ).loc main_arg1)

theorem blk0 (r k : Fin 1024) : (iblk m c 0 t (ix2 r k : S1024x1024.Idx) : EReal) = arg0 m c (ix2 (row t.val (rows_lt t) r) k) := by
  show (V m c main_arg0 (((cfg0.win 0).rect t).emb (ix2 r k : S1024x1024.Idx)) : EReal) = _
  refine congrArg (V m c main_arg0) (funext fun a => Fin.ext ?_)
  refine (Window.rect_emb_val (cfg0.win 0) t (ix2 r k : S1024x1024.Idx) a).trans ?_
  match a with
  | ⟨0, _⟩ => show cc0_transform_0 (grid0.coords t) 0 * 1024 + r.val = 1024 * t.val + r.val; rw [map0]; show t.val * 1024 + r.val = _; omega
  | ⟨1, _⟩ => show cc0_transform_0 (grid0.coords t) 1 * 1024 + k.val = k.val; rw [map0]; show 0 * 1024 + k.val = _; omega

theorem blk1 (n : Fin 1536) (k : Fin 1024) : (iblk m c 1 t (ix2 n k : S1536x1024.Idx) : EReal) = arg1 m c (ix2 n k) := by
  show (V m c main_arg1 (((cfg0.win 1).rect t).emb (ix2 n k : S1536x1024.Idx)) : EReal) = _
  refine congrArg (V m c main_arg1) (funext fun a => Fin.ext ?_)
  refine (Window.rect_emb_val (cfg0.win 1) t (ix2 n k : S1536x1024.Idx) a).trans ?_
  match a with
  | ⟨0, _⟩ => show cc0_transform_1 (grid0.coords t) 0 * 1536 + n.val = n.val; rw [map1]; show 0 * 1536 + n.val = _; omega
  | ⟨1, _⟩ => show cc0_transform_1 (grid0.coords t) 1 * 1024 + k.val = k.val; rw [map1]; show 0 * 1024 + k.val = _; omega

/-- What a point leaves. -/
theorem left (r : Fin 1024) (n : Fin 1536) : (out0_2 (iblk m c 0 t) (iblk m c 1 t) (ix2 r n) : EReal)
    = prodT (arg0 m c) (arg1 m c) (ix2 (row t.val (rows_lt t) r) n) := by
  unfold out0_2
  rw [View.canon_unit_zero off0, View.ld_unit_zero (S := S1024x1024) off0, View.ld_unit_zero (S := S1536x1024) off0]
  exact (pay_at _ _ r n).trans (tile_sumT _ _ _ _ r n _ _ (fun k => blk0 m c t r k) (fun k => blk1 m c t n k))

theorem written (hf : (cfg0.win 2).flush t = true) :
    (dats m 0 c).flushed 2 t = ((cfg0.win 2).blk t).view.read (Elt Ideal) (prodT (arg0 m c) (arg1 m c) : S8192x1536.Idx → EReal) := by
  rw [flushed2]
  obtain ⟨e0, e1⟩ := map2 t
  funext y
  have h0 : (y 0).val < 1024 := (y 0).isLt
  have h1 : (y 1).val < 1536 := (y 1).isLt
  have b0 : (((cfg0.win 2).blk t).view.emb y 0).val = win0_2.index t (0 : Fin 2) * 1024 + 1 * (y 0).val := rfl
  have b1 : (((cfg0.win 2).blk t).view.emb y 1).val = win0_2.index t (1 : Fin 2) * 1536 + 1 * (y 1).val := rfl
  show (out0_2 (iblk m c 0 t) (iblk m c 1 t) ((cfg0.win 2).xinj (grid0.coords t) y) : EReal) = prodT (arg0 m c) (arg1 m c) (((cfg0.win 2).blk t).view.emb y)
  have hx : (cfg0.win 2).xinj (grid0.coords t) y = (ix2 ⟨(y 0).val, h0⟩ ⟨(y 1).val, h1⟩ : S1024x1536.Idx) := funext fun a => Fin.ext (by
    match a with
    | ⟨0, _⟩ => rfl
    | ⟨1, _⟩ => rfl)
  have hz : ((cfg0.win 2).blk t).view.emb y = (ix2 (row t.val (rows_lt t) ⟨(y 0).val, h0⟩) ⟨(y 1).val, h1⟩ : S8192x1536.Idx) := funext fun a => Fin.ext (by
    match a with
    | ⟨0, _⟩ => refine b0.trans ?_; rw [e0]; show t.val * 1024 + 1 * (y 0).val = 1024 * t.val + (y 0).val; omega
    | ⟨1, _⟩ => refine b1.trans ?_; rw [e1]; show 0 * 1536 + 1 * (y 1).val = (y 1).val; omega)
  exact (congrArg (out0_2 (iblk m c 0 t) (iblk m c 1 t)) hx).trans ((left m c t _ _).trans (congrArg (prodT (arg0 m c) (arg1 m c)) hz).symm)

theorem filled (i : S8192x1536.Idx) : ∃ t : Fin cfg0.N, (cfg0.win 2).flush t = true ∧ i ∈ ((cfg0.win 2).blk t).view.set := by
  have h0 : (i 0).val < 8192 := (i 0).isLt
  have h1 : (i 1).val < 1536 := (i 1).isLt
  have hv : (pointOf (i 0)).val = (i 0).val / 1024 := rfl
  refine ⟨pointOf (i 0), flush0_2 _, ?_⟩
  obtain ⟨e0, e1⟩ := map2 (pointOf (i 0))
  show i ∈ ((View.whole main_v0).slice (win0_2.rect (pointOf (i 0)))).set
  rw [View.set_slice_whole, Rect.mem_set_unit]
  intro a
  match a with
  | ⟨0, _⟩ => show win0_2.index (pointOf (i 0)) (0 : Fin 2) * 1024 ≤ (i 0).val ∧ (i 0).val < win0_2.index (pointOf (i 0)) (0 : Fin 2) * 1024 + 1024; omega
  | ⟨1, _⟩ => show win0_2.index (pointOf (i 0)) (1 : Fin 2) * 1536 ≤ (i 1).val ∧ (i 1).val < win0_2.index (pointOf (i 0)) (1 : Fin 2) * 1536 + 1536; omega

/-- The run: the result ends at the product, the arguments as they were. -/
theorem run :
    θ_run defs (onTc (τ := τ) (main (F := Ideal))) ⟨m, fun _ => 0, ρ⟩ fun r => ∀ c : Dev nD,
      r.2.mem ((c : Thread nD τ).loc main_v0) = (prodT (arg0 m c) (arg1 m c) : S8192x1536.Idx → EReal)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨(h c).1.trans ((dats m 0 c).arrAt_eq_of_cover 2 _ (fun t hf => written m c t hf) (fun i => filled i)), (h c).2⟩)
    (run_blocks m ρ)

end Cert.Kernel11Ideal.Proj

end
-- ==== Proof.Proj.Whole.lean ====
/- The seven projections: each call and its reference end with the same array. -/
module

public import proofs.«01_k».proof.Defs
public import proofs.«01_k».proof.Proof.Gen.Kernel5
public import proofs.«01_k».proof.Proof.Gen.Reference5Ideal.Read
public import proofs.«01_k».proof.Proof.Proj.Qkv
public import proofs.«01_k».proof.Proof.Gen.Kernel6
public import proofs.«01_k».proof.Proof.Gen.Reference6Ideal.Read
public import proofs.«01_k».proof.Proof.Proj.LruIn
public import proofs.«01_k».proof.Proof.Gen.Kernel7
public import proofs.«01_k».proof.Proof.Gen.Reference7Ideal.Read
public import proofs.«01_k».proof.Proof.Proj.FoxGate
public import proofs.«01_k».proof.Proof.Gen.Kernel8
public import proofs.«01_k».proof.Proof.Gen.Reference8Ideal.Read
public import proofs.«01_k».proof.Proof.Proj.FoxOut
public import proofs.«01_k».proof.Proof.Gen.Kernel9
public import proofs.«01_k».proof.Proof.Gen.Reference9Ideal.Read
public import proofs.«01_k».proof.Proof.Proj.LruOut
public import proofs.«01_k».proof.Proof.Gen.Kernel10
public import proofs.«01_k».proof.Proof.Gen.Reference10Ideal.Read
public import proofs.«01_k».proof.Proof.Proj.OutBack
public import proofs.«01_k».proof.Proof.Gen.Kernel11
public import proofs.«01_k».proof.Proof.Gen.Reference11Ideal.Read
public import proofs.«01_k».proof.Proof.Proj.LruBack
public import Idealize.ShloMosaic.Adequacy
public import Idealize.ShloMosaic.Init

@[expose] public section

set_option maxRecDepth 16384

noncomputable section

open Idealize.ShloMosaic Idealize.SL.Sem

/-! ## The attention layer's input projection -/

namespace Cert.Proj.Qkv

theorem defs₀_eq : Cert.Kernel5.defs₀ (F := Bits) = Cert.Kernel5Ideal.defs₀ (F := Bits) := by
  unfold Cert.Kernel5.defs₀ Cert.Kernel5Ideal.defs₀
  refine congrArg _ (funext fun l => ?_)
  match l with
  | 0 => rfl

theorem defs_eq : Cert.Kernel5.defs (F := Bits) = Cert.Kernel5Ideal.defs (F := Bits) :=
  congrArg (Pipeline.defs (Cert.Kernel5Ideal.pcfgs (F := Bits))) defs₀_eq

theorem frame_k : Cert.quiescent_Kernel5 := fun m ρ _ => by
  rw [defs_eq]
  exact Cert.Kernel5Ideal.Gen.frame (F := Bits) m ρ

theorem frame_r : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

/-- The reference's result, at an entry. -/
theorem result (x0 : Cert.Reference5Ideal.S8192x1024.Idx → EReal) (x1 : Cert.Reference5Ideal.S1024x3072.Idx → EReal) (i : Cert.Reference5Ideal.S8192x3072.Idx) :
    (Cert.Reference5Ideal.Read.val_main_v3 (F := Ideal) x0 x1 i : EReal) = prod (M := 8192) (K := 1024) (N := 3072) x0 x1 i :=
  (Cert.Reference5Ideal.Read.val_main_v2_apply x0 x1 i).trans
    (read_prod (M := 8192) (K := 1024) (N := 3072) x0 x1 i _ _ (fun _ => rfl) (fun _ => rfl) (fun _ => rfl) (fun _ => rfl))

theorem algebraic : Cert.algebraic_Kernel5Ideal_Reference5Ideal := fun m g m' g' _ hag =>
  ⟨fun c => (prod (M := 8192) (K := 1024) (N := 3072) (Cert.Kernel5Ideal.Proj.arg0 m c) (Cert.Kernel5Ideal.Proj.arg1 m c)), Cert.Kernel5Ideal.Proj.run m g,
    (θ_run Cert.Reference5Ideal.defs _ _).mono (fun r h c =>
        ⟨(h c).1.trans ((Cert.Reference5Ideal.Read.val_main_v3_eq _ _).trans
          ((funext fun i => result _ _ i).trans (congrArg₂ (prod (M := 8192) (K := 1024) (N := 3072)) (hag c).1 (hag c).2))), (h c).2⟩)
      (Cert.Reference5Ideal.Value.run (F := Ideal) m' g')⟩

end Cert.Proj.Qkv

/-! ## The recurrent layer's input projection -/

namespace Cert.Proj.LruIn

theorem defs₀_eq : Cert.Kernel6.defs₀ (F := Bits) = Cert.Kernel6Ideal.defs₀ (F := Bits) := by
  unfold Cert.Kernel6.defs₀ Cert.Kernel6Ideal.defs₀
  refine congrArg _ (funext fun l => ?_)
  match l with
  | 0 => rfl

theorem defs_eq : Cert.Kernel6.defs (F := Bits) = Cert.Kernel6Ideal.defs (F := Bits) :=
  congrArg (Pipeline.defs (Cert.Kernel6Ideal.pcfgs (F := Bits))) defs₀_eq

theorem frame_k : Cert.quiescent_Kernel6 := fun m ρ _ => by
  rw [defs_eq]
  exact Cert.Kernel6Ideal.Gen.frame (F := Bits) m ρ

theorem frame_r : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)

/-- The reference's result, at an entry. -/
theorem result (x0 : Cert.Reference6Ideal.S8192x1024.Idx → EReal) (x1 : Cert.Reference6Ideal.S1024x3072.Idx → EReal) (i : Cert.Reference6Ideal.S8192x3072.Idx) :
    (Cert.Reference6Ideal.Read.val_main_v2 (F := Ideal) x0 x1 i : EReal) = prod (M := 8192) (K := 1024) (N := 3072) x0 x1 i :=
  (Cert.Reference6Ideal.Read.val_main_v2_apply x0 x1 i).trans
    (read_prod (M := 8192) (K := 1024) (N := 3072) x0 x1 i _ _ (fun _ => rfl) (fun _ => rfl) (fun _ => rfl) (fun _ => rfl))

theorem algebraic : Cert.algebraic_Kernel6Ideal_Reference6Ideal := fun m g m' g' _ hag =>
  ⟨fun c => (prod (M := 8192) (K := 1024) (N := 3072) (Cert.Kernel6Ideal.Proj.arg0 m c) (Cert.Kernel6Ideal.Proj.arg1 m c)), Cert.Kernel6Ideal.Proj.run m g,
    (θ_run Cert.Reference6Ideal.defs _ _).mono (fun r h c =>
        ⟨(h c).1.trans ((Cert.Reference6Ideal.Read.val_main_v2_eq _ _).trans
          ((funext fun i => result _ _ i).trans (congrArg₂ (prod (M := 8192) (K := 1024) (N := 3072)) (hag c).1 (hag c).2))), (h c).2⟩)
      (Cert.Reference6Ideal.Value.run (F := Ideal) m' g')⟩

end Cert.Proj.LruIn

/-! ## The attention layer's gate projection -/

namespace Cert.Proj.FoxGate

theorem defs₀_eq : Cert.Kernel7.defs₀ (F := Bits) = Cert.Kernel7Ideal.defs₀ (F := Bits) := by
  unfold Cert.Kernel7.defs₀ Cert.Kernel7Ideal.defs₀
  refine congrArg _ (funext fun l => ?_)
  match l with
  | 0 => rfl

theorem defs_eq : Cert.Kernel7.defs (F := Bits) = Cert.Kernel7Ideal.defs (F := Bits) :=
  congrArg (Pipeline.defs (Cert.Kernel7Ideal.pcfgs (F := Bits))) defs₀_eq

theorem frame_k : Cert.quiescent_Kernel7 := fun m ρ _ => by
  rw [defs_eq]
  exact Cert.Kernel7Ideal.Gen.frame (F := Bits) m ρ

theorem frame_r : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)

/-- The reference's result, at an entry. -/
theorem result (x0 : Cert.Reference7Ideal.S8192x1024.Idx → EReal) (x1 : Cert.Reference7Ideal.S1024x1024.Idx → EReal) (i : Cert.Reference7Ideal.S8192x1024.Idx) :
    (Cert.Reference7Ideal.Read.val_main_v2 (F := Ideal) x0 x1 i : EReal) = prod (M := 8192) (K := 1024) (N := 1024) x0 x1 i :=
  (Cert.Reference7Ideal.Read.val_main_v2_apply x0 x1 i).trans
    (read_prod (M := 8192) (K := 1024) (N := 1024) x0 x1 i _ _ (fun _ => rfl) (fun _ => rfl) (fun _ => rfl) (fun _ => rfl))

theorem algebraic : Cert.algebraic_Kernel7Ideal_Reference7Ideal := fun m g m' g' _ hag =>
  ⟨fun c => (prod (M := 8192) (K := 1024) (N := 1024) (Cert.Kernel7Ideal.Proj.arg0 m c) (Cert.Kernel7Ideal.Proj.arg1 m c)), Cert.Kernel7Ideal.Proj.run m g,
    (θ_run Cert.Reference7Ideal.defs _ _).mono (fun r h c =>
        ⟨(h c).1.trans ((Cert.Reference7Ideal.Read.val_main_v2_eq _ _).trans
          ((funext fun i => result _ _ i).trans (congrArg₂ (prod (M := 8192) (K := 1024) (N := 1024)) (hag c).1 (hag c).2))), (h c).2⟩)
      (Cert.Reference7Ideal.Value.run (F := Ideal) m' g')⟩

end Cert.Proj.FoxGate

/-! ## The attention layer's output projection -/

namespace Cert.Proj.FoxOut

theorem defs₀_eq : Cert.Kernel8.defs₀ (F := Bits) = Cert.Kernel8Ideal.defs₀ (F := Bits) := by
  unfold Cert.Kernel8.defs₀ Cert.Kernel8Ideal.defs₀
  refine congrArg _ (funext fun l => ?_)
  match l with
  | 0 => rfl

theorem defs_eq : Cert.Kernel8.defs (F := Bits) = Cert.Kernel8Ideal.defs (F := Bits) :=
  congrArg (Pipeline.defs (Cert.Kernel8Ideal.pcfgs (F := Bits))) defs₀_eq

theorem frame_k : Cert.quiescent_Kernel8 := fun m ρ _ => by
  rw [defs_eq]
  exact Cert.Kernel8Ideal.Gen.frame (F := Bits) m ρ

theorem frame_r : Cert.quiescent_Reference8Ideal := fun m ρ _ =>
  (θ_run Cert.Reference8Ideal.defs _ _).mono (fun r h => ⟨fun c => (h c).2,
      Idealize.ShloMosaic.sem_eq_zero_of_no_sems (by decide) r.2⟩)
    (Cert.Reference8Ideal.Value.run (F := Ideal) m ρ)

/-- The reference's result, at an entry. -/
theorem result (x0 : Cert.Reference8Ideal.S8192x1024.Idx → EReal) (x1 : Cert.Reference8Ideal.S1024x1024.Idx → EReal) (x2 : Cert.Reference8Ideal.S8192x1024.Idx → EReal) (i : Cert.Reference8Ideal.S8192x1024.Idx) :
    (Cert.Reference8Ideal.Read.val_main_v3 (F := Ideal) x0 x1 x2 i : EReal) = x2 i + prod (M := 8192) (K := 1024) (N := 1024) x0 x1 i :=
  congrArg (fun z : EReal => x2 i + z) ((Cert.Reference8Ideal.Read.val_main_v2_apply x0 x1 i).trans
    (read_prod (M := 8192) (K := 1024) (N := 1024) x0 x1 i _ _ (fun _ => rfl) (fun _ => rfl) (fun _ => rfl) (fun _ => rfl)))

theorem algebraic : Cert.algebraic_Kernel8Ideal_Reference8Ideal := fun m g m' g' _ hag =>
  ⟨fun c => (Cert.Kernel8Ideal.Proj.sum m c), Cert.Kernel8Ideal.Proj.run m g,
    (θ_run Cert.Reference8Ideal.defs _ _).mono (fun r h c =>
        ⟨(h c).1.trans ((Cert.Reference8Ideal.Read.val_main_v3_eq _ _ _).trans
          ((funext fun i => (result _ _ _ i).trans (congrArg₂ (fun y z : EReal => y + z) (congrFun (hag c).2.2 i)
            (congrFun (congrArg₂ (prod (M := 8192) (K := 1024) (N := 1024)) (hag c).1 (hag c).2.1) i))))), (h c).2⟩)
      (Cert.Reference8Ideal.Value.run (F := Ideal) m' g')⟩

end Cert.Proj.FoxOut

/-! ## The recurrent layer's output projection -/

namespace Cert.Proj.LruOut

theorem defs₀_eq : Cert.Kernel9.defs₀ (F := Bits) = Cert.Kernel9Ideal.defs₀ (F := Bits) := by
  unfold Cert.Kernel9.defs₀ Cert.Kernel9Ideal.defs₀
  refine congrArg _ (funext fun l => ?_)
  match l with
  | 0 => rfl

theorem defs_eq : Cert.Kernel9.defs (F := Bits) = Cert.Kernel9Ideal.defs (F := Bits) :=
  congrArg (Pipeline.defs (Cert.Kernel9Ideal.pcfgs (F := Bits))) defs₀_eq

theorem frame_k : Cert.quiescent_Kernel9 := fun m ρ _ => by
  rw [defs_eq]
  exact Cert.Kernel9Ideal.Gen.frame (F := Bits) m ρ

theorem frame_r : Cert.quiescent_Reference9Ideal := fun m ρ _ =>
  (θ_run Cert.Reference9Ideal.defs _ _).mono (fun r h => ⟨fun c => (h c).2,
      Idealize.ShloMosaic.sem_eq_zero_of_no_sems (by decide) r.2⟩)
    (Cert.Reference9Ideal.Value.run (F := Ideal) m ρ)

/-- The reference's result, at an entry. -/
theorem result (x0 : Cert.Reference9Ideal.S8192x1536.Idx → EReal) (x1 : Cert.Reference9Ideal.S1536x1024.Idx → EReal) (x2 : Cert.Reference9Ideal.S8192x1024.Idx → EReal) (i : Cert.Reference9Ideal.S8192x1024.Idx) :
    (Cert.Reference9Ideal.Read.val_main_v3 (F := Ideal) x0 x1 x2 i : EReal) = x2 i + prod (M := 8192) (K := 1536) (N := 1024) x0 x1 i :=
  congrArg (fun z : EReal => x2 i + z) ((Cert.Reference9Ideal.Read.val_main_v2_apply x0 x1 i).trans
    (read_prod (M := 8192) (K := 1536) (N := 1024) x0 x1 i _ _ (fun _ => rfl) (fun _ => rfl) (fun _ => rfl) (fun _ => rfl)))

theorem algebraic : Cert.algebraic_Kernel9Ideal_Reference9Ideal := fun m g m' g' _ hag =>
  ⟨fun c => (Cert.Kernel9Ideal.Proj.sum m c), Cert.Kernel9Ideal.Proj.run m g,
    (θ_run Cert.Reference9Ideal.defs _ _).mono (fun r h c =>
        ⟨(h c).1.trans ((Cert.Reference9Ideal.Read.val_main_v3_eq _ _ _).trans
          ((funext fun i => (result _ _ _ i).trans (congrArg₂ (fun y z : EReal => y + z) (congrFun (hag c).2.2 i)
            (congrFun (congrArg₂ (prod (M := 8192) (K := 1536) (N := 1024)) (hag c).1 (hag c).2.1) i))))), (h c).2⟩)
      (Cert.Reference9Ideal.Value.run (F := Ideal) m' g')⟩

end Cert.Proj.LruOut

/-! ## The attention layer's output projection, backward -/

namespace Cert.Proj.OutBack

theorem defs₀_eq : Cert.Kernel10.defs₀ (F := Bits) = Cert.Kernel10Ideal.defs₀ (F := Bits) := by
  unfold Cert.Kernel10.defs₀ Cert.Kernel10Ideal.defs₀
  refine congrArg _ (funext fun l => ?_)
  match l with
  | 0 => rfl

theorem defs_eq : Cert.Kernel10.defs (F := Bits) = Cert.Kernel10Ideal.defs (F := Bits) :=
  congrArg (Pipeline.defs (Cert.Kernel10Ideal.pcfgs (F := Bits))) defs₀_eq

theorem frame_k : Cert.quiescent_Kernel10 := fun m ρ _ => by
  rw [defs_eq]
  exact Cert.Kernel10Ideal.Gen.frame (F := Bits) m ρ

theorem frame_r : Cert.quiescent_Reference10Ideal := fun m ρ _ =>
  (θ_run Cert.Reference10Ideal.defs _ _).mono (fun r h => ⟨fun c => (h c).2,
      Idealize.ShloMosaic.sem_eq_zero_of_no_sems (by decide) r.2⟩)
    (Cert.Reference10Ideal.Value.run (F := Ideal) m ρ)

/-- The reference's result, at an entry. -/
theorem result (x0 : Cert.Reference10Ideal.S8192x1024.Idx → EReal) (x1 : Cert.Reference10Ideal.S1024x1024.Idx → EReal) (i : Cert.Reference10Ideal.S8192x1024.Idx) :
    (Cert.Reference10Ideal.Read.val_main_v4 (F := Ideal) x0 x1 i : EReal) = prodT (M := 8192) (K := 1024) (N := 1024) x0 x1 i :=
  (Cert.Reference10Ideal.Read.val_main_v4_apply x0 x1 i).trans
    (read_prodT (M := 8192) (K := 1024) (N := 1024) x0 x1 i _ _ (fun _ => rfl) (fun _ => rfl) (fun _ => rfl) (fun _ => rfl))

theorem algebraic : Cert.algebraic_Kernel10Ideal_Reference10Ideal := fun m g m' g' _ hag =>
  ⟨fun c => (prodT (M := 8192) (K := 1024) (N := 1024) (Cert.Kernel10Ideal.Proj.arg0 m c) (Cert.Kernel10Ideal.Proj.arg1 m c)), Cert.Kernel10Ideal.Proj.run m g,
    (θ_run Cert.Reference10Ideal.defs _ _).mono (fun r h c =>
        ⟨(h c).1.trans ((Cert.Reference10Ideal.Read.val_main_v4_eq _ _).trans
          ((funext fun i => result _ _ i).trans (congrArg₂ (prodT (M := 8192) (K := 1024) (N := 1024)) (hag c).1 (hag c).2))), (h c).2⟩)
      (Cert.Reference10Ideal.Value.run (F := Ideal) m' g')⟩

end Cert.Proj.OutBack

/-! ## The recurrent layer's output projection, backward -/

namespace Cert.Proj.LruBack

theorem defs₀_eq : Cert.Kernel11.defs₀ (F := Bits) = Cert.Kernel11Ideal.defs₀ (F := Bits) := by
  unfold Cert.Kernel11.defs₀ Cert.Kernel11Ideal.defs₀
  refine congrArg _ (funext fun l => ?_)
  match l with
  | 0 => rfl

theorem defs_eq : Cert.Kernel11.defs (F := Bits) = Cert.Kernel11Ideal.defs (F := Bits) :=
  congrArg (Pipeline.defs (Cert.Kernel11Ideal.pcfgs (F := Bits))) defs₀_eq

theorem frame_k : Cert.quiescent_Kernel11 := fun m ρ _ => by
  rw [defs_eq]
  exact Cert.Kernel11Ideal.Gen.frame (F := Bits) m ρ

theorem frame_r : Cert.quiescent_Reference11Ideal := fun m ρ _ =>
  (θ_run Cert.Reference11Ideal.defs _ _).mono (fun r h => ⟨fun c => (h c).2,
      Idealize.ShloMosaic.sem_eq_zero_of_no_sems (by decide) r.2⟩)
    (Cert.Reference11Ideal.Value.run (F := Ideal) m ρ)

/-- The reference's result, at an entry. -/
theorem result (x0 : Cert.Reference11Ideal.S8192x1024.Idx → EReal) (x1 : Cert.Reference11Ideal.S1536x1024.Idx → EReal) (i : Cert.Reference11Ideal.S8192x1536.Idx) :
    (Cert.Reference11Ideal.Read.val_main_v4 (F := Ideal) x0 x1 i : EReal) = prodT (M := 8192) (K := 1024) (N := 1536) x0 x1 i :=
  (Cert.Reference11Ideal.Read.val_main_v4_apply x0 x1 i).trans
    (read_prodT (M := 8192) (K := 1024) (N := 1536) x0 x1 i _ _ (fun _ => rfl) (fun _ => rfl) (fun _ => rfl) (fun _ => rfl))

theorem algebraic : Cert.algebraic_Kernel11Ideal_Reference11Ideal := fun m g m' g' _ hag =>
  ⟨fun c => (prodT (M := 8192) (K := 1024) (N := 1536) (Cert.Kernel11Ideal.Proj.arg0 m c) (Cert.Kernel11Ideal.Proj.arg1 m c)), Cert.Kernel11Ideal.Proj.run m g,
    (θ_run Cert.Reference11Ideal.defs _ _).mono (fun r h c =>
        ⟨(h c).1.trans ((Cert.Reference11Ideal.Read.val_main_v4_eq _ _).trans
          ((funext fun i => result _ _ i).trans (congrArg₂ (prodT (M := 8192) (K := 1024) (N := 1536)) (hag c).1 (hag c).2))), (h c).2⟩)
      (Cert.Reference11Ideal.Value.run (F := Ideal) m' g')⟩

end Cert.Proj.LruBack

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_all_real
public import proofs.«01_k».proof.Proof.Gen.Kernel2Ideal.Value
public import proofs.«01_k».proof.Proof.Gen.Kernel2
public import proofs.«01_k».proof.Proof.Gen.Kernel3
public import proofs.«01_k».proof.Proof.Gen.Kernel3Ideal.Frame
public import proofs.«01_k».proof.Proof.Gen.Reference2Ideal.Run
public import proofs.«01_k».proof.Proof.Gen.Reference3Ideal.Run
public import proofs.«01_k».proof.Proof.Gen.Reference2Ideal.Read
public import proofs.«01_k».proof.Proof.Gen.Reference3Ideal.Read
public import proofs.«01_k».proof.Proof.Gen.Kernel4
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Pre_gate_real
public import proofs.«01_k».proof.Proof.Bits.Frame
public import proofs.«01_k».proof.Proof.Ideal.Frame
public import proofs.«01_k».proof.Proof.Ideal.Value
public import proofs.«01_k».proof.Proof.Ideal.AllReal
public import proofs.«01_k».proof.Proof.InGrad.Whole
public import proofs.«01_k».proof.Proof.WGrad.Whole
public import proofs.«01_k».proof.Proof.Gate.Whole
public import proofs.«01_k».proof.Proof.Proj.Whole
public import Idealize.ShloMosaic.Adequacy
public import Idealize.ShloMosaic.Init

@[expose] public section

noncomputable section

namespace Cert.Proof

open Idealize.ShloMosaic Idealize.SL.Sem

/-- The reference's frame: its generated run read at the arguments; it declares no semaphore. -/
theorem frame_r : Cert.quiescent_ReferenceIdeal := fun m ρ _ =>
  (θ_run Cert.ReferenceIdeal.defs _ _).mono (fun r h => ⟨fun c => ⟨(h c).2.2.2.2.2.1, (h c).2.2.2.2.2.2.1, (h c).2.2.2.2.2.2.2⟩,
      Idealize.ShloMosaic.sem_eq_zero_of_no_sems (by decide) r.2⟩)
    (Cert.ReferenceIdeal.Value.run (F := Ideal) m ρ)

/-- The one rewrite of the idealized call: the mask's finite word is read as minus infinity. -/
theorem preserves : Cert.preserves_Kernel_KernelIdeal :=
  IdealRules.named_const.statement Cert.KernelIdeal.κ "mask" .f32 0xF149F2CA#32 ⊥ rfl

/-- On real arguments the call and the reference end with the same five arrays. -/
theorem algebraic : Cert.algebraic_KernelIdeal_ReferenceIdeal_pre_all_real := fun m g m' g' hpre hag =>
  ⟨_, _, _, _, _,
    Cert.KernelIdeal.Attn.value (fun _ => Cert.Pre_all_real.Attn.inp _ _ _) m g (fun c => Cert.Pre_all_real.Attn.read _ _ _ (hpre c)),
    Cert.ReferenceIdeal.Attn.value (fun _ => Cert.Pre_all_real.Attn.inp _ _ _) m' g' (fun c =>
      have h := Cert.Pre_all_real.Attn.read _ _ _ (hpre c)
      ⟨(hag c).1.trans h.1, (hag c).2.1.trans h.2.1, (hag c).2.2.trans h.2.2⟩)⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Pre_all_real.Gen.facts, Cert.Pre_gate_real.Gen.facts,
  fun m g _ => Cert.Kernel.Attn.frame m g, fun m g _ => Cert.KernelIdeal.Attn.frame m g, fun m g _ => Cert.KernelIdeal.Attn.frame m g,
  frame_r, fun m g _ => frame_r m g trivial,
  Cert.InGrad.frame_k, fun m g _ => Cert.Kernel2Ideal.Gen.frame m g, Cert.InGrad.frame_r,
  Cert.WGrad.frame_k, fun m g _ => Cert.Kernel3Ideal.Gen.frame m g, Cert.WGrad.frame_r,
  Cert.Gate.frame_k, fun m g _ => Cert.Kernel4Ideal.Gen.frame m g, fun m g _ => Cert.Kernel4Ideal.Gen.frame m g,
  Cert.Gate.frame_r, fun m g _ => Cert.Gate.frame_r m g trivial,
  Cert.Proj.Qkv.frame_k, fun m g _ => Cert.Kernel5Ideal.Gen.frame m g, Cert.Proj.Qkv.frame_r,
  Cert.Proj.LruIn.frame_k, fun m g _ => Cert.Kernel6Ideal.Gen.frame m g, Cert.Proj.LruIn.frame_r,
  Cert.Proj.FoxGate.frame_k, fun m g _ => Cert.Kernel7Ideal.Gen.frame m g, Cert.Proj.FoxGate.frame_r,
  Cert.Proj.FoxOut.frame_k, fun m g _ => Cert.Kernel8Ideal.Gen.frame m g, Cert.Proj.FoxOut.frame_r,
  Cert.Proj.LruOut.frame_k, fun m g _ => Cert.Kernel9Ideal.Gen.frame m g, Cert.Proj.LruOut.frame_r,
  Cert.Proj.OutBack.frame_k, fun m g _ => Cert.Kernel10Ideal.Gen.frame m g, Cert.Proj.OutBack.frame_r,
  Cert.Proj.LruBack.frame_k, fun m g _ => Cert.Kernel11Ideal.Gen.frame m g, Cert.Proj.LruBack.frame_r,
  preserves, algebraic, trivial, Cert.InGrad.algebraic, trivial, Cert.WGrad.algebraic, trivial, Cert.Gate.algebraic,
  trivial, Cert.Proj.Qkv.algebraic, trivial, Cert.Proj.LruIn.algebraic,
  trivial, Cert.Proj.FoxGate.algebraic, trivial, Cert.Proj.FoxOut.algebraic,
  trivial, Cert.Proj.LruOut.algebraic, trivial, Cert.Proj.OutBack.algebraic, trivial, Cert.Proj.LruBack.algebraic⟩

end Cert.Proof

end
